-- ==== Defs.lean ====
def Pre_Kernel [hPre_indices_in_range : Cert.Pre_indices_in_range.Facts] (m : (ℓ : Loc Cert.Kernel.nD Cert.Kernel.τ Cert.Kernel.sig) → Buf (Elt Bits) ℓ) : Prop :=
  ∀ c : Dev Cert.Kernel.nD,
    (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_indices_in_range : Cert.Pre_indices_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_indices_in_range [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_indices_in_range : Cert.Pre_indices_in_range.Facts),
    quiescent_Kernel (hKernel := hKernel) (hPre_indices_in_range := hPre_indices_in_range)
    ∧ quiescent_KernelIdeal (hKernelIdeal := hKernelIdeal) (hPre_indices_in_range := hPre_indices_in_range)
    ∧ quiescent_ReferenceIdeal (hReferenceIdeal := hReferenceIdeal)
    ∧ quiescent_ReferenceIdeal_pre_indices_in_range (hReferenceIdeal := hReferenceIdeal) (hPre_indices_in_range := hPre_indices_in_range)
    ∧ preserves_Kernel_KernelIdeal
    ∧ algebraic_KernelIdeal_ReferenceIdeal (hKernelIdeal := hKernelIdeal) (hReferenceIdeal := hReferenceIdeal) (hPre_indices_in_range := hPre_indices_in_range)
-- ==== Pre_indices_in_range.lean ====
abbrev S16384x20 : Shape := ⟨2, ![16384, 20]⟩
abbrev S100000x128 : Shape := ⟨2, ![100000, 128]⟩
abbrev S128x1024 : Shape := ⟨2, ![128, 1024]⟩
abbrev S1024 : Shape := ⟨1, ![1024]⟩
abbrev S1024x1000 : Shape := ⟨2, ![1024, 1000]⟩
abbrev S1000 : Shape := ⟨1, ![1000]⟩
abbrev S_ : Shape := ⟨0, ![]⟩

class Facts : Prop where
  bcast_S_S16384x20 : S_.BroadcastsInDim S16384x20 (![] : Fin 0 → Fin S16384x20.rank)
  reducesTo_S16384x20_S_d0_1 : S16384x20.ReducesTo [0, 1] S_
  h_S_ : 0 < S_.numel

variable [Facts]

def fn {F : FTy → Type} [FloatOps F] (main_arg0 : IVec S16384x20 32) (main_arg1 : FVec F S100000x128 .f32) (main_arg2 : FVec F S128x1024 .f32) (main_arg3 : FVec F S1024 .f32) (main_arg4 : FVec F S1024x1000 .f32) (main_arg5 : FVec F S1000 .f32) : IVec S_ 1 :=
  let main_c : IVec S_ 32 := constantI S_ 32 0#32
  let main_v0 : IVec S16384x20 32 := broadcastInDim S16384x20 ![] bcast_S_S16384x20 main_c
  let main_v1 : IVec S16384x20 1 := cmpi .sge main_arg0 main_v0
  let main_c_0 : IVec S_ 32 := constantI S_ 32 100000#32
  let main_v2 : IVec S16384x20 32 := broadcastInDim S16384x20 ![] bcast_S_S16384x20 main_c_0
  let main_v3 : IVec S16384x20 1 := cmpi .slt main_arg0 main_v2
  let main_v4 : IVec S16384x20 1 := andi main_v1 main_v3
  let main_c_1 : IVec S_ 1 := constantI S_ 1 1#1
  let main_v5 : IVec S_ 1 := (fun x v => Host.reduce IntOp.andi x v reducesTo_S16384x20_S_d0_1 h_S_) main_v4 main_c_1
  main_v5
-- ==== Kernel.lean ====
abbrev S16384x20 : Shape := ⟨2, ![16384, 20]⟩
abbrev S100000x128 : Shape := ⟨2, ![100000, 128]⟩
abbrev S128x1024 : Shape := ⟨2, ![128, 1024]⟩
abbrev S1024 : Shape := ⟨1, ![1024]⟩
abbrev S1024x1000 : Shape := ⟨2, ![1024, 1000]⟩
abbrev S1000 : Shape := ⟨1, ![1000]⟩
abbrev S327680 : Shape := ⟨1, ![327680]⟩
abbrev S1024x128 : Shape := ⟨2, ![1024, 128]⟩
abbrev S1000x1024 : Shape := ⟨2, ![1000, 1024]⟩
abbrev S1024x1 : Shape := ⟨2, ![1024, 1]⟩
abbrev S1000x1 : Shape := ⟨2, ![1000, 1]⟩
abbrev S8192x128 : Shape := ⟨2, ![8192, 128]⟩
abbrev S320 : Shape := ⟨1, ![320]⟩
abbrev S320x128 : Shape := ⟨2, ![320, 128]⟩
abbrev S16x128 : Shape := ⟨2, ![16, 128]⟩
abbrev S_ : Shape := ⟨0, ![]⟩
abbrev S1x16 : Shape := ⟨2, ![1, 16]⟩
abbrev S16 : Shape := ⟨1, ![16]⟩
abbrev S1000x16384 : Shape := ⟨2, ![1000, 16384]⟩
abbrev S512x20 : Shape := ⟨2, ![512, 20]⟩
abbrev S512x128 : Shape := ⟨2, ![512, 128]⟩
abbrev S1000x512 : Shape := ⟨2, ![1000, 512]⟩
abbrev S512 : Shape := ⟨1, ![512]⟩
abbrev S512x1 : Shape := ⟨2, ![512, 1]⟩
abbrev S1024x512 : Shape := ⟨2, ![1024, 512]⟩
abbrev S16384x1000 : Shape := ⟨2, ![16384, 1000]⟩

abbrev nBuf : Table → Nat
  | .hbm => 16
  | .local .tc .vmem => 20
  | .local .scVector .vmem => 10
  | _ => 0

abbrev bufTy : (tb : Table) → Fin (nBuf tb) → BufTy
  | .hbm, ⟨0, _⟩ => ⟨S16384x20, .i32⟩
  | .hbm, ⟨1, _⟩ => ⟨S100000x128, .f32⟩
  | .hbm, ⟨2, _⟩ => ⟨S128x1024, .f32⟩
  | .hbm, ⟨3, _⟩ => ⟨S1024, .f32⟩
  | .hbm, ⟨4, _⟩ => ⟨S1024x1000, .f32⟩
  | .hbm, ⟨5, _⟩ => ⟨S1000, .f32⟩
  | .hbm, ⟨6, _⟩ => ⟨S327680, .i32⟩
  | .hbm, ⟨7, _⟩ => ⟨S1024x128, .f32⟩
  | .hbm, ⟨8, _⟩ => ⟨S1000x1024, .f32⟩
  | .hbm, ⟨9, _⟩ => ⟨S1024x1, .f32⟩
  | .hbm, ⟨10, _⟩ => ⟨S1000x1, .f32⟩
  | .hbm, ⟨11, _⟩ => ⟨S8192x128, .f32⟩
  | .hbm, ⟨12, _⟩ => ⟨S8192x128, .f32⟩
  | .hbm, ⟨13, _⟩ => ⟨S1000x16384, .f32⟩
  | .hbm, ⟨14, _⟩ => ⟨S1000x16384, .f32⟩
  | .hbm, ⟨15, _⟩ => ⟨S16384x1000, .f32⟩
  | .local .tc .vmem, ⟨0, _⟩ => ⟨S512x20, .i32⟩
  | .local .tc .vmem, ⟨1, _⟩ => ⟨S512x20, .i32⟩
  | .local .tc .vmem, ⟨2, _⟩ => ⟨S512x128, .f32⟩
  | .local .tc .vmem, ⟨3, _⟩ => ⟨S512x128, .f32⟩
  | .local .tc .vmem, ⟨4, _⟩ => ⟨S1024x128, .f32⟩
  | .local .tc .vmem, ⟨5, _⟩ => ⟨S1024x1, .f32⟩
  | .local .tc .vmem, ⟨6, _⟩ => ⟨S1000x1024, .f32⟩
  | .local .tc .vmem, ⟨7, _⟩ => ⟨S1000x1, .f32⟩
  | .local .tc .vmem, ⟨8, _⟩ => ⟨S1000x512, .f32⟩
  | .local .tc .vmem, ⟨9, _⟩ => ⟨S1000x512, .f32⟩
  | .local .tc .vmem, ⟨10, _⟩ => ⟨S512x20, .i32⟩
  | .local .tc .vmem, ⟨11, _⟩ => ⟨S512x20, .i32⟩
  | .local .tc .vmem, ⟨12, _⟩ => ⟨S512x128, .f32⟩
  | .local .tc .vmem, ⟨13, _⟩ => ⟨S512x128, .f32⟩
  | .local .tc .vmem, ⟨14, _⟩ => ⟨S1024x128, .f32⟩
  | .local .tc .vmem, ⟨15, _⟩ => ⟨S1024x1, .f32⟩
  | .local .tc .vmem, ⟨16, _⟩ => ⟨S1000x1024, .f32⟩
  | .local .tc .vmem, ⟨17, _⟩ => ⟨S1000x1, .f32⟩
  | .local .tc .vmem, ⟨18, _⟩ => ⟨S1000x512, .f32⟩
  | .local .tc .vmem, ⟨19, _⟩ => ⟨S1000x512, .f32⟩
  | .local .scVector .vmem, ⟨0, _⟩ => ⟨S320, .i32⟩
  | .local .scVector .vmem, ⟨1, _⟩ => ⟨S320, .i32⟩
  | .local .scVector .vmem, ⟨2, _⟩ => ⟨S320x128, .f32⟩
  | .local .scVector .vmem, ⟨3, _⟩ => ⟨S320x128, .f32⟩
  | .local .scVector .vmem, ⟨4, _⟩ => ⟨S16x128, .f32⟩
  | .local .scVector .vmem, ⟨5, _⟩ => ⟨S320, .i32⟩
  | .local .scVector .vmem, ⟨6, _⟩ => ⟨S320, .i32⟩
  | .local .scVector .vmem, ⟨7, _⟩ => ⟨S320x128, .f32⟩
  | .local .scVector .vmem, ⟨8, _⟩ => ⟨S320x128, .f32⟩
  | .local .scVector .vmem, ⟨9, _⟩ => ⟨S16x128, .f32⟩
  | _, _ => ⟨S16384x20, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 60 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTables nBuf rfl bufTy 4 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v0_scv : Ref sig .scVector := ⟨.hbm, 6, rfl⟩
abbrev main_arg1_scv : Ref sig .scVector := ⟨.hbm, 1, rfl⟩
abbrev main_v5_scv : Ref sig .scVector := ⟨.hbm, 11, rfl⟩
abbrev main_v6_scv : Ref sig .scVector := ⟨.hbm, 12, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg1_1 : Ref sig .tc := ⟨.vmem, 3, rfl⟩
abbrev cc2_stg2_0 : Ref sig .tc := ⟨.vmem, 4, rfl⟩
abbrev cc2_stg3_0 : Ref sig .tc := ⟨.vmem, 5, rfl⟩
abbrev cc2_stg4_0 : Ref sig .tc := ⟨.vmem, 6, rfl⟩
abbrev cc2_stg5_0 : Ref sig .tc := ⟨.vmem, 7, rfl⟩
abbrev cc2_stg6_0 : Ref sig .tc := ⟨.vmem, 8, rfl⟩
abbrev cc2_stg6_1 : Ref sig .tc := ⟨.vmem, 9, rfl⟩
abbrev cc3_stg0_0 : Ref sig .tc := ⟨.vmem, 10, rfl⟩
abbrev cc3_stg0_1 : Ref sig .tc := ⟨.vmem, 11, rfl⟩
abbrev cc3_stg1_0 : Ref sig .tc := ⟨.vmem, 12, rfl⟩
abbrev cc3_stg1_1 : Ref sig .tc := ⟨.vmem, 13, rfl⟩
abbrev cc3_stg2_0 : Ref sig .tc := ⟨.vmem, 14, rfl⟩
abbrev cc3_stg3_0 : Ref sig .tc := ⟨.vmem, 15, rfl⟩
abbrev cc3_stg4_0 : Ref sig .tc := ⟨.vmem, 16, rfl⟩
abbrev cc3_stg5_0 : Ref sig .tc := ⟨.vmem, 17, rfl⟩
abbrev cc3_stg6_0 : Ref sig .tc := ⟨.vmem, 18, rfl⟩
abbrev cc3_stg6_1 : Ref sig .tc := ⟨.vmem, 19, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_scratch0 : Ref sig .scVector := ⟨.vmem, 5, rfl⟩
abbrev cc1_scratch1 : Ref sig .scVector := ⟨.vmem, 6, rfl⟩
abbrev cc1_scratch2 : Ref sig .scVector := ⟨.vmem, 7, rfl⟩
abbrev cc1_scratch3 : Ref sig .scVector := ⟨.vmem, 8, rfl⟩
abbrev cc1_scratch4 : Ref sig .scVector := ⟨.vmem, 9, rfl⟩
abbrev cc2_sem0_0 : DmaSem sig := 40
abbrev cc2_sem0_1 : DmaSem sig := 41
abbrev cc2_sem1_0 : DmaSem sig := 42
abbrev cc2_sem1_1 : DmaSem sig := 43
abbrev cc2_sem2_0 : DmaSem sig := 44
abbrev cc2_sem3_0 : DmaSem sig := 45
abbrev cc2_sem4_0 : DmaSem sig := 46
abbrev cc2_sem5_0 : DmaSem sig := 47
abbrev cc2_sem6_0 : DmaSem sig := 48
abbrev cc2_sem6_1 : DmaSem sig := 49
abbrev cc3_sem0_0 : DmaSem sig := 50
abbrev cc3_sem0_1 : DmaSem sig := 51
abbrev cc3_sem1_0 : DmaSem sig := 52
abbrev cc3_sem1_1 : DmaSem sig := 53
abbrev cc3_sem2_0 : DmaSem sig := 54
abbrev cc3_sem3_0 : DmaSem sig := 55
abbrev cc3_sem4_0 : DmaSem sig := 56
abbrev cc3_sem5_0 : DmaSem sig := 57
abbrev cc3_sem6_0 : DmaSem sig := 58
abbrev cc3_sem6_1 : DmaSem sig := 59
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_0 : BitVec 32) : Fin 1 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi c0_i32 v2
  let v4 : BitVec 32 := Scalar.addi v3 c0_i32_0
  let c20_i32 : BitVec 32 := 20#32
  let v5 : BitVec 32 := Scalar.muli v4 c20_i32
  ![v5.toNat]
@[reducible] def k0_t1_loop : Scf.Loop 32 :=
  let c0_i32_16 : BitVec 32 := 0#32
  let c16_i32_17 : BitVec 32 := 16#32
  let v26 : BitVec 32 := Scalar.addi c0_i32_16 c16_i32_17
  let c1_i32 : BitVec 32 := 1#32
  ⟨c0_i32_16, v26, c1_i32⟩
def k0_off2 (k0_t1 : Fin k0_t1_loop.trips) : Fin 2 → Nat :=
  let c0_i32_16 : BitVec 32 := 0#32
  let c1_i32 : BitVec 32 := 1#32
  let arg14 : BitVec 32 := Scf.iv c0_i32_16 c1_i32 k0_t1
  let c20_i32_238 : BitVec 32 := 20#32
  let v227 : BitVec 32 := Scalar.muli arg14 c20_i32_238
  let v228 : Index := Scalar.indexCast v227
  let c0 : Index := 0#32
  ![v228.toNat, 0]
def k0_off3 (k0_t1 : Fin k0_t1_loop.trips) : Fin 2 → Nat :=
  let c0_i32_16 : BitVec 32 := 0#32
  let c1_i32 : BitVec 32 := 1#32
  let arg14 : BitVec 32 := Scf.iv c0_i32_16 c1_i32 k0_t1
  let c20_i32_239 : BitVec 32 := 20#32
  let v231 : BitVec 32 := Scalar.muli arg14 c20_i32_239
  let v232 : Index := Scalar.indexCast v231
  let c16 : Index := 16#32
  ![v232.toNat, 16]
def k0_off4 (k0_t1 : Fin k0_t1_loop.trips) : Fin 2 → Nat :=
  let c0_i32_16 : BitVec 32 := 0#32
  let c1_i32 : BitVec 32 := 1#32
  let arg14 : BitVec 32 := Scf.iv c0_i32_16 c1_i32 k0_t1
  let c20_i32_240 : BitVec 32 := 20#32
  let v235 : BitVec 32 := Scalar.muli arg14 c20_i32_240
  let v236 : Index := Scalar.indexCast v235
  let c32 : Index := 32#32
  ![v236.toNat, 32]
def k0_off5 (k0_t1 : Fin k0_t1_loop.trips) : Fin 2 → Nat :=
  let c0_i32_16 : BitVec 32 := 0#32
  let c1_i32 : BitVec 32 := 1#32
  let arg14 : BitVec 32 := Scf.iv c0_i32_16 c1_i32 k0_t1
  let c20_i32_241 : BitVec 32 := 20#32
  let v239 : BitVec 32 := Scalar.muli arg14 c20_i32_241
  let v240 : Index := Scalar.indexCast v239
  let c48 : Index := 48#32
  ![v240.toNat, 48]
def k0_off6 (k0_t1 : Fin k0_t1_loop.trips) : Fin 2 → Nat :=
  let c0_i32_16 : BitVec 32 := 0#32
  let c1_i32 : BitVec 32 := 1#32
  let arg14 : BitVec 32 := Scf.iv c0_i32_16 c1_i32 k0_t1
  let c20_i32_242 : BitVec 32 := 20#32
  let v243 : BitVec 32 := Scalar.muli arg14 c20_i32_242
  let v244 : Index := Scalar.indexCast v243
  let c64 : Index := 64#32
  ![v244.toNat, 64]
def k0_off7 (k0_t1 : Fin k0_t1_loop.trips) : Fin 2 → Nat :=
  let c0_i32_16 : BitVec 32 := 0#32
  let c1_i32 : BitVec 32 := 1#32
  let arg14 : BitVec 32 := Scf.iv c0_i32_16 c1_i32 k0_t1
  let c20_i32_243 : BitVec 32 := 20#32
  let v247 : BitVec 32 := Scalar.muli arg14 c20_i32_243
  let v248 : Index := Scalar.indexCast v247
  let c80 : Index := 80#32
  ![v248.toNat, 80]
def k0_off8 (k0_t1 : Fin k0_t1_loop.trips) : Fin 2 → Nat :=
  let c0_i32_16 : BitVec 32 := 0#32
  let c1_i32 : BitVec 32 := 1#32
  let arg14 : BitVec 32 := Scf.iv c0_i32_16 c1_i32 k0_t1
  let c20_i32_244 : BitVec 32 := 20#32
  let v251 : BitVec 32 := Scalar.muli arg14 c20_i32_244
  let v252 : Index := Scalar.indexCast v251
  let c96 : Index := 96#32
  ![v252.toNat, 96]
def k0_off9 (k0_t1 : Fin k0_t1_loop.trips) : Fin 2 → Nat :=
  let c0_i32_16 : BitVec 32 := 0#32
  let c1_i32 : BitVec 32 := 1#32
  let arg14 : BitVec 32 := Scf.iv c0_i32_16 c1_i32 k0_t1
  let c20_i32_245 : BitVec 32 := 20#32
  let v255 : BitVec 32 := Scalar.muli arg14 c20_i32_245
  let v256 : Index := Scalar.indexCast v255
  let c112 : Index := 112#32
  ![v256.toNat, 112]
def k0_off10 (k0_t1 : Fin k0_t1_loop.trips) (c1_i32_247 : BitVec 32) : Fin 2 → Nat :=
  let c0_i32_16 : BitVec 32 := 0#32
  let c1_i32 : BitVec 32 := 1#32
  let arg14 : BitVec 32 := Scf.iv c0_i32_16 c1_i32 k0_t1
  let c20_i32_246 : BitVec 32 := 20#32
  let v259 : BitVec 32 := Scalar.muli arg14 c20_i32_246
  let v260 : BitVec 32 := Scalar.addi v259 c1_i32_247
  let v261 : Index := Scalar.indexCast v260
  let c0_248 : Index := 0#32
  ![v261.toNat, 0]
def k0_off11 (k0_t1 : Fin k0_t1_loop.trips) (c1_i32_250 : BitVec 32) : Fin 2 → Nat :=
  let c0_i32_16 : BitVec 32 := 0#32
  let c1_i32 : BitVec 32 := 1#32
  let arg14 : BitVec 32 := Scf.iv c0_i32_16 c1_i32 k0_t1
  let c20_i32_249 : BitVec 32 := 20#32
  let v265 : BitVec 32 := Scalar.muli arg14 c20_i32_249
  let v266 : BitVec 32 := Scalar.addi v265 c1_i32_250
  let v267 : Index := Scalar.indexCast v266
  let c16_251 : Index := 16#32
  ![v267.toNat, 16]
def k0_off12 (k0_t1 : Fin k0_t1_loop.trips) (c1_i32_253 : BitVec 32) : Fin 2 → Nat :=
  let c0_i32_16 : BitVec 32 := 0#32
  let c1_i32 : BitVec 32 := 1#32
  let arg14 : BitVec 32 := Scf.iv c0_i32_16 c1_i32 k0_t1
  let c20_i32_252 : BitVec 32 := 20#32
  let v271 : BitVec 32 := Scalar.muli arg14 c20_i32_252
  let v272 : BitVec 32 := Scalar.addi v271 c1_i32_253
  let v273 : Index := Scalar.indexCast v272
  let c32_254 : Index := 32#32
  ![v273.toNat, 32]
def k0_off13 (k0_t1 : Fin k0_t1_loop.trips) (c1_i32_256 : BitVec 32) : Fin 2 → Nat :=
  let c0_i32_16 : BitVec 32 := 0#32
  let c1_i32 : BitVec 32 := 1#32
  let arg14 : BitVec 32 := Scf.iv c0_i32_16 c1_i32 k0_t1
  let c20_i32_255 : BitVec 32 := 20#32
  let v277 : BitVec 32 := Scalar.muli arg14 c20_i32_255
  let v278 : BitVec 32 := Scalar.addi v277 c1_i32_256
  let v279 : Index := Scalar.indexCast v278
  let c48_257 : Index := 48#32
  ![v279.toNat, 48]
def k0_off14 (k0_t1 : Fin k0_t1_loop.trips) (c1_i32_259 : BitVec 32) : Fin 2 → Nat :=
  let c0_i32_16 : BitVec 32 := 0#32
  let c1_i32 : BitVec 32 := 1#32
  let arg14 : BitVec 32 := Scf.iv c0_i32_16 c1_i32 k0_t1
  let c20_i32_258 : BitVec 32 := 20#32
  let v283 : BitVec 32 := Scalar.muli arg14 c20_i32_258
  let v284 : BitVec 32 := Scalar.addi v283 c1_i32_259
  let v285 : Index := Scalar.indexCast v284
  let c64_260 : Index := 64#32
  ![v285.toNat, 64]
def k0_off15 (k0_t1 : Fin k0_t1_loop.trips) (c1_i32_262 : BitVec 32) : Fin 2 → Nat :=
  let c0_i32_16 : BitVec 32 := 0#32
  let c1_i32 : BitVec 32 := 1#32
  let arg14 : BitVec 32 := Scf.iv c0_i32_16 c1_i32 k0_t1
  let c20_i32_261 : BitVec 32 := 20#32
  let v289 : BitVec 32 := Scalar.muli arg14 c20_i32_261
  let v290 : BitVec 32 := Scalar.addi v289 c1_i32_262
  let v291 : Index := Scalar.indexCast v290
  let c80_263 : Index := 80#32
  ![v291.toNat, 80]
def k0_off16 (k0_t1 : Fin k0_t1_loop.trips) (c1_i32_265 : BitVec 32) : Fin 2 → Nat :=
  let c0_i32_16 : BitVec 32 := 0#32
  let c1_i32 : BitVec 32 := 1#32
  let arg14 : BitVec 32 := Scf.iv c0_i32_16 c1_i32 k0_t1
  let c20_i32_264 : BitVec 32 := 20#32
  let v295 : BitVec 32 := Scalar.muli arg14 c20_i32_264
  let v296 : BitVec 32 := Scalar.addi v295 c1_i32_265
  let v297 : Index := Scalar.indexCast v296
  let c96_266 : Index := 96#32
  ![v297.toNat, 96]
def k0_off17 (k0_t1 : Fin k0_t1_loop.trips) (c1_i32_268 : BitVec 32) : Fin 2 → Nat :=
  let c0_i32_16 : BitVec 32 := 0#32
  let c1_i32 : BitVec 32 := 1#32
  let arg14 : BitVec 32 := Scf.iv c0_i32_16 c1_i32 k0_t1
  let c20_i32_267 : BitVec 32 := 20#32
  let v301 : BitVec 32 := Scalar.muli arg14 c20_i32_267
  let v302 : BitVec 32 := Scalar.addi v301 c1_i32_268
  let v303 : Index := Scalar.indexCast v302
  let c112_269 : Index := 112#32
  ![v303.toNat, 112]
def k0_off18 (k0_t1 : Fin k0_t1_loop.trips) : Fin 2 → Nat :=
  let c0_i32_16 : BitVec 32 := 0#32
  let c1_i32 : BitVec 32 := 1#32
  let arg14 : BitVec 32 := Scf.iv c0_i32_16 c1_i32 k0_t1
  let v1171 : Index := Scalar.indexCast arg14
  let c0_686 : Index := 0#32
  ![v1171.toNat, 0]
def k0_off19 (k0_t1 : Fin k0_t1_loop.trips) : Fin 2 → Nat :=
  let c0_i32_16 : BitVec 32 := 0#32
  let c1_i32 : BitVec 32 := 1#32
  let arg14 : BitVec 32 := Scf.iv c0_i32_16 c1_i32 k0_t1
  let v1175 : Index := Scalar.indexCast arg14
  let c16_687 : Index := 16#32
  ![v1175.toNat, 16]
def k0_off20 (k0_t1 : Fin k0_t1_loop.trips) : Fin 2 → Nat :=
  let c0_i32_16 : BitVec 32 := 0#32
  let c1_i32 : BitVec 32 := 1#32
  let arg14 : BitVec 32 := Scf.iv c0_i32_16 c1_i32 k0_t1
  let v1179 : Index := Scalar.indexCast arg14
  let c32_688 : Index := 32#32
  ![v1179.toNat, 32]
def k0_off21 (k0_t1 : Fin k0_t1_loop.trips) : Fin 2 → Nat :=
  let c0_i32_16 : BitVec 32 := 0#32
  let c1_i32 : BitVec 32 := 1#32
  let arg14 : BitVec 32 := Scf.iv c0_i32_16 c1_i32 k0_t1
  let v1183 : Index := Scalar.indexCast arg14
  let c48_689 : Index := 48#32
  ![v1183.toNat, 48]
def k0_off22 (k0_t1 : Fin k0_t1_loop.trips) : Fin 2 → Nat :=
  let c0_i32_16 : BitVec 32 := 0#32
  let c1_i32 : BitVec 32 := 1#32
  let arg14 : BitVec 32 := Scf.iv c0_i32_16 c1_i32 k0_t1
  let v1187 : Index := Scalar.indexCast arg14
  let c64_690 : Index := 64#32
  ![v1187.toNat, 64]
def k0_off23 (k0_t1 : Fin k0_t1_loop.trips) : Fin 2 → Nat :=
  let c0_i32_16 : BitVec 32 := 0#32
  let c1_i32 : BitVec 32 := 1#32
  let arg14 : BitVec 32 := Scf.iv c0_i32_16 c1_i32 k0_t1
  let v1191 : Index := Scalar.indexCast arg14
  let c80_691 : Index := 80#32
  ![v1191.toNat, 80]
def k0_off24 (k0_t1 : Fin k0_t1_loop.trips) : Fin 2 → Nat :=
  let c0_i32_16 : BitVec 32 := 0#32
  let c1_i32 : BitVec 32 := 1#32
  let arg14 : BitVec 32 := Scf.iv c0_i32_16 c1_i32 k0_t1
  let v1195 : Index := Scalar.indexCast arg14
  let c96_692 : Index := 96#32
  ![v1195.toNat, 96]
def k0_off25 (k0_t1 : Fin k0_t1_loop.trips) : Fin 2 → Nat :=
  let c0_i32_16 : BitVec 32 := 0#32
  let c1_i32 : BitVec 32 := 1#32
  let arg14 : BitVec 32 := Scf.iv c0_i32_16 c1_i32 k0_t1
  let v1199 : Index := Scalar.indexCast arg14
  let c112_693 : Index := 112#32
  ![v1199.toNat, 112]
def k0_off26 (i : grid0.Coords) (c0_i32_19 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v27 : BitVec 32 := Scalar.addi v2 c0_i32_19
  let c0_i32_238_r0 : BitVec 32 := 0#32
  ![v27.toNat, 0]
@[reducible] def k0_t2_loop : Scf.Loop 32 :=
  let c0_i32_30 : BitVec 32 := 0#32
  let c16_i32_31 : BitVec 32 := 16#32
  let v40 : BitVec 32 := Scalar.addi c0_i32_30 c16_i32_31
  let c1_i32_32 : BitVec 32 := 1#32
  ⟨c0_i32_30, v40, c1_i32_32⟩
def k0_off27 (k0_t2 : Fin k0_t2_loop.trips) : Fin 2 → Nat :=
  let c0_i32_30 : BitVec 32 := 0#32
  let c1_i32_32 : BitVec 32 := 1#32
  let arg14 : BitVec 32 := Scf.iv c0_i32_30 c1_i32_32 k0_t2
  let c20_i32_238 : BitVec 32 := 20#32
  let v227 : BitVec 32 := Scalar.muli arg14 c20_i32_238
  let v228 : Index := Scalar.indexCast v227
  let c0 : Index := 0#32
  ![v228.toNat, 0]
def k0_off28 (k0_t2 : Fin k0_t2_loop.trips) : Fin 2 → Nat :=
  let c0_i32_30 : BitVec 32 := 0#32
  let c1_i32_32 : BitVec 32 := 1#32
  let arg14 : BitVec 32 := Scf.iv c0_i32_30 c1_i32_32 k0_t2
  let c20_i32_239 : BitVec 32 := 20#32
  let v231 : BitVec 32 := Scalar.muli arg14 c20_i32_239
  let v232 : Index := Scalar.indexCast v231
  let c16 : Index := 16#32
  ![v232.toNat, 16]
def k0_off29 (k0_t2 : Fin k0_t2_loop.trips) : Fin 2 → Nat :=
  let c0_i32_30 : BitVec 32 := 0#32
  let c1_i32_32 : BitVec 32 := 1#32
  let arg14 : BitVec 32 := Scf.iv c0_i32_30 c1_i32_32 k0_t2
  let c20_i32_240 : BitVec 32 := 20#32
  let v235 : BitVec 32 := Scalar.muli arg14 c20_i32_240
  let v236 : Index := Scalar.indexCast v235
  let c32 : Index := 32#32
  ![v236.toNat, 32]
def k0_off30 (k0_t2 : Fin k0_t2_loop.trips) : Fin 2 → Nat :=
  let c0_i32_30 : BitVec 32 := 0#32
  let c1_i32_32 : BitVec 32 := 1#32
  let arg14 : BitVec 32 := Scf.iv c0_i32_30 c1_i32_32 k0_t2
  let c20_i32_241 : BitVec 32 := 20#32
  let v239 : BitVec 32 := Scalar.muli arg14 c20_i32_241
  let v240 : Index := Scalar.indexCast v239
  let c48 : Index := 48#32
  ![v240.toNat, 48]
def k0_off31 (k0_t2 : Fin k0_t2_loop.trips) : Fin 2 → Nat :=
  let c0_i32_30 : BitVec 32 := 0#32
  let c1_i32_32 : BitVec 32 := 1#32
  let arg14 : BitVec 32 := Scf.iv c0_i32_30 c1_i32_32 k0_t2
  let c20_i32_242 : BitVec 32 := 20#32
  let v243 : BitVec 32 := Scalar.muli arg14 c20_i32_242
  let v244 : Index := Scalar.indexCast v243
  let c64 : Index := 64#32
  ![v244.toNat, 64]
def k0_off32 (k0_t2 : Fin k0_t2_loop.trips) : Fin 2 → Nat :=
  let c0_i32_30 : BitVec 32 := 0#32
  let c1_i32_32 : BitVec 32 := 1#32
  let arg14 : BitVec 32 := Scf.iv c0_i32_30 c1_i32_32 k0_t2
  let c20_i32_243 : BitVec 32 := 20#32
  let v247 : BitVec 32 := Scalar.muli arg14 c20_i32_243
  let v248 : Index := Scalar.indexCast v247
  let c80 : Index := 80#32
  ![v248.toNat, 80]
def k0_off33 (k0_t2 : Fin k0_t2_loop.trips) : Fin 2 → Nat :=
  let c0_i32_30 : BitVec 32 := 0#32
  let c1_i32_32 : BitVec 32 := 1#32
  let arg14 : BitVec 32 := Scf.iv c0_i32_30 c1_i32_32 k0_t2
  let c20_i32_244 : BitVec 32 := 20#32
  let v251 : BitVec 32 := Scalar.muli arg14 c20_i32_244
  let v252 : Index := Scalar.indexCast v251
  let c96 : Index := 96#32
  ![v252.toNat, 96]
def k0_off34 (k0_t2 : Fin k0_t2_loop.trips) : Fin 2 → Nat :=
  let c0_i32_30 : BitVec 32 := 0#32
  let c1_i32_32 : BitVec 32 := 1#32
  let arg14 : BitVec 32 := Scf.iv c0_i32_30 c1_i32_32 k0_t2
  let c20_i32_245 : BitVec 32 := 20#32
  let v255 : BitVec 32 := Scalar.muli arg14 c20_i32_245
  let v256 : Index := Scalar.indexCast v255
  let c112 : Index := 112#32
  ![v256.toNat, 112]
def k0_off35 (k0_t2 : Fin k0_t2_loop.trips) (c1_i32_247 : BitVec 32) : Fin 2 → Nat :=
  let c0_i32_30 : BitVec 32 := 0#32
  let c1_i32_32 : BitVec 32 := 1#32
  let arg14 : BitVec 32 := Scf.iv c0_i32_30 c1_i32_32 k0_t2
  let c20_i32_246 : BitVec 32 := 20#32
  let v259 : BitVec 32 := Scalar.muli arg14 c20_i32_246
  let v260 : BitVec 32 := Scalar.addi v259 c1_i32_247
  let v261 : Index := Scalar.indexCast v260
  let c0_248 : Index := 0#32
  ![v261.toNat, 0]
def k0_off36 (k0_t2 : Fin k0_t2_loop.trips) (c1_i32_250 : BitVec 32) : Fin 2 → Nat :=
  let c0_i32_30 : BitVec 32 := 0#32
  let c1_i32_32 : BitVec 32 := 1#32
  let arg14 : BitVec 32 := Scf.iv c0_i32_30 c1_i32_32 k0_t2
  let c20_i32_249 : BitVec 32 := 20#32
  let v265 : BitVec 32 := Scalar.muli arg14 c20_i32_249
  let v266 : BitVec 32 := Scalar.addi v265 c1_i32_250
  let v267 : Index := Scalar.indexCast v266
  let c16_251 : Index := 16#32
  ![v267.toNat, 16]
def k0_off37 (k0_t2 : Fin k0_t2_loop.trips) (c1_i32_253 : BitVec 32) : Fin 2 → Nat :=
  let c0_i32_30 : BitVec 32 := 0#32
  let c1_i32_32 : BitVec 32 := 1#32
  let arg14 : BitVec 32 := Scf.iv c0_i32_30 c1_i32_32 k0_t2
  let c20_i32_252 : BitVec 32 := 20#32
  let v271 : BitVec 32 := Scalar.muli arg14 c20_i32_252
  let v272 : BitVec 32 := Scalar.addi v271 c1_i32_253
  let v273 : Index := Scalar.indexCast v272
  let c32_254 : Index := 32#32
  ![v273.toNat, 32]
def k0_off38 (k0_t2 : Fin k0_t2_loop.trips) (c1_i32_256 : BitVec 32) : Fin 2 → Nat :=
  let c0_i32_30 : BitVec 32 := 0#32
  let c1_i32_32 : BitVec 32 := 1#32
  let arg14 : BitVec 32 := Scf.iv c0_i32_30 c1_i32_32 k0_t2
  let c20_i32_255 : BitVec 32 := 20#32
  let v277 : BitVec 32 := Scalar.muli arg14 c20_i32_255
  let v278 : BitVec 32 := Scalar.addi v277 c1_i32_256
  let v279 : Index := Scalar.indexCast v278
  let c48_257 : Index := 48#32
  ![v279.toNat, 48]
def k0_off39 (k0_t2 : Fin k0_t2_loop.trips) (c1_i32_259 : BitVec 32) : Fin 2 → Nat :=
  let c0_i32_30 : BitVec 32 := 0#32
  let c1_i32_32 : BitVec 32 := 1#32
  let arg14 : BitVec 32 := Scf.iv c0_i32_30 c1_i32_32 k0_t2
  let c20_i32_258 : BitVec 32 := 20#32
  let v283 : BitVec 32 := Scalar.muli arg14 c20_i32_258
  let v284 : BitVec 32 := Scalar.addi v283 c1_i32_259
  let v285 : Index := Scalar.indexCast v284
  let c64_260 : Index := 64#32
  ![v285.toNat, 64]
def k0_off40 (k0_t2 : Fin k0_t2_loop.trips) (c1_i32_262 : BitVec 32) : Fin 2 → Nat :=
  let c0_i32_30 : BitVec 32 := 0#32
  let c1_i32_32 : BitVec 32 := 1#32
  let arg14 : BitVec 32 := Scf.iv c0_i32_30 c1_i32_32 k0_t2
  let c20_i32_261 : BitVec 32 := 20#32
  let v289 : BitVec 32 := Scalar.muli arg14 c20_i32_261
  let v290 : BitVec 32 := Scalar.addi v289 c1_i32_262
  let v291 : Index := Scalar.indexCast v290
  let c80_263 : Index := 80#32
  ![v291.toNat, 80]
def k0_off41 (k0_t2 : Fin k0_t2_loop.trips) (c1_i32_265 : BitVec 32) : Fin 2 → Nat :=
  let c0_i32_30 : BitVec 32 := 0#32
  let c1_i32_32 : BitVec 32 := 1#32
  let arg14 : BitVec 32 := Scf.iv c0_i32_30 c1_i32_32 k0_t2
  let c20_i32_264 : BitVec 32 := 20#32
  let v295 : BitVec 32 := Scalar.muli arg14 c20_i32_264
  let v296 : BitVec 32 := Scalar.addi v295 c1_i32_265
  let v297 : Index := Scalar.indexCast v296
  let c96_266 : Index := 96#32
  ![v297.toNat, 96]
def k0_off42 (k0_t2 : Fin k0_t2_loop.trips) (c1_i32_268 : BitVec 32) : Fin 2 → Nat :=
  let c0_i32_30 : BitVec 32 := 0#32
  let c1_i32_32 : BitVec 32 := 1#32
  let arg14 : BitVec 32 := Scf.iv c0_i32_30 c1_i32_32 k0_t2
  let c20_i32_267 : BitVec 32 := 20#32
  let v301 : BitVec 32 := Scalar.muli arg14 c20_i32_267
  let v302 : BitVec 32 := Scalar.addi v301 c1_i32_268
  let v303 : Index := Scalar.indexCast v302
  let c112_269 : Index := 112#32
  ![v303.toNat, 112]
def k0_off43 (k0_t2 : Fin k0_t2_loop.trips) : Fin 2 → Nat :=
  let c0_i32_30 : BitVec 32 := 0#32
  let c1_i32_32 : BitVec 32 := 1#32
  let arg14 : BitVec 32 := Scf.iv c0_i32_30 c1_i32_32 k0_t2
  let v1171 : Index := Scalar.indexCast arg14
  let c0_686 : Index := 0#32
  ![v1171.toNat, 0]
def k0_off44 (k0_t2 : Fin k0_t2_loop.trips) : Fin 2 → Nat :=
  let c0_i32_30 : BitVec 32 := 0#32
  let c1_i32_32 : BitVec 32 := 1#32
  let arg14 : BitVec 32 := Scf.iv c0_i32_30 c1_i32_32 k0_t2
  let v1175 : Index := Scalar.indexCast arg14
  let c16_687 : Index := 16#32
  ![v1175.toNat, 16]
def k0_off45 (k0_t2 : Fin k0_t2_loop.trips) : Fin 2 → Nat :=
  let c0_i32_30 : BitVec 32 := 0#32
  let c1_i32_32 : BitVec 32 := 1#32
  let arg14 : BitVec 32 := Scf.iv c0_i32_30 c1_i32_32 k0_t2
  let v1179 : Index := Scalar.indexCast arg14
  let c32_688 : Index := 32#32
  ![v1179.toNat, 32]
def k0_off46 (k0_t2 : Fin k0_t2_loop.trips) : Fin 2 → Nat :=
  let c0_i32_30 : BitVec 32 := 0#32
  let c1_i32_32 : BitVec 32 := 1#32
  let arg14 : BitVec 32 := Scf.iv c0_i32_30 c1_i32_32 k0_t2
  let v1183 : Index := Scalar.indexCast arg14
  let c48_689 : Index := 48#32
  ![v1183.toNat, 48]
def k0_off47 (k0_t2 : Fin k0_t2_loop.trips) : Fin 2 → Nat :=
  let c0_i32_30 : BitVec 32 := 0#32
  let c1_i32_32 : BitVec 32 := 1#32
  let arg14 : BitVec 32 := Scf.iv c0_i32_30 c1_i32_32 k0_t2
  let v1187 : Index := Scalar.indexCast arg14
  let c64_690 : Index := 64#32
  ![v1187.toNat, 64]
def k0_off48 (k0_t2 : Fin k0_t2_loop.trips) : Fin 2 → Nat :=
  let c0_i32_30 : BitVec 32 := 0#32
  let c1_i32_32 : BitVec 32 := 1#32
  let arg14 : BitVec 32 := Scf.iv c0_i32_30 c1_i32_32 k0_t2
  let v1191 : Index := Scalar.indexCast arg14
  let c80_691 : Index := 80#32
  ![v1191.toNat, 80]
def k0_off49 (k0_t2 : Fin k0_t2_loop.trips) : Fin 2 → Nat :=
  let c0_i32_30 : BitVec 32 := 0#32
  let c1_i32_32 : BitVec 32 := 1#32
  let arg14 : BitVec 32 := Scf.iv c0_i32_30 c1_i32_32 k0_t2
  let v1195 : Index := Scalar.indexCast arg14
  let c96_692 : Index := 96#32
  ![v1195.toNat, 96]
def k0_off50 (k0_t2 : Fin k0_t2_loop.trips) : Fin 2 → Nat :=
  let c0_i32_30 : BitVec 32 := 0#32
  let c1_i32_32 : BitVec 32 := 1#32
  let arg14 : BitVec 32 := Scf.iv c0_i32_30 c1_i32_32 k0_t2
  let v1199 : Index := Scalar.indexCast arg14
  let c112_693 : Index := 112#32
  ![v1199.toNat, 112]
@[reducible] def k0_t3_loop : Scf.Loop 32 :=
  let c0_i32_45 : BitVec 32 := 0#32
  let c16_i32_46 : BitVec 32 := 16#32
  let v54 : BitVec 32 := Scalar.addi c0_i32_45 c16_i32_46
  let c1_i32_47 : BitVec 32 := 1#32
  ⟨c0_i32_45, v54, c1_i32_47⟩
def k0_off51 (k0_t3 : Fin k0_t3_loop.trips) : Fin 2 → Nat :=
  let c0_i32_45 : BitVec 32 := 0#32
  let c1_i32_47 : BitVec 32 := 1#32
  let arg14 : BitVec 32 := Scf.iv c0_i32_45 c1_i32_47 k0_t3
  let c20_i32_238 : BitVec 32 := 20#32
  let v227 : BitVec 32 := Scalar.muli arg14 c20_i32_238
  let v228 : Index := Scalar.indexCast v227
  let c0 : Index := 0#32
  ![v228.toNat, 0]
def k0_off52 (k0_t3 : Fin k0_t3_loop.trips) : Fin 2 → Nat :=
  let c0_i32_45 : BitVec 32 := 0#32
  let c1_i32_47 : BitVec 32 := 1#32
  let arg14 : BitVec 32 := Scf.iv c0_i32_45 c1_i32_47 k0_t3
  let c20_i32_239 : BitVec 32 := 20#32
  let v231 : BitVec 32 := Scalar.muli arg14 c20_i32_239
  let v232 : Index := Scalar.indexCast v231
  let c16 : Index := 16#32
  ![v232.toNat, 16]
def k0_off53 (k0_t3 : Fin k0_t3_loop.trips) : Fin 2 → Nat :=
  let c0_i32_45 : BitVec 32 := 0#32
  let c1_i32_47 : BitVec 32 := 1#32
  let arg14 : BitVec 32 := Scf.iv c0_i32_45 c1_i32_47 k0_t3
  let c20_i32_240 : BitVec 32 := 20#32
  let v235 : BitVec 32 := Scalar.muli arg14 c20_i32_240
  let v236 : Index := Scalar.indexCast v235
  let c32 : Index := 32#32
  ![v236.toNat, 32]
def k0_off54 (k0_t3 : Fin k0_t3_loop.trips) : Fin 2 → Nat :=
  let c0_i32_45 : BitVec 32 := 0#32
  let c1_i32_47 : BitVec 32 := 1#32
  let arg14 : BitVec 32 := Scf.iv c0_i32_45 c1_i32_47 k0_t3
  let c20_i32_241 : BitVec 32 := 20#32
  let v239 : BitVec 32 := Scalar.muli arg14 c20_i32_241
  let v240 : Index := Scalar.indexCast v239
  let c48 : Index := 48#32
  ![v240.toNat, 48]
def k0_off55 (k0_t3 : Fin k0_t3_loop.trips) : Fin 2 → Nat :=
  let c0_i32_45 : BitVec 32 := 0#32
  let c1_i32_47 : BitVec 32 := 1#32
  let arg14 : BitVec 32 := Scf.iv c0_i32_45 c1_i32_47 k0_t3
  let c20_i32_242 : BitVec 32 := 20#32
  let v243 : BitVec 32 := Scalar.muli arg14 c20_i32_242
  let v244 : Index := Scalar.indexCast v243
  let c64 : Index := 64#32
  ![v244.toNat, 64]
def k0_off56 (k0_t3 : Fin k0_t3_loop.trips) : Fin 2 → Nat :=
  let c0_i32_45 : BitVec 32 := 0#32
  let c1_i32_47 : BitVec 32 := 1#32
  let arg14 : BitVec 32 := Scf.iv c0_i32_45 c1_i32_47 k0_t3
  let c20_i32_243 : BitVec 32 := 20#32
  let v247 : BitVec 32 := Scalar.muli arg14 c20_i32_243
  let v248 : Index := Scalar.indexCast v247
  let c80 : Index := 80#32
  ![v248.toNat, 80]
def k0_off57 (k0_t3 : Fin k0_t3_loop.trips) : Fin 2 → Nat :=
  let c0_i32_45 : BitVec 32 := 0#32
  let c1_i32_47 : BitVec 32 := 1#32
  let arg14 : BitVec 32 := Scf.iv c0_i32_45 c1_i32_47 k0_t3
  let c20_i32_244 : BitVec 32 := 20#32
  let v251 : BitVec 32 := Scalar.muli arg14 c20_i32_244
  let v252 : Index := Scalar.indexCast v251
  let c96 : Index := 96#32
  ![v252.toNat, 96]
def k0_off58 (k0_t3 : Fin k0_t3_loop.trips) : Fin 2 → Nat :=
  let c0_i32_45 : BitVec 32 := 0#32
  let c1_i32_47 : BitVec 32 := 1#32
  let arg14 : BitVec 32 := Scf.iv c0_i32_45 c1_i32_47 k0_t3
  let c20_i32_245 : BitVec 32 := 20#32
  let v255 : BitVec 32 := Scalar.muli arg14 c20_i32_245
  let v256 : Index := Scalar.indexCast v255
  let c112 : Index := 112#32
  ![v256.toNat, 112]
def k0_off59 (k0_t3 : Fin k0_t3_loop.trips) (c1_i32_247 : BitVec 32) : Fin 2 → Nat :=
  let c0_i32_45 : BitVec 32 := 0#32
  let c1_i32_47 : BitVec 32 := 1#32
  let arg14 : BitVec 32 := Scf.iv c0_i32_45 c1_i32_47 k0_t3
  let c20_i32_246 : BitVec 32 := 20#32
  let v259 : BitVec 32 := Scalar.muli arg14 c20_i32_246
  let v260 : BitVec 32 := Scalar.addi v259 c1_i32_247
  let v261 : Index := Scalar.indexCast v260
  let c0_248 : Index := 0#32
  ![v261.toNat, 0]
def k0_off60 (k0_t3 : Fin k0_t3_loop.trips) (c1_i32_250 : BitVec 32) : Fin 2 → Nat :=
  let c0_i32_45 : BitVec 32 := 0#32
  let c1_i32_47 : BitVec 32 := 1#32
  let arg14 : BitVec 32 := Scf.iv c0_i32_45 c1_i32_47 k0_t3
  let c20_i32_249 : BitVec 32 := 20#32
  let v265 : BitVec 32 := Scalar.muli arg14 c20_i32_249
  let v266 : BitVec 32 := Scalar.addi v265 c1_i32_250
  let v267 : Index := Scalar.indexCast v266
  let c16_251 : Index := 16#32
  ![v267.toNat, 16]
def k0_off61 (k0_t3 : Fin k0_t3_loop.trips) (c1_i32_253 : BitVec 32) : Fin 2 → Nat :=
  let c0_i32_45 : BitVec 32 := 0#32
  let c1_i32_47 : BitVec 32 := 1#32
  let arg14 : BitVec 32 := Scf.iv c0_i32_45 c1_i32_47 k0_t3
  let c20_i32_252 : BitVec 32 := 20#32
  let v271 : BitVec 32 := Scalar.muli arg14 c20_i32_252
  let v272 : BitVec 32 := Scalar.addi v271 c1_i32_253
  let v273 : Index := Scalar.indexCast v272
  let c32_254 : Index := 32#32
  ![v273.toNat, 32]
def k0_off62 (k0_t3 : Fin k0_t3_loop.trips) (c1_i32_256 : BitVec 32) : Fin 2 → Nat :=
  let c0_i32_45 : BitVec 32 := 0#32
  let c1_i32_47 : BitVec 32 := 1#32
  let arg14 : BitVec 32 := Scf.iv c0_i32_45 c1_i32_47 k0_t3
  let c20_i32_255 : BitVec 32 := 20#32
  let v277 : BitVec 32 := Scalar.muli arg14 c20_i32_255
  let v278 : BitVec 32 := Scalar.addi v277 c1_i32_256
  let v279 : Index := Scalar.indexCast v278
  let c48_257 : Index := 48#32
  ![v279.toNat, 48]
def k0_off63 (k0_t3 : Fin k0_t3_loop.trips) (c1_i32_259 : BitVec 32) : Fin 2 → Nat :=
  let c0_i32_45 : BitVec 32 := 0#32
  let c1_i32_47 : BitVec 32 := 1#32
  let arg14 : BitVec 32 := Scf.iv c0_i32_45 c1_i32_47 k0_t3
  let c20_i32_258 : BitVec 32 := 20#32
  let v283 : BitVec 32 := Scalar.muli arg14 c20_i32_258
  let v284 : BitVec 32 := Scalar.addi v283 c1_i32_259
  let v285 : Index := Scalar.indexCast v284
  let c64_260 : Index := 64#32
  ![v285.toNat, 64]
def k0_off64 (k0_t3 : Fin k0_t3_loop.trips) (c1_i32_262 : BitVec 32) : Fin 2 → Nat :=
  let c0_i32_45 : BitVec 32 := 0#32
  let c1_i32_47 : BitVec 32 := 1#32
  let arg14 : BitVec 32 := Scf.iv c0_i32_45 c1_i32_47 k0_t3
  let c20_i32_261 : BitVec 32 := 20#32
  let v289 : BitVec 32 := Scalar.muli arg14 c20_i32_261
  let v290 : BitVec 32 := Scalar.addi v289 c1_i32_262
  let v291 : Index := Scalar.indexCast v290
  let c80_263 : Index := 80#32
  ![v291.toNat, 80]
def k0_off65 (k0_t3 : Fin k0_t3_loop.trips) (c1_i32_265 : BitVec 32) : Fin 2 → Nat :=
  let c0_i32_45 : BitVec 32 := 0#32
  let c1_i32_47 : BitVec 32 := 1#32
  let arg14 : BitVec 32 := Scf.iv c0_i32_45 c1_i32_47 k0_t3
  let c20_i32_264 : BitVec 32 := 20#32
  let v295 : BitVec 32 := Scalar.muli arg14 c20_i32_264
  let v296 : BitVec 32 := Scalar.addi v295 c1_i32_265
  let v297 : Index := Scalar.indexCast v296
  let c96_266 : Index := 96#32
  ![v297.toNat, 96]
def k0_off66 (k0_t3 : Fin k0_t3_loop.trips) (c1_i32_268 : BitVec 32) : Fin 2 → Nat :=
  let c0_i32_45 : BitVec 32 := 0#32
  let c1_i32_47 : BitVec 32 := 1#32
  let arg14 : BitVec 32 := Scf.iv c0_i32_45 c1_i32_47 k0_t3
  let c20_i32_267 : BitVec 32 := 20#32
  let v301 : BitVec 32 := Scalar.muli arg14 c20_i32_267
  let v302 : BitVec 32 := Scalar.addi v301 c1_i32_268
  let v303 : Index := Scalar.indexCast v302
  let c112_269 : Index := 112#32
  ![v303.toNat, 112]
def k0_off67 (k0_t3 : Fin k0_t3_loop.trips) : Fin 2 → Nat :=
  let c0_i32_45 : BitVec 32 := 0#32
  let c1_i32_47 : BitVec 32 := 1#32
  let arg14 : BitVec 32 := Scf.iv c0_i32_45 c1_i32_47 k0_t3
  let v1171 : Index := Scalar.indexCast arg14
  let c0_686 : Index := 0#32
  ![v1171.toNat, 0]
def k0_off68 (k0_t3 : Fin k0_t3_loop.trips) : Fin 2 → Nat :=
  let c0_i32_45 : BitVec 32 := 0#32
  let c1_i32_47 : BitVec 32 := 1#32
  let arg14 : BitVec 32 := Scf.iv c0_i32_45 c1_i32_47 k0_t3
  let v1175 : Index := Scalar.indexCast arg14
  let c16_687 : Index := 16#32
  ![v1175.toNat, 16]
def k0_off69 (k0_t3 : Fin k0_t3_loop.trips) : Fin 2 → Nat :=
  let c0_i32_45 : BitVec 32 := 0#32
  let c1_i32_47 : BitVec 32 := 1#32
  let arg14 : BitVec 32 := Scf.iv c0_i32_45 c1_i32_47 k0_t3
  let v1179 : Index := Scalar.indexCast arg14
  let c32_688 : Index := 32#32
  ![v1179.toNat, 32]
def k0_off70 (k0_t3 : Fin k0_t3_loop.trips) : Fin 2 → Nat :=
  let c0_i32_45 : BitVec 32 := 0#32
  let c1_i32_47 : BitVec 32 := 1#32
  let arg14 : BitVec 32 := Scf.iv c0_i32_45 c1_i32_47 k0_t3
  let v1183 : Index := Scalar.indexCast arg14
  let c48_689 : Index := 48#32
  ![v1183.toNat, 48]
def k0_off71 (k0_t3 : Fin k0_t3_loop.trips) : Fin 2 → Nat :=
  let c0_i32_45 : BitVec 32 := 0#32
  let c1_i32_47 : BitVec 32 := 1#32
  let arg14 : BitVec 32 := Scf.iv c0_i32_45 c1_i32_47 k0_t3
  let v1187 : Index := Scalar.indexCast arg14
  let c64_690 : Index := 64#32
  ![v1187.toNat, 64]
def k0_off72 (k0_t3 : Fin k0_t3_loop.trips) : Fin 2 → Nat :=
  let c0_i32_45 : BitVec 32 := 0#32
  let c1_i32_47 : BitVec 32 := 1#32
  let arg14 : BitVec 32 := Scf.iv c0_i32_45 c1_i32_47 k0_t3
  let v1191 : Index := Scalar.indexCast arg14
  let c80_691 : Index := 80#32
  ![v1191.toNat, 80]
def k0_off73 (k0_t3 : Fin k0_t3_loop.trips) : Fin 2 → Nat :=
  let c0_i32_45 : BitVec 32 := 0#32
  let c1_i32_47 : BitVec 32 := 1#32
  let arg14 : BitVec 32 := Scf.iv c0_i32_45 c1_i32_47 k0_t3
  let v1195 : Index := Scalar.indexCast arg14
  let c96_692 : Index := 96#32
  ![v1195.toNat, 96]
def k0_off74 (k0_t3 : Fin k0_t3_loop.trips) : Fin 2 → Nat :=
  let c0_i32_45 : BitVec 32 := 0#32
  let c1_i32_47 : BitVec 32 := 1#32
  let arg14 : BitVec 32 := Scf.iv c0_i32_45 c1_i32_47 k0_t3
  let v1199 : Index := Scalar.indexCast arg14
  let c112_693 : Index := 112#32
  ![v1199.toNat, 112]
@[reducible] def k0_t4_loop : Scf.Loop 32 :=
  let c0_i32_60 : BitVec 32 := 0#32
  let c16_i32_61 : BitVec 32 := 16#32
  let v68 : BitVec 32 := Scalar.addi c0_i32_60 c16_i32_61
  let c1_i32_62 : BitVec 32 := 1#32
  ⟨c0_i32_60, v68, c1_i32_62⟩
def k0_off75 (k0_t4 : Fin k0_t4_loop.trips) : Fin 2 → Nat :=
  let c0_i32_60 : BitVec 32 := 0#32
  let c1_i32_62 : BitVec 32 := 1#32
  let arg14 : BitVec 32 := Scf.iv c0_i32_60 c1_i32_62 k0_t4
  let c20_i32_238 : BitVec 32 := 20#32
  let v227 : BitVec 32 := Scalar.muli arg14 c20_i32_238
  let v228 : Index := Scalar.indexCast v227
  let c0 : Index := 0#32
  ![v228.toNat, 0]
def k0_off76 (k0_t4 : Fin k0_t4_loop.trips) : Fin 2 → Nat :=
  let c0_i32_60 : BitVec 32 := 0#32
  let c1_i32_62 : BitVec 32 := 1#32
  let arg14 : BitVec 32 := Scf.iv c0_i32_60 c1_i32_62 k0_t4
  let c20_i32_239 : BitVec 32 := 20#32
  let v231 : BitVec 32 := Scalar.muli arg14 c20_i32_239
  let v232 : Index := Scalar.indexCast v231
  let c16 : Index := 16#32
  ![v232.toNat, 16]
def k0_off77 (k0_t4 : Fin k0_t4_loop.trips) : Fin 2 → Nat :=
  let c0_i32_60 : BitVec 32 := 0#32
  let c1_i32_62 : BitVec 32 := 1#32
  let arg14 : BitVec 32 := Scf.iv c0_i32_60 c1_i32_62 k0_t4
  let c20_i32_240 : BitVec 32 := 20#32
  let v235 : BitVec 32 := Scalar.muli arg14 c20_i32_240
  let v236 : Index := Scalar.indexCast v235
  let c32 : Index := 32#32
  ![v236.toNat, 32]
def k0_off78 (k0_t4 : Fin k0_t4_loop.trips) : Fin 2 → Nat :=
  let c0_i32_60 : BitVec 32 := 0#32
  let c1_i32_62 : BitVec 32 := 1#32
  let arg14 : BitVec 32 := Scf.iv c0_i32_60 c1_i32_62 k0_t4
  let c20_i32_241 : BitVec 32 := 20#32
  let v239 : BitVec 32 := Scalar.muli arg14 c20_i32_241
  let v240 : Index := Scalar.indexCast v239
  let c48 : Index := 48#32
  ![v240.toNat, 48]
def k0_off79 (k0_t4 : Fin k0_t4_loop.trips) : Fin 2 → Nat :=
  let c0_i32_60 : BitVec 32 := 0#32
  let c1_i32_62 : BitVec 32 := 1#32
  let arg14 : BitVec 32 := Scf.iv c0_i32_60 c1_i32_62 k0_t4
  let c20_i32_242 : BitVec 32 := 20#32
  let v243 : BitVec 32 := Scalar.muli arg14 c20_i32_242
  let v244 : Index := Scalar.indexCast v243
  let c64 : Index := 64#32
  ![v244.toNat, 64]
def k0_off80 (k0_t4 : Fin k0_t4_loop.trips) : Fin 2 → Nat :=
  let c0_i32_60 : BitVec 32 := 0#32
  let c1_i32_62 : BitVec 32 := 1#32
  let arg14 : BitVec 32 := Scf.iv c0_i32_60 c1_i32_62 k0_t4
  let c20_i32_243 : BitVec 32 := 20#32
  let v247 : BitVec 32 := Scalar.muli arg14 c20_i32_243
  let v248 : Index := Scalar.indexCast v247
  let c80 : Index := 80#32
  ![v248.toNat, 80]
def k0_off81 (k0_t4 : Fin k0_t4_loop.trips) : Fin 2 → Nat :=
  let c0_i32_60 : BitVec 32 := 0#32
  let c1_i32_62 : BitVec 32 := 1#32
  let arg14 : BitVec 32 := Scf.iv c0_i32_60 c1_i32_62 k0_t4
  let c20_i32_244 : BitVec 32 := 20#32
  let v251 : BitVec 32 := Scalar.muli arg14 c20_i32_244
  let v252 : Index := Scalar.indexCast v251
  let c96 : Index := 96#32
  ![v252.toNat, 96]
def k0_off82 (k0_t4 : Fin k0_t4_loop.trips) : Fin 2 → Nat :=
  let c0_i32_60 : BitVec 32 := 0#32
  let c1_i32_62 : BitVec 32 := 1#32
  let arg14 : BitVec 32 := Scf.iv c0_i32_60 c1_i32_62 k0_t4
  let c20_i32_245 : BitVec 32 := 20#32
  let v255 : BitVec 32 := Scalar.muli arg14 c20_i32_245
  let v256 : Index := Scalar.indexCast v255
  let c112 : Index := 112#32
  ![v256.toNat, 112]
def k0_off83 (k0_t4 : Fin k0_t4_loop.trips) (c1_i32_247 : BitVec 32) : Fin 2 → Nat :=
  let c0_i32_60 : BitVec 32 := 0#32
  let c1_i32_62 : BitVec 32 := 1#32
  let arg14 : BitVec 32 := Scf.iv c0_i32_60 c1_i32_62 k0_t4
  let c20_i32_246 : BitVec 32 := 20#32
  let v259 : BitVec 32 := Scalar.muli arg14 c20_i32_246
  let v260 : BitVec 32 := Scalar.addi v259 c1_i32_247
  let v261 : Index := Scalar.indexCast v260
  let c0_248 : Index := 0#32
  ![v261.toNat, 0]
def k0_off84 (k0_t4 : Fin k0_t4_loop.trips) (c1_i32_250 : BitVec 32) : Fin 2 → Nat :=
  let c0_i32_60 : BitVec 32 := 0#32
  let c1_i32_62 : BitVec 32 := 1#32
  let arg14 : BitVec 32 := Scf.iv c0_i32_60 c1_i32_62 k0_t4
  let c20_i32_249 : BitVec 32 := 20#32
  let v265 : BitVec 32 := Scalar.muli arg14 c20_i32_249
  let v266 : BitVec 32 := Scalar.addi v265 c1_i32_250
  let v267 : Index := Scalar.indexCast v266
  let c16_251 : Index := 16#32
  ![v267.toNat, 16]
def k0_off85 (k0_t4 : Fin k0_t4_loop.trips) (c1_i32_253 : BitVec 32) : Fin 2 → Nat :=
  let c0_i32_60 : BitVec 32 := 0#32
  let c1_i32_62 : BitVec 32 := 1#32
  let arg14 : BitVec 32 := Scf.iv c0_i32_60 c1_i32_62 k0_t4
  let c20_i32_252 : BitVec 32 := 20#32
  let v271 : BitVec 32 := Scalar.muli arg14 c20_i32_252
  let v272 : BitVec 32 := Scalar.addi v271 c1_i32_253
  let v273 : Index := Scalar.indexCast v272
  let c32_254 : Index := 32#32
  ![v273.toNat, 32]
def k0_off86 (k0_t4 : Fin k0_t4_loop.trips) (c1_i32_256 : BitVec 32) : Fin 2 → Nat :=
  let c0_i32_60 : BitVec 32 := 0#32
  let c1_i32_62 : BitVec 32 := 1#32
  let arg14 : BitVec 32 := Scf.iv c0_i32_60 c1_i32_62 k0_t4
  let c20_i32_255 : BitVec 32 := 20#32
  let v277 : BitVec 32 := Scalar.muli arg14 c20_i32_255
  let v278 : BitVec 32 := Scalar.addi v277 c1_i32_256
  let v279 : Index := Scalar.indexCast v278
  let c48_257 : Index := 48#32
  ![v279.toNat, 48]
def k0_off87 (k0_t4 : Fin k0_t4_loop.trips) (c1_i32_259 : BitVec 32) : Fin 2 → Nat :=
  let c0_i32_60 : BitVec 32 := 0#32
  let c1_i32_62 : BitVec 32 := 1#32
  let arg14 : BitVec 32 := Scf.iv c0_i32_60 c1_i32_62 k0_t4
  let c20_i32_258 : BitVec 32 := 20#32
  let v283 : BitVec 32 := Scalar.muli arg14 c20_i32_258
  let v284 : BitVec 32 := Scalar.addi v283 c1_i32_259
  let v285 : Index := Scalar.indexCast v284
  let c64_260 : Index := 64#32
  ![v285.toNat, 64]
def k0_off88 (k0_t4 : Fin k0_t4_loop.trips) (c1_i32_262 : BitVec 32) : Fin 2 → Nat :=
  let c0_i32_60 : BitVec 32 := 0#32
  let c1_i32_62 : BitVec 32 := 1#32
  let arg14 : BitVec 32 := Scf.iv c0_i32_60 c1_i32_62 k0_t4
  let c20_i32_261 : BitVec 32 := 20#32
  let v289 : BitVec 32 := Scalar.muli arg14 c20_i32_261
  let v290 : BitVec 32 := Scalar.addi v289 c1_i32_262
  let v291 : Index := Scalar.indexCast v290
  let c80_263 : Index := 80#32
  ![v291.toNat, 80]
def k0_off89 (k0_t4 : Fin k0_t4_loop.trips) (c1_i32_265 : BitVec 32) : Fin 2 → Nat :=
  let c0_i32_60 : BitVec 32 := 0#32
  let c1_i32_62 : BitVec 32 := 1#32
  let arg14 : BitVec 32 := Scf.iv c0_i32_60 c1_i32_62 k0_t4
  let c20_i32_264 : BitVec 32 := 20#32
  let v295 : BitVec 32 := Scalar.muli arg14 c20_i32_264
  let v296 : BitVec 32 := Scalar.addi v295 c1_i32_265
  let v297 : Index := Scalar.indexCast v296
  let c96_266 : Index := 96#32
  ![v297.toNat, 96]
def k0_off90 (k0_t4 : Fin k0_t4_loop.trips) (c1_i32_268 : BitVec 32) : Fin 2 → Nat :=
  let c0_i32_60 : BitVec 32 := 0#32
  let c1_i32_62 : BitVec 32 := 1#32
  let arg14 : BitVec 32 := Scf.iv c0_i32_60 c1_i32_62 k0_t4
  let c20_i32_267 : BitVec 32 := 20#32
  let v301 : BitVec 32 := Scalar.muli arg14 c20_i32_267
  let v302 : BitVec 32 := Scalar.addi v301 c1_i32_268
  let v303 : Index := Scalar.indexCast v302
  let c112_269 : Index := 112#32
  ![v303.toNat, 112]
def k0_off91 (k0_t4 : Fin k0_t4_loop.trips) : Fin 2 → Nat :=
  let c0_i32_60 : BitVec 32 := 0#32
  let c1_i32_62 : BitVec 32 := 1#32
  let arg14 : BitVec 32 := Scf.iv c0_i32_60 c1_i32_62 k0_t4
  let v1171 : Index := Scalar.indexCast arg14
  let c0_686 : Index := 0#32
  ![v1171.toNat, 0]
def k0_off92 (k0_t4 : Fin k0_t4_loop.trips) : Fin 2 → Nat :=
  let c0_i32_60 : BitVec 32 := 0#32
  let c1_i32_62 : BitVec 32 := 1#32
  let arg14 : BitVec 32 := Scf.iv c0_i32_60 c1_i32_62 k0_t4
  let v1175 : Index := Scalar.indexCast arg14
  let c16_687 : Index := 16#32
  ![v1175.toNat, 16]
def k0_off93 (k0_t4 : Fin k0_t4_loop.trips) : Fin 2 → Nat :=
  let c0_i32_60 : BitVec 32 := 0#32
  let c1_i32_62 : BitVec 32 := 1#32
  let arg14 : BitVec 32 := Scf.iv c0_i32_60 c1_i32_62 k0_t4
  let v1179 : Index := Scalar.indexCast arg14
  let c32_688 : Index := 32#32
  ![v1179.toNat, 32]
def k0_off94 (k0_t4 : Fin k0_t4_loop.trips) : Fin 2 → Nat :=
  let c0_i32_60 : BitVec 32 := 0#32
  let c1_i32_62 : BitVec 32 := 1#32
  let arg14 : BitVec 32 := Scf.iv c0_i32_60 c1_i32_62 k0_t4
  let v1183 : Index := Scalar.indexCast arg14
  let c48_689 : Index := 48#32
  ![v1183.toNat, 48]
def k0_off95 (k0_t4 : Fin k0_t4_loop.trips) : Fin 2 → Nat :=
  let c0_i32_60 : BitVec 32 := 0#32
  let c1_i32_62 : BitVec 32 := 1#32
  let arg14 : BitVec 32 := Scf.iv c0_i32_60 c1_i32_62 k0_t4
  let v1187 : Index := Scalar.indexCast arg14
  let c64_690 : Index := 64#32
  ![v1187.toNat, 64]
def k0_off96 (k0_t4 : Fin k0_t4_loop.trips) : Fin 2 → Nat :=
  let c0_i32_60 : BitVec 32 := 0#32
  let c1_i32_62 : BitVec 32 := 1#32
  let arg14 : BitVec 32 := Scf.iv c0_i32_60 c1_i32_62 k0_t4
  let v1191 : Index := Scalar.indexCast arg14
  let c80_691 : Index := 80#32
  ![v1191.toNat, 80]
def k0_off97 (k0_t4 : Fin k0_t4_loop.trips) : Fin 2 → Nat :=
  let c0_i32_60 : BitVec 32 := 0#32
  let c1_i32_62 : BitVec 32 := 1#32
  let arg14 : BitVec 32 := Scf.iv c0_i32_60 c1_i32_62 k0_t4
  let v1195 : Index := Scalar.indexCast arg14
  let c96_692 : Index := 96#32
  ![v1195.toNat, 96]
def k0_off98 (k0_t4 : Fin k0_t4_loop.trips) : Fin 2 → Nat :=
  let c0_i32_60 : BitVec 32 := 0#32
  let c1_i32_62 : BitVec 32 := 1#32
  let arg14 : BitVec 32 := Scf.iv c0_i32_60 c1_i32_62 k0_t4
  let v1199 : Index := Scalar.indexCast arg14
  let c112_693 : Index := 112#32
  ![v1199.toNat, 112]
@[reducible] def k0_t5_loop : Scf.Loop 32 :=
  let c0_i32_75 : BitVec 32 := 0#32
  let c16_i32_76 : BitVec 32 := 16#32
  let v82 : BitVec 32 := Scalar.addi c0_i32_75 c16_i32_76
  let c1_i32_77 : BitVec 32 := 1#32
  ⟨c0_i32_75, v82, c1_i32_77⟩
def k0_off99 (k0_t5 : Fin k0_t5_loop.trips) : Fin 2 → Nat :=
  let c0_i32_75 : BitVec 32 := 0#32
  let c1_i32_77 : BitVec 32 := 1#32
  let arg14 : BitVec 32 := Scf.iv c0_i32_75 c1_i32_77 k0_t5
  let c20_i32_238 : BitVec 32 := 20#32
  let v227 : BitVec 32 := Scalar.muli arg14 c20_i32_238
  let v228 : Index := Scalar.indexCast v227
  let c0 : Index := 0#32
  ![v228.toNat, 0]
def k0_off100 (k0_t5 : Fin k0_t5_loop.trips) : Fin 2 → Nat :=
  let c0_i32_75 : BitVec 32 := 0#32
  let c1_i32_77 : BitVec 32 := 1#32
  let arg14 : BitVec 32 := Scf.iv c0_i32_75 c1_i32_77 k0_t5
  let c20_i32_239 : BitVec 32 := 20#32
  let v231 : BitVec 32 := Scalar.muli arg14 c20_i32_239
  let v232 : Index := Scalar.indexCast v231
  let c16 : Index := 16#32
  ![v232.toNat, 16]
def k0_off101 (k0_t5 : Fin k0_t5_loop.trips) : Fin 2 → Nat :=
  let c0_i32_75 : BitVec 32 := 0#32
  let c1_i32_77 : BitVec 32 := 1#32
  let arg14 : BitVec 32 := Scf.iv c0_i32_75 c1_i32_77 k0_t5
  let c20_i32_240 : BitVec 32 := 20#32
  let v235 : BitVec 32 := Scalar.muli arg14 c20_i32_240
  let v236 : Index := Scalar.indexCast v235
  let c32 : Index := 32#32
  ![v236.toNat, 32]
def k0_off102 (k0_t5 : Fin k0_t5_loop.trips) : Fin 2 → Nat :=
  let c0_i32_75 : BitVec 32 := 0#32
  let c1_i32_77 : BitVec 32 := 1#32
  let arg14 : BitVec 32 := Scf.iv c0_i32_75 c1_i32_77 k0_t5
  let c20_i32_241 : BitVec 32 := 20#32
  let v239 : BitVec 32 := Scalar.muli arg14 c20_i32_241
  let v240 : Index := Scalar.indexCast v239
  let c48 : Index := 48#32
  ![v240.toNat, 48]
def k0_off103 (k0_t5 : Fin k0_t5_loop.trips) : Fin 2 → Nat :=
  let c0_i32_75 : BitVec 32 := 0#32
  let c1_i32_77 : BitVec 32 := 1#32
  let arg14 : BitVec 32 := Scf.iv c0_i32_75 c1_i32_77 k0_t5
  let c20_i32_242 : BitVec 32 := 20#32
  let v243 : BitVec 32 := Scalar.muli arg14 c20_i32_242
  let v244 : Index := Scalar.indexCast v243
  let c64 : Index := 64#32
  ![v244.toNat, 64]
def k0_off104 (k0_t5 : Fin k0_t5_loop.trips) : Fin 2 → Nat :=
  let c0_i32_75 : BitVec 32 := 0#32
  let c1_i32_77 : BitVec 32 := 1#32
  let arg14 : BitVec 32 := Scf.iv c0_i32_75 c1_i32_77 k0_t5
  let c20_i32_243 : BitVec 32 := 20#32
  let v247 : BitVec 32 := Scalar.muli arg14 c20_i32_243
  let v248 : Index := Scalar.indexCast v247
  let c80 : Index := 80#32
  ![v248.toNat, 80]
def k0_off105 (k0_t5 : Fin k0_t5_loop.trips) : Fin 2 → Nat :=
  let c0_i32_75 : BitVec 32 := 0#32
  let c1_i32_77 : BitVec 32 := 1#32
  let arg14 : BitVec 32 := Scf.iv c0_i32_75 c1_i32_77 k0_t5
  let c20_i32_244 : BitVec 32 := 20#32
  let v251 : BitVec 32 := Scalar.muli arg14 c20_i32_244
  let v252 : Index := Scalar.indexCast v251
  let c96 : Index := 96#32
  ![v252.toNat, 96]
def k0_off106 (k0_t5 : Fin k0_t5_loop.trips) : Fin 2 → Nat :=
  let c0_i32_75 : BitVec 32 := 0#32
  let c1_i32_77 : BitVec 32 := 1#32
  let arg14 : BitVec 32 := Scf.iv c0_i32_75 c1_i32_77 k0_t5
  let c20_i32_245 : BitVec 32 := 20#32
  let v255 : BitVec 32 := Scalar.muli arg14 c20_i32_245
  let v256 : Index := Scalar.indexCast v255
  let c112 : Index := 112#32
  ![v256.toNat, 112]
def k0_off107 (k0_t5 : Fin k0_t5_loop.trips) (c1_i32_247 : BitVec 32) : Fin 2 → Nat :=
  let c0_i32_75 : BitVec 32 := 0#32
  let c1_i32_77 : BitVec 32 := 1#32
  let arg14 : BitVec 32 := Scf.iv c0_i32_75 c1_i32_77 k0_t5
  let c20_i32_246 : BitVec 32 := 20#32
  let v259 : BitVec 32 := Scalar.muli arg14 c20_i32_246
  let v260 : BitVec 32 := Scalar.addi v259 c1_i32_247
  let v261 : Index := Scalar.indexCast v260
  let c0_248 : Index := 0#32
  ![v261.toNat, 0]
def k0_off108 (k0_t5 : Fin k0_t5_loop.trips) (c1_i32_250 : BitVec 32) : Fin 2 → Nat :=
  let c0_i32_75 : BitVec 32 := 0#32
  let c1_i32_77 : BitVec 32 := 1#32
  let arg14 : BitVec 32 := Scf.iv c0_i32_75 c1_i32_77 k0_t5
  let c20_i32_249 : BitVec 32 := 20#32
  let v265 : BitVec 32 := Scalar.muli arg14 c20_i32_249
  let v266 : BitVec 32 := Scalar.addi v265 c1_i32_250
  let v267 : Index := Scalar.indexCast v266
  let c16_251 : Index := 16#32
  ![v267.toNat, 16]
def k0_off109 (k0_t5 : Fin k0_t5_loop.trips) (c1_i32_253 : BitVec 32) : Fin 2 → Nat :=
  let c0_i32_75 : BitVec 32 := 0#32
  let c1_i32_77 : BitVec 32 := 1#32
  let arg14 : BitVec 32 := Scf.iv c0_i32_75 c1_i32_77 k0_t5
  let c20_i32_252 : BitVec 32 := 20#32
  let v271 : BitVec 32 := Scalar.muli arg14 c20_i32_252
  let v272 : BitVec 32 := Scalar.addi v271 c1_i32_253
  let v273 : Index := Scalar.indexCast v272
  let c32_254 : Index := 32#32
  ![v273.toNat, 32]
def k0_off110 (k0_t5 : Fin k0_t5_loop.trips) (c1_i32_256 : BitVec 32) : Fin 2 → Nat :=
  let c0_i32_75 : BitVec 32 := 0#32
  let c1_i32_77 : BitVec 32 := 1#32
  let arg14 : BitVec 32 := Scf.iv c0_i32_75 c1_i32_77 k0_t5
  let c20_i32_255 : BitVec 32 := 20#32
  let v277 : BitVec 32 := Scalar.muli arg14 c20_i32_255
  let v278 : BitVec 32 := Scalar.addi v277 c1_i32_256
  let v279 : Index := Scalar.indexCast v278
  let c48_257 : Index := 48#32
  ![v279.toNat, 48]
def k0_off111 (k0_t5 : Fin k0_t5_loop.trips) (c1_i32_259 : BitVec 32) : Fin 2 → Nat :=
  let c0_i32_75 : BitVec 32 := 0#32
  let c1_i32_77 : BitVec 32 := 1#32
  let arg14 : BitVec 32 := Scf.iv c0_i32_75 c1_i32_77 k0_t5
  let c20_i32_258 : BitVec 32 := 20#32
  let v283 : BitVec 32 := Scalar.muli arg14 c20_i32_258
  let v284 : BitVec 32 := Scalar.addi v283 c1_i32_259
  let v285 : Index := Scalar.indexCast v284
  let c64_260 : Index := 64#32
  ![v285.toNat, 64]
def k0_off112 (k0_t5 : Fin k0_t5_loop.trips) (c1_i32_262 : BitVec 32) : Fin 2 → Nat :=
  let c0_i32_75 : BitVec 32 := 0#32
  let c1_i32_77 : BitVec 32 := 1#32
  let arg14 : BitVec 32 := Scf.iv c0_i32_75 c1_i32_77 k0_t5
  let c20_i32_261 : BitVec 32 := 20#32
  let v289 : BitVec 32 := Scalar.muli arg14 c20_i32_261
  let v290 : BitVec 32 := Scalar.addi v289 c1_i32_262
  let v291 : Index := Scalar.indexCast v290
  let c80_263 : Index := 80#32
  ![v291.toNat, 80]
def k0_off113 (k0_t5 : Fin k0_t5_loop.trips) (c1_i32_265 : BitVec 32) : Fin 2 → Nat :=
  let c0_i32_75 : BitVec 32 := 0#32
  let c1_i32_77 : BitVec 32 := 1#32
  let arg14 : BitVec 32 := Scf.iv c0_i32_75 c1_i32_77 k0_t5
  let c20_i32_264 : BitVec 32 := 20#32
  let v295 : BitVec 32 := Scalar.muli arg14 c20_i32_264
  let v296 : BitVec 32 := Scalar.addi v295 c1_i32_265
  let v297 : Index := Scalar.indexCast v296
  let c96_266 : Index := 96#32
  ![v297.toNat, 96]
def k0_off114 (k0_t5 : Fin k0_t5_loop.trips) (c1_i32_268 : BitVec 32) : Fin 2 → Nat :=
  let c0_i32_75 : BitVec 32 := 0#32
  let c1_i32_77 : BitVec 32 := 1#32
  let arg14 : BitVec 32 := Scf.iv c0_i32_75 c1_i32_77 k0_t5
  let c20_i32_267 : BitVec 32 := 20#32
  let v301 : BitVec 32 := Scalar.muli arg14 c20_i32_267
  let v302 : BitVec 32 := Scalar.addi v301 c1_i32_268
  let v303 : Index := Scalar.indexCast v302
  let c112_269 : Index := 112#32
  ![v303.toNat, 112]
def k0_off115 (k0_t5 : Fin k0_t5_loop.trips) : Fin 2 → Nat :=
  let c0_i32_75 : BitVec 32 := 0#32
  let c1_i32_77 : BitVec 32 := 1#32
  let arg14 : BitVec 32 := Scf.iv c0_i32_75 c1_i32_77 k0_t5
  let v1171 : Index := Scalar.indexCast arg14
  let c0_686 : Index := 0#32
  ![v1171.toNat, 0]
def k0_off116 (k0_t5 : Fin k0_t5_loop.trips) : Fin 2 → Nat :=
  let c0_i32_75 : BitVec 32 := 0#32
  let c1_i32_77 : BitVec 32 := 1#32
  let arg14 : BitVec 32 := Scf.iv c0_i32_75 c1_i32_77 k0_t5
  let v1175 : Index := Scalar.indexCast arg14
  let c16_687 : Index := 16#32
  ![v1175.toNat, 16]
def k0_off117 (k0_t5 : Fin k0_t5_loop.trips) : Fin 2 → Nat :=
  let c0_i32_75 : BitVec 32 := 0#32
  let c1_i32_77 : BitVec 32 := 1#32
  let arg14 : BitVec 32 := Scf.iv c0_i32_75 c1_i32_77 k0_t5
  let v1179 : Index := Scalar.indexCast arg14
  let c32_688 : Index := 32#32
  ![v1179.toNat, 32]
def k0_off118 (k0_t5 : Fin k0_t5_loop.trips) : Fin 2 → Nat :=
  let c0_i32_75 : BitVec 32 := 0#32
  let c1_i32_77 : BitVec 32 := 1#32
  let arg14 : BitVec 32 := Scf.iv c0_i32_75 c1_i32_77 k0_t5
  let v1183 : Index := Scalar.indexCast arg14
  let c48_689 : Index := 48#32
  ![v1183.toNat, 48]
def k0_off119 (k0_t5 : Fin k0_t5_loop.trips) : Fin 2 → Nat :=
  let c0_i32_75 : BitVec 32 := 0#32
  let c1_i32_77 : BitVec 32 := 1#32
  let arg14 : BitVec 32 := Scf.iv c0_i32_75 c1_i32_77 k0_t5
  let v1187 : Index := Scalar.indexCast arg14
  let c64_690 : Index := 64#32
  ![v1187.toNat, 64]
def k0_off120 (k0_t5 : Fin k0_t5_loop.trips) : Fin 2 → Nat :=
  let c0_i32_75 : BitVec 32 := 0#32
  let c1_i32_77 : BitVec 32 := 1#32
  let arg14 : BitVec 32 := Scf.iv c0_i32_75 c1_i32_77 k0_t5
  let v1191 : Index := Scalar.indexCast arg14
  let c80_691 : Index := 80#32
  ![v1191.toNat, 80]
def k0_off121 (k0_t5 : Fin k0_t5_loop.trips) : Fin 2 → Nat :=
  let c0_i32_75 : BitVec 32 := 0#32
  let c1_i32_77 : BitVec 32 := 1#32
  let arg14 : BitVec 32 := Scf.iv c0_i32_75 c1_i32_77 k0_t5
  let v1195 : Index := Scalar.indexCast arg14
  let c96_692 : Index := 96#32
  ![v1195.toNat, 96]
def k0_off122 (k0_t5 : Fin k0_t5_loop.trips) : Fin 2 → Nat :=
  let c0_i32_75 : BitVec 32 := 0#32
  let c1_i32_77 : BitVec 32 := 1#32
  let arg14 : BitVec 32 := Scf.iv c0_i32_75 c1_i32_77 k0_t5
  let v1199 : Index := Scalar.indexCast arg14
  let c112_693 : Index := 112#32
  ![v1199.toNat, 112]
@[reducible] def k0_t6_loop : Scf.Loop 32 :=
  let c0_i32_90 : BitVec 32 := 0#32
  let c16_i32_91 : BitVec 32 := 16#32
  let v96 : BitVec 32 := Scalar.addi c0_i32_90 c16_i32_91
  let c1_i32_92 : BitVec 32 := 1#32
  ⟨c0_i32_90, v96, c1_i32_92⟩
def k0_off123 (k0_t6 : Fin k0_t6_loop.trips) : Fin 2 → Nat :=
  let c0_i32_90 : BitVec 32 := 0#32
  let c1_i32_92 : BitVec 32 := 1#32
  let arg14 : BitVec 32 := Scf.iv c0_i32_90 c1_i32_92 k0_t6
  let c20_i32_238 : BitVec 32 := 20#32
  let v227 : BitVec 32 := Scalar.muli arg14 c20_i32_238
  let v228 : Index := Scalar.indexCast v227
  let c0 : Index := 0#32
  ![v228.toNat, 0]
def k0_off124 (k0_t6 : Fin k0_t6_loop.trips) : Fin 2 → Nat :=
  let c0_i32_90 : BitVec 32 := 0#32
  let c1_i32_92 : BitVec 32 := 1#32
  let arg14 : BitVec 32 := Scf.iv c0_i32_90 c1_i32_92 k0_t6
  let c20_i32_239 : BitVec 32 := 20#32
  let v231 : BitVec 32 := Scalar.muli arg14 c20_i32_239
  let v232 : Index := Scalar.indexCast v231
  let c16 : Index := 16#32
  ![v232.toNat, 16]
def k0_off125 (k0_t6 : Fin k0_t6_loop.trips) : Fin 2 → Nat :=
  let c0_i32_90 : BitVec 32 := 0#32
  let c1_i32_92 : BitVec 32 := 1#32
  let arg14 : BitVec 32 := Scf.iv c0_i32_90 c1_i32_92 k0_t6
  let c20_i32_240 : BitVec 32 := 20#32
  let v235 : BitVec 32 := Scalar.muli arg14 c20_i32_240
  let v236 : Index := Scalar.indexCast v235
  let c32 : Index := 32#32
  ![v236.toNat, 32]
def k0_off126 (k0_t6 : Fin k0_t6_loop.trips) : Fin 2 → Nat :=
  let c0_i32_90 : BitVec 32 := 0#32
  let c1_i32_92 : BitVec 32 := 1#32
  let arg14 : BitVec 32 := Scf.iv c0_i32_90 c1_i32_92 k0_t6
  let c20_i32_241 : BitVec 32 := 20#32
  let v239 : BitVec 32 := Scalar.muli arg14 c20_i32_241
  let v240 : Index := Scalar.indexCast v239
  let c48 : Index := 48#32
  ![v240.toNat, 48]
def k0_off127 (k0_t6 : Fin k0_t6_loop.trips) : Fin 2 → Nat :=
  let c0_i32_90 : BitVec 32 := 0#32
  let c1_i32_92 : BitVec 32 := 1#32
  let arg14 : BitVec 32 := Scf.iv c0_i32_90 c1_i32_92 k0_t6
  let c20_i32_242 : BitVec 32 := 20#32
  let v243 : BitVec 32 := Scalar.muli arg14 c20_i32_242
  let v244 : Index := Scalar.indexCast v243
  let c64 : Index := 64#32
  ![v244.toNat, 64]
def k0_off128 (k0_t6 : Fin k0_t6_loop.trips) : Fin 2 → Nat :=
  let c0_i32_90 : BitVec 32 := 0#32
  let c1_i32_92 : BitVec 32 := 1#32
  let arg14 : BitVec 32 := Scf.iv c0_i32_90 c1_i32_92 k0_t6
  let c20_i32_243 : BitVec 32 := 20#32
  let v247 : BitVec 32 := Scalar.muli arg14 c20_i32_243
  let v248 : Index := Scalar.indexCast v247
  let c80 : Index := 80#32
  ![v248.toNat, 80]
def k0_off129 (k0_t6 : Fin k0_t6_loop.trips) : Fin 2 → Nat :=
  let c0_i32_90 : BitVec 32 := 0#32
  let c1_i32_92 : BitVec 32 := 1#32
  let arg14 : BitVec 32 := Scf.iv c0_i32_90 c1_i32_92 k0_t6
  let c20_i32_244 : BitVec 32 := 20#32
  let v251 : BitVec 32 := Scalar.muli arg14 c20_i32_244
  let v252 : Index := Scalar.indexCast v251
  let c96 : Index := 96#32
  ![v252.toNat, 96]
def k0_off130 (k0_t6 : Fin k0_t6_loop.trips) : Fin 2 → Nat :=
  let c0_i32_90 : BitVec 32 := 0#32
  let c1_i32_92 : BitVec 32 := 1#32
  let arg14 : BitVec 32 := Scf.iv c0_i32_90 c1_i32_92 k0_t6
  let c20_i32_245 : BitVec 32 := 20#32
  let v255 : BitVec 32 := Scalar.muli arg14 c20_i32_245
  let v256 : Index := Scalar.indexCast v255
  let c112 : Index := 112#32
  ![v256.toNat, 112]
def k0_off131 (k0_t6 : Fin k0_t6_loop.trips) (c1_i32_247 : BitVec 32) : Fin 2 → Nat :=
  let c0_i32_90 : BitVec 32 := 0#32
  let c1_i32_92 : BitVec 32 := 1#32
  let arg14 : BitVec 32 := Scf.iv c0_i32_90 c1_i32_92 k0_t6
  let c20_i32_246 : BitVec 32 := 20#32
  let v259 : BitVec 32 := Scalar.muli arg14 c20_i32_246
  let v260 : BitVec 32 := Scalar.addi v259 c1_i32_247
  let v261 : Index := Scalar.indexCast v260
  let c0_248 : Index := 0#32
  ![v261.toNat, 0]
def k0_off132 (k0_t6 : Fin k0_t6_loop.trips) (c1_i32_250 : BitVec 32) : Fin 2 → Nat :=
  let c0_i32_90 : BitVec 32 := 0#32
  let c1_i32_92 : BitVec 32 := 1#32
  let arg14 : BitVec 32 := Scf.iv c0_i32_90 c1_i32_92 k0_t6
  let c20_i32_249 : BitVec 32 := 20#32
  let v265 : BitVec 32 := Scalar.muli arg14 c20_i32_249
  let v266 : BitVec 32 := Scalar.addi v265 c1_i32_250
  let v267 : Index := Scalar.indexCast v266
  let c16_251 : Index := 16#32
  ![v267.toNat, 16]
def k0_off133 (k0_t6 : Fin k0_t6_loop.trips) (c1_i32_253 : BitVec 32) : Fin 2 → Nat :=
  let c0_i32_90 : BitVec 32 := 0#32
  let c1_i32_92 : BitVec 32 := 1#32
  let arg14 : BitVec 32 := Scf.iv c0_i32_90 c1_i32_92 k0_t6
  let c20_i32_252 : BitVec 32 := 20#32
  let v271 : BitVec 32 := Scalar.muli arg14 c20_i32_252
  let v272 : BitVec 32 := Scalar.addi v271 c1_i32_253
  let v273 : Index := Scalar.indexCast v272
  let c32_254 : Index := 32#32
  ![v273.toNat, 32]
def k0_off134 (k0_t6 : Fin k0_t6_loop.trips) (c1_i32_256 : BitVec 32) : Fin 2 → Nat :=
  let c0_i32_90 : BitVec 32 := 0#32
  let c1_i32_92 : BitVec 32 := 1#32
  let arg14 : BitVec 32 := Scf.iv c0_i32_90 c1_i32_92 k0_t6
  let c20_i32_255 : BitVec 32 := 20#32
  let v277 : BitVec 32 := Scalar.muli arg14 c20_i32_255
  let v278 : BitVec 32 := Scalar.addi v277 c1_i32_256
  let v279 : Index := Scalar.indexCast v278
  let c48_257 : Index := 48#32
  ![v279.toNat, 48]
def k0_off135 (k0_t6 : Fin k0_t6_loop.trips) (c1_i32_259 : BitVec 32) : Fin 2 → Nat :=
  let c0_i32_90 : BitVec 32 := 0#32
  let c1_i32_92 : BitVec 32 := 1#32
  let arg14 : BitVec 32 := Scf.iv c0_i32_90 c1_i32_92 k0_t6
  let c20_i32_258 : BitVec 32 := 20#32
  let v283 : BitVec 32 := Scalar.muli arg14 c20_i32_258
  let v284 : BitVec 32 := Scalar.addi v283 c1_i32_259
  let v285 : Index := Scalar.indexCast v284
  let c64_260 : Index := 64#32
  ![v285.toNat, 64]
def k0_off136 (k0_t6 : Fin k0_t6_loop.trips) (c1_i32_262 : BitVec 32) : Fin 2 → Nat :=
  let c0_i32_90 : BitVec 32 := 0#32
  let c1_i32_92 : BitVec 32 := 1#32
  let arg14 : BitVec 32 := Scf.iv c0_i32_90 c1_i32_92 k0_t6
  let c20_i32_261 : BitVec 32 := 20#32
  let v289 : BitVec 32 := Scalar.muli arg14 c20_i32_261
  let v290 : BitVec 32 := Scalar.addi v289 c1_i32_262
  let v291 : Index := Scalar.indexCast v290
  let c80_263 : Index := 80#32
  ![v291.toNat, 80]
def k0_off137 (k0_t6 : Fin k0_t6_loop.trips) (c1_i32_265 : BitVec 32) : Fin 2 → Nat :=
  let c0_i32_90 : BitVec 32 := 0#32
  let c1_i32_92 : BitVec 32 := 1#32
  let arg14 : BitVec 32 := Scf.iv c0_i32_90 c1_i32_92 k0_t6
  let c20_i32_264 : BitVec 32 := 20#32
  let v295 : BitVec 32 := Scalar.muli arg14 c20_i32_264
  let v296 : BitVec 32 := Scalar.addi v295 c1_i32_265
  let v297 : Index := Scalar.indexCast v296
  let c96_266 : Index := 96#32
  ![v297.toNat, 96]
def k0_off138 (k0_t6 : Fin k0_t6_loop.trips) (c1_i32_268 : BitVec 32) : Fin 2 → Nat :=
  let c0_i32_90 : BitVec 32 := 0#32
  let c1_i32_92 : BitVec 32 := 1#32
  let arg14 : BitVec 32 := Scf.iv c0_i32_90 c1_i32_92 k0_t6
  let c20_i32_267 : BitVec 32 := 20#32
  let v301 : BitVec 32 := Scalar.muli arg14 c20_i32_267
  let v302 : BitVec 32 := Scalar.addi v301 c1_i32_268
  let v303 : Index := Scalar.indexCast v302
  let c112_269 : Index := 112#32
  ![v303.toNat, 112]
def k0_off139 (k0_t6 : Fin k0_t6_loop.trips) : Fin 2 → Nat :=
  let c0_i32_90 : BitVec 32 := 0#32
  let c1_i32_92 : BitVec 32 := 1#32
  let arg14 : BitVec 32 := Scf.iv c0_i32_90 c1_i32_92 k0_t6
  let v1171 : Index := Scalar.indexCast arg14
  let c0_686 : Index := 0#32
  ![v1171.toNat, 0]
def k0_off140 (k0_t6 : Fin k0_t6_loop.trips) : Fin 2 → Nat :=
  let c0_i32_90 : BitVec 32 := 0#32
  let c1_i32_92 : BitVec 32 := 1#32
  let arg14 : BitVec 32 := Scf.iv c0_i32_90 c1_i32_92 k0_t6
  let v1175 : Index := Scalar.indexCast arg14
  let c16_687 : Index := 16#32
  ![v1175.toNat, 16]
def k0_off141 (k0_t6 : Fin k0_t6_loop.trips) : Fin 2 → Nat :=
  let c0_i32_90 : BitVec 32 := 0#32
  let c1_i32_92 : BitVec 32 := 1#32
  let arg14 : BitVec 32 := Scf.iv c0_i32_90 c1_i32_92 k0_t6
  let v1179 : Index := Scalar.indexCast arg14
  let c32_688 : Index := 32#32
  ![v1179.toNat, 32]
def k0_off142 (k0_t6 : Fin k0_t6_loop.trips) : Fin 2 → Nat :=
  let c0_i32_90 : BitVec 32 := 0#32
  let c1_i32_92 : BitVec 32 := 1#32
  let arg14 : BitVec 32 := Scf.iv c0_i32_90 c1_i32_92 k0_t6
  let v1183 : Index := Scalar.indexCast arg14
  let c48_689 : Index := 48#32
  ![v1183.toNat, 48]
def k0_off143 (k0_t6 : Fin k0_t6_loop.trips) : Fin 2 → Nat :=
  let c0_i32_90 : BitVec 32 := 0#32
  let c1_i32_92 : BitVec 32 := 1#32
  let arg14 : BitVec 32 := Scf.iv c0_i32_90 c1_i32_92 k0_t6
  let v1187 : Index := Scalar.indexCast arg14
  let c64_690 : Index := 64#32
  ![v1187.toNat, 64]
def k0_off144 (k0_t6 : Fin k0_t6_loop.trips) : Fin 2 → Nat :=
  let c0_i32_90 : BitVec 32 := 0#32
  let c1_i32_92 : BitVec 32 := 1#32
  let arg14 : BitVec 32 := Scf.iv c0_i32_90 c1_i32_92 k0_t6
  let v1191 : Index := Scalar.indexCast arg14
  let c80_691 : Index := 80#32
  ![v1191.toNat, 80]
def k0_off145 (k0_t6 : Fin k0_t6_loop.trips) : Fin 2 → Nat :=
  let c0_i32_90 : BitVec 32 := 0#32
  let c1_i32_92 : BitVec 32 := 1#32
  let arg14 : BitVec 32 := Scf.iv c0_i32_90 c1_i32_92 k0_t6
  let v1195 : Index := Scalar.indexCast arg14
  let c96_692 : Index := 96#32
  ![v1195.toNat, 96]
def k0_off146 (k0_t6 : Fin k0_t6_loop.trips) : Fin 2 → Nat :=
  let c0_i32_90 : BitVec 32 := 0#32
  let c1_i32_92 : BitVec 32 := 1#32
  let arg14 : BitVec 32 := Scf.iv c0_i32_90 c1_i32_92 k0_t6
  let v1199 : Index := Scalar.indexCast arg14
  let c112_693 : Index := 112#32
  ![v1199.toNat, 112]
@[reducible] def k0_t7_loop : Scf.Loop 32 :=
  let c0_i32_105 : BitVec 32 := 0#32
  let c16_i32_106 : BitVec 32 := 16#32
  let v110 : BitVec 32 := Scalar.addi c0_i32_105 c16_i32_106
  let c1_i32_107 : BitVec 32 := 1#32
  ⟨c0_i32_105, v110, c1_i32_107⟩
def k0_off147 (k0_t7 : Fin k0_t7_loop.trips) : Fin 2 → Nat :=
  let c0_i32_105 : BitVec 32 := 0#32
  let c1_i32_107 : BitVec 32 := 1#32
  let arg14 : BitVec 32 := Scf.iv c0_i32_105 c1_i32_107 k0_t7
  let c20_i32_238 : BitVec 32 := 20#32
  let v227 : BitVec 32 := Scalar.muli arg14 c20_i32_238
  let v228 : Index := Scalar.indexCast v227
  let c0 : Index := 0#32
  ![v228.toNat, 0]
def k0_off148 (k0_t7 : Fin k0_t7_loop.trips) : Fin 2 → Nat :=
  let c0_i32_105 : BitVec 32 := 0#32
  let c1_i32_107 : BitVec 32 := 1#32
  let arg14 : BitVec 32 := Scf.iv c0_i32_105 c1_i32_107 k0_t7
  let c20_i32_239 : BitVec 32 := 20#32
  let v231 : BitVec 32 := Scalar.muli arg14 c20_i32_239
  let v232 : Index := Scalar.indexCast v231
  let c16 : Index := 16#32
  ![v232.toNat, 16]
def k0_off149 (k0_t7 : Fin k0_t7_loop.trips) : Fin 2 → Nat :=
  let c0_i32_105 : BitVec 32 := 0#32
  let c1_i32_107 : BitVec 32 := 1#32
  let arg14 : BitVec 32 := Scf.iv c0_i32_105 c1_i32_107 k0_t7
  let c20_i32_240 : BitVec 32 := 20#32
  let v235 : BitVec 32 := Scalar.muli arg14 c20_i32_240
  let v236 : Index := Scalar.indexCast v235
  let c32 : Index := 32#32
  ![v236.toNat, 32]
def k0_off150 (k0_t7 : Fin k0_t7_loop.trips) : Fin 2 → Nat :=
  let c0_i32_105 : BitVec 32 := 0#32
  let c1_i32_107 : BitVec 32 := 1#32
  let arg14 : BitVec 32 := Scf.iv c0_i32_105 c1_i32_107 k0_t7
  let c20_i32_241 : BitVec 32 := 20#32
  let v239 : BitVec 32 := Scalar.muli arg14 c20_i32_241
  let v240 : Index := Scalar.indexCast v239
  let c48 : Index := 48#32
  ![v240.toNat, 48]
def k0_off151 (k0_t7 : Fin k0_t7_loop.trips) : Fin 2 → Nat :=
  let c0_i32_105 : BitVec 32 := 0#32
  let c1_i32_107 : BitVec 32 := 1#32
  let arg14 : BitVec 32 := Scf.iv c0_i32_105 c1_i32_107 k0_t7
  let c20_i32_242 : BitVec 32 := 20#32
  let v243 : BitVec 32 := Scalar.muli arg14 c20_i32_242
  let v244 : Index := Scalar.indexCast v243
  let c64 : Index := 64#32
  ![v244.toNat, 64]
def k0_off152 (k0_t7 : Fin k0_t7_loop.trips) : Fin 2 → Nat :=
  let c0_i32_105 : BitVec 32 := 0#32
  let c1_i32_107 : BitVec 32 := 1#32
  let arg14 : BitVec 32 := Scf.iv c0_i32_105 c1_i32_107 k0_t7
  let c20_i32_243 : BitVec 32 := 20#32
  let v247 : BitVec 32 := Scalar.muli arg14 c20_i32_243
  let v248 : Index := Scalar.indexCast v247
  let c80 : Index := 80#32
  ![v248.toNat, 80]
def k0_off153 (k0_t7 : Fin k0_t7_loop.trips) : Fin 2 → Nat :=
  let c0_i32_105 : BitVec 32 := 0#32
  let c1_i32_107 : BitVec 32 := 1#32
  let arg14 : BitVec 32 := Scf.iv c0_i32_105 c1_i32_107 k0_t7
  let c20_i32_244 : BitVec 32 := 20#32
  let v251 : BitVec 32 := Scalar.muli arg14 c20_i32_244
  let v252 : Index := Scalar.indexCast v251
  let c96 : Index := 96#32
  ![v252.toNat, 96]
def k0_off154 (k0_t7 : Fin k0_t7_loop.trips) : Fin 2 → Nat :=
  let c0_i32_105 : BitVec 32 := 0#32
  let c1_i32_107 : BitVec 32 := 1#32
  let arg14 : BitVec 32 := Scf.iv c0_i32_105 c1_i32_107 k0_t7
  let c20_i32_245 : BitVec 32 := 20#32
  let v255 : BitVec 32 := Scalar.muli arg14 c20_i32_245
  let v256 : Index := Scalar.indexCast v255
  let c112 : Index := 112#32
  ![v256.toNat, 112]
def k0_off155 (k0_t7 : Fin k0_t7_loop.trips) (c1_i32_247 : BitVec 32) : Fin 2 → Nat :=
  let c0_i32_105 : BitVec 32 := 0#32
  let c1_i32_107 : BitVec 32 := 1#32
  let arg14 : BitVec 32 := Scf.iv c0_i32_105 c1_i32_107 k0_t7
  let c20_i32_246 : BitVec 32 := 20#32
  let v259 : BitVec 32 := Scalar.muli arg14 c20_i32_246
  let v260 : BitVec 32 := Scalar.addi v259 c1_i32_247
  let v261 : Index := Scalar.indexCast v260
  let c0_248 : Index := 0#32
  ![v261.toNat, 0]
def k0_off156 (k0_t7 : Fin k0_t7_loop.trips) (c1_i32_250 : BitVec 32) : Fin 2 → Nat :=
  let c0_i32_105 : BitVec 32 := 0#32
  let c1_i32_107 : BitVec 32 := 1#32
  let arg14 : BitVec 32 := Scf.iv c0_i32_105 c1_i32_107 k0_t7
  let c20_i32_249 : BitVec 32 := 20#32
  let v265 : BitVec 32 := Scalar.muli arg14 c20_i32_249
  let v266 : BitVec 32 := Scalar.addi v265 c1_i32_250
  let v267 : Index := Scalar.indexCast v266
  let c16_251 : Index := 16#32
  ![v267.toNat, 16]
def k0_off157 (k0_t7 : Fin k0_t7_loop.trips) (c1_i32_253 : BitVec 32) : Fin 2 → Nat :=
  let c0_i32_105 : BitVec 32 := 0#32
  let c1_i32_107 : BitVec 32 := 1#32
  let arg14 : BitVec 32 := Scf.iv c0_i32_105 c1_i32_107 k0_t7
  let c20_i32_252 : BitVec 32 := 20#32
  let v271 : BitVec 32 := Scalar.muli arg14 c20_i32_252
  let v272 : BitVec 32 := Scalar.addi v271 c1_i32_253
  let v273 : Index := Scalar.indexCast v272
  let c32_254 : Index := 32#32
  ![v273.toNat, 32]
def k0_off158 (k0_t7 : Fin k0_t7_loop.trips) (c1_i32_256 : BitVec 32) : Fin 2 → Nat :=
  let c0_i32_105 : BitVec 32 := 0#32
  let c1_i32_107 : BitVec 32 := 1#32
  let arg14 : BitVec 32 := Scf.iv c0_i32_105 c1_i32_107 k0_t7
  let c20_i32_255 : BitVec 32 := 20#32
  let v277 : BitVec 32 := Scalar.muli arg14 c20_i32_255
  let v278 : BitVec 32 := Scalar.addi v277 c1_i32_256
  let v279 : Index := Scalar.indexCast v278
  let c48_257 : Index := 48#32
  ![v279.toNat, 48]
def k0_off159 (k0_t7 : Fin k0_t7_loop.trips) (c1_i32_259 : BitVec 32) : Fin 2 → Nat :=
  let c0_i32_105 : BitVec 32 := 0#32
  let c1_i32_107 : BitVec 32 := 1#32
  let arg14 : BitVec 32 := Scf.iv c0_i32_105 c1_i32_107 k0_t7
  let c20_i32_258 : BitVec 32 := 20#32
  let v283 : BitVec 32 := Scalar.muli arg14 c20_i32_258
  let v284 : BitVec 32 := Scalar.addi v283 c1_i32_259
  let v285 : Index := Scalar.indexCast v284
  let c64_260 : Index := 64#32
  ![v285.toNat, 64]
def k0_off160 (k0_t7 : Fin k0_t7_loop.trips) (c1_i32_262 : BitVec 32) : Fin 2 → Nat :=
  let c0_i32_105 : BitVec 32 := 0#32
  let c1_i32_107 : BitVec 32 := 1#32
  let arg14 : BitVec 32 := Scf.iv c0_i32_105 c1_i32_107 k0_t7
  let c20_i32_261 : BitVec 32 := 20#32
  let v289 : BitVec 32 := Scalar.muli arg14 c20_i32_261
  let v290 : BitVec 32 := Scalar.addi v289 c1_i32_262
  let v291 : Index := Scalar.indexCast v290
  let c80_263 : Index := 80#32
  ![v291.toNat, 80]
def k0_off161 (k0_t7 : Fin k0_t7_loop.trips) (c1_i32_265 : BitVec 32) : Fin 2 → Nat :=
  let c0_i32_105 : BitVec 32 := 0#32
  let c1_i32_107 : BitVec 32 := 1#32
  let arg14 : BitVec 32 := Scf.iv c0_i32_105 c1_i32_107 k0_t7
  let c20_i32_264 : BitVec 32 := 20#32
  let v295 : BitVec 32 := Scalar.muli arg14 c20_i32_264
  let v296 : BitVec 32 := Scalar.addi v295 c1_i32_265
  let v297 : Index := Scalar.indexCast v296
  let c96_266 : Index := 96#32
  ![v297.toNat, 96]
def k0_off162 (k0_t7 : Fin k0_t7_loop.trips) (c1_i32_268 : BitVec 32) : Fin 2 → Nat :=
  let c0_i32_105 : BitVec 32 := 0#32
  let c1_i32_107 : BitVec 32 := 1#32
  let arg14 : BitVec 32 := Scf.iv c0_i32_105 c1_i32_107 k0_t7
  let c20_i32_267 : BitVec 32 := 20#32
  let v301 : BitVec 32 := Scalar.muli arg14 c20_i32_267
  let v302 : BitVec 32 := Scalar.addi v301 c1_i32_268
  let v303 : Index := Scalar.indexCast v302
  let c112_269 : Index := 112#32
  ![v303.toNat, 112]
def k0_off163 (k0_t7 : Fin k0_t7_loop.trips) : Fin 2 → Nat :=
  let c0_i32_105 : BitVec 32 := 0#32
  let c1_i32_107 : BitVec 32 := 1#32
  let arg14 : BitVec 32 := Scf.iv c0_i32_105 c1_i32_107 k0_t7
  let v1171 : Index := Scalar.indexCast arg14
  let c0_686 : Index := 0#32
  ![v1171.toNat, 0]
def k0_off164 (k0_t7 : Fin k0_t7_loop.trips) : Fin 2 → Nat :=
  let c0_i32_105 : BitVec 32 := 0#32
  let c1_i32_107 : BitVec 32 := 1#32
  let arg14 : BitVec 32 := Scf.iv c0_i32_105 c1_i32_107 k0_t7
  let v1175 : Index := Scalar.indexCast arg14
  let c16_687 : Index := 16#32
  ![v1175.toNat, 16]
def k0_off165 (k0_t7 : Fin k0_t7_loop.trips) : Fin 2 → Nat :=
  let c0_i32_105 : BitVec 32 := 0#32
  let c1_i32_107 : BitVec 32 := 1#32
  let arg14 : BitVec 32 := Scf.iv c0_i32_105 c1_i32_107 k0_t7
  let v1179 : Index := Scalar.indexCast arg14
  let c32_688 : Index := 32#32
  ![v1179.toNat, 32]
def k0_off166 (k0_t7 : Fin k0_t7_loop.trips) : Fin 2 → Nat :=
  let c0_i32_105 : BitVec 32 := 0#32
  let c1_i32_107 : BitVec 32 := 1#32
  let arg14 : BitVec 32 := Scf.iv c0_i32_105 c1_i32_107 k0_t7
  let v1183 : Index := Scalar.indexCast arg14
  let c48_689 : Index := 48#32
  ![v1183.toNat, 48]
def k0_off167 (k0_t7 : Fin k0_t7_loop.trips) : Fin 2 → Nat :=
  let c0_i32_105 : BitVec 32 := 0#32
  let c1_i32_107 : BitVec 32 := 1#32
  let arg14 : BitVec 32 := Scf.iv c0_i32_105 c1_i32_107 k0_t7
  let v1187 : Index := Scalar.indexCast arg14
  let c64_690 : Index := 64#32
  ![v1187.toNat, 64]
def k0_off168 (k0_t7 : Fin k0_t7_loop.trips) : Fin 2 → Nat :=
  let c0_i32_105 : BitVec 32 := 0#32
  let c1_i32_107 : BitVec 32 := 1#32
  let arg14 : BitVec 32 := Scf.iv c0_i32_105 c1_i32_107 k0_t7
  let v1191 : Index := Scalar.indexCast arg14
  let c80_691 : Index := 80#32
  ![v1191.toNat, 80]
def k0_off169 (k0_t7 : Fin k0_t7_loop.trips) : Fin 2 → Nat :=
  let c0_i32_105 : BitVec 32 := 0#32
  let c1_i32_107 : BitVec 32 := 1#32
  let arg14 : BitVec 32 := Scf.iv c0_i32_105 c1_i32_107 k0_t7
  let v1195 : Index := Scalar.indexCast arg14
  let c96_692 : Index := 96#32
  ![v1195.toNat, 96]
def k0_off170 (k0_t7 : Fin k0_t7_loop.trips) : Fin 2 → Nat :=
  let c0_i32_105 : BitVec 32 := 0#32
  let c1_i32_107 : BitVec 32 := 1#32
  let arg14 : BitVec 32 := Scf.iv c0_i32_105 c1_i32_107 k0_t7
  let v1199 : Index := Scalar.indexCast arg14
  let c112_693 : Index := 112#32
  ![v1199.toNat, 112]
@[reducible] def k0_t8_loop : Scf.Loop 32 :=
  let c0_i32_120 : BitVec 32 := 0#32
  let c16_i32_121 : BitVec 32 := 16#32
  let v124 : BitVec 32 := Scalar.addi c0_i32_120 c16_i32_121
  let c1_i32_122 : BitVec 32 := 1#32
  ⟨c0_i32_120, v124, c1_i32_122⟩
def k0_off171 (k0_t8 : Fin k0_t8_loop.trips) : Fin 2 → Nat :=
  let c0_i32_120 : BitVec 32 := 0#32
  let c1_i32_122 : BitVec 32 := 1#32
  let arg14 : BitVec 32 := Scf.iv c0_i32_120 c1_i32_122 k0_t8
  let c20_i32_238 : BitVec 32 := 20#32
  let v227 : BitVec 32 := Scalar.muli arg14 c20_i32_238
  let v228 : Index := Scalar.indexCast v227
  let c0 : Index := 0#32
  ![v228.toNat, 0]
def k0_off172 (k0_t8 : Fin k0_t8_loop.trips) : Fin 2 → Nat :=
  let c0_i32_120 : BitVec 32 := 0#32
  let c1_i32_122 : BitVec 32 := 1#32
  let arg14 : BitVec 32 := Scf.iv c0_i32_120 c1_i32_122 k0_t8
  let c20_i32_239 : BitVec 32 := 20#32
  let v231 : BitVec 32 := Scalar.muli arg14 c20_i32_239
  let v232 : Index := Scalar.indexCast v231
  let c16 : Index := 16#32
  ![v232.toNat, 16]
def k0_off173 (k0_t8 : Fin k0_t8_loop.trips) : Fin 2 → Nat :=
  let c0_i32_120 : BitVec 32 := 0#32
  let c1_i32_122 : BitVec 32 := 1#32
  let arg14 : BitVec 32 := Scf.iv c0_i32_120 c1_i32_122 k0_t8
  let c20_i32_240 : BitVec 32 := 20#32
  let v235 : BitVec 32 := Scalar.muli arg14 c20_i32_240
  let v236 : Index := Scalar.indexCast v235
  let c32 : Index := 32#32
  ![v236.toNat, 32]
def k0_off174 (k0_t8 : Fin k0_t8_loop.trips) : Fin 2 → Nat :=
  let c0_i32_120 : BitVec 32 := 0#32
  let c1_i32_122 : BitVec 32 := 1#32
  let arg14 : BitVec 32 := Scf.iv c0_i32_120 c1_i32_122 k0_t8
  let c20_i32_241 : BitVec 32 := 20#32
  let v239 : BitVec 32 := Scalar.muli arg14 c20_i32_241
  let v240 : Index := Scalar.indexCast v239
  let c48 : Index := 48#32
  ![v240.toNat, 48]
def k0_off175 (k0_t8 : Fin k0_t8_loop.trips) : Fin 2 → Nat :=
  let c0_i32_120 : BitVec 32 := 0#32
  let c1_i32_122 : BitVec 32 := 1#32
  let arg14 : BitVec 32 := Scf.iv c0_i32_120 c1_i32_122 k0_t8
  let c20_i32_242 : BitVec 32 := 20#32
  let v243 : BitVec 32 := Scalar.muli arg14 c20_i32_242
  let v244 : Index := Scalar.indexCast v243
  let c64 : Index := 64#32
  ![v244.toNat, 64]
def k0_off176 (k0_t8 : Fin k0_t8_loop.trips) : Fin 2 → Nat :=
  let c0_i32_120 : BitVec 32 := 0#32
  let c1_i32_122 : BitVec 32 := 1#32
  let arg14 : BitVec 32 := Scf.iv c0_i32_120 c1_i32_122 k0_t8
  let c20_i32_243 : BitVec 32 := 20#32
  let v247 : BitVec 32 := Scalar.muli arg14 c20_i32_243
  let v248 : Index := Scalar.indexCast v247
  let c80 : Index := 80#32
  ![v248.toNat, 80]
def k0_off177 (k0_t8 : Fin k0_t8_loop.trips) : Fin 2 → Nat :=
  let c0_i32_120 : BitVec 32 := 0#32
  let c1_i32_122 : BitVec 32 := 1#32
  let arg14 : BitVec 32 := Scf.iv c0_i32_120 c1_i32_122 k0_t8
  let c20_i32_244 : BitVec 32 := 20#32
  let v251 : BitVec 32 := Scalar.muli arg14 c20_i32_244
  let v252 : Index := Scalar.indexCast v251
  let c96 : Index := 96#32
  ![v252.toNat, 96]
def k0_off178 (k0_t8 : Fin k0_t8_loop.trips) : Fin 2 → Nat :=
  let c0_i32_120 : BitVec 32 := 0#32
  let c1_i32_122 : BitVec 32 := 1#32
  let arg14 : BitVec 32 := Scf.iv c0_i32_120 c1_i32_122 k0_t8
  let c20_i32_245 : BitVec 32 := 20#32
  let v255 : BitVec 32 := Scalar.muli arg14 c20_i32_245
  let v256 : Index := Scalar.indexCast v255
  let c112 : Index := 112#32
  ![v256.toNat, 112]
def k0_off179 (k0_t8 : Fin k0_t8_loop.trips) (c1_i32_247 : BitVec 32) : Fin 2 → Nat :=
  let c0_i32_120 : BitVec 32 := 0#32
  let c1_i32_122 : BitVec 32 := 1#32
  let arg14 : BitVec 32 := Scf.iv c0_i32_120 c1_i32_122 k0_t8
  let c20_i32_246 : BitVec 32 := 20#32
  let v259 : BitVec 32 := Scalar.muli arg14 c20_i32_246
  let v260 : BitVec 32 := Scalar.addi v259 c1_i32_247
  let v261 : Index := Scalar.indexCast v260
  let c0_248 : Index := 0#32
  ![v261.toNat, 0]
def k0_off180 (k0_t8 : Fin k0_t8_loop.trips) (c1_i32_250 : BitVec 32) : Fin 2 → Nat :=
  let c0_i32_120 : BitVec 32 := 0#32
  let c1_i32_122 : BitVec 32 := 1#32
  let arg14 : BitVec 32 := Scf.iv c0_i32_120 c1_i32_122 k0_t8
  let c20_i32_249 : BitVec 32 := 20#32
  let v265 : BitVec 32 := Scalar.muli arg14 c20_i32_249
  let v266 : BitVec 32 := Scalar.addi v265 c1_i32_250
  let v267 : Index := Scalar.indexCast v266
  let c16_251 : Index := 16#32
  ![v267.toNat, 16]
def k0_off181 (k0_t8 : Fin k0_t8_loop.trips) (c1_i32_253 : BitVec 32) : Fin 2 → Nat :=
  let c0_i32_120 : BitVec 32 := 0#32
  let c1_i32_122 : BitVec 32 := 1#32
  let arg14 : BitVec 32 := Scf.iv c0_i32_120 c1_i32_122 k0_t8
  let c20_i32_252 : BitVec 32 := 20#32
  let v271 : BitVec 32 := Scalar.muli arg14 c20_i32_252
  let v272 : BitVec 32 := Scalar.addi v271 c1_i32_253
  let v273 : Index := Scalar.indexCast v272
  let c32_254 : Index := 32#32
  ![v273.toNat, 32]
def k0_off182 (k0_t8 : Fin k0_t8_loop.trips) (c1_i32_256 : BitVec 32) : Fin 2 → Nat :=
  let c0_i32_120 : BitVec 32 := 0#32
  let c1_i32_122 : BitVec 32 := 1#32
  let arg14 : BitVec 32 := Scf.iv c0_i32_120 c1_i32_122 k0_t8
  let c20_i32_255 : BitVec 32 := 20#32
  let v277 : BitVec 32 := Scalar.muli arg14 c20_i32_255
  let v278 : BitVec 32 := Scalar.addi v277 c1_i32_256
  let v279 : Index := Scalar.indexCast v278
  let c48_257 : Index := 48#32
  ![v279.toNat, 48]
def k0_off183 (k0_t8 : Fin k0_t8_loop.trips) (c1_i32_259 : BitVec 32) : Fin 2 → Nat :=
  let c0_i32_120 : BitVec 32 := 0#32
  let c1_i32_122 : BitVec 32 := 1#32
  let arg14 : BitVec 32 := Scf.iv c0_i32_120 c1_i32_122 k0_t8
  let c20_i32_258 : BitVec 32 := 20#32
  let v283 : BitVec 32 := Scalar.muli arg14 c20_i32_258
  let v284 : BitVec 32 := Scalar.addi v283 c1_i32_259
  let v285 : Index := Scalar.indexCast v284
  let c64_260 : Index := 64#32
  ![v285.toNat, 64]
def k0_off184 (k0_t8 : Fin k0_t8_loop.trips) (c1_i32_262 : BitVec 32) : Fin 2 → Nat :=
  let c0_i32_120 : BitVec 32 := 0#32
  let c1_i32_122 : BitVec 32 := 1#32
  let arg14 : BitVec 32 := Scf.iv c0_i32_120 c1_i32_122 k0_t8
  let c20_i32_261 : BitVec 32 := 20#32
  let v289 : BitVec 32 := Scalar.muli arg14 c20_i32_261
  let v290 : BitVec 32 := Scalar.addi v289 c1_i32_262
  let v291 : Index := Scalar.indexCast v290
  let c80_263 : Index := 80#32
  ![v291.toNat, 80]
def k0_off185 (k0_t8 : Fin k0_t8_loop.trips) (c1_i32_265 : BitVec 32) : Fin 2 → Nat :=
  let c0_i32_120 : BitVec 32 := 0#32
  let c1_i32_122 : BitVec 32 := 1#32
  let arg14 : BitVec 32 := Scf.iv c0_i32_120 c1_i32_122 k0_t8
  let c20_i32_264 : BitVec 32 := 20#32
  let v295 : BitVec 32 := Scalar.muli arg14 c20_i32_264
  let v296 : BitVec 32 := Scalar.addi v295 c1_i32_265
  let v297 : Index := Scalar.indexCast v296
  let c96_266 : Index := 96#32
  ![v297.toNat, 96]
def k0_off186 (k0_t8 : Fin k0_t8_loop.trips) (c1_i32_268 : BitVec 32) : Fin 2 → Nat :=
  let c0_i32_120 : BitVec 32 := 0#32
  let c1_i32_122 : BitVec 32 := 1#32
  let arg14 : BitVec 32 := Scf.iv c0_i32_120 c1_i32_122 k0_t8
  let c20_i32_267 : BitVec 32 := 20#32
  let v301 : BitVec 32 := Scalar.muli arg14 c20_i32_267
  let v302 : BitVec 32 := Scalar.addi v301 c1_i32_268
  let v303 : Index := Scalar.indexCast v302
  let c112_269 : Index := 112#32
  ![v303.toNat, 112]
def k0_off187 (k0_t8 : Fin k0_t8_loop.trips) : Fin 2 → Nat :=
  let c0_i32_120 : BitVec 32 := 0#32
  let c1_i32_122 : BitVec 32 := 1#32
  let arg14 : BitVec 32 := Scf.iv c0_i32_120 c1_i32_122 k0_t8
  let v1171 : Index := Scalar.indexCast arg14
  let c0_686 : Index := 0#32
  ![v1171.toNat, 0]
def k0_off188 (k0_t8 : Fin k0_t8_loop.trips) : Fin 2 → Nat :=
  let c0_i32_120 : BitVec 32 := 0#32
  let c1_i32_122 : BitVec 32 := 1#32
  let arg14 : BitVec 32 := Scf.iv c0_i32_120 c1_i32_122 k0_t8
  let v1175 : Index := Scalar.indexCast arg14
  let c16_687 : Index := 16#32
  ![v1175.toNat, 16]
def k0_off189 (k0_t8 : Fin k0_t8_loop.trips) : Fin 2 → Nat :=
  let c0_i32_120 : BitVec 32 := 0#32
  let c1_i32_122 : BitVec 32 := 1#32
  let arg14 : BitVec 32 := Scf.iv c0_i32_120 c1_i32_122 k0_t8
  let v1179 : Index := Scalar.indexCast arg14
  let c32_688 : Index := 32#32
  ![v1179.toNat, 32]
def k0_off190 (k0_t8 : Fin k0_t8_loop.trips) : Fin 2 → Nat :=
  let c0_i32_120 : BitVec 32 := 0#32
  let c1_i32_122 : BitVec 32 := 1#32
  let arg14 : BitVec 32 := Scf.iv c0_i32_120 c1_i32_122 k0_t8
  let v1183 : Index := Scalar.indexCast arg14
  let c48_689 : Index := 48#32
  ![v1183.toNat, 48]
def k0_off191 (k0_t8 : Fin k0_t8_loop.trips) : Fin 2 → Nat :=
  let c0_i32_120 : BitVec 32 := 0#32
  let c1_i32_122 : BitVec 32 := 1#32
  let arg14 : BitVec 32 := Scf.iv c0_i32_120 c1_i32_122 k0_t8
  let v1187 : Index := Scalar.indexCast arg14
  let c64_690 : Index := 64#32
  ![v1187.toNat, 64]
def k0_off192 (k0_t8 : Fin k0_t8_loop.trips) : Fin 2 → Nat :=
  let c0_i32_120 : BitVec 32 := 0#32
  let c1_i32_122 : BitVec 32 := 1#32
  let arg14 : BitVec 32 := Scf.iv c0_i32_120 c1_i32_122 k0_t8
  let v1191 : Index := Scalar.indexCast arg14
  let c80_691 : Index := 80#32
  ![v1191.toNat, 80]
def k0_off193 (k0_t8 : Fin k0_t8_loop.trips) : Fin 2 → Nat :=
  let c0_i32_120 : BitVec 32 := 0#32
  let c1_i32_122 : BitVec 32 := 1#32
  let arg14 : BitVec 32 := Scf.iv c0_i32_120 c1_i32_122 k0_t8
  let v1195 : Index := Scalar.indexCast arg14
  let c96_692 : Index := 96#32
  ![v1195.toNat, 96]
def k0_off194 (k0_t8 : Fin k0_t8_loop.trips) : Fin 2 → Nat :=
  let c0_i32_120 : BitVec 32 := 0#32
  let c1_i32_122 : BitVec 32 := 1#32
  let arg14 : BitVec 32 := Scf.iv c0_i32_120 c1_i32_122 k0_t8
  let v1199 : Index := Scalar.indexCast arg14
  let c112_693 : Index := 112#32
  ![v1199.toNat, 112]
@[reducible] def k0_t9_loop : Scf.Loop 32 :=
  let c0_i32_135 : BitVec 32 := 0#32
  let c16_i32_136 : BitVec 32 := 16#32
  let v138 : BitVec 32 := Scalar.addi c0_i32_135 c16_i32_136
  let c1_i32_137 : BitVec 32 := 1#32
  ⟨c0_i32_135, v138, c1_i32_137⟩
def k0_off195 (k0_t9 : Fin k0_t9_loop.trips) : Fin 2 → Nat :=
  let c0_i32_135 : BitVec 32 := 0#32
  let c1_i32_137 : BitVec 32 := 1#32
  let arg14 : BitVec 32 := Scf.iv c0_i32_135 c1_i32_137 k0_t9
  let c20_i32_238 : BitVec 32 := 20#32
  let v227 : BitVec 32 := Scalar.muli arg14 c20_i32_238
  let v228 : Index := Scalar.indexCast v227
  let c0 : Index := 0#32
  ![v228.toNat, 0]
def k0_off196 (k0_t9 : Fin k0_t9_loop.trips) : Fin 2 → Nat :=
  let c0_i32_135 : BitVec 32 := 0#32
  let c1_i32_137 : BitVec 32 := 1#32
  let arg14 : BitVec 32 := Scf.iv c0_i32_135 c1_i32_137 k0_t9
  let c20_i32_239 : BitVec 32 := 20#32
  let v231 : BitVec 32 := Scalar.muli arg14 c20_i32_239
  let v232 : Index := Scalar.indexCast v231
  let c16 : Index := 16#32
  ![v232.toNat, 16]
def k0_off197 (k0_t9 : Fin k0_t9_loop.trips) : Fin 2 → Nat :=
  let c0_i32_135 : BitVec 32 := 0#32
  let c1_i32_137 : BitVec 32 := 1#32
  let arg14 : BitVec 32 := Scf.iv c0_i32_135 c1_i32_137 k0_t9
  let c20_i32_240 : BitVec 32 := 20#32
  let v235 : BitVec 32 := Scalar.muli arg14 c20_i32_240
  let v236 : Index := Scalar.indexCast v235
  let c32 : Index := 32#32
  ![v236.toNat, 32]
def k0_off198 (k0_t9 : Fin k0_t9_loop.trips) : Fin 2 → Nat :=
  let c0_i32_135 : BitVec 32 := 0#32
  let c1_i32_137 : BitVec 32 := 1#32
  let arg14 : BitVec 32 := Scf.iv c0_i32_135 c1_i32_137 k0_t9
  let c20_i32_241 : BitVec 32 := 20#32
  let v239 : BitVec 32 := Scalar.muli arg14 c20_i32_241
  let v240 : Index := Scalar.indexCast v239
  let c48 : Index := 48#32
  ![v240.toNat, 48]
def k0_off199 (k0_t9 : Fin k0_t9_loop.trips) : Fin 2 → Nat :=
  let c0_i32_135 : BitVec 32 := 0#32
  let c1_i32_137 : BitVec 32 := 1#32
  let arg14 : BitVec 32 := Scf.iv c0_i32_135 c1_i32_137 k0_t9
  let c20_i32_242 : BitVec 32 := 20#32
  let v243 : BitVec 32 := Scalar.muli arg14 c20_i32_242
  let v244 : Index := Scalar.indexCast v243
  let c64 : Index := 64#32
  ![v244.toNat, 64]
def k0_off200 (k0_t9 : Fin k0_t9_loop.trips) : Fin 2 → Nat :=
  let c0_i32_135 : BitVec 32 := 0#32
  let c1_i32_137 : BitVec 32 := 1#32
  let arg14 : BitVec 32 := Scf.iv c0_i32_135 c1_i32_137 k0_t9
  let c20_i32_243 : BitVec 32 := 20#32
  let v247 : BitVec 32 := Scalar.muli arg14 c20_i32_243
  let v248 : Index := Scalar.indexCast v247
  let c80 : Index := 80#32
  ![v248.toNat, 80]
def k0_off201 (k0_t9 : Fin k0_t9_loop.trips) : Fin 2 → Nat :=
  let c0_i32_135 : BitVec 32 := 0#32
  let c1_i32_137 : BitVec 32 := 1#32
  let arg14 : BitVec 32 := Scf.iv c0_i32_135 c1_i32_137 k0_t9
  let c20_i32_244 : BitVec 32 := 20#32
  let v251 : BitVec 32 := Scalar.muli arg14 c20_i32_244
  let v252 : Index := Scalar.indexCast v251
  let c96 : Index := 96#32
  ![v252.toNat, 96]
def k0_off202 (k0_t9 : Fin k0_t9_loop.trips) : Fin 2 → Nat :=
  let c0_i32_135 : BitVec 32 := 0#32
  let c1_i32_137 : BitVec 32 := 1#32
  let arg14 : BitVec 32 := Scf.iv c0_i32_135 c1_i32_137 k0_t9
  let c20_i32_245 : BitVec 32 := 20#32
  let v255 : BitVec 32 := Scalar.muli arg14 c20_i32_245
  let v256 : Index := Scalar.indexCast v255
  let c112 : Index := 112#32
  ![v256.toNat, 112]
def k0_off203 (k0_t9 : Fin k0_t9_loop.trips) (c1_i32_247 : BitVec 32) : Fin 2 → Nat :=
  let c0_i32_135 : BitVec 32 := 0#32
  let c1_i32_137 : BitVec 32 := 1#32
  let arg14 : BitVec 32 := Scf.iv c0_i32_135 c1_i32_137 k0_t9
  let c20_i32_246 : BitVec 32 := 20#32
  let v259 : BitVec 32 := Scalar.muli arg14 c20_i32_246
  let v260 : BitVec 32 := Scalar.addi v259 c1_i32_247
  let v261 : Index := Scalar.indexCast v260
  let c0_248 : Index := 0#32
  ![v261.toNat, 0]
def k0_off204 (k0_t9 : Fin k0_t9_loop.trips) (c1_i32_250 : BitVec 32) : Fin 2 → Nat :=
  let c0_i32_135 : BitVec 32 := 0#32
  let c1_i32_137 : BitVec 32 := 1#32
  let arg14 : BitVec 32 := Scf.iv c0_i32_135 c1_i32_137 k0_t9
  let c20_i32_249 : BitVec 32 := 20#32
  let v265 : BitVec 32 := Scalar.muli arg14 c20_i32_249
  let v266 : BitVec 32 := Scalar.addi v265 c1_i32_250
  let v267 : Index := Scalar.indexCast v266
  let c16_251 : Index := 16#32
  ![v267.toNat, 16]
def k0_off205 (k0_t9 : Fin k0_t9_loop.trips) (c1_i32_253 : BitVec 32) : Fin 2 → Nat :=
  let c0_i32_135 : BitVec 32 := 0#32
  let c1_i32_137 : BitVec 32 := 1#32
  let arg14 : BitVec 32 := Scf.iv c0_i32_135 c1_i32_137 k0_t9
  let c20_i32_252 : BitVec 32 := 20#32
  let v271 : BitVec 32 := Scalar.muli arg14 c20_i32_252
  let v272 : BitVec 32 := Scalar.addi v271 c1_i32_253
  let v273 : Index := Scalar.indexCast v272
  let c32_254 : Index := 32#32
  ![v273.toNat, 32]
def k0_off206 (k0_t9 : Fin k0_t9_loop.trips) (c1_i32_256 : BitVec 32) : Fin 2 → Nat :=
  let c0_i32_135 : BitVec 32 := 0#32
  let c1_i32_137 : BitVec 32 := 1#32
  let arg14 : BitVec 32 := Scf.iv c0_i32_135 c1_i32_137 k0_t9
  let c20_i32_255 : BitVec 32 := 20#32
  let v277 : BitVec 32 := Scalar.muli arg14 c20_i32_255
  let v278 : BitVec 32 := Scalar.addi v277 c1_i32_256
  let v279 : Index := Scalar.indexCast v278
  let c48_257 : Index := 48#32
  ![v279.toNat, 48]
def k0_off207 (k0_t9 : Fin k0_t9_loop.trips) (c1_i32_259 : BitVec 32) : Fin 2 → Nat :=
  let c0_i32_135 : BitVec 32 := 0#32
  let c1_i32_137 : BitVec 32 := 1#32
  let arg14 : BitVec 32 := Scf.iv c0_i32_135 c1_i32_137 k0_t9
  let c20_i32_258 : BitVec 32 := 20#32
  let v283 : BitVec 32 := Scalar.muli arg14 c20_i32_258
  let v284 : BitVec 32 := Scalar.addi v283 c1_i32_259
  let v285 : Index := Scalar.indexCast v284
  let c64_260 : Index := 64#32
  ![v285.toNat, 64]
def k0_off208 (k0_t9 : Fin k0_t9_loop.trips) (c1_i32_262 : BitVec 32) : Fin 2 → Nat :=
  let c0_i32_135 : BitVec 32 := 0#32
  let c1_i32_137 : BitVec 32 := 1#32
  let arg14 : BitVec 32 := Scf.iv c0_i32_135 c1_i32_137 k0_t9
  let c20_i32_261 : BitVec 32 := 20#32
  let v289 : BitVec 32 := Scalar.muli arg14 c20_i32_261
  let v290 : BitVec 32 := Scalar.addi v289 c1_i32_262
  let v291 : Index := Scalar.indexCast v290
  let c80_263 : Index := 80#32
  ![v291.toNat, 80]
def k0_off209 (k0_t9 : Fin k0_t9_loop.trips) (c1_i32_265 : BitVec 32) : Fin 2 → Nat :=
  let c0_i32_135 : BitVec 32 := 0#32
  let c1_i32_137 : BitVec 32 := 1#32
  let arg14 : BitVec 32 := Scf.iv c0_i32_135 c1_i32_137 k0_t9
  let c20_i32_264 : BitVec 32 := 20#32
  let v295 : BitVec 32 := Scalar.muli arg14 c20_i32_264
  let v296 : BitVec 32 := Scalar.addi v295 c1_i32_265
  let v297 : Index := Scalar.indexCast v296
  let c96_266 : Index := 96#32
  ![v297.toNat, 96]
def k0_off210 (k0_t9 : Fin k0_t9_loop.trips) (c1_i32_268 : BitVec 32) : Fin 2 → Nat :=
  let c0_i32_135 : BitVec 32 := 0#32
  let c1_i32_137 : BitVec 32 := 1#32
  let arg14 : BitVec 32 := Scf.iv c0_i32_135 c1_i32_137 k0_t9
  let c20_i32_267 : BitVec 32 := 20#32
  let v301 : BitVec 32 := Scalar.muli arg14 c20_i32_267
  let v302 : BitVec 32 := Scalar.addi v301 c1_i32_268
  let v303 : Index := Scalar.indexCast v302
  let c112_269 : Index := 112#32
  ![v303.toNat, 112]
def k0_off211 (k0_t9 : Fin k0_t9_loop.trips) : Fin 2 → Nat :=
  let c0_i32_135 : BitVec 32 := 0#32
  let c1_i32_137 : BitVec 32 := 1#32
  let arg14 : BitVec 32 := Scf.iv c0_i32_135 c1_i32_137 k0_t9
  let v1171 : Index := Scalar.indexCast arg14
  let c0_686 : Index := 0#32
  ![v1171.toNat, 0]
def k0_off212 (k0_t9 : Fin k0_t9_loop.trips) : Fin 2 → Nat :=
  let c0_i32_135 : BitVec 32 := 0#32
  let c1_i32_137 : BitVec 32 := 1#32
  let arg14 : BitVec 32 := Scf.iv c0_i32_135 c1_i32_137 k0_t9
  let v1175 : Index := Scalar.indexCast arg14
  let c16_687 : Index := 16#32
  ![v1175.toNat, 16]
def k0_off213 (k0_t9 : Fin k0_t9_loop.trips) : Fin 2 → Nat :=
  let c0_i32_135 : BitVec 32 := 0#32
  let c1_i32_137 : BitVec 32 := 1#32
  let arg14 : BitVec 32 := Scf.iv c0_i32_135 c1_i32_137 k0_t9
  let v1179 : Index := Scalar.indexCast arg14
  let c32_688 : Index := 32#32
  ![v1179.toNat, 32]
def k0_off214 (k0_t9 : Fin k0_t9_loop.trips) : Fin 2 → Nat :=
  let c0_i32_135 : BitVec 32 := 0#32
  let c1_i32_137 : BitVec 32 := 1#32
  let arg14 : BitVec 32 := Scf.iv c0_i32_135 c1_i32_137 k0_t9
  let v1183 : Index := Scalar.indexCast arg14
  let c48_689 : Index := 48#32
  ![v1183.toNat, 48]
def k0_off215 (k0_t9 : Fin k0_t9_loop.trips) : Fin 2 → Nat :=
  let c0_i32_135 : BitVec 32 := 0#32
  let c1_i32_137 : BitVec 32 := 1#32
  let arg14 : BitVec 32 := Scf.iv c0_i32_135 c1_i32_137 k0_t9
  let v1187 : Index := Scalar.indexCast arg14
  let c64_690 : Index := 64#32
  ![v1187.toNat, 64]
def k0_off216 (k0_t9 : Fin k0_t9_loop.trips) : Fin 2 → Nat :=
  let c0_i32_135 : BitVec 32 := 0#32
  let c1_i32_137 : BitVec 32 := 1#32
  let arg14 : BitVec 32 := Scf.iv c0_i32_135 c1_i32_137 k0_t9
  let v1191 : Index := Scalar.indexCast arg14
  let c80_691 : Index := 80#32
  ![v1191.toNat, 80]
def k0_off217 (k0_t9 : Fin k0_t9_loop.trips) : Fin 2 → Nat :=
  let c0_i32_135 : BitVec 32 := 0#32
  let c1_i32_137 : BitVec 32 := 1#32
  let arg14 : BitVec 32 := Scf.iv c0_i32_135 c1_i32_137 k0_t9
  let v1195 : Index := Scalar.indexCast arg14
  let c96_692 : Index := 96#32
  ![v1195.toNat, 96]
def k0_off218 (k0_t9 : Fin k0_t9_loop.trips) : Fin 2 → Nat :=
  let c0_i32_135 : BitVec 32 := 0#32
  let c1_i32_137 : BitVec 32 := 1#32
  let arg14 : BitVec 32 := Scf.iv c0_i32_135 c1_i32_137 k0_t9
  let v1199 : Index := Scalar.indexCast arg14
  let c112_693 : Index := 112#32
  ![v1199.toNat, 112]
@[reducible] def k0_t10_loop : Scf.Loop 32 :=
  let c0_i32_150 : BitVec 32 := 0#32
  let c16_i32_151 : BitVec 32 := 16#32
  let v152 : BitVec 32 := Scalar.addi c0_i32_150 c16_i32_151
  let c1_i32_152 : BitVec 32 := 1#32
  ⟨c0_i32_150, v152, c1_i32_152⟩
def k0_off219 (k0_t10 : Fin k0_t10_loop.trips) : Fin 2 → Nat :=
  let c0_i32_150 : BitVec 32 := 0#32
  let c1_i32_152 : BitVec 32 := 1#32
  let arg14 : BitVec 32 := Scf.iv c0_i32_150 c1_i32_152 k0_t10
  let c20_i32_238 : BitVec 32 := 20#32
  let v227 : BitVec 32 := Scalar.muli arg14 c20_i32_238
  let v228 : Index := Scalar.indexCast v227
  let c0 : Index := 0#32
  ![v228.toNat, 0]
def k0_off220 (k0_t10 : Fin k0_t10_loop.trips) : Fin 2 → Nat :=
  let c0_i32_150 : BitVec 32 := 0#32
  let c1_i32_152 : BitVec 32 := 1#32
  let arg14 : BitVec 32 := Scf.iv c0_i32_150 c1_i32_152 k0_t10
  let c20_i32_239 : BitVec 32 := 20#32
  let v231 : BitVec 32 := Scalar.muli arg14 c20_i32_239
  let v232 : Index := Scalar.indexCast v231
  let c16 : Index := 16#32
  ![v232.toNat, 16]
def k0_off221 (k0_t10 : Fin k0_t10_loop.trips) : Fin 2 → Nat :=
  let c0_i32_150 : BitVec 32 := 0#32
  let c1_i32_152 : BitVec 32 := 1#32
  let arg14 : BitVec 32 := Scf.iv c0_i32_150 c1_i32_152 k0_t10
  let c20_i32_240 : BitVec 32 := 20#32
  let v235 : BitVec 32 := Scalar.muli arg14 c20_i32_240
  let v236 : Index := Scalar.indexCast v235
  let c32 : Index := 32#32
  ![v236.toNat, 32]
def k0_off222 (k0_t10 : Fin k0_t10_loop.trips) : Fin 2 → Nat :=
  let c0_i32_150 : BitVec 32 := 0#32
  let c1_i32_152 : BitVec 32 := 1#32
  let arg14 : BitVec 32 := Scf.iv c0_i32_150 c1_i32_152 k0_t10
  let c20_i32_241 : BitVec 32 := 20#32
  let v239 : BitVec 32 := Scalar.muli arg14 c20_i32_241
  let v240 : Index := Scalar.indexCast v239
  let c48 : Index := 48#32
  ![v240.toNat, 48]
def k0_off223 (k0_t10 : Fin k0_t10_loop.trips) : Fin 2 → Nat :=
  let c0_i32_150 : BitVec 32 := 0#32
  let c1_i32_152 : BitVec 32 := 1#32
  let arg14 : BitVec 32 := Scf.iv c0_i32_150 c1_i32_152 k0_t10
  let c20_i32_242 : BitVec 32 := 20#32
  let v243 : BitVec 32 := Scalar.muli arg14 c20_i32_242
  let v244 : Index := Scalar.indexCast v243
  let c64 : Index := 64#32
  ![v244.toNat, 64]
def k0_off224 (k0_t10 : Fin k0_t10_loop.trips) : Fin 2 → Nat :=
  let c0_i32_150 : BitVec 32 := 0#32
  let c1_i32_152 : BitVec 32 := 1#32
  let arg14 : BitVec 32 := Scf.iv c0_i32_150 c1_i32_152 k0_t10
  let c20_i32_243 : BitVec 32 := 20#32
  let v247 : BitVec 32 := Scalar.muli arg14 c20_i32_243
  let v248 : Index := Scalar.indexCast v247
  let c80 : Index := 80#32
  ![v248.toNat, 80]
def k0_off225 (k0_t10 : Fin k0_t10_loop.trips) : Fin 2 → Nat :=
  let c0_i32_150 : BitVec 32 := 0#32
  let c1_i32_152 : BitVec 32 := 1#32
  let arg14 : BitVec 32 := Scf.iv c0_i32_150 c1_i32_152 k0_t10
  let c20_i32_244 : BitVec 32 := 20#32
  let v251 : BitVec 32 := Scalar.muli arg14 c20_i32_244
  let v252 : Index := Scalar.indexCast v251
  let c96 : Index := 96#32
  ![v252.toNat, 96]
def k0_off226 (k0_t10 : Fin k0_t10_loop.trips) : Fin 2 → Nat :=
  let c0_i32_150 : BitVec 32 := 0#32
  let c1_i32_152 : BitVec 32 := 1#32
  let arg14 : BitVec 32 := Scf.iv c0_i32_150 c1_i32_152 k0_t10
  let c20_i32_245 : BitVec 32 := 20#32
  let v255 : BitVec 32 := Scalar.muli arg14 c20_i32_245
  let v256 : Index := Scalar.indexCast v255
  let c112 : Index := 112#32
  ![v256.toNat, 112]
def k0_off227 (k0_t10 : Fin k0_t10_loop.trips) (c1_i32_247 : BitVec 32) : Fin 2 → Nat :=
  let c0_i32_150 : BitVec 32 := 0#32
  let c1_i32_152 : BitVec 32 := 1#32
  let arg14 : BitVec 32 := Scf.iv c0_i32_150 c1_i32_152 k0_t10
  let c20_i32_246 : BitVec 32 := 20#32
  let v259 : BitVec 32 := Scalar.muli arg14 c20_i32_246
  let v260 : BitVec 32 := Scalar.addi v259 c1_i32_247
  let v261 : Index := Scalar.indexCast v260
  let c0_248 : Index := 0#32
  ![v261.toNat, 0]
def k0_off228 (k0_t10 : Fin k0_t10_loop.trips) (c1_i32_250 : BitVec 32) : Fin 2 → Nat :=
  let c0_i32_150 : BitVec 32 := 0#32
  let c1_i32_152 : BitVec 32 := 1#32
  let arg14 : BitVec 32 := Scf.iv c0_i32_150 c1_i32_152 k0_t10
  let c20_i32_249 : BitVec 32 := 20#32
  let v265 : BitVec 32 := Scalar.muli arg14 c20_i32_249
  let v266 : BitVec 32 := Scalar.addi v265 c1_i32_250
  let v267 : Index := Scalar.indexCast v266
  let c16_251 : Index := 16#32
  ![v267.toNat, 16]
def k0_off229 (k0_t10 : Fin k0_t10_loop.trips) (c1_i32_253 : BitVec 32) : Fin 2 → Nat :=
  let c0_i32_150 : BitVec 32 := 0#32
  let c1_i32_152 : BitVec 32 := 1#32
  let arg14 : BitVec 32 := Scf.iv c0_i32_150 c1_i32_152 k0_t10
  let c20_i32_252 : BitVec 32 := 20#32
  let v271 : BitVec 32 := Scalar.muli arg14 c20_i32_252
  let v272 : BitVec 32 := Scalar.addi v271 c1_i32_253
  let v273 : Index := Scalar.indexCast v272
  let c32_254 : Index := 32#32
  ![v273.toNat, 32]
def k0_off230 (k0_t10 : Fin k0_t10_loop.trips) (c1_i32_256 : BitVec 32) : Fin 2 → Nat :=
  let c0_i32_150 : BitVec 32 := 0#32
  let c1_i32_152 : BitVec 32 := 1#32
  let arg14 : BitVec 32 := Scf.iv c0_i32_150 c1_i32_152 k0_t10
  let c20_i32_255 : BitVec 32 := 20#32
  let v277 : BitVec 32 := Scalar.muli arg14 c20_i32_255
  let v278 : BitVec 32 := Scalar.addi v277 c1_i32_256
  let v279 : Index := Scalar.indexCast v278
  let c48_257 : Index := 48#32
  ![v279.toNat, 48]
def k0_off231 (k0_t10 : Fin k0_t10_loop.trips) (c1_i32_259 : BitVec 32) : Fin 2 → Nat :=
  let c0_i32_150 : BitVec 32 := 0#32
  let c1_i32_152 : BitVec 32 := 1#32
  let arg14 : BitVec 32 := Scf.iv c0_i32_150 c1_i32_152 k0_t10
  let c20_i32_258 : BitVec 32 := 20#32
  let v283 : BitVec 32 := Scalar.muli arg14 c20_i32_258
  let v284 : BitVec 32 := Scalar.addi v283 c1_i32_259
  let v285 : Index := Scalar.indexCast v284
  let c64_260 : Index := 64#32
  ![v285.toNat, 64]
def k0_off232 (k0_t10 : Fin k0_t10_loop.trips) (c1_i32_262 : BitVec 32) : Fin 2 → Nat :=
  let c0_i32_150 : BitVec 32 := 0#32
  let c1_i32_152 : BitVec 32 := 1#32
  let arg14 : BitVec 32 := Scf.iv c0_i32_150 c1_i32_152 k0_t10
  let c20_i32_261 : BitVec 32 := 20#32
  let v289 : BitVec 32 := Scalar.muli arg14 c20_i32_261
  let v290 : BitVec 32 := Scalar.addi v289 c1_i32_262
  let v291 : Index := Scalar.indexCast v290
  let c80_263 : Index := 80#32
  ![v291.toNat, 80]
def k0_off233 (k0_t10 : Fin k0_t10_loop.trips) (c1_i32_265 : BitVec 32) : Fin 2 → Nat :=
  let c0_i32_150 : BitVec 32 := 0#32
  let c1_i32_152 : BitVec 32 := 1#32
  let arg14 : BitVec 32 := Scf.iv c0_i32_150 c1_i32_152 k0_t10
  let c20_i32_264 : BitVec 32 := 20#32
  let v295 : BitVec 32 := Scalar.muli arg14 c20_i32_264
  let v296 : BitVec 32 := Scalar.addi v295 c1_i32_265
  let v297 : Index := Scalar.indexCast v296
  let c96_266 : Index := 96#32
  ![v297.toNat, 96]
def k0_off234 (k0_t10 : Fin k0_t10_loop.trips) (c1_i32_268 : BitVec 32) : Fin 2 → Nat :=
  let c0_i32_150 : BitVec 32 := 0#32
  let c1_i32_152 : BitVec 32 := 1#32
  let arg14 : BitVec 32 := Scf.iv c0_i32_150 c1_i32_152 k0_t10
  let c20_i32_267 : BitVec 32 := 20#32
  let v301 : BitVec 32 := Scalar.muli arg14 c20_i32_267
  let v302 : BitVec 32 := Scalar.addi v301 c1_i32_268
  let v303 : Index := Scalar.indexCast v302
  let c112_269 : Index := 112#32
  ![v303.toNat, 112]
def k0_off235 (k0_t10 : Fin k0_t10_loop.trips) : Fin 2 → Nat :=
  let c0_i32_150 : BitVec 32 := 0#32
  let c1_i32_152 : BitVec 32 := 1#32
  let arg14 : BitVec 32 := Scf.iv c0_i32_150 c1_i32_152 k0_t10
  let v1171 : Index := Scalar.indexCast arg14
  let c0_686 : Index := 0#32
  ![v1171.toNat, 0]
def k0_off236 (k0_t10 : Fin k0_t10_loop.trips) : Fin 2 → Nat :=
  let c0_i32_150 : BitVec 32 := 0#32
  let c1_i32_152 : BitVec 32 := 1#32
  let arg14 : BitVec 32 := Scf.iv c0_i32_150 c1_i32_152 k0_t10
  let v1175 : Index := Scalar.indexCast arg14
  let c16_687 : Index := 16#32
  ![v1175.toNat, 16]
def k0_off237 (k0_t10 : Fin k0_t10_loop.trips) : Fin 2 → Nat :=
  let c0_i32_150 : BitVec 32 := 0#32
  let c1_i32_152 : BitVec 32 := 1#32
  let arg14 : BitVec 32 := Scf.iv c0_i32_150 c1_i32_152 k0_t10
  let v1179 : Index := Scalar.indexCast arg14
  let c32_688 : Index := 32#32
  ![v1179.toNat, 32]
def k0_off238 (k0_t10 : Fin k0_t10_loop.trips) : Fin 2 → Nat :=
  let c0_i32_150 : BitVec 32 := 0#32
  let c1_i32_152 : BitVec 32 := 1#32
  let arg14 : BitVec 32 := Scf.iv c0_i32_150 c1_i32_152 k0_t10
  let v1183 : Index := Scalar.indexCast arg14
  let c48_689 : Index := 48#32
  ![v1183.toNat, 48]
def k0_off239 (k0_t10 : Fin k0_t10_loop.trips) : Fin 2 → Nat :=
  let c0_i32_150 : BitVec 32 := 0#32
  let c1_i32_152 : BitVec 32 := 1#32
  let arg14 : BitVec 32 := Scf.iv c0_i32_150 c1_i32_152 k0_t10
  let v1187 : Index := Scalar.indexCast arg14
  let c64_690 : Index := 64#32
  ![v1187.toNat, 64]
def k0_off240 (k0_t10 : Fin k0_t10_loop.trips) : Fin 2 → Nat :=
  let c0_i32_150 : BitVec 32 := 0#32
  let c1_i32_152 : BitVec 32 := 1#32
  let arg14 : BitVec 32 := Scf.iv c0_i32_150 c1_i32_152 k0_t10
  let v1191 : Index := Scalar.indexCast arg14
  let c80_691 : Index := 80#32
  ![v1191.toNat, 80]
def k0_off241 (k0_t10 : Fin k0_t10_loop.trips) : Fin 2 → Nat :=
  let c0_i32_150 : BitVec 32 := 0#32
  let c1_i32_152 : BitVec 32 := 1#32
  let arg14 : BitVec 32 := Scf.iv c0_i32_150 c1_i32_152 k0_t10
  let v1195 : Index := Scalar.indexCast arg14
  let c96_692 : Index := 96#32
  ![v1195.toNat, 96]
def k0_off242 (k0_t10 : Fin k0_t10_loop.trips) : Fin 2 → Nat :=
  let c0_i32_150 : BitVec 32 := 0#32
  let c1_i32_152 : BitVec 32 := 1#32
  let arg14 : BitVec 32 := Scf.iv c0_i32_150 c1_i32_152 k0_t10
  let v1199 : Index := Scalar.indexCast arg14
  let c112_693 : Index := 112#32
  ![v1199.toNat, 112]
@[reducible] def k0_t11_loop : Scf.Loop 32 :=
  let c0_i32_165 : BitVec 32 := 0#32
  let c16_i32_166 : BitVec 32 := 16#32
  let v166 : BitVec 32 := Scalar.addi c0_i32_165 c16_i32_166
  let c1_i32_167 : BitVec 32 := 1#32
  ⟨c0_i32_165, v166, c1_i32_167⟩
def k0_off243 (k0_t11 : Fin k0_t11_loop.trips) : Fin 2 → Nat :=
  let c0_i32_165 : BitVec 32 := 0#32
  let c1_i32_167 : BitVec 32 := 1#32
  let arg14 : BitVec 32 := Scf.iv c0_i32_165 c1_i32_167 k0_t11
  let c20_i32_238 : BitVec 32 := 20#32
  let v227 : BitVec 32 := Scalar.muli arg14 c20_i32_238
  let v228 : Index := Scalar.indexCast v227
  let c0 : Index := 0#32
  ![v228.toNat, 0]
def k0_off244 (k0_t11 : Fin k0_t11_loop.trips) : Fin 2 → Nat :=
  let c0_i32_165 : BitVec 32 := 0#32
  let c1_i32_167 : BitVec 32 := 1#32
  let arg14 : BitVec 32 := Scf.iv c0_i32_165 c1_i32_167 k0_t11
  let c20_i32_239 : BitVec 32 := 20#32
  let v231 : BitVec 32 := Scalar.muli arg14 c20_i32_239
  let v232 : Index := Scalar.indexCast v231
  let c16 : Index := 16#32
  ![v232.toNat, 16]
def k0_off245 (k0_t11 : Fin k0_t11_loop.trips) : Fin 2 → Nat :=
  let c0_i32_165 : BitVec 32 := 0#32
  let c1_i32_167 : BitVec 32 := 1#32
  let arg14 : BitVec 32 := Scf.iv c0_i32_165 c1_i32_167 k0_t11
  let c20_i32_240 : BitVec 32 := 20#32
  let v235 : BitVec 32 := Scalar.muli arg14 c20_i32_240
  let v236 : Index := Scalar.indexCast v235
  let c32 : Index := 32#32
  ![v236.toNat, 32]
def k0_off246 (k0_t11 : Fin k0_t11_loop.trips) : Fin 2 → Nat :=
  let c0_i32_165 : BitVec 32 := 0#32
  let c1_i32_167 : BitVec 32 := 1#32
  let arg14 : BitVec 32 := Scf.iv c0_i32_165 c1_i32_167 k0_t11
  let c20_i32_241 : BitVec 32 := 20#32
  let v239 : BitVec 32 := Scalar.muli arg14 c20_i32_241
  let v240 : Index := Scalar.indexCast v239
  let c48 : Index := 48#32
  ![v240.toNat, 48]
def k0_off247 (k0_t11 : Fin k0_t11_loop.trips) : Fin 2 → Nat :=
  let c0_i32_165 : BitVec 32 := 0#32
  let c1_i32_167 : BitVec 32 := 1#32
  let arg14 : BitVec 32 := Scf.iv c0_i32_165 c1_i32_167 k0_t11
  let c20_i32_242 : BitVec 32 := 20#32
  let v243 : BitVec 32 := Scalar.muli arg14 c20_i32_242
  let v244 : Index := Scalar.indexCast v243
  let c64 : Index := 64#32
  ![v244.toNat, 64]
def k0_off248 (k0_t11 : Fin k0_t11_loop.trips) : Fin 2 → Nat :=
  let c0_i32_165 : BitVec 32 := 0#32
  let c1_i32_167 : BitVec 32 := 1#32
  let arg14 : BitVec 32 := Scf.iv c0_i32_165 c1_i32_167 k0_t11
  let c20_i32_243 : BitVec 32 := 20#32
  let v247 : BitVec 32 := Scalar.muli arg14 c20_i32_243
  let v248 : Index := Scalar.indexCast v247
  let c80 : Index := 80#32
  ![v248.toNat, 80]
def k0_off249 (k0_t11 : Fin k0_t11_loop.trips) : Fin 2 → Nat :=
  let c0_i32_165 : BitVec 32 := 0#32
  let c1_i32_167 : BitVec 32 := 1#32
  let arg14 : BitVec 32 := Scf.iv c0_i32_165 c1_i32_167 k0_t11
  let c20_i32_244 : BitVec 32 := 20#32
  let v251 : BitVec 32 := Scalar.muli arg14 c20_i32_244
  let v252 : Index := Scalar.indexCast v251
  let c96 : Index := 96#32
  ![v252.toNat, 96]
def k0_off250 (k0_t11 : Fin k0_t11_loop.trips) : Fin 2 → Nat :=
  let c0_i32_165 : BitVec 32 := 0#32
  let c1_i32_167 : BitVec 32 := 1#32
  let arg14 : BitVec 32 := Scf.iv c0_i32_165 c1_i32_167 k0_t11
  let c20_i32_245 : BitVec 32 := 20#32
  let v255 : BitVec 32 := Scalar.muli arg14 c20_i32_245
  let v256 : Index := Scalar.indexCast v255
  let c112 : Index := 112#32
  ![v256.toNat, 112]
def k0_off251 (k0_t11 : Fin k0_t11_loop.trips) (c1_i32_247 : BitVec 32) : Fin 2 → Nat :=
  let c0_i32_165 : BitVec 32 := 0#32
  let c1_i32_167 : BitVec 32 := 1#32
  let arg14 : BitVec 32 := Scf.iv c0_i32_165 c1_i32_167 k0_t11
  let c20_i32_246 : BitVec 32 := 20#32
  let v259 : BitVec 32 := Scalar.muli arg14 c20_i32_246
  let v260 : BitVec 32 := Scalar.addi v259 c1_i32_247
  let v261 : Index := Scalar.indexCast v260
  let c0_248 : Index := 0#32
  ![v261.toNat, 0]
def k0_off252 (k0_t11 : Fin k0_t11_loop.trips) (c1_i32_250 : BitVec 32) : Fin 2 → Nat :=
  let c0_i32_165 : BitVec 32 := 0#32
  let c1_i32_167 : BitVec 32 := 1#32
  let arg14 : BitVec 32 := Scf.iv c0_i32_165 c1_i32_167 k0_t11
  let c20_i32_249 : BitVec 32 := 20#32
  let v265 : BitVec 32 := Scalar.muli arg14 c20_i32_249
  let v266 : BitVec 32 := Scalar.addi v265 c1_i32_250
  let v267 : Index := Scalar.indexCast v266
  let c16_251 : Index := 16#32
  ![v267.toNat, 16]
def k0_off253 (k0_t11 : Fin k0_t11_loop.trips) (c1_i32_253 : BitVec 32) : Fin 2 → Nat :=
  let c0_i32_165 : BitVec 32 := 0#32
  let c1_i32_167 : BitVec 32 := 1#32
  let arg14 : BitVec 32 := Scf.iv c0_i32_165 c1_i32_167 k0_t11
  let c20_i32_252 : BitVec 32 := 20#32
  let v271 : BitVec 32 := Scalar.muli arg14 c20_i32_252
  let v272 : BitVec 32 := Scalar.addi v271 c1_i32_253
  let v273 : Index := Scalar.indexCast v272
  let c32_254 : Index := 32#32
  ![v273.toNat, 32]
def k0_off254 (k0_t11 : Fin k0_t11_loop.trips) (c1_i32_256 : BitVec 32) : Fin 2 → Nat :=
  let c0_i32_165 : BitVec 32 := 0#32
  let c1_i32_167 : BitVec 32 := 1#32
  let arg14 : BitVec 32 := Scf.iv c0_i32_165 c1_i32_167 k0_t11
  let c20_i32_255 : BitVec 32 := 20#32
  let v277 : BitVec 32 := Scalar.muli arg14 c20_i32_255
  let v278 : BitVec 32 := Scalar.addi v277 c1_i32_256
  let v279 : Index := Scalar.indexCast v278
  let c48_257 : Index := 48#32
  ![v279.toNat, 48]
def k0_off255 (k0_t11 : Fin k0_t11_loop.trips) (c1_i32_259 : BitVec 32) : Fin 2 → Nat :=
  let c0_i32_165 : BitVec 32 := 0#32
  let c1_i32_167 : BitVec 32 := 1#32
  let arg14 : BitVec 32 := Scf.iv c0_i32_165 c1_i32_167 k0_t11
  let c20_i32_258 : BitVec 32 := 20#32
  let v283 : BitVec 32 := Scalar.muli arg14 c20_i32_258
  let v284 : BitVec 32 := Scalar.addi v283 c1_i32_259
  let v285 : Index := Scalar.indexCast v284
  let c64_260 : Index := 64#32
  ![v285.toNat, 64]
def k0_off256 (k0_t11 : Fin k0_t11_loop.trips) (c1_i32_262 : BitVec 32) : Fin 2 → Nat :=
  let c0_i32_165 : BitVec 32 := 0#32
  let c1_i32_167 : BitVec 32 := 1#32
  let arg14 : BitVec 32 := Scf.iv c0_i32_165 c1_i32_167 k0_t11
  let c20_i32_261 : BitVec 32 := 20#32
  let v289 : BitVec 32 := Scalar.muli arg14 c20_i32_261
  let v290 : BitVec 32 := Scalar.addi v289 c1_i32_262
  let v291 : Index := Scalar.indexCast v290
  let c80_263 : Index := 80#32
  ![v291.toNat, 80]
def k0_off257 (k0_t11 : Fin k0_t11_loop.trips) (c1_i32_265 : BitVec 32) : Fin 2 → Nat :=
  let c0_i32_165 : BitVec 32 := 0#32
  let c1_i32_167 : BitVec 32 := 1#32
  let arg14 : BitVec 32 := Scf.iv c0_i32_165 c1_i32_167 k0_t11
  let c20_i32_264 : BitVec 32 := 20#32
  let v295 : BitVec 32 := Scalar.muli arg14 c20_i32_264
  let v296 : BitVec 32 := Scalar.addi v295 c1_i32_265
  let v297 : Index := Scalar.indexCast v296
  let c96_266 : Index := 96#32
  ![v297.toNat, 96]
def k0_off258 (k0_t11 : Fin k0_t11_loop.trips) (c1_i32_268 : BitVec 32) : Fin 2 → Nat :=
  let c0_i32_165 : BitVec 32 := 0#32
  let c1_i32_167 : BitVec 32 := 1#32
  let arg14 : BitVec 32 := Scf.iv c0_i32_165 c1_i32_167 k0_t11
  let c20_i32_267 : BitVec 32 := 20#32
  let v301 : BitVec 32 := Scalar.muli arg14 c20_i32_267
  let v302 : BitVec 32 := Scalar.addi v301 c1_i32_268
  let v303 : Index := Scalar.indexCast v302
  let c112_269 : Index := 112#32
  ![v303.toNat, 112]
def k0_off259 (k0_t11 : Fin k0_t11_loop.trips) : Fin 2 → Nat :=
  let c0_i32_165 : BitVec 32 := 0#32
  let c1_i32_167 : BitVec 32 := 1#32
  let arg14 : BitVec 32 := Scf.iv c0_i32_165 c1_i32_167 k0_t11
  let v1171 : Index := Scalar.indexCast arg14
  let c0_686 : Index := 0#32
  ![v1171.toNat, 0]
def k0_off260 (k0_t11 : Fin k0_t11_loop.trips) : Fin 2 → Nat :=
  let c0_i32_165 : BitVec 32 := 0#32
  let c1_i32_167 : BitVec 32 := 1#32
  let arg14 : BitVec 32 := Scf.iv c0_i32_165 c1_i32_167 k0_t11
  let v1175 : Index := Scalar.indexCast arg14
  let c16_687 : Index := 16#32
  ![v1175.toNat, 16]
def k0_off261 (k0_t11 : Fin k0_t11_loop.trips) : Fin 2 → Nat :=
  let c0_i32_165 : BitVec 32 := 0#32
  let c1_i32_167 : BitVec 32 := 1#32
  let arg14 : BitVec 32 := Scf.iv c0_i32_165 c1_i32_167 k0_t11
  let v1179 : Index := Scalar.indexCast arg14
  let c32_688 : Index := 32#32
  ![v1179.toNat, 32]
def k0_off262 (k0_t11 : Fin k0_t11_loop.trips) : Fin 2 → Nat :=
  let c0_i32_165 : BitVec 32 := 0#32
  let c1_i32_167 : BitVec 32 := 1#32
  let arg14 : BitVec 32 := Scf.iv c0_i32_165 c1_i32_167 k0_t11
  let v1183 : Index := Scalar.indexCast arg14
  let c48_689 : Index := 48#32
  ![v1183.toNat, 48]
def k0_off263 (k0_t11 : Fin k0_t11_loop.trips) : Fin 2 → Nat :=
  let c0_i32_165 : BitVec 32 := 0#32
  let c1_i32_167 : BitVec 32 := 1#32
  let arg14 : BitVec 32 := Scf.iv c0_i32_165 c1_i32_167 k0_t11
  let v1187 : Index := Scalar.indexCast arg14
  let c64_690 : Index := 64#32
  ![v1187.toNat, 64]
def k0_off264 (k0_t11 : Fin k0_t11_loop.trips) : Fin 2 → Nat :=
  let c0_i32_165 : BitVec 32 := 0#32
  let c1_i32_167 : BitVec 32 := 1#32
  let arg14 : BitVec 32 := Scf.iv c0_i32_165 c1_i32_167 k0_t11
  let v1191 : Index := Scalar.indexCast arg14
  let c80_691 : Index := 80#32
  ![v1191.toNat, 80]
def k0_off265 (k0_t11 : Fin k0_t11_loop.trips) : Fin 2 → Nat :=
  let c0_i32_165 : BitVec 32 := 0#32
  let c1_i32_167 : BitVec 32 := 1#32
  let arg14 : BitVec 32 := Scf.iv c0_i32_165 c1_i32_167 k0_t11
  let v1195 : Index := Scalar.indexCast arg14
  let c96_692 : Index := 96#32
  ![v1195.toNat, 96]
def k0_off266 (k0_t11 : Fin k0_t11_loop.trips) : Fin 2 → Nat :=
  let c0_i32_165 : BitVec 32 := 0#32
  let c1_i32_167 : BitVec 32 := 1#32
  let arg14 : BitVec 32 := Scf.iv c0_i32_165 c1_i32_167 k0_t11
  let v1199 : Index := Scalar.indexCast arg14
  let c112_693 : Index := 112#32
  ![v1199.toNat, 112]
@[reducible] def k0_t12_loop : Scf.Loop 32 :=
  let c0_i32_180 : BitVec 32 := 0#32
  let c16_i32_181 : BitVec 32 := 16#32
  let v180 : BitVec 32 := Scalar.addi c0_i32_180 c16_i32_181
  let c1_i32_182 : BitVec 32 := 1#32
  ⟨c0_i32_180, v180, c1_i32_182⟩
def k0_off267 (k0_t12 : Fin k0_t12_loop.trips) : Fin 2 → Nat :=
  let c0_i32_180 : BitVec 32 := 0#32
  let c1_i32_182 : BitVec 32 := 1#32
  let arg14 : BitVec 32 := Scf.iv c0_i32_180 c1_i32_182 k0_t12
  let c20_i32_238 : BitVec 32 := 20#32
  let v227 : BitVec 32 := Scalar.muli arg14 c20_i32_238
  let v228 : Index := Scalar.indexCast v227
  let c0 : Index := 0#32
  ![v228.toNat, 0]
def k0_off268 (k0_t12 : Fin k0_t12_loop.trips) : Fin 2 → Nat :=
  let c0_i32_180 : BitVec 32 := 0#32
  let c1_i32_182 : BitVec 32 := 1#32
  let arg14 : BitVec 32 := Scf.iv c0_i32_180 c1_i32_182 k0_t12
  let c20_i32_239 : BitVec 32 := 20#32
  let v231 : BitVec 32 := Scalar.muli arg14 c20_i32_239
  let v232 : Index := Scalar.indexCast v231
  let c16 : Index := 16#32
  ![v232.toNat, 16]
def k0_off269 (k0_t12 : Fin k0_t12_loop.trips) : Fin 2 → Nat :=
  let c0_i32_180 : BitVec 32 := 0#32
  let c1_i32_182 : BitVec 32 := 1#32
  let arg14 : BitVec 32 := Scf.iv c0_i32_180 c1_i32_182 k0_t12
  let c20_i32_240 : BitVec 32 := 20#32
  let v235 : BitVec 32 := Scalar.muli arg14 c20_i32_240
  let v236 : Index := Scalar.indexCast v235
  let c32 : Index := 32#32
  ![v236.toNat, 32]
def k0_off270 (k0_t12 : Fin k0_t12_loop.trips) : Fin 2 → Nat :=
  let c0_i32_180 : BitVec 32 := 0#32
  let c1_i32_182 : BitVec 32 := 1#32
  let arg14 : BitVec 32 := Scf.iv c0_i32_180 c1_i32_182 k0_t12
  let c20_i32_241 : BitVec 32 := 20#32
  let v239 : BitVec 32 := Scalar.muli arg14 c20_i32_241
  let v240 : Index := Scalar.indexCast v239
  let c48 : Index := 48#32
  ![v240.toNat, 48]
def k0_off271 (k0_t12 : Fin k0_t12_loop.trips) : Fin 2 → Nat :=
  let c0_i32_180 : BitVec 32 := 0#32
  let c1_i32_182 : BitVec 32 := 1#32
  let arg14 : BitVec 32 := Scf.iv c0_i32_180 c1_i32_182 k0_t12
  let c20_i32_242 : BitVec 32 := 20#32
  let v243 : BitVec 32 := Scalar.muli arg14 c20_i32_242
  let v244 : Index := Scalar.indexCast v243
  let c64 : Index := 64#32
  ![v244.toNat, 64]
def k0_off272 (k0_t12 : Fin k0_t12_loop.trips) : Fin 2 → Nat :=
  let c0_i32_180 : BitVec 32 := 0#32
  let c1_i32_182 : BitVec 32 := 1#32
  let arg14 : BitVec 32 := Scf.iv c0_i32_180 c1_i32_182 k0_t12
  let c20_i32_243 : BitVec 32 := 20#32
  let v247 : BitVec 32 := Scalar.muli arg14 c20_i32_243
  let v248 : Index := Scalar.indexCast v247
  let c80 : Index := 80#32
  ![v248.toNat, 80]
def k0_off273 (k0_t12 : Fin k0_t12_loop.trips) : Fin 2 → Nat :=
  let c0_i32_180 : BitVec 32 := 0#32
  let c1_i32_182 : BitVec 32 := 1#32
  let arg14 : BitVec 32 := Scf.iv c0_i32_180 c1_i32_182 k0_t12
  let c20_i32_244 : BitVec 32 := 20#32
  let v251 : BitVec 32 := Scalar.muli arg14 c20_i32_244
  let v252 : Index := Scalar.indexCast v251
  let c96 : Index := 96#32
  ![v252.toNat, 96]
def k0_off274 (k0_t12 : Fin k0_t12_loop.trips) : Fin 2 → Nat :=
  let c0_i32_180 : BitVec 32 := 0#32
  let c1_i32_182 : BitVec 32 := 1#32
  let arg14 : BitVec 32 := Scf.iv c0_i32_180 c1_i32_182 k0_t12
  let c20_i32_245 : BitVec 32 := 20#32
  let v255 : BitVec 32 := Scalar.muli arg14 c20_i32_245
  let v256 : Index := Scalar.indexCast v255
  let c112 : Index := 112#32
  ![v256.toNat, 112]
def k0_off275 (k0_t12 : Fin k0_t12_loop.trips) (c1_i32_247 : BitVec 32) : Fin 2 → Nat :=
  let c0_i32_180 : BitVec 32 := 0#32
  let c1_i32_182 : BitVec 32 := 1#32
  let arg14 : BitVec 32 := Scf.iv c0_i32_180 c1_i32_182 k0_t12
  let c20_i32_246 : BitVec 32 := 20#32
  let v259 : BitVec 32 := Scalar.muli arg14 c20_i32_246
  let v260 : BitVec 32 := Scalar.addi v259 c1_i32_247
  let v261 : Index := Scalar.indexCast v260
  let c0_248 : Index := 0#32
  ![v261.toNat, 0]
def k0_off276 (k0_t12 : Fin k0_t12_loop.trips) (c1_i32_250 : BitVec 32) : Fin 2 → Nat :=
  let c0_i32_180 : BitVec 32 := 0#32
  let c1_i32_182 : BitVec 32 := 1#32
  let arg14 : BitVec 32 := Scf.iv c0_i32_180 c1_i32_182 k0_t12
  let c20_i32_249 : BitVec 32 := 20#32
  let v265 : BitVec 32 := Scalar.muli arg14 c20_i32_249
  let v266 : BitVec 32 := Scalar.addi v265 c1_i32_250
  let v267 : Index := Scalar.indexCast v266
  let c16_251 : Index := 16#32
  ![v267.toNat, 16]
def k0_off277 (k0_t12 : Fin k0_t12_loop.trips) (c1_i32_253 : BitVec 32) : Fin 2 → Nat :=
  let c0_i32_180 : BitVec 32 := 0#32
  let c1_i32_182 : BitVec 32 := 1#32
  let arg14 : BitVec 32 := Scf.iv c0_i32_180 c1_i32_182 k0_t12
  let c20_i32_252 : BitVec 32 := 20#32
  let v271 : BitVec 32 := Scalar.muli arg14 c20_i32_252
  let v272 : BitVec 32 := Scalar.addi v271 c1_i32_253
  let v273 : Index := Scalar.indexCast v272
  let c32_254 : Index := 32#32
  ![v273.toNat, 32]
def k0_off278 (k0_t12 : Fin k0_t12_loop.trips) (c1_i32_256 : BitVec 32) : Fin 2 → Nat :=
  let c0_i32_180 : BitVec 32 := 0#32
  let c1_i32_182 : BitVec 32 := 1#32
  let arg14 : BitVec 32 := Scf.iv c0_i32_180 c1_i32_182 k0_t12
  let c20_i32_255 : BitVec 32 := 20#32
  let v277 : BitVec 32 := Scalar.muli arg14 c20_i32_255
  let v278 : BitVec 32 := Scalar.addi v277 c1_i32_256
  let v279 : Index := Scalar.indexCast v278
  let c48_257 : Index := 48#32
  ![v279.toNat, 48]
def k0_off279 (k0_t12 : Fin k0_t12_loop.trips) (c1_i32_259 : BitVec 32) : Fin 2 → Nat :=
  let c0_i32_180 : BitVec 32 := 0#32
  let c1_i32_182 : BitVec 32 := 1#32
  let arg14 : BitVec 32 := Scf.iv c0_i32_180 c1_i32_182 k0_t12
  let c20_i32_258 : BitVec 32 := 20#32
  let v283 : BitVec 32 := Scalar.muli arg14 c20_i32_258
  let v284 : BitVec 32 := Scalar.addi v283 c1_i32_259
  let v285 : Index := Scalar.indexCast v284
  let c64_260 : Index := 64#32
  ![v285.toNat, 64]
def k0_off280 (k0_t12 : Fin k0_t12_loop.trips) (c1_i32_262 : BitVec 32) : Fin 2 → Nat :=
  let c0_i32_180 : BitVec 32 := 0#32
  let c1_i32_182 : BitVec 32 := 1#32
  let arg14 : BitVec 32 := Scf.iv c0_i32_180 c1_i32_182 k0_t12
  let c20_i32_261 : BitVec 32 := 20#32
  let v289 : BitVec 32 := Scalar.muli arg14 c20_i32_261
  let v290 : BitVec 32 := Scalar.addi v289 c1_i32_262
  let v291 : Index := Scalar.indexCast v290
  let c80_263 : Index := 80#32
  ![v291.toNat, 80]
def k0_off281 (k0_t12 : Fin k0_t12_loop.trips) (c1_i32_265 : BitVec 32) : Fin 2 → Nat :=
  let c0_i32_180 : BitVec 32 := 0#32
  let c1_i32_182 : BitVec 32 := 1#32
  let arg14 : BitVec 32 := Scf.iv c0_i32_180 c1_i32_182 k0_t12
  let c20_i32_264 : BitVec 32 := 20#32
  let v295 : BitVec 32 := Scalar.muli arg14 c20_i32_264
  let v296 : BitVec 32 := Scalar.addi v295 c1_i32_265
  let v297 : Index := Scalar.indexCast v296
  let c96_266 : Index := 96#32
  ![v297.toNat, 96]
def k0_off282 (k0_t12 : Fin k0_t12_loop.trips) (c1_i32_268 : BitVec 32) : Fin 2 → Nat :=
  let c0_i32_180 : BitVec 32 := 0#32
  let c1_i32_182 : BitVec 32 := 1#32
  let arg14 : BitVec 32 := Scf.iv c0_i32_180 c1_i32_182 k0_t12
  let c20_i32_267 : BitVec 32 := 20#32
  let v301 : BitVec 32 := Scalar.muli arg14 c20_i32_267
  let v302 : BitVec 32 := Scalar.addi v301 c1_i32_268
  let v303 : Index := Scalar.indexCast v302
  let c112_269 : Index := 112#32
  ![v303.toNat, 112]
def k0_off283 (k0_t12 : Fin k0_t12_loop.trips) : Fin 2 → Nat :=
  let c0_i32_180 : BitVec 32 := 0#32
  let c1_i32_182 : BitVec 32 := 1#32
  let arg14 : BitVec 32 := Scf.iv c0_i32_180 c1_i32_182 k0_t12
  let v1171 : Index := Scalar.indexCast arg14
  let c0_686 : Index := 0#32
  ![v1171.toNat, 0]
def k0_off284 (k0_t12 : Fin k0_t12_loop.trips) : Fin 2 → Nat :=
  let c0_i32_180 : BitVec 32 := 0#32
  let c1_i32_182 : BitVec 32 := 1#32
  let arg14 : BitVec 32 := Scf.iv c0_i32_180 c1_i32_182 k0_t12
  let v1175 : Index := Scalar.indexCast arg14
  let c16_687 : Index := 16#32
  ![v1175.toNat, 16]
def k0_off285 (k0_t12 : Fin k0_t12_loop.trips) : Fin 2 → Nat :=
  let c0_i32_180 : BitVec 32 := 0#32
  let c1_i32_182 : BitVec 32 := 1#32
  let arg14 : BitVec 32 := Scf.iv c0_i32_180 c1_i32_182 k0_t12
  let v1179 : Index := Scalar.indexCast arg14
  let c32_688 : Index := 32#32
  ![v1179.toNat, 32]
def k0_off286 (k0_t12 : Fin k0_t12_loop.trips) : Fin 2 → Nat :=
  let c0_i32_180 : BitVec 32 := 0#32
  let c1_i32_182 : BitVec 32 := 1#32
  let arg14 : BitVec 32 := Scf.iv c0_i32_180 c1_i32_182 k0_t12
  let v1183 : Index := Scalar.indexCast arg14
  let c48_689 : Index := 48#32
  ![v1183.toNat, 48]
def k0_off287 (k0_t12 : Fin k0_t12_loop.trips) : Fin 2 → Nat :=
  let c0_i32_180 : BitVec 32 := 0#32
  let c1_i32_182 : BitVec 32 := 1#32
  let arg14 : BitVec 32 := Scf.iv c0_i32_180 c1_i32_182 k0_t12
  let v1187 : Index := Scalar.indexCast arg14
  let c64_690 : Index := 64#32
  ![v1187.toNat, 64]
def k0_off288 (k0_t12 : Fin k0_t12_loop.trips) : Fin 2 → Nat :=
  let c0_i32_180 : BitVec 32 := 0#32
  let c1_i32_182 : BitVec 32 := 1#32
  let arg14 : BitVec 32 := Scf.iv c0_i32_180 c1_i32_182 k0_t12
  let v1191 : Index := Scalar.indexCast arg14
  let c80_691 : Index := 80#32
  ![v1191.toNat, 80]
def k0_off289 (k0_t12 : Fin k0_t12_loop.trips) : Fin 2 → Nat :=
  let c0_i32_180 : BitVec 32 := 0#32
  let c1_i32_182 : BitVec 32 := 1#32
  let arg14 : BitVec 32 := Scf.iv c0_i32_180 c1_i32_182 k0_t12
  let v1195 : Index := Scalar.indexCast arg14
  let c96_692 : Index := 96#32
  ![v1195.toNat, 96]
def k0_off290 (k0_t12 : Fin k0_t12_loop.trips) : Fin 2 → Nat :=
  let c0_i32_180 : BitVec 32 := 0#32
  let c1_i32_182 : BitVec 32 := 1#32
  let arg14 : BitVec 32 := Scf.iv c0_i32_180 c1_i32_182 k0_t12
  let v1199 : Index := Scalar.indexCast arg14
  let c112_693 : Index := 112#32
  ![v1199.toNat, 112]
@[reducible] def k0_t13_loop : Scf.Loop 32 :=
  let c0_i32_195 : BitVec 32 := 0#32
  let c16_i32_196 : BitVec 32 := 16#32
  let v194 : BitVec 32 := Scalar.addi c0_i32_195 c16_i32_196
  let c1_i32_197 : BitVec 32 := 1#32
  ⟨c0_i32_195, v194, c1_i32_197⟩
def k0_off291 (k0_t13 : Fin k0_t13_loop.trips) : Fin 2 → Nat :=
  let c0_i32_195 : BitVec 32 := 0#32
  let c1_i32_197 : BitVec 32 := 1#32
  let arg14 : BitVec 32 := Scf.iv c0_i32_195 c1_i32_197 k0_t13
  let c20_i32_238 : BitVec 32 := 20#32
  let v227 : BitVec 32 := Scalar.muli arg14 c20_i32_238
  let v228 : Index := Scalar.indexCast v227
  let c0 : Index := 0#32
  ![v228.toNat, 0]
def k0_off292 (k0_t13 : Fin k0_t13_loop.trips) : Fin 2 → Nat :=
  let c0_i32_195 : BitVec 32 := 0#32
  let c1_i32_197 : BitVec 32 := 1#32
  let arg14 : BitVec 32 := Scf.iv c0_i32_195 c1_i32_197 k0_t13
  let c20_i32_239 : BitVec 32 := 20#32
  let v231 : BitVec 32 := Scalar.muli arg14 c20_i32_239
  let v232 : Index := Scalar.indexCast v231
  let c16 : Index := 16#32
  ![v232.toNat, 16]
def k0_off293 (k0_t13 : Fin k0_t13_loop.trips) : Fin 2 → Nat :=
  let c0_i32_195 : BitVec 32 := 0#32
  let c1_i32_197 : BitVec 32 := 1#32
  let arg14 : BitVec 32 := Scf.iv c0_i32_195 c1_i32_197 k0_t13
  let c20_i32_240 : BitVec 32 := 20#32
  let v235 : BitVec 32 := Scalar.muli arg14 c20_i32_240
  let v236 : Index := Scalar.indexCast v235
  let c32 : Index := 32#32
  ![v236.toNat, 32]
def k0_off294 (k0_t13 : Fin k0_t13_loop.trips) : Fin 2 → Nat :=
  let c0_i32_195 : BitVec 32 := 0#32
  let c1_i32_197 : BitVec 32 := 1#32
  let arg14 : BitVec 32 := Scf.iv c0_i32_195 c1_i32_197 k0_t13
  let c20_i32_241 : BitVec 32 := 20#32
  let v239 : BitVec 32 := Scalar.muli arg14 c20_i32_241
  let v240 : Index := Scalar.indexCast v239
  let c48 : Index := 48#32
  ![v240.toNat, 48]
def k0_off295 (k0_t13 : Fin k0_t13_loop.trips) : Fin 2 → Nat :=
  let c0_i32_195 : BitVec 32 := 0#32
  let c1_i32_197 : BitVec 32 := 1#32
  let arg14 : BitVec 32 := Scf.iv c0_i32_195 c1_i32_197 k0_t13
  let c20_i32_242 : BitVec 32 := 20#32
  let v243 : BitVec 32 := Scalar.muli arg14 c20_i32_242
  let v244 : Index := Scalar.indexCast v243
  let c64 : Index := 64#32
  ![v244.toNat, 64]
def k0_off296 (k0_t13 : Fin k0_t13_loop.trips) : Fin 2 → Nat :=
  let c0_i32_195 : BitVec 32 := 0#32
  let c1_i32_197 : BitVec 32 := 1#32
  let arg14 : BitVec 32 := Scf.iv c0_i32_195 c1_i32_197 k0_t13
  let c20_i32_243 : BitVec 32 := 20#32
  let v247 : BitVec 32 := Scalar.muli arg14 c20_i32_243
  let v248 : Index := Scalar.indexCast v247
  let c80 : Index := 80#32
  ![v248.toNat, 80]
def k0_off297 (k0_t13 : Fin k0_t13_loop.trips) : Fin 2 → Nat :=
  let c0_i32_195 : BitVec 32 := 0#32
  let c1_i32_197 : BitVec 32 := 1#32
  let arg14 : BitVec 32 := Scf.iv c0_i32_195 c1_i32_197 k0_t13
  let c20_i32_244 : BitVec 32 := 20#32
  let v251 : BitVec 32 := Scalar.muli arg14 c20_i32_244
  let v252 : Index := Scalar.indexCast v251
  let c96 : Index := 96#32
  ![v252.toNat, 96]
def k0_off298 (k0_t13 : Fin k0_t13_loop.trips) : Fin 2 → Nat :=
  let c0_i32_195 : BitVec 32 := 0#32
  let c1_i32_197 : BitVec 32 := 1#32
  let arg14 : BitVec 32 := Scf.iv c0_i32_195 c1_i32_197 k0_t13
  let c20_i32_245 : BitVec 32 := 20#32
  let v255 : BitVec 32 := Scalar.muli arg14 c20_i32_245
  let v256 : Index := Scalar.indexCast v255
  let c112 : Index := 112#32
  ![v256.toNat, 112]
def k0_off299 (k0_t13 : Fin k0_t13_loop.trips) (c1_i32_247 : BitVec 32) : Fin 2 → Nat :=
  let c0_i32_195 : BitVec 32 := 0#32
  let c1_i32_197 : BitVec 32 := 1#32
  let arg14 : BitVec 32 := Scf.iv c0_i32_195 c1_i32_197 k0_t13
  let c20_i32_246 : BitVec 32 := 20#32
  let v259 : BitVec 32 := Scalar.muli arg14 c20_i32_246
  let v260 : BitVec 32 := Scalar.addi v259 c1_i32_247
  let v261 : Index := Scalar.indexCast v260
  let c0_248 : Index := 0#32
  ![v261.toNat, 0]
def k0_off300 (k0_t13 : Fin k0_t13_loop.trips) (c1_i32_250 : BitVec 32) : Fin 2 → Nat :=
  let c0_i32_195 : BitVec 32 := 0#32
  let c1_i32_197 : BitVec 32 := 1#32
  let arg14 : BitVec 32 := Scf.iv c0_i32_195 c1_i32_197 k0_t13
  let c20_i32_249 : BitVec 32 := 20#32
  let v265 : BitVec 32 := Scalar.muli arg14 c20_i32_249
  let v266 : BitVec 32 := Scalar.addi v265 c1_i32_250
  let v267 : Index := Scalar.indexCast v266
  let c16_251 : Index := 16#32
  ![v267.toNat, 16]
def k0_off301 (k0_t13 : Fin k0_t13_loop.trips) (c1_i32_253 : BitVec 32) : Fin 2 → Nat :=
  let c0_i32_195 : BitVec 32 := 0#32
  let c1_i32_197 : BitVec 32 := 1#32
  let arg14 : BitVec 32 := Scf.iv c0_i32_195 c1_i32_197 k0_t13
  let c20_i32_252 : BitVec 32 := 20#32
  let v271 : BitVec 32 := Scalar.muli arg14 c20_i32_252
  let v272 : BitVec 32 := Scalar.addi v271 c1_i32_253
  let v273 : Index := Scalar.indexCast v272
  let c32_254 : Index := 32#32
  ![v273.toNat, 32]
def k0_off302 (k0_t13 : Fin k0_t13_loop.trips) (c1_i32_256 : BitVec 32) : Fin 2 → Nat :=
  let c0_i32_195 : BitVec 32 := 0#32
  let c1_i32_197 : BitVec 32 := 1#32
  let arg14 : BitVec 32 := Scf.iv c0_i32_195 c1_i32_197 k0_t13
  let c20_i32_255 : BitVec 32 := 20#32
  let v277 : BitVec 32 := Scalar.muli arg14 c20_i32_255
  let v278 : BitVec 32 := Scalar.addi v277 c1_i32_256
  let v279 : Index := Scalar.indexCast v278
  let c48_257 : Index := 48#32
  ![v279.toNat, 48]
def k0_off303 (k0_t13 : Fin k0_t13_loop.trips) (c1_i32_259 : BitVec 32) : Fin 2 → Nat :=
  let c0_i32_195 : BitVec 32 := 0#32
  let c1_i32_197 : BitVec 32 := 1#32
  let arg14 : BitVec 32 := Scf.iv c0_i32_195 c1_i32_197 k0_t13
  let c20_i32_258 : BitVec 32 := 20#32
  let v283 : BitVec 32 := Scalar.muli arg14 c20_i32_258
  let v284 : BitVec 32 := Scalar.addi v283 c1_i32_259
  let v285 : Index := Scalar.indexCast v284
  let c64_260 : Index := 64#32
  ![v285.toNat, 64]
def k0_off304 (k0_t13 : Fin k0_t13_loop.trips) (c1_i32_262 : BitVec 32) : Fin 2 → Nat :=
  let c0_i32_195 : BitVec 32 := 0#32
  let c1_i32_197 : BitVec 32 := 1#32
  let arg14 : BitVec 32 := Scf.iv c0_i32_195 c1_i32_197 k0_t13
  let c20_i32_261 : BitVec 32 := 20#32
  let v289 : BitVec 32 := Scalar.muli arg14 c20_i32_261
  let v290 : BitVec 32 := Scalar.addi v289 c1_i32_262
  let v291 : Index := Scalar.indexCast v290
  let c80_263 : Index := 80#32
  ![v291.toNat, 80]
def k0_off305 (k0_t13 : Fin k0_t13_loop.trips) (c1_i32_265 : BitVec 32) : Fin 2 → Nat :=
  let c0_i32_195 : BitVec 32 := 0#32
  let c1_i32_197 : BitVec 32 := 1#32
  let arg14 : BitVec 32 := Scf.iv c0_i32_195 c1_i32_197 k0_t13
  let c20_i32_264 : BitVec 32 := 20#32
  let v295 : BitVec 32 := Scalar.muli arg14 c20_i32_264
  let v296 : BitVec 32 := Scalar.addi v295 c1_i32_265
  let v297 : Index := Scalar.indexCast v296
  let c96_266 : Index := 96#32
  ![v297.toNat, 96]
def k0_off306 (k0_t13 : Fin k0_t13_loop.trips) (c1_i32_268 : BitVec 32) : Fin 2 → Nat :=
  let c0_i32_195 : BitVec 32 := 0#32
  let c1_i32_197 : BitVec 32 := 1#32
  let arg14 : BitVec 32 := Scf.iv c0_i32_195 c1_i32_197 k0_t13
  let c20_i32_267 : BitVec 32 := 20#32
  let v301 : BitVec 32 := Scalar.muli arg14 c20_i32_267
  let v302 : BitVec 32 := Scalar.addi v301 c1_i32_268
  let v303 : Index := Scalar.indexCast v302
  let c112_269 : Index := 112#32
  ![v303.toNat, 112]
def k0_off307 (k0_t13 : Fin k0_t13_loop.trips) : Fin 2 → Nat :=
  let c0_i32_195 : BitVec 32 := 0#32
  let c1_i32_197 : BitVec 32 := 1#32
  let arg14 : BitVec 32 := Scf.iv c0_i32_195 c1_i32_197 k0_t13
  let v1171 : Index := Scalar.indexCast arg14
  let c0_686 : Index := 0#32
  ![v1171.toNat, 0]
def k0_off308 (k0_t13 : Fin k0_t13_loop.trips) : Fin 2 → Nat :=
  let c0_i32_195 : BitVec 32 := 0#32
  let c1_i32_197 : BitVec 32 := 1#32
  let arg14 : BitVec 32 := Scf.iv c0_i32_195 c1_i32_197 k0_t13
  let v1175 : Index := Scalar.indexCast arg14
  let c16_687 : Index := 16#32
  ![v1175.toNat, 16]
def k0_off309 (k0_t13 : Fin k0_t13_loop.trips) : Fin 2 → Nat :=
  let c0_i32_195 : BitVec 32 := 0#32
  let c1_i32_197 : BitVec 32 := 1#32
  let arg14 : BitVec 32 := Scf.iv c0_i32_195 c1_i32_197 k0_t13
  let v1179 : Index := Scalar.indexCast arg14
  let c32_688 : Index := 32#32
  ![v1179.toNat, 32]
def k0_off310 (k0_t13 : Fin k0_t13_loop.trips) : Fin 2 → Nat :=
  let c0_i32_195 : BitVec 32 := 0#32
  let c1_i32_197 : BitVec 32 := 1#32
  let arg14 : BitVec 32 := Scf.iv c0_i32_195 c1_i32_197 k0_t13
  let v1183 : Index := Scalar.indexCast arg14
  let c48_689 : Index := 48#32
  ![v1183.toNat, 48]
def k0_off311 (k0_t13 : Fin k0_t13_loop.trips) : Fin 2 → Nat :=
  let c0_i32_195 : BitVec 32 := 0#32
  let c1_i32_197 : BitVec 32 := 1#32
  let arg14 : BitVec 32 := Scf.iv c0_i32_195 c1_i32_197 k0_t13
  let v1187 : Index := Scalar.indexCast arg14
  let c64_690 : Index := 64#32
  ![v1187.toNat, 64]
def k0_off312 (k0_t13 : Fin k0_t13_loop.trips) : Fin 2 → Nat :=
  let c0_i32_195 : BitVec 32 := 0#32
  let c1_i32_197 : BitVec 32 := 1#32
  let arg14 : BitVec 32 := Scf.iv c0_i32_195 c1_i32_197 k0_t13
  let v1191 : Index := Scalar.indexCast arg14
  let c80_691 : Index := 80#32
  ![v1191.toNat, 80]
def k0_off313 (k0_t13 : Fin k0_t13_loop.trips) : Fin 2 → Nat :=
  let c0_i32_195 : BitVec 32 := 0#32
  let c1_i32_197 : BitVec 32 := 1#32
  let arg14 : BitVec 32 := Scf.iv c0_i32_195 c1_i32_197 k0_t13
  let v1195 : Index := Scalar.indexCast arg14
  let c96_692 : Index := 96#32
  ![v1195.toNat, 96]
def k0_off314 (k0_t13 : Fin k0_t13_loop.trips) : Fin 2 → Nat :=
  let c0_i32_195 : BitVec 32 := 0#32
  let c1_i32_197 : BitVec 32 := 1#32
  let arg14 : BitVec 32 := Scf.iv c0_i32_195 c1_i32_197 k0_t13
  let v1199 : Index := Scalar.indexCast arg14
  let c112_693 : Index := 112#32
  ![v1199.toNat, 112]
@[reducible] def k0_t14_loop : Scf.Loop 32 :=
  let c0_i32_210 : BitVec 32 := 0#32
  let c16_i32_211 : BitVec 32 := 16#32
  let v208 : BitVec 32 := Scalar.addi c0_i32_210 c16_i32_211
  let c1_i32_212 : BitVec 32 := 1#32
  ⟨c0_i32_210, v208, c1_i32_212⟩
def k0_off315 (k0_t14 : Fin k0_t14_loop.trips) : Fin 2 → Nat :=
  let c0_i32_210 : BitVec 32 := 0#32
  let c1_i32_212 : BitVec 32 := 1#32
  let arg14 : BitVec 32 := Scf.iv c0_i32_210 c1_i32_212 k0_t14
  let c20_i32_238 : BitVec 32 := 20#32
  let v227 : BitVec 32 := Scalar.muli arg14 c20_i32_238
  let v228 : Index := Scalar.indexCast v227
  let c0 : Index := 0#32
  ![v228.toNat, 0]
def k0_off316 (k0_t14 : Fin k0_t14_loop.trips) : Fin 2 → Nat :=
  let c0_i32_210 : BitVec 32 := 0#32
  let c1_i32_212 : BitVec 32 := 1#32
  let arg14 : BitVec 32 := Scf.iv c0_i32_210 c1_i32_212 k0_t14
  let c20_i32_239 : BitVec 32 := 20#32
  let v231 : BitVec 32 := Scalar.muli arg14 c20_i32_239
  let v232 : Index := Scalar.indexCast v231
  let c16 : Index := 16#32
  ![v232.toNat, 16]
def k0_off317 (k0_t14 : Fin k0_t14_loop.trips) : Fin 2 → Nat :=
  let c0_i32_210 : BitVec 32 := 0#32
  let c1_i32_212 : BitVec 32 := 1#32
  let arg14 : BitVec 32 := Scf.iv c0_i32_210 c1_i32_212 k0_t14
  let c20_i32_240 : BitVec 32 := 20#32
  let v235 : BitVec 32 := Scalar.muli arg14 c20_i32_240
  let v236 : Index := Scalar.indexCast v235
  let c32 : Index := 32#32
  ![v236.toNat, 32]
def k0_off318 (k0_t14 : Fin k0_t14_loop.trips) : Fin 2 → Nat :=
  let c0_i32_210 : BitVec 32 := 0#32
  let c1_i32_212 : BitVec 32 := 1#32
  let arg14 : BitVec 32 := Scf.iv c0_i32_210 c1_i32_212 k0_t14
  let c20_i32_241 : BitVec 32 := 20#32
  let v239 : BitVec 32 := Scalar.muli arg14 c20_i32_241
  let v240 : Index := Scalar.indexCast v239
  let c48 : Index := 48#32
  ![v240.toNat, 48]
def k0_off319 (k0_t14 : Fin k0_t14_loop.trips) : Fin 2 → Nat :=
  let c0_i32_210 : BitVec 32 := 0#32
  let c1_i32_212 : BitVec 32 := 1#32
  let arg14 : BitVec 32 := Scf.iv c0_i32_210 c1_i32_212 k0_t14
  let c20_i32_242 : BitVec 32 := 20#32
  let v243 : BitVec 32 := Scalar.muli arg14 c20_i32_242
  let v244 : Index := Scalar.indexCast v243
  let c64 : Index := 64#32
  ![v244.toNat, 64]
def k0_off320 (k0_t14 : Fin k0_t14_loop.trips) : Fin 2 → Nat :=
  let c0_i32_210 : BitVec 32 := 0#32
  let c1_i32_212 : BitVec 32 := 1#32
  let arg14 : BitVec 32 := Scf.iv c0_i32_210 c1_i32_212 k0_t14
  let c20_i32_243 : BitVec 32 := 20#32
  let v247 : BitVec 32 := Scalar.muli arg14 c20_i32_243
  let v248 : Index := Scalar.indexCast v247
  let c80 : Index := 80#32
  ![v248.toNat, 80]
def k0_off321 (k0_t14 : Fin k0_t14_loop.trips) : Fin 2 → Nat :=
  let c0_i32_210 : BitVec 32 := 0#32
  let c1_i32_212 : BitVec 32 := 1#32
  let arg14 : BitVec 32 := Scf.iv c0_i32_210 c1_i32_212 k0_t14
  let c20_i32_244 : BitVec 32 := 20#32
  let v251 : BitVec 32 := Scalar.muli arg14 c20_i32_244
  let v252 : Index := Scalar.indexCast v251
  let c96 : Index := 96#32
  ![v252.toNat, 96]
def k0_off322 (k0_t14 : Fin k0_t14_loop.trips) : Fin 2 → Nat :=
  let c0_i32_210 : BitVec 32 := 0#32
  let c1_i32_212 : BitVec 32 := 1#32
  let arg14 : BitVec 32 := Scf.iv c0_i32_210 c1_i32_212 k0_t14
  let c20_i32_245 : BitVec 32 := 20#32
  let v255 : BitVec 32 := Scalar.muli arg14 c20_i32_245
  let v256 : Index := Scalar.indexCast v255
  let c112 : Index := 112#32
  ![v256.toNat, 112]
def k0_off323 (k0_t14 : Fin k0_t14_loop.trips) (c1_i32_247 : BitVec 32) : Fin 2 → Nat :=
  let c0_i32_210 : BitVec 32 := 0#32
  let c1_i32_212 : BitVec 32 := 1#32
  let arg14 : BitVec 32 := Scf.iv c0_i32_210 c1_i32_212 k0_t14
  let c20_i32_246 : BitVec 32 := 20#32
  let v259 : BitVec 32 := Scalar.muli arg14 c20_i32_246
  let v260 : BitVec 32 := Scalar.addi v259 c1_i32_247
  let v261 : Index := Scalar.indexCast v260
  let c0_248 : Index := 0#32
  ![v261.toNat, 0]
def k0_off324 (k0_t14 : Fin k0_t14_loop.trips) (c1_i32_250 : BitVec 32) : Fin 2 → Nat :=
  let c0_i32_210 : BitVec 32 := 0#32
  let c1_i32_212 : BitVec 32 := 1#32
  let arg14 : BitVec 32 := Scf.iv c0_i32_210 c1_i32_212 k0_t14
  let c20_i32_249 : BitVec 32 := 20#32
  let v265 : BitVec 32 := Scalar.muli arg14 c20_i32_249
  let v266 : BitVec 32 := Scalar.addi v265 c1_i32_250
  let v267 : Index := Scalar.indexCast v266
  let c16_251 : Index := 16#32
  ![v267.toNat, 16]
def k0_off325 (k0_t14 : Fin k0_t14_loop.trips) (c1_i32_253 : BitVec 32) : Fin 2 → Nat :=
  let c0_i32_210 : BitVec 32 := 0#32
  let c1_i32_212 : BitVec 32 := 1#32
  let arg14 : BitVec 32 := Scf.iv c0_i32_210 c1_i32_212 k0_t14
  let c20_i32_252 : BitVec 32 := 20#32
  let v271 : BitVec 32 := Scalar.muli arg14 c20_i32_252
  let v272 : BitVec 32 := Scalar.addi v271 c1_i32_253
  let v273 : Index := Scalar.indexCast v272
  let c32_254 : Index := 32#32
  ![v273.toNat, 32]
def k0_off326 (k0_t14 : Fin k0_t14_loop.trips) (c1_i32_256 : BitVec 32) : Fin 2 → Nat :=
  let c0_i32_210 : BitVec 32 := 0#32
  let c1_i32_212 : BitVec 32 := 1#32
  let arg14 : BitVec 32 := Scf.iv c0_i32_210 c1_i32_212 k0_t14
  let c20_i32_255 : BitVec 32 := 20#32
  let v277 : BitVec 32 := Scalar.muli arg14 c20_i32_255
  let v278 : BitVec 32 := Scalar.addi v277 c1_i32_256
  let v279 : Index := Scalar.indexCast v278
  let c48_257 : Index := 48#32
  ![v279.toNat, 48]
def k0_off327 (k0_t14 : Fin k0_t14_loop.trips) (c1_i32_259 : BitVec 32) : Fin 2 → Nat :=
  let c0_i32_210 : BitVec 32 := 0#32
  let c1_i32_212 : BitVec 32 := 1#32
  let arg14 : BitVec 32 := Scf.iv c0_i32_210 c1_i32_212 k0_t14
  let c20_i32_258 : BitVec 32 := 20#32
  let v283 : BitVec 32 := Scalar.muli arg14 c20_i32_258
  let v284 : BitVec 32 := Scalar.addi v283 c1_i32_259
  let v285 : Index := Scalar.indexCast v284
  let c64_260 : Index := 64#32
  ![v285.toNat, 64]
def k0_off328 (k0_t14 : Fin k0_t14_loop.trips) (c1_i32_262 : BitVec 32) : Fin 2 → Nat :=
  let c0_i32_210 : BitVec 32 := 0#32
  let c1_i32_212 : BitVec 32 := 1#32
  let arg14 : BitVec 32 := Scf.iv c0_i32_210 c1_i32_212 k0_t14
  let c20_i32_261 : BitVec 32 := 20#32
  let v289 : BitVec 32 := Scalar.muli arg14 c20_i32_261
  let v290 : BitVec 32 := Scalar.addi v289 c1_i32_262
  let v291 : Index := Scalar.indexCast v290
  let c80_263 : Index := 80#32
  ![v291.toNat, 80]
def k0_off329 (k0_t14 : Fin k0_t14_loop.trips) (c1_i32_265 : BitVec 32) : Fin 2 → Nat :=
  let c0_i32_210 : BitVec 32 := 0#32
  let c1_i32_212 : BitVec 32 := 1#32
  let arg14 : BitVec 32 := Scf.iv c0_i32_210 c1_i32_212 k0_t14
  let c20_i32_264 : BitVec 32 := 20#32
  let v295 : BitVec 32 := Scalar.muli arg14 c20_i32_264
  let v296 : BitVec 32 := Scalar.addi v295 c1_i32_265
  let v297 : Index := Scalar.indexCast v296
  let c96_266 : Index := 96#32
  ![v297.toNat, 96]
def k0_off330 (k0_t14 : Fin k0_t14_loop.trips) (c1_i32_268 : BitVec 32) : Fin 2 → Nat :=
  let c0_i32_210 : BitVec 32 := 0#32
  let c1_i32_212 : BitVec 32 := 1#32
  let arg14 : BitVec 32 := Scf.iv c0_i32_210 c1_i32_212 k0_t14
  let c20_i32_267 : BitVec 32 := 20#32
  let v301 : BitVec 32 := Scalar.muli arg14 c20_i32_267
  let v302 : BitVec 32 := Scalar.addi v301 c1_i32_268
  let v303 : Index := Scalar.indexCast v302
  let c112_269 : Index := 112#32
  ![v303.toNat, 112]
def k0_off331 (k0_t14 : Fin k0_t14_loop.trips) : Fin 2 → Nat :=
  let c0_i32_210 : BitVec 32 := 0#32
  let c1_i32_212 : BitVec 32 := 1#32
  let arg14 : BitVec 32 := Scf.iv c0_i32_210 c1_i32_212 k0_t14
  let v1171 : Index := Scalar.indexCast arg14
  let c0_686 : Index := 0#32
  ![v1171.toNat, 0]
def k0_off332 (k0_t14 : Fin k0_t14_loop.trips) : Fin 2 → Nat :=
  let c0_i32_210 : BitVec 32 := 0#32
  let c1_i32_212 : BitVec 32 := 1#32
  let arg14 : BitVec 32 := Scf.iv c0_i32_210 c1_i32_212 k0_t14
  let v1175 : Index := Scalar.indexCast arg14
  let c16_687 : Index := 16#32
  ![v1175.toNat, 16]
def k0_off333 (k0_t14 : Fin k0_t14_loop.trips) : Fin 2 → Nat :=
  let c0_i32_210 : BitVec 32 := 0#32
  let c1_i32_212 : BitVec 32 := 1#32
  let arg14 : BitVec 32 := Scf.iv c0_i32_210 c1_i32_212 k0_t14
  let v1179 : Index := Scalar.indexCast arg14
  let c32_688 : Index := 32#32
  ![v1179.toNat, 32]
def k0_off334 (k0_t14 : Fin k0_t14_loop.trips) : Fin 2 → Nat :=
  let c0_i32_210 : BitVec 32 := 0#32
  let c1_i32_212 : BitVec 32 := 1#32
  let arg14 : BitVec 32 := Scf.iv c0_i32_210 c1_i32_212 k0_t14
  let v1183 : Index := Scalar.indexCast arg14
  let c48_689 : Index := 48#32
  ![v1183.toNat, 48]
def k0_off335 (k0_t14 : Fin k0_t14_loop.trips) : Fin 2 → Nat :=
  let c0_i32_210 : BitVec 32 := 0#32
  let c1_i32_212 : BitVec 32 := 1#32
  let arg14 : BitVec 32 := Scf.iv c0_i32_210 c1_i32_212 k0_t14
  let v1187 : Index := Scalar.indexCast arg14
  let c64_690 : Index := 64#32
  ![v1187.toNat, 64]
def k0_off336 (k0_t14 : Fin k0_t14_loop.trips) : Fin 2 → Nat :=
  let c0_i32_210 : BitVec 32 := 0#32
  let c1_i32_212 : BitVec 32 := 1#32
  let arg14 : BitVec 32 := Scf.iv c0_i32_210 c1_i32_212 k0_t14
  let v1191 : Index := Scalar.indexCast arg14
  let c80_691 : Index := 80#32
  ![v1191.toNat, 80]
def k0_off337 (k0_t14 : Fin k0_t14_loop.trips) : Fin 2 → Nat :=
  let c0_i32_210 : BitVec 32 := 0#32
  let c1_i32_212 : BitVec 32 := 1#32
  let arg14 : BitVec 32 := Scf.iv c0_i32_210 c1_i32_212 k0_t14
  let v1195 : Index := Scalar.indexCast arg14
  let c96_692 : Index := 96#32
  ![v1195.toNat, 96]
def k0_off338 (k0_t14 : Fin k0_t14_loop.trips) : Fin 2 → Nat :=
  let c0_i32_210 : BitVec 32 := 0#32
  let c1_i32_212 : BitVec 32 := 1#32
  let arg14 : BitVec 32 := Scf.iv c0_i32_210 c1_i32_212 k0_t14
  let v1199 : Index := Scalar.indexCast arg14
  let c112_693 : Index := 112#32
  ![v1199.toNat, 112]
@[reducible] def k0_t15_loop : Scf.Loop 32 :=
  let c0_i32_225 : BitVec 32 := 0#32
  let c16_i32_226 : BitVec 32 := 16#32
  let v222 : BitVec 32 := Scalar.addi c0_i32_225 c16_i32_226
  let c1_i32_227 : BitVec 32 := 1#32
  ⟨c0_i32_225, v222, c1_i32_227⟩
def k0_off339 (k0_t15 : Fin k0_t15_loop.trips) : Fin 2 → Nat :=
  let c0_i32_225 : BitVec 32 := 0#32
  let c1_i32_227 : BitVec 32 := 1#32
  let arg14 : BitVec 32 := Scf.iv c0_i32_225 c1_i32_227 k0_t15
  let c20_i32_238 : BitVec 32 := 20#32
  let v227 : BitVec 32 := Scalar.muli arg14 c20_i32_238
  let v228 : Index := Scalar.indexCast v227
  let c0 : Index := 0#32
  ![v228.toNat, 0]
def k0_off340 (k0_t15 : Fin k0_t15_loop.trips) : Fin 2 → Nat :=
  let c0_i32_225 : BitVec 32 := 0#32
  let c1_i32_227 : BitVec 32 := 1#32
  let arg14 : BitVec 32 := Scf.iv c0_i32_225 c1_i32_227 k0_t15
  let c20_i32_239 : BitVec 32 := 20#32
  let v231 : BitVec 32 := Scalar.muli arg14 c20_i32_239
  let v232 : Index := Scalar.indexCast v231
  let c16 : Index := 16#32
  ![v232.toNat, 16]
def k0_off341 (k0_t15 : Fin k0_t15_loop.trips) : Fin 2 → Nat :=
  let c0_i32_225 : BitVec 32 := 0#32
  let c1_i32_227 : BitVec 32 := 1#32
  let arg14 : BitVec 32 := Scf.iv c0_i32_225 c1_i32_227 k0_t15
  let c20_i32_240 : BitVec 32 := 20#32
  let v235 : BitVec 32 := Scalar.muli arg14 c20_i32_240
  let v236 : Index := Scalar.indexCast v235
  let c32 : Index := 32#32
  ![v236.toNat, 32]
def k0_off342 (k0_t15 : Fin k0_t15_loop.trips) : Fin 2 → Nat :=
  let c0_i32_225 : BitVec 32 := 0#32
  let c1_i32_227 : BitVec 32 := 1#32
  let arg14 : BitVec 32 := Scf.iv c0_i32_225 c1_i32_227 k0_t15
  let c20_i32_241 : BitVec 32 := 20#32
  let v239 : BitVec 32 := Scalar.muli arg14 c20_i32_241
  let v240 : Index := Scalar.indexCast v239
  let c48 : Index := 48#32
  ![v240.toNat, 48]
def k0_off343 (k0_t15 : Fin k0_t15_loop.trips) : Fin 2 → Nat :=
  let c0_i32_225 : BitVec 32 := 0#32
  let c1_i32_227 : BitVec 32 := 1#32
  let arg14 : BitVec 32 := Scf.iv c0_i32_225 c1_i32_227 k0_t15
  let c20_i32_242 : BitVec 32 := 20#32
  let v243 : BitVec 32 := Scalar.muli arg14 c20_i32_242
  let v244 : Index := Scalar.indexCast v243
  let c64 : Index := 64#32
  ![v244.toNat, 64]
def k0_off344 (k0_t15 : Fin k0_t15_loop.trips) : Fin 2 → Nat :=
  let c0_i32_225 : BitVec 32 := 0#32
  let c1_i32_227 : BitVec 32 := 1#32
  let arg14 : BitVec 32 := Scf.iv c0_i32_225 c1_i32_227 k0_t15
  let c20_i32_243 : BitVec 32 := 20#32
  let v247 : BitVec 32 := Scalar.muli arg14 c20_i32_243
  let v248 : Index := Scalar.indexCast v247
  let c80 : Index := 80#32
  ![v248.toNat, 80]
def k0_off345 (k0_t15 : Fin k0_t15_loop.trips) : Fin 2 → Nat :=
  let c0_i32_225 : BitVec 32 := 0#32
  let c1_i32_227 : BitVec 32 := 1#32
  let arg14 : BitVec 32 := Scf.iv c0_i32_225 c1_i32_227 k0_t15
  let c20_i32_244 : BitVec 32 := 20#32
  let v251 : BitVec 32 := Scalar.muli arg14 c20_i32_244
  let v252 : Index := Scalar.indexCast v251
  let c96 : Index := 96#32
  ![v252.toNat, 96]
def k0_off346 (k0_t15 : Fin k0_t15_loop.trips) : Fin 2 → Nat :=
  let c0_i32_225 : BitVec 32 := 0#32
  let c1_i32_227 : BitVec 32 := 1#32
  let arg14 : BitVec 32 := Scf.iv c0_i32_225 c1_i32_227 k0_t15
  let c20_i32_245 : BitVec 32 := 20#32
  let v255 : BitVec 32 := Scalar.muli arg14 c20_i32_245
  let v256 : Index := Scalar.indexCast v255
  let c112 : Index := 112#32
  ![v256.toNat, 112]
def k0_off347 (k0_t15 : Fin k0_t15_loop.trips) (c1_i32_247 : BitVec 32) : Fin 2 → Nat :=
  let c0_i32_225 : BitVec 32 := 0#32
  let c1_i32_227 : BitVec 32 := 1#32
  let arg14 : BitVec 32 := Scf.iv c0_i32_225 c1_i32_227 k0_t15
  let c20_i32_246 : BitVec 32 := 20#32
  let v259 : BitVec 32 := Scalar.muli arg14 c20_i32_246
  let v260 : BitVec 32 := Scalar.addi v259 c1_i32_247
  let v261 : Index := Scalar.indexCast v260
  let c0_248 : Index := 0#32
  ![v261.toNat, 0]
def k0_off348 (k0_t15 : Fin k0_t15_loop.trips) (c1_i32_250 : BitVec 32) : Fin 2 → Nat :=
  let c0_i32_225 : BitVec 32 := 0#32
  let c1_i32_227 : BitVec 32 := 1#32
  let arg14 : BitVec 32 := Scf.iv c0_i32_225 c1_i32_227 k0_t15
  let c20_i32_249 : BitVec 32 := 20#32
  let v265 : BitVec 32 := Scalar.muli arg14 c20_i32_249
  let v266 : BitVec 32 := Scalar.addi v265 c1_i32_250
  let v267 : Index := Scalar.indexCast v266
  let c16_251 : Index := 16#32
  ![v267.toNat, 16]
def k0_off349 (k0_t15 : Fin k0_t15_loop.trips) (c1_i32_253 : BitVec 32) : Fin 2 → Nat :=
  let c0_i32_225 : BitVec 32 := 0#32
  let c1_i32_227 : BitVec 32 := 1#32
  let arg14 : BitVec 32 := Scf.iv c0_i32_225 c1_i32_227 k0_t15
  let c20_i32_252 : BitVec 32 := 20#32
  let v271 : BitVec 32 := Scalar.muli arg14 c20_i32_252
  let v272 : BitVec 32 := Scalar.addi v271 c1_i32_253
  let v273 : Index := Scalar.indexCast v272
  let c32_254 : Index := 32#32
  ![v273.toNat, 32]
def k0_off350 (k0_t15 : Fin k0_t15_loop.trips) (c1_i32_256 : BitVec 32) : Fin 2 → Nat :=
  let c0_i32_225 : BitVec 32 := 0#32
  let c1_i32_227 : BitVec 32 := 1#32
  let arg14 : BitVec 32 := Scf.iv c0_i32_225 c1_i32_227 k0_t15
  let c20_i32_255 : BitVec 32 := 20#32
  let v277 : BitVec 32 := Scalar.muli arg14 c20_i32_255
  let v278 : BitVec 32 := Scalar.addi v277 c1_i32_256
  let v279 : Index := Scalar.indexCast v278
  let c48_257 : Index := 48#32
  ![v279.toNat, 48]
def k0_off351 (k0_t15 : Fin k0_t15_loop.trips) (c1_i32_259 : BitVec 32) : Fin 2 → Nat :=
  let c0_i32_225 : BitVec 32 := 0#32
  let c1_i32_227 : BitVec 32 := 1#32
  let arg14 : BitVec 32 := Scf.iv c0_i32_225 c1_i32_227 k0_t15
  let c20_i32_258 : BitVec 32 := 20#32
  let v283 : BitVec 32 := Scalar.muli arg14 c20_i32_258
  let v284 : BitVec 32 := Scalar.addi v283 c1_i32_259
  let v285 : Index := Scalar.indexCast v284
  let c64_260 : Index := 64#32
  ![v285.toNat, 64]
def k0_off352 (k0_t15 : Fin k0_t15_loop.trips) (c1_i32_262 : BitVec 32) : Fin 2 → Nat :=
  let c0_i32_225 : BitVec 32 := 0#32
  let c1_i32_227 : BitVec 32 := 1#32
  let arg14 : BitVec 32 := Scf.iv c0_i32_225 c1_i32_227 k0_t15
  let c20_i32_261 : BitVec 32 := 20#32
  let v289 : BitVec 32 := Scalar.muli arg14 c20_i32_261
  let v290 : BitVec 32 := Scalar.addi v289 c1_i32_262
  let v291 : Index := Scalar.indexCast v290
  let c80_263 : Index := 80#32
  ![v291.toNat, 80]
def k0_off353 (k0_t15 : Fin k0_t15_loop.trips) (c1_i32_265 : BitVec 32) : Fin 2 → Nat :=
  let c0_i32_225 : BitVec 32 := 0#32
  let c1_i32_227 : BitVec 32 := 1#32
  let arg14 : BitVec 32 := Scf.iv c0_i32_225 c1_i32_227 k0_t15
  let c20_i32_264 : BitVec 32 := 20#32
  let v295 : BitVec 32 := Scalar.muli arg14 c20_i32_264
  let v296 : BitVec 32 := Scalar.addi v295 c1_i32_265
  let v297 : Index := Scalar.indexCast v296
  let c96_266 : Index := 96#32
  ![v297.toNat, 96]
def k0_off354 (k0_t15 : Fin k0_t15_loop.trips) (c1_i32_268 : BitVec 32) : Fin 2 → Nat :=
  let c0_i32_225 : BitVec 32 := 0#32
  let c1_i32_227 : BitVec 32 := 1#32
  let arg14 : BitVec 32 := Scf.iv c0_i32_225 c1_i32_227 k0_t15
  let c20_i32_267 : BitVec 32 := 20#32
  let v301 : BitVec 32 := Scalar.muli arg14 c20_i32_267
  let v302 : BitVec 32 := Scalar.addi v301 c1_i32_268
  let v303 : Index := Scalar.indexCast v302
  let c112_269 : Index := 112#32
  ![v303.toNat, 112]
def k0_off355 (k0_t15 : Fin k0_t15_loop.trips) : Fin 2 → Nat :=
  let c0_i32_225 : BitVec 32 := 0#32
  let c1_i32_227 : BitVec 32 := 1#32
  let arg14 : BitVec 32 := Scf.iv c0_i32_225 c1_i32_227 k0_t15
  let v1171 : Index := Scalar.indexCast arg14
  let c0_686 : Index := 0#32
  ![v1171.toNat, 0]
def k0_off356 (k0_t15 : Fin k0_t15_loop.trips) : Fin 2 → Nat :=
  let c0_i32_225 : BitVec 32 := 0#32
  let c1_i32_227 : BitVec 32 := 1#32
  let arg14 : BitVec 32 := Scf.iv c0_i32_225 c1_i32_227 k0_t15
  let v1175 : Index := Scalar.indexCast arg14
  let c16_687 : Index := 16#32
  ![v1175.toNat, 16]
def k0_off357 (k0_t15 : Fin k0_t15_loop.trips) : Fin 2 → Nat :=
  let c0_i32_225 : BitVec 32 := 0#32
  let c1_i32_227 : BitVec 32 := 1#32
  let arg14 : BitVec 32 := Scf.iv c0_i32_225 c1_i32_227 k0_t15
  let v1179 : Index := Scalar.indexCast arg14
  let c32_688 : Index := 32#32
  ![v1179.toNat, 32]
def k0_off358 (k0_t15 : Fin k0_t15_loop.trips) : Fin 2 → Nat :=
  let c0_i32_225 : BitVec 32 := 0#32
  let c1_i32_227 : BitVec 32 := 1#32
  let arg14 : BitVec 32 := Scf.iv c0_i32_225 c1_i32_227 k0_t15
  let v1183 : Index := Scalar.indexCast arg14
  let c48_689 : Index := 48#32
  ![v1183.toNat, 48]
def k0_off359 (k0_t15 : Fin k0_t15_loop.trips) : Fin 2 → Nat :=
  let c0_i32_225 : BitVec 32 := 0#32
  let c1_i32_227 : BitVec 32 := 1#32
  let arg14 : BitVec 32 := Scf.iv c0_i32_225 c1_i32_227 k0_t15
  let v1187 : Index := Scalar.indexCast arg14
  let c64_690 : Index := 64#32
  ![v1187.toNat, 64]
def k0_off360 (k0_t15 : Fin k0_t15_loop.trips) : Fin 2 → Nat :=
  let c0_i32_225 : BitVec 32 := 0#32
  let c1_i32_227 : BitVec 32 := 1#32
  let arg14 : BitVec 32 := Scf.iv c0_i32_225 c1_i32_227 k0_t15
  let v1191 : Index := Scalar.indexCast arg14
  let c80_691 : Index := 80#32
  ![v1191.toNat, 80]
def k0_off361 (k0_t15 : Fin k0_t15_loop.trips) : Fin 2 → Nat :=
  let c0_i32_225 : BitVec 32 := 0#32
  let c1_i32_227 : BitVec 32 := 1#32
  let arg14 : BitVec 32 := Scf.iv c0_i32_225 c1_i32_227 k0_t15
  let v1195 : Index := Scalar.indexCast arg14
  let c96_692 : Index := 96#32
  ![v1195.toNat, 96]
def k0_off362 (k0_t15 : Fin k0_t15_loop.trips) : Fin 2 → Nat :=
  let c0_i32_225 : BitVec 32 := 0#32
  let c1_i32_227 : BitVec 32 := 1#32
  let arg14 : BitVec 32 := Scf.iv c0_i32_225 c1_i32_227 k0_t15
  let v1199 : Index := Scalar.indexCast arg14
  let c112_693 : Index := 112#32
  ![v1199.toNat, 112]
@[reducible] def k0_t16_loop : Scf.Loop 32 :=
  let c0_i32_233 : BitVec 32 := 0#32
  let c16_i32_234 : BitVec 32 := 16#32
  let v225 : BitVec 32 := Scalar.addi c0_i32_233 c16_i32_234
  let c1_i32_235 : BitVec 32 := 1#32
  ⟨c0_i32_233, v225, c1_i32_235⟩
def k0_off363 (k0_t16 : Fin k0_t16_loop.trips) : Fin 2 → Nat :=
  let c0_i32_233 : BitVec 32 := 0#32
  let c1_i32_235 : BitVec 32 := 1#32
  let arg14 : BitVec 32 := Scf.iv c0_i32_233 c1_i32_235 k0_t16
  let c20_i32_238 : BitVec 32 := 20#32
  let v227 : BitVec 32 := Scalar.muli arg14 c20_i32_238
  let v228 : Index := Scalar.indexCast v227
  let c0 : Index := 0#32
  ![v228.toNat, 0]
def k0_off364 (k0_t16 : Fin k0_t16_loop.trips) : Fin 2 → Nat :=
  let c0_i32_233 : BitVec 32 := 0#32
  let c1_i32_235 : BitVec 32 := 1#32
  let arg14 : BitVec 32 := Scf.iv c0_i32_233 c1_i32_235 k0_t16
  let c20_i32_239 : BitVec 32 := 20#32
  let v231 : BitVec 32 := Scalar.muli arg14 c20_i32_239
  let v232 : Index := Scalar.indexCast v231
  let c16 : Index := 16#32
  ![v232.toNat, 16]
def k0_off365 (k0_t16 : Fin k0_t16_loop.trips) : Fin 2 → Nat :=
  let c0_i32_233 : BitVec 32 := 0#32
  let c1_i32_235 : BitVec 32 := 1#32
  let arg14 : BitVec 32 := Scf.iv c0_i32_233 c1_i32_235 k0_t16
  let c20_i32_240 : BitVec 32 := 20#32
  let v235 : BitVec 32 := Scalar.muli arg14 c20_i32_240
  let v236 : Index := Scalar.indexCast v235
  let c32 : Index := 32#32
  ![v236.toNat, 32]
def k0_off366 (k0_t16 : Fin k0_t16_loop.trips) : Fin 2 → Nat :=
  let c0_i32_233 : BitVec 32 := 0#32
  let c1_i32_235 : BitVec 32 := 1#32
  let arg14 : BitVec 32 := Scf.iv c0_i32_233 c1_i32_235 k0_t16
  let c20_i32_241 : BitVec 32 := 20#32
  let v239 : BitVec 32 := Scalar.muli arg14 c20_i32_241
  let v240 : Index := Scalar.indexCast v239
  let c48 : Index := 48#32
  ![v240.toNat, 48]
def k0_off367 (k0_t16 : Fin k0_t16_loop.trips) : Fin 2 → Nat :=
  let c0_i32_233 : BitVec 32 := 0#32
  let c1_i32_235 : BitVec 32 := 1#32
  let arg14 : BitVec 32 := Scf.iv c0_i32_233 c1_i32_235 k0_t16
  let c20_i32_242 : BitVec 32 := 20#32
  let v243 : BitVec 32 := Scalar.muli arg14 c20_i32_242
  let v244 : Index := Scalar.indexCast v243
  let c64 : Index := 64#32
  ![v244.toNat, 64]
def k0_off368 (k0_t16 : Fin k0_t16_loop.trips) : Fin 2 → Nat :=
  let c0_i32_233 : BitVec 32 := 0#32
  let c1_i32_235 : BitVec 32 := 1#32
  let arg14 : BitVec 32 := Scf.iv c0_i32_233 c1_i32_235 k0_t16
  let c20_i32_243 : BitVec 32 := 20#32
  let v247 : BitVec 32 := Scalar.muli arg14 c20_i32_243
  let v248 : Index := Scalar.indexCast v247
  let c80 : Index := 80#32
  ![v248.toNat, 80]
def k0_off369 (k0_t16 : Fin k0_t16_loop.trips) : Fin 2 → Nat :=
  let c0_i32_233 : BitVec 32 := 0#32
  let c1_i32_235 : BitVec 32 := 1#32
  let arg14 : BitVec 32 := Scf.iv c0_i32_233 c1_i32_235 k0_t16
  let c20_i32_244 : BitVec 32 := 20#32
  let v251 : BitVec 32 := Scalar.muli arg14 c20_i32_244
  let v252 : Index := Scalar.indexCast v251
  let c96 : Index := 96#32
  ![v252.toNat, 96]
def k0_off370 (k0_t16 : Fin k0_t16_loop.trips) : Fin 2 → Nat :=
  let c0_i32_233 : BitVec 32 := 0#32
  let c1_i32_235 : BitVec 32 := 1#32
  let arg14 : BitVec 32 := Scf.iv c0_i32_233 c1_i32_235 k0_t16
  let c20_i32_245 : BitVec 32 := 20#32
  let v255 : BitVec 32 := Scalar.muli arg14 c20_i32_245
  let v256 : Index := Scalar.indexCast v255
  let c112 : Index := 112#32
  ![v256.toNat, 112]
def k0_off371 (k0_t16 : Fin k0_t16_loop.trips) (c1_i32_247 : BitVec 32) : Fin 2 → Nat :=
  let c0_i32_233 : BitVec 32 := 0#32
  let c1_i32_235 : BitVec 32 := 1#32
  let arg14 : BitVec 32 := Scf.iv c0_i32_233 c1_i32_235 k0_t16
  let c20_i32_246 : BitVec 32 := 20#32
  let v259 : BitVec 32 := Scalar.muli arg14 c20_i32_246
  let v260 : BitVec 32 := Scalar.addi v259 c1_i32_247
  let v261 : Index := Scalar.indexCast v260
  let c0_248 : Index := 0#32
  ![v261.toNat, 0]
def k0_off372 (k0_t16 : Fin k0_t16_loop.trips) (c1_i32_250 : BitVec 32) : Fin 2 → Nat :=
  let c0_i32_233 : BitVec 32 := 0#32
  let c1_i32_235 : BitVec 32 := 1#32
  let arg14 : BitVec 32 := Scf.iv c0_i32_233 c1_i32_235 k0_t16
  let c20_i32_249 : BitVec 32 := 20#32
  let v265 : BitVec 32 := Scalar.muli arg14 c20_i32_249
  let v266 : BitVec 32 := Scalar.addi v265 c1_i32_250
  let v267 : Index := Scalar.indexCast v266
  let c16_251 : Index := 16#32
  ![v267.toNat, 16]
def k0_off373 (k0_t16 : Fin k0_t16_loop.trips) (c1_i32_253 : BitVec 32) : Fin 2 → Nat :=
  let c0_i32_233 : BitVec 32 := 0#32
  let c1_i32_235 : BitVec 32 := 1#32
  let arg14 : BitVec 32 := Scf.iv c0_i32_233 c1_i32_235 k0_t16
  let c20_i32_252 : BitVec 32 := 20#32
  let v271 : BitVec 32 := Scalar.muli arg14 c20_i32_252
  let v272 : BitVec 32 := Scalar.addi v271 c1_i32_253
  let v273 : Index := Scalar.indexCast v272
  let c32_254 : Index := 32#32
  ![v273.toNat, 32]
def k0_off374 (k0_t16 : Fin k0_t16_loop.trips) (c1_i32_256 : BitVec 32) : Fin 2 → Nat :=
  let c0_i32_233 : BitVec 32 := 0#32
  let c1_i32_235 : BitVec 32 := 1#32
  let arg14 : BitVec 32 := Scf.iv c0_i32_233 c1_i32_235 k0_t16
  let c20_i32_255 : BitVec 32 := 20#32
  let v277 : BitVec 32 := Scalar.muli arg14 c20_i32_255
  let v278 : BitVec 32 := Scalar.addi v277 c1_i32_256
  let v279 : Index := Scalar.indexCast v278
  let c48_257 : Index := 48#32
  ![v279.toNat, 48]
def k0_off375 (k0_t16 : Fin k0_t16_loop.trips) (c1_i32_259 : BitVec 32) : Fin 2 → Nat :=
  let c0_i32_233 : BitVec 32 := 0#32
  let c1_i32_235 : BitVec 32 := 1#32
  let arg14 : BitVec 32 := Scf.iv c0_i32_233 c1_i32_235 k0_t16
  let c20_i32_258 : BitVec 32 := 20#32
  let v283 : BitVec 32 := Scalar.muli arg14 c20_i32_258
  let v284 : BitVec 32 := Scalar.addi v283 c1_i32_259
  let v285 : Index := Scalar.indexCast v284
  let c64_260 : Index := 64#32
  ![v285.toNat, 64]
def k0_off376 (k0_t16 : Fin k0_t16_loop.trips) (c1_i32_262 : BitVec 32) : Fin 2 → Nat :=
  let c0_i32_233 : BitVec 32 := 0#32
  let c1_i32_235 : BitVec 32 := 1#32
  let arg14 : BitVec 32 := Scf.iv c0_i32_233 c1_i32_235 k0_t16
  let c20_i32_261 : BitVec 32 := 20#32
  let v289 : BitVec 32 := Scalar.muli arg14 c20_i32_261
  let v290 : BitVec 32 := Scalar.addi v289 c1_i32_262
  let v291 : Index := Scalar.indexCast v290
  let c80_263 : Index := 80#32
  ![v291.toNat, 80]
def k0_off377 (k0_t16 : Fin k0_t16_loop.trips) (c1_i32_265 : BitVec 32) : Fin 2 → Nat :=
  let c0_i32_233 : BitVec 32 := 0#32
  let c1_i32_235 : BitVec 32 := 1#32
  let arg14 : BitVec 32 := Scf.iv c0_i32_233 c1_i32_235 k0_t16
  let c20_i32_264 : BitVec 32 := 20#32
  let v295 : BitVec 32 := Scalar.muli arg14 c20_i32_264
  let v296 : BitVec 32 := Scalar.addi v295 c1_i32_265
  let v297 : Index := Scalar.indexCast v296
  let c96_266 : Index := 96#32
  ![v297.toNat, 96]
def k0_off378 (k0_t16 : Fin k0_t16_loop.trips) (c1_i32_268 : BitVec 32) : Fin 2 → Nat :=
  let c0_i32_233 : BitVec 32 := 0#32
  let c1_i32_235 : BitVec 32 := 1#32
  let arg14 : BitVec 32 := Scf.iv c0_i32_233 c1_i32_235 k0_t16
  let c20_i32_267 : BitVec 32 := 20#32
  let v301 : BitVec 32 := Scalar.muli arg14 c20_i32_267
  let v302 : BitVec 32 := Scalar.addi v301 c1_i32_268
  let v303 : Index := Scalar.indexCast v302
  let c112_269 : Index := 112#32
  ![v303.toNat, 112]
def k0_off379 (k0_t16 : Fin k0_t16_loop.trips) : Fin 2 → Nat :=
  let c0_i32_233 : BitVec 32 := 0#32
  let c1_i32_235 : BitVec 32 := 1#32
  let arg14 : BitVec 32 := Scf.iv c0_i32_233 c1_i32_235 k0_t16
  let v1171 : Index := Scalar.indexCast arg14
  let c0_686 : Index := 0#32
  ![v1171.toNat, 0]
def k0_off380 (k0_t16 : Fin k0_t16_loop.trips) : Fin 2 → Nat :=
  let c0_i32_233 : BitVec 32 := 0#32
  let c1_i32_235 : BitVec 32 := 1#32
  let arg14 : BitVec 32 := Scf.iv c0_i32_233 c1_i32_235 k0_t16
  let v1175 : Index := Scalar.indexCast arg14
  let c16_687 : Index := 16#32
  ![v1175.toNat, 16]
def k0_off381 (k0_t16 : Fin k0_t16_loop.trips) : Fin 2 → Nat :=
  let c0_i32_233 : BitVec 32 := 0#32
  let c1_i32_235 : BitVec 32 := 1#32
  let arg14 : BitVec 32 := Scf.iv c0_i32_233 c1_i32_235 k0_t16
  let v1179 : Index := Scalar.indexCast arg14
  let c32_688 : Index := 32#32
  ![v1179.toNat, 32]
def k0_off382 (k0_t16 : Fin k0_t16_loop.trips) : Fin 2 → Nat :=
  let c0_i32_233 : BitVec 32 := 0#32
  let c1_i32_235 : BitVec 32 := 1#32
  let arg14 : BitVec 32 := Scf.iv c0_i32_233 c1_i32_235 k0_t16
  let v1183 : Index := Scalar.indexCast arg14
  let c48_689 : Index := 48#32
  ![v1183.toNat, 48]
def k0_off383 (k0_t16 : Fin k0_t16_loop.trips) : Fin 2 → Nat :=
  let c0_i32_233 : BitVec 32 := 0#32
  let c1_i32_235 : BitVec 32 := 1#32
  let arg14 : BitVec 32 := Scf.iv c0_i32_233 c1_i32_235 k0_t16
  let v1187 : Index := Scalar.indexCast arg14
  let c64_690 : Index := 64#32
  ![v1187.toNat, 64]
def k0_off384 (k0_t16 : Fin k0_t16_loop.trips) : Fin 2 → Nat :=
  let c0_i32_233 : BitVec 32 := 0#32
  let c1_i32_235 : BitVec 32 := 1#32
  let arg14 : BitVec 32 := Scf.iv c0_i32_233 c1_i32_235 k0_t16
  let v1191 : Index := Scalar.indexCast arg14
  let c80_691 : Index := 80#32
  ![v1191.toNat, 80]
def k0_off385 (k0_t16 : Fin k0_t16_loop.trips) : Fin 2 → Nat :=
  let c0_i32_233 : BitVec 32 := 0#32
  let c1_i32_235 : BitVec 32 := 1#32
  let arg14 : BitVec 32 := Scf.iv c0_i32_233 c1_i32_235 k0_t16
  let v1195 : Index := Scalar.indexCast arg14
  let c96_692 : Index := 96#32
  ![v1195.toNat, 96]
def k0_off386 (k0_t16 : Fin k0_t16_loop.trips) : Fin 2 → Nat :=
  let c0_i32_233 : BitVec 32 := 0#32
  let c1_i32_235 : BitVec 32 := 1#32
  let arg14 : BitVec 32 := Scf.iv c0_i32_233 c1_i32_235 k0_t16
  let v1199 : Index := Scalar.indexCast arg14
  let c112_693 : Index := 112#32
  ![v1199.toNat, 112]
abbrev grid1 : Pipeline.Grid := ⟨2, ![2, 16], ![false, false]⟩

def k1_off1 (i : grid1.Coords) (c0_i32 : BitVec 32) : Fin 1 → Nat :=
  let c8192_i32 : BitVec 32 := 8192#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi c8192_i32 v2
  let v4 : BitVec 32 := Scalar.addi v3 c0_i32
  let c20_i32 : BitVec 32 := 20#32
  let v5 : BitVec 32 := Scalar.muli v4 c20_i32
  ![v5.toNat]
@[reducible] def k1_t1_loop : Scf.Loop 32 :=
  let c0_i32_15 : BitVec 32 := 0#32
  let c16_i32_16 : BitVec 32 := 16#32
  let v26 : BitVec 32 := Scalar.addi c0_i32_15 c16_i32_16
  let c1_i32 : BitVec 32 := 1#32
  ⟨c0_i32_15, v26, c1_i32⟩
def k1_off2 (k1_t1 : Fin k1_t1_loop.trips) : Fin 2 → Nat :=
  let c0_i32_15 : BitVec 32 := 0#32
  let c1_i32 : BitVec 32 := 1#32
  let arg14 : BitVec 32 := Scf.iv c0_i32_15 c1_i32 k1_t1
  let c20_i32_237 : BitVec 32 := 20#32
  let v227 : BitVec 32 := Scalar.muli arg14 c20_i32_237
  let v228 : Index := Scalar.indexCast v227
  let c0 : Index := 0#32
  ![v228.toNat, 0]
def k1_off3 (k1_t1 : Fin k1_t1_loop.trips) : Fin 2 → Nat :=
  let c0_i32_15 : BitVec 32 := 0#32
  let c1_i32 : BitVec 32 := 1#32
  let arg14 : BitVec 32 := Scf.iv c0_i32_15 c1_i32 k1_t1
  let c20_i32_238 : BitVec 32 := 20#32
  let v231 : BitVec 32 := Scalar.muli arg14 c20_i32_238
  let v232 : Index := Scalar.indexCast v231
  let c16 : Index := 16#32
  ![v232.toNat, 16]
def k1_off4 (k1_t1 : Fin k1_t1_loop.trips) : Fin 2 → Nat :=
  let c0_i32_15 : BitVec 32 := 0#32
  let c1_i32 : BitVec 32 := 1#32
  let arg14 : BitVec 32 := Scf.iv c0_i32_15 c1_i32 k1_t1
  let c20_i32_239 : BitVec 32 := 20#32
  let v235 : BitVec 32 := Scalar.muli arg14 c20_i32_239
  let v236 : Index := Scalar.indexCast v235
  let c32 : Index := 32#32
  ![v236.toNat, 32]
def k1_off5 (k1_t1 : Fin k1_t1_loop.trips) : Fin 2 → Nat :=
  let c0_i32_15 : BitVec 32 := 0#32
  let c1_i32 : BitVec 32 := 1#32
  let arg14 : BitVec 32 := Scf.iv c0_i32_15 c1_i32 k1_t1
  let c20_i32_240 : BitVec 32 := 20#32
  let v239 : BitVec 32 := Scalar.muli arg14 c20_i32_240
  let v240 : Index := Scalar.indexCast v239
  let c48 : Index := 48#32
  ![v240.toNat, 48]
def k1_off6 (k1_t1 : Fin k1_t1_loop.trips) : Fin 2 → Nat :=
  let c0_i32_15 : BitVec 32 := 0#32
  let c1_i32 : BitVec 32 := 1#32
  let arg14 : BitVec 32 := Scf.iv c0_i32_15 c1_i32 k1_t1
  let c20_i32_241 : BitVec 32 := 20#32
  let v243 : BitVec 32 := Scalar.muli arg14 c20_i32_241
  let v244 : Index := Scalar.indexCast v243
  let c64 : Index := 64#32
  ![v244.toNat, 64]
def k1_off7 (k1_t1 : Fin k1_t1_loop.trips) : Fin 2 → Nat :=
  let c0_i32_15 : BitVec 32 := 0#32
  let c1_i32 : BitVec 32 := 1#32
  let arg14 : BitVec 32 := Scf.iv c0_i32_15 c1_i32 k1_t1
  let c20_i32_242 : BitVec 32 := 20#32
  let v247 : BitVec 32 := Scalar.muli arg14 c20_i32_242
  let v248 : Index := Scalar.indexCast v247
  let c80 : Index := 80#32
  ![v248.toNat, 80]
def k1_off8 (k1_t1 : Fin k1_t1_loop.trips) : Fin 2 → Nat :=
  let c0_i32_15 : BitVec 32 := 0#32
  let c1_i32 : BitVec 32 := 1#32
  let arg14 : BitVec 32 := Scf.iv c0_i32_15 c1_i32 k1_t1
  let c20_i32_243 : BitVec 32 := 20#32
  let v251 : BitVec 32 := Scalar.muli arg14 c20_i32_243
  let v252 : Index := Scalar.indexCast v251
  let c96 : Index := 96#32
  ![v252.toNat, 96]
def k1_off9 (k1_t1 : Fin k1_t1_loop.trips) : Fin 2 → Nat :=
  let c0_i32_15 : BitVec 32 := 0#32
  let c1_i32 : BitVec 32 := 1#32
  let arg14 : BitVec 32 := Scf.iv c0_i32_15 c1_i32 k1_t1
  let c20_i32_244 : BitVec 32 := 20#32
  let v255 : BitVec 32 := Scalar.muli arg14 c20_i32_244
  let v256 : Index := Scalar.indexCast v255
  let c112 : Index := 112#32
  ![v256.toNat, 112]
def k1_off10 (k1_t1 : Fin k1_t1_loop.trips) (c1_i32_246 : BitVec 32) : Fin 2 → Nat :=
  let c0_i32_15 : BitVec 32 := 0#32
  let c1_i32 : BitVec 32 := 1#32
  let arg14 : BitVec 32 := Scf.iv c0_i32_15 c1_i32 k1_t1
  let c20_i32_245 : BitVec 32 := 20#32
  let v259 : BitVec 32 := Scalar.muli arg14 c20_i32_245
  let v260 : BitVec 32 := Scalar.addi v259 c1_i32_246
  let v261 : Index := Scalar.indexCast v260
  let c0_247 : Index := 0#32
  ![v261.toNat, 0]
def k1_off11 (k1_t1 : Fin k1_t1_loop.trips) (c1_i32_249 : BitVec 32) : Fin 2 → Nat :=
  let c0_i32_15 : BitVec 32 := 0#32
  let c1_i32 : BitVec 32 := 1#32
  let arg14 : BitVec 32 := Scf.iv c0_i32_15 c1_i32 k1_t1
  let c20_i32_248 : BitVec 32 := 20#32
  let v265 : BitVec 32 := Scalar.muli arg14 c20_i32_248
  let v266 : BitVec 32 := Scalar.addi v265 c1_i32_249
  let v267 : Index := Scalar.indexCast v266
  let c16_250 : Index := 16#32
  ![v267.toNat, 16]
def k1_off12 (k1_t1 : Fin k1_t1_loop.trips) (c1_i32_252 : BitVec 32) : Fin 2 → Nat :=
  let c0_i32_15 : BitVec 32 := 0#32
  let c1_i32 : BitVec 32 := 1#32
  let arg14 : BitVec 32 := Scf.iv c0_i32_15 c1_i32 k1_t1
  let c20_i32_251 : BitVec 32 := 20#32
  let v271 : BitVec 32 := Scalar.muli arg14 c20_i32_251
  let v272 : BitVec 32 := Scalar.addi v271 c1_i32_252
  let v273 : Index := Scalar.indexCast v272
  let c32_253 : Index := 32#32
  ![v273.toNat, 32]
def k1_off13 (k1_t1 : Fin k1_t1_loop.trips) (c1_i32_255 : BitVec 32) : Fin 2 → Nat :=
  let c0_i32_15 : BitVec 32 := 0#32
  let c1_i32 : BitVec 32 := 1#32
  let arg14 : BitVec 32 := Scf.iv c0_i32_15 c1_i32 k1_t1
  let c20_i32_254 : BitVec 32 := 20#32
  let v277 : BitVec 32 := Scalar.muli arg14 c20_i32_254
  let v278 : BitVec 32 := Scalar.addi v277 c1_i32_255
  let v279 : Index := Scalar.indexCast v278
  let c48_256 : Index := 48#32
  ![v279.toNat, 48]
def k1_off14 (k1_t1 : Fin k1_t1_loop.trips) (c1_i32_258 : BitVec 32) : Fin 2 → Nat :=
  let c0_i32_15 : BitVec 32 := 0#32
  let c1_i32 : BitVec 32 := 1#32
  let arg14 : BitVec 32 := Scf.iv c0_i32_15 c1_i32 k1_t1
  let c20_i32_257 : BitVec 32 := 20#32
  let v283 : BitVec 32 := Scalar.muli arg14 c20_i32_257
  let v284 : BitVec 32 := Scalar.addi v283 c1_i32_258
  let v285 : Index := Scalar.indexCast v284
  let c64_259 : Index := 64#32
  ![v285.toNat, 64]
def k1_off15 (k1_t1 : Fin k1_t1_loop.trips) (c1_i32_261 : BitVec 32) : Fin 2 → Nat :=
  let c0_i32_15 : BitVec 32 := 0#32
  let c1_i32 : BitVec 32 := 1#32
  let arg14 : BitVec 32 := Scf.iv c0_i32_15 c1_i32 k1_t1
  let c20_i32_260 : BitVec 32 := 20#32
  let v289 : BitVec 32 := Scalar.muli arg14 c20_i32_260
  let v290 : BitVec 32 := Scalar.addi v289 c1_i32_261
  let v291 : Index := Scalar.indexCast v290
  let c80_262 : Index := 80#32
  ![v291.toNat, 80]
def k1_off16 (k1_t1 : Fin k1_t1_loop.trips) (c1_i32_264 : BitVec 32) : Fin 2 → Nat :=
  let c0_i32_15 : BitVec 32 := 0#32
  let c1_i32 : BitVec 32 := 1#32
  let arg14 : BitVec 32 := Scf.iv c0_i32_15 c1_i32 k1_t1
  let c20_i32_263 : BitVec 32 := 20#32
  let v295 : BitVec 32 := Scalar.muli arg14 c20_i32_263
  let v296 : BitVec 32 := Scalar.addi v295 c1_i32_264
  let v297 : Index := Scalar.indexCast v296
  let c96_265 : Index := 96#32
  ![v297.toNat, 96]
def k1_off17 (k1_t1 : Fin k1_t1_loop.trips) (c1_i32_267 : BitVec 32) : Fin 2 → Nat :=
  let c0_i32_15 : BitVec 32 := 0#32
  let c1_i32 : BitVec 32 := 1#32
  let arg14 : BitVec 32 := Scf.iv c0_i32_15 c1_i32 k1_t1
  let c20_i32_266 : BitVec 32 := 20#32
  let v301 : BitVec 32 := Scalar.muli arg14 c20_i32_266
  let v302 : BitVec 32 := Scalar.addi v301 c1_i32_267
  let v303 : Index := Scalar.indexCast v302
  let c112_268 : Index := 112#32
  ![v303.toNat, 112]
def k1_off18 (k1_t1 : Fin k1_t1_loop.trips) : Fin 2 → Nat :=
  let c0_i32_15 : BitVec 32 := 0#32
  let c1_i32 : BitVec 32 := 1#32
  let arg14 : BitVec 32 := Scf.iv c0_i32_15 c1_i32 k1_t1
  let v1171 : Index := Scalar.indexCast arg14
  let c0_685 : Index := 0#32
  ![v1171.toNat, 0]
def k1_off19 (k1_t1 : Fin k1_t1_loop.trips) : Fin 2 → Nat :=
  let c0_i32_15 : BitVec 32 := 0#32
  let c1_i32 : BitVec 32 := 1#32
  let arg14 : BitVec 32 := Scf.iv c0_i32_15 c1_i32 k1_t1
  let v1175 : Index := Scalar.indexCast arg14
  let c16_686 : Index := 16#32
  ![v1175.toNat, 16]
def k1_off20 (k1_t1 : Fin k1_t1_loop.trips) : Fin 2 → Nat :=
  let c0_i32_15 : BitVec 32 := 0#32
  let c1_i32 : BitVec 32 := 1#32
  let arg14 : BitVec 32 := Scf.iv c0_i32_15 c1_i32 k1_t1
  let v1179 : Index := Scalar.indexCast arg14
  let c32_687 : Index := 32#32
  ![v1179.toNat, 32]
def k1_off21 (k1_t1 : Fin k1_t1_loop.trips) : Fin 2 → Nat :=
  let c0_i32_15 : BitVec 32 := 0#32
  let c1_i32 : BitVec 32 := 1#32
  let arg14 : BitVec 32 := Scf.iv c0_i32_15 c1_i32 k1_t1
  let v1183 : Index := Scalar.indexCast arg14
  let c48_688 : Index := 48#32
  ![v1183.toNat, 48]
def k1_off22 (k1_t1 : Fin k1_t1_loop.trips) : Fin 2 → Nat :=
  let c0_i32_15 : BitVec 32 := 0#32
  let c1_i32 : BitVec 32 := 1#32
  let arg14 : BitVec 32 := Scf.iv c0_i32_15 c1_i32 k1_t1
  let v1187 : Index := Scalar.indexCast arg14
  let c64_689 : Index := 64#32
  ![v1187.toNat, 64]
def k1_off23 (k1_t1 : Fin k1_t1_loop.trips) : Fin 2 → Nat :=
  let c0_i32_15 : BitVec 32 := 0#32
  let c1_i32 : BitVec 32 := 1#32
  let arg14 : BitVec 32 := Scf.iv c0_i32_15 c1_i32 k1_t1
  let v1191 : Index := Scalar.indexCast arg14
  let c80_690 : Index := 80#32
  ![v1191.toNat, 80]
def k1_off24 (k1_t1 : Fin k1_t1_loop.trips) : Fin 2 → Nat :=
  let c0_i32_15 : BitVec 32 := 0#32
  let c1_i32 : BitVec 32 := 1#32
  let arg14 : BitVec 32 := Scf.iv c0_i32_15 c1_i32 k1_t1
  let v1195 : Index := Scalar.indexCast arg14
  let c96_691 : Index := 96#32
  ![v1195.toNat, 96]
def k1_off25 (k1_t1 : Fin k1_t1_loop.trips) : Fin 2 → Nat :=
  let c0_i32_15 : BitVec 32 := 0#32
  let c1_i32 : BitVec 32 := 1#32
  let arg14 : BitVec 32 := Scf.iv c0_i32_15 c1_i32 k1_t1
  let v1199 : Index := Scalar.indexCast arg14
  let c112_692 : Index := 112#32
  ![v1199.toNat, 112]
def k1_off26 (i : grid1.Coords) (c0_i32_18 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v27 : BitVec 32 := Scalar.addi v2 c0_i32_18
  let c0_i32_237_r0 : BitVec 32 := 0#32
  ![v27.toNat, 0]
@[reducible] def k1_t2_loop : Scf.Loop 32 :=
  let c0_i32_29 : BitVec 32 := 0#32
  let c16_i32_30 : BitVec 32 := 16#32
  let v40 : BitVec 32 := Scalar.addi c0_i32_29 c16_i32_30
  let c1_i32_31 : BitVec 32 := 1#32
  ⟨c0_i32_29, v40, c1_i32_31⟩
def k1_off27 (k1_t2 : Fin k1_t2_loop.trips) : Fin 2 → Nat :=
  let c0_i32_29 : BitVec 32 := 0#32
  let c1_i32_31 : BitVec 32 := 1#32
  let arg14 : BitVec 32 := Scf.iv c0_i32_29 c1_i32_31 k1_t2
  let c20_i32_237 : BitVec 32 := 20#32
  let v227 : BitVec 32 := Scalar.muli arg14 c20_i32_237
  let v228 : Index := Scalar.indexCast v227
  let c0 : Index := 0#32
  ![v228.toNat, 0]
def k1_off28 (k1_t2 : Fin k1_t2_loop.trips) : Fin 2 → Nat :=
  let c0_i32_29 : BitVec 32 := 0#32
  let c1_i32_31 : BitVec 32 := 1#32
  let arg14 : BitVec 32 := Scf.iv c0_i32_29 c1_i32_31 k1_t2
  let c20_i32_238 : BitVec 32 := 20#32
  let v231 : BitVec 32 := Scalar.muli arg14 c20_i32_238
  let v232 : Index := Scalar.indexCast v231
  let c16 : Index := 16#32
  ![v232.toNat, 16]
def k1_off29 (k1_t2 : Fin k1_t2_loop.trips) : Fin 2 → Nat :=
  let c0_i32_29 : BitVec 32 := 0#32
  let c1_i32_31 : BitVec 32 := 1#32
  let arg14 : BitVec 32 := Scf.iv c0_i32_29 c1_i32_31 k1_t2
  let c20_i32_239 : BitVec 32 := 20#32
  let v235 : BitVec 32 := Scalar.muli arg14 c20_i32_239
  let v236 : Index := Scalar.indexCast v235
  let c32 : Index := 32#32
  ![v236.toNat, 32]
def k1_off30 (k1_t2 : Fin k1_t2_loop.trips) : Fin 2 → Nat :=
  let c0_i32_29 : BitVec 32 := 0#32
  let c1_i32_31 : BitVec 32 := 1#32
  let arg14 : BitVec 32 := Scf.iv c0_i32_29 c1_i32_31 k1_t2
  let c20_i32_240 : BitVec 32 := 20#32
  let v239 : BitVec 32 := Scalar.muli arg14 c20_i32_240
  let v240 : Index := Scalar.indexCast v239
  let c48 : Index := 48#32
  ![v240.toNat, 48]
def k1_off31 (k1_t2 : Fin k1_t2_loop.trips) : Fin 2 → Nat :=
  let c0_i32_29 : BitVec 32 := 0#32
  let c1_i32_31 : BitVec 32 := 1#32
  let arg14 : BitVec 32 := Scf.iv c0_i32_29 c1_i32_31 k1_t2
  let c20_i32_241 : BitVec 32 := 20#32
  let v243 : BitVec 32 := Scalar.muli arg14 c20_i32_241
  let v244 : Index := Scalar.indexCast v243
  let c64 : Index := 64#32
  ![v244.toNat, 64]
def k1_off32 (k1_t2 : Fin k1_t2_loop.trips) : Fin 2 → Nat :=
  let c0_i32_29 : BitVec 32 := 0#32
  let c1_i32_31 : BitVec 32 := 1#32
  let arg14 : BitVec 32 := Scf.iv c0_i32_29 c1_i32_31 k1_t2
  let c20_i32_242 : BitVec 32 := 20#32
  let v247 : BitVec 32 := Scalar.muli arg14 c20_i32_242
  let v248 : Index := Scalar.indexCast v247
  let c80 : Index := 80#32
  ![v248.toNat, 80]
def k1_off33 (k1_t2 : Fin k1_t2_loop.trips) : Fin 2 → Nat :=
  let c0_i32_29 : BitVec 32 := 0#32
  let c1_i32_31 : BitVec 32 := 1#32
  let arg14 : BitVec 32 := Scf.iv c0_i32_29 c1_i32_31 k1_t2
  let c20_i32_243 : BitVec 32 := 20#32
  let v251 : BitVec 32 := Scalar.muli arg14 c20_i32_243
  let v252 : Index := Scalar.indexCast v251
  let c96 : Index := 96#32
  ![v252.toNat, 96]
def k1_off34 (k1_t2 : Fin k1_t2_loop.trips) : Fin 2 → Nat :=
  let c0_i32_29 : BitVec 32 := 0#32
  let c1_i32_31 : BitVec 32 := 1#32
  let arg14 : BitVec 32 := Scf.iv c0_i32_29 c1_i32_31 k1_t2
  let c20_i32_244 : BitVec 32 := 20#32
  let v255 : BitVec 32 := Scalar.muli arg14 c20_i32_244
  let v256 : Index := Scalar.indexCast v255
  let c112 : Index := 112#32
  ![v256.toNat, 112]
def k1_off35 (k1_t2 : Fin k1_t2_loop.trips) (c1_i32_246 : BitVec 32) : Fin 2 → Nat :=
  let c0_i32_29 : BitVec 32 := 0#32
  let c1_i32_31 : BitVec 32 := 1#32
  let arg14 : BitVec 32 := Scf.iv c0_i32_29 c1_i32_31 k1_t2
  let c20_i32_245 : BitVec 32 := 20#32
  let v259 : BitVec 32 := Scalar.muli arg14 c20_i32_245
  let v260 : BitVec 32 := Scalar.addi v259 c1_i32_246
  let v261 : Index := Scalar.indexCast v260
  let c0_247 : Index := 0#32
  ![v261.toNat, 0]
def k1_off36 (k1_t2 : Fin k1_t2_loop.trips) (c1_i32_249 : BitVec 32) : Fin 2 → Nat :=
  let c0_i32_29 : BitVec 32 := 0#32
  let c1_i32_31 : BitVec 32 := 1#32
  let arg14 : BitVec 32 := Scf.iv c0_i32_29 c1_i32_31 k1_t2
  let c20_i32_248 : BitVec 32 := 20#32
  let v265 : BitVec 32 := Scalar.muli arg14 c20_i32_248
  let v266 : BitVec 32 := Scalar.addi v265 c1_i32_249
  let v267 : Index := Scalar.indexCast v266
  let c16_250 : Index := 16#32
  ![v267.toNat, 16]
def k1_off37 (k1_t2 : Fin k1_t2_loop.trips) (c1_i32_252 : BitVec 32) : Fin 2 → Nat :=
  let c0_i32_29 : BitVec 32 := 0#32
  let c1_i32_31 : BitVec 32 := 1#32
  let arg14 : BitVec 32 := Scf.iv c0_i32_29 c1_i32_31 k1_t2
  let c20_i32_251 : BitVec 32 := 20#32
  let v271 : BitVec 32 := Scalar.muli arg14 c20_i32_251
  let v272 : BitVec 32 := Scalar.addi v271 c1_i32_252
  let v273 : Index := Scalar.indexCast v272
  let c32_253 : Index := 32#32
  ![v273.toNat, 32]
def k1_off38 (k1_t2 : Fin k1_t2_loop.trips) (c1_i32_255 : BitVec 32) : Fin 2 → Nat :=
  let c0_i32_29 : BitVec 32 := 0#32
  let c1_i32_31 : BitVec 32 := 1#32
  let arg14 : BitVec 32 := Scf.iv c0_i32_29 c1_i32_31 k1_t2
  let c20_i32_254 : BitVec 32 := 20#32
  let v277 : BitVec 32 := Scalar.muli arg14 c20_i32_254
  let v278 : BitVec 32 := Scalar.addi v277 c1_i32_255
  let v279 : Index := Scalar.indexCast v278
  let c48_256 : Index := 48#32
  ![v279.toNat, 48]
def k1_off39 (k1_t2 : Fin k1_t2_loop.trips) (c1_i32_258 : BitVec 32) : Fin 2 → Nat :=
  let c0_i32_29 : BitVec 32 := 0#32
  let c1_i32_31 : BitVec 32 := 1#32
  let arg14 : BitVec 32 := Scf.iv c0_i32_29 c1_i32_31 k1_t2
  let c20_i32_257 : BitVec 32 := 20#32
  let v283 : BitVec 32 := Scalar.muli arg14 c20_i32_257
  let v284 : BitVec 32 := Scalar.addi v283 c1_i32_258
  let v285 : Index := Scalar.indexCast v284
  let c64_259 : Index := 64#32
  ![v285.toNat, 64]
def k1_off40 (k1_t2 : Fin k1_t2_loop.trips) (c1_i32_261 : BitVec 32) : Fin 2 → Nat :=
  let c0_i32_29 : BitVec 32 := 0#32
  let c1_i32_31 : BitVec 32 := 1#32
  let arg14 : BitVec 32 := Scf.iv c0_i32_29 c1_i32_31 k1_t2
  let c20_i32_260 : BitVec 32 := 20#32
  let v289 : BitVec 32 := Scalar.muli arg14 c20_i32_260
  let v290 : BitVec 32 := Scalar.addi v289 c1_i32_261
  let v291 : Index := Scalar.indexCast v290
  let c80_262 : Index := 80#32
  ![v291.toNat, 80]
def k1_off41 (k1_t2 : Fin k1_t2_loop.trips) (c1_i32_264 : BitVec 32) : Fin 2 → Nat :=
  let c0_i32_29 : BitVec 32 := 0#32
  let c1_i32_31 : BitVec 32 := 1#32
  let arg14 : BitVec 32 := Scf.iv c0_i32_29 c1_i32_31 k1_t2
  let c20_i32_263 : BitVec 32 := 20#32
  let v295 : BitVec 32 := Scalar.muli arg14 c20_i32_263
  let v296 : BitVec 32 := Scalar.addi v295 c1_i32_264
  let v297 : Index := Scalar.indexCast v296
  let c96_265 : Index := 96#32
  ![v297.toNat, 96]
def k1_off42 (k1_t2 : Fin k1_t2_loop.trips) (c1_i32_267 : BitVec 32) : Fin 2 → Nat :=
  let c0_i32_29 : BitVec 32 := 0#32
  let c1_i32_31 : BitVec 32 := 1#32
  let arg14 : BitVec 32 := Scf.iv c0_i32_29 c1_i32_31 k1_t2
  let c20_i32_266 : BitVec 32 := 20#32
  let v301 : BitVec 32 := Scalar.muli arg14 c20_i32_266
  let v302 : BitVec 32 := Scalar.addi v301 c1_i32_267
  let v303 : Index := Scalar.indexCast v302
  let c112_268 : Index := 112#32
  ![v303.toNat, 112]
def k1_off43 (k1_t2 : Fin k1_t2_loop.trips) : Fin 2 → Nat :=
  let c0_i32_29 : BitVec 32 := 0#32
  let c1_i32_31 : BitVec 32 := 1#32
  let arg14 : BitVec 32 := Scf.iv c0_i32_29 c1_i32_31 k1_t2
  let v1171 : Index := Scalar.indexCast arg14
  let c0_685 : Index := 0#32
  ![v1171.toNat, 0]
def k1_off44 (k1_t2 : Fin k1_t2_loop.trips) : Fin 2 → Nat :=
  let c0_i32_29 : BitVec 32 := 0#32
  let c1_i32_31 : BitVec 32 := 1#32
  let arg14 : BitVec 32 := Scf.iv c0_i32_29 c1_i32_31 k1_t2
  let v1175 : Index := Scalar.indexCast arg14
  let c16_686 : Index := 16#32
  ![v1175.toNat, 16]
def k1_off45 (k1_t2 : Fin k1_t2_loop.trips) : Fin 2 → Nat :=
  let c0_i32_29 : BitVec 32 := 0#32
  let c1_i32_31 : BitVec 32 := 1#32
  let arg14 : BitVec 32 := Scf.iv c0_i32_29 c1_i32_31 k1_t2
  let v1179 : Index := Scalar.indexCast arg14
  let c32_687 : Index := 32#32
  ![v1179.toNat, 32]
def k1_off46 (k1_t2 : Fin k1_t2_loop.trips) : Fin 2 → Nat :=
  let c0_i32_29 : BitVec 32 := 0#32
  let c1_i32_31 : BitVec 32 := 1#32
  let arg14 : BitVec 32 := Scf.iv c0_i32_29 c1_i32_31 k1_t2
  let v1183 : Index := Scalar.indexCast arg14
  let c48_688 : Index := 48#32
  ![v1183.toNat, 48]
def k1_off47 (k1_t2 : Fin k1_t2_loop.trips) : Fin 2 → Nat :=
  let c0_i32_29 : BitVec 32 := 0#32
  let c1_i32_31 : BitVec 32 := 1#32
  let arg14 : BitVec 32 := Scf.iv c0_i32_29 c1_i32_31 k1_t2
  let v1187 : Index := Scalar.indexCast arg14
  let c64_689 : Index := 64#32
  ![v1187.toNat, 64]
def k1_off48 (k1_t2 : Fin k1_t2_loop.trips) : Fin 2 → Nat :=
  let c0_i32_29 : BitVec 32 := 0#32
  let c1_i32_31 : BitVec 32 := 1#32
  let arg14 : BitVec 32 := Scf.iv c0_i32_29 c1_i32_31 k1_t2
  let v1191 : Index := Scalar.indexCast arg14
  let c80_690 : Index := 80#32
  ![v1191.toNat, 80]
def k1_off49 (k1_t2 : Fin k1_t2_loop.trips) : Fin 2 → Nat :=
  let c0_i32_29 : BitVec 32 := 0#32
  let c1_i32_31 : BitVec 32 := 1#32
  let arg14 : BitVec 32 := Scf.iv c0_i32_29 c1_i32_31 k1_t2
  let v1195 : Index := Scalar.indexCast arg14
  let c96_691 : Index := 96#32
  ![v1195.toNat, 96]
def k1_off50 (k1_t2 : Fin k1_t2_loop.trips) : Fin 2 → Nat :=
  let c0_i32_29 : BitVec 32 := 0#32
  let c1_i32_31 : BitVec 32 := 1#32
  let arg14 : BitVec 32 := Scf.iv c0_i32_29 c1_i32_31 k1_t2
  let v1199 : Index := Scalar.indexCast arg14
  let c112_692 : Index := 112#32
  ![v1199.toNat, 112]
@[reducible] def k1_t3_loop : Scf.Loop 32 :=
  let c0_i32_44 : BitVec 32 := 0#32
  let c16_i32_45 : BitVec 32 := 16#32
  let v54 : BitVec 32 := Scalar.addi c0_i32_44 c16_i32_45
  let c1_i32_46 : BitVec 32 := 1#32
  ⟨c0_i32_44, v54, c1_i32_46⟩
def k1_off51 (k1_t3 : Fin k1_t3_loop.trips) : Fin 2 → Nat :=
  let c0_i32_44 : BitVec 32 := 0#32
  let c1_i32_46 : BitVec 32 := 1#32
  let arg14 : BitVec 32 := Scf.iv c0_i32_44 c1_i32_46 k1_t3
  let c20_i32_237 : BitVec 32 := 20#32
  let v227 : BitVec 32 := Scalar.muli arg14 c20_i32_237
  let v228 : Index := Scalar.indexCast v227
  let c0 : Index := 0#32
  ![v228.toNat, 0]
def k1_off52 (k1_t3 : Fin k1_t3_loop.trips) : Fin 2 → Nat :=
  let c0_i32_44 : BitVec 32 := 0#32
  let c1_i32_46 : BitVec 32 := 1#32
  let arg14 : BitVec 32 := Scf.iv c0_i32_44 c1_i32_46 k1_t3
  let c20_i32_238 : BitVec 32 := 20#32
  let v231 : BitVec 32 := Scalar.muli arg14 c20_i32_238
  let v232 : Index := Scalar.indexCast v231
  let c16 : Index := 16#32
  ![v232.toNat, 16]
def k1_off53 (k1_t3 : Fin k1_t3_loop.trips) : Fin 2 → Nat :=
  let c0_i32_44 : BitVec 32 := 0#32
  let c1_i32_46 : BitVec 32 := 1#32
  let arg14 : BitVec 32 := Scf.iv c0_i32_44 c1_i32_46 k1_t3
  let c20_i32_239 : BitVec 32 := 20#32
  let v235 : BitVec 32 := Scalar.muli arg14 c20_i32_239
  let v236 : Index := Scalar.indexCast v235
  let c32 : Index := 32#32
  ![v236.toNat, 32]
def k1_off54 (k1_t3 : Fin k1_t3_loop.trips) : Fin 2 → Nat :=
  let c0_i32_44 : BitVec 32 := 0#32
  let c1_i32_46 : BitVec 32 := 1#32
  let arg14 : BitVec 32 := Scf.iv c0_i32_44 c1_i32_46 k1_t3
  let c20_i32_240 : BitVec 32 := 20#32
  let v239 : BitVec 32 := Scalar.muli arg14 c20_i32_240
  let v240 : Index := Scalar.indexCast v239
  let c48 : Index := 48#32
  ![v240.toNat, 48]
def k1_off55 (k1_t3 : Fin k1_t3_loop.trips) : Fin 2 → Nat :=
  let c0_i32_44 : BitVec 32 := 0#32
  let c1_i32_46 : BitVec 32 := 1#32
  let arg14 : BitVec 32 := Scf.iv c0_i32_44 c1_i32_46 k1_t3
  let c20_i32_241 : BitVec 32 := 20#32
  let v243 : BitVec 32 := Scalar.muli arg14 c20_i32_241
  let v244 : Index := Scalar.indexCast v243
  let c64 : Index := 64#32
  ![v244.toNat, 64]
def k1_off56 (k1_t3 : Fin k1_t3_loop.trips) : Fin 2 → Nat :=
  let c0_i32_44 : BitVec 32 := 0#32
  let c1_i32_46 : BitVec 32 := 1#32
  let arg14 : BitVec 32 := Scf.iv c0_i32_44 c1_i32_46 k1_t3
  let c20_i32_242 : BitVec 32 := 20#32
  let v247 : BitVec 32 := Scalar.muli arg14 c20_i32_242
  let v248 : Index := Scalar.indexCast v247
  let c80 : Index := 80#32
  ![v248.toNat, 80]
def k1_off57 (k1_t3 : Fin k1_t3_loop.trips) : Fin 2 → Nat :=
  let c0_i32_44 : BitVec 32 := 0#32
  let c1_i32_46 : BitVec 32 := 1#32
  let arg14 : BitVec 32 := Scf.iv c0_i32_44 c1_i32_46 k1_t3
  let c20_i32_243 : BitVec 32 := 20#32
  let v251 : BitVec 32 := Scalar.muli arg14 c20_i32_243
  let v252 : Index := Scalar.indexCast v251
  let c96 : Index := 96#32
  ![v252.toNat, 96]
def k1_off58 (k1_t3 : Fin k1_t3_loop.trips) : Fin 2 → Nat :=
  let c0_i32_44 : BitVec 32 := 0#32
  let c1_i32_46 : BitVec 32 := 1#32
  let arg14 : BitVec 32 := Scf.iv c0_i32_44 c1_i32_46 k1_t3
  let c20_i32_244 : BitVec 32 := 20#32
  let v255 : BitVec 32 := Scalar.muli arg14 c20_i32_244
  let v256 : Index := Scalar.indexCast v255
  let c112 : Index := 112#32
  ![v256.toNat, 112]
def k1_off59 (k1_t3 : Fin k1_t3_loop.trips) (c1_i32_246 : BitVec 32) : Fin 2 → Nat :=
  let c0_i32_44 : BitVec 32 := 0#32
  let c1_i32_46 : BitVec 32 := 1#32
  let arg14 : BitVec 32 := Scf.iv c0_i32_44 c1_i32_46 k1_t3
  let c20_i32_245 : BitVec 32 := 20#32
  let v259 : BitVec 32 := Scalar.muli arg14 c20_i32_245
  let v260 : BitVec 32 := Scalar.addi v259 c1_i32_246
  let v261 : Index := Scalar.indexCast v260
  let c0_247 : Index := 0#32
  ![v261.toNat, 0]
def k1_off60 (k1_t3 : Fin k1_t3_loop.trips) (c1_i32_249 : BitVec 32) : Fin 2 → Nat :=
  let c0_i32_44 : BitVec 32 := 0#32
  let c1_i32_46 : BitVec 32 := 1#32
  let arg14 : BitVec 32 := Scf.iv c0_i32_44 c1_i32_46 k1_t3
  let c20_i32_248 : BitVec 32 := 20#32
  let v265 : BitVec 32 := Scalar.muli arg14 c20_i32_248
  let v266 : BitVec 32 := Scalar.addi v265 c1_i32_249
  let v267 : Index := Scalar.indexCast v266
  let c16_250 : Index := 16#32
  ![v267.toNat, 16]
def k1_off61 (k1_t3 : Fin k1_t3_loop.trips) (c1_i32_252 : BitVec 32) : Fin 2 → Nat :=
  let c0_i32_44 : BitVec 32 := 0#32
  let c1_i32_46 : BitVec 32 := 1#32
  let arg14 : BitVec 32 := Scf.iv c0_i32_44 c1_i32_46 k1_t3
  let c20_i32_251 : BitVec 32 := 20#32
  let v271 : BitVec 32 := Scalar.muli arg14 c20_i32_251
  let v272 : BitVec 32 := Scalar.addi v271 c1_i32_252
  let v273 : Index := Scalar.indexCast v272
  let c32_253 : Index := 32#32
  ![v273.toNat, 32]
def k1_off62 (k1_t3 : Fin k1_t3_loop.trips) (c1_i32_255 : BitVec 32) : Fin 2 → Nat :=
  let c0_i32_44 : BitVec 32 := 0#32
  let c1_i32_46 : BitVec 32 := 1#32
  let arg14 : BitVec 32 := Scf.iv c0_i32_44 c1_i32_46 k1_t3
  let c20_i32_254 : BitVec 32 := 20#32
  let v277 : BitVec 32 := Scalar.muli arg14 c20_i32_254
  let v278 : BitVec 32 := Scalar.addi v277 c1_i32_255
  let v279 : Index := Scalar.indexCast v278
  let c48_256 : Index := 48#32
  ![v279.toNat, 48]
def k1_off63 (k1_t3 : Fin k1_t3_loop.trips) (c1_i32_258 : BitVec 32) : Fin 2 → Nat :=
  let c0_i32_44 : BitVec 32 := 0#32
  let c1_i32_46 : BitVec 32 := 1#32
  let arg14 : BitVec 32 := Scf.iv c0_i32_44 c1_i32_46 k1_t3
  let c20_i32_257 : BitVec 32 := 20#32
  let v283 : BitVec 32 := Scalar.muli arg14 c20_i32_257
  let v284 : BitVec 32 := Scalar.addi v283 c1_i32_258
  let v285 : Index := Scalar.indexCast v284
  let c64_259 : Index := 64#32
  ![v285.toNat, 64]
def k1_off64 (k1_t3 : Fin k1_t3_loop.trips) (c1_i32_261 : BitVec 32) : Fin 2 → Nat :=
  let c0_i32_44 : BitVec 32 := 0#32
  let c1_i32_46 : BitVec 32 := 1#32
  let arg14 : BitVec 32 := Scf.iv c0_i32_44 c1_i32_46 k1_t3
  let c20_i32_260 : BitVec 32 := 20#32
  let v289 : BitVec 32 := Scalar.muli arg14 c20_i32_260
  let v290 : BitVec 32 := Scalar.addi v289 c1_i32_261
  let v291 : Index := Scalar.indexCast v290
  let c80_262 : Index := 80#32
  ![v291.toNat, 80]
def k1_off65 (k1_t3 : Fin k1_t3_loop.trips) (c1_i32_264 : BitVec 32) : Fin 2 → Nat :=
  let c0_i32_44 : BitVec 32 := 0#32
  let c1_i32_46 : BitVec 32 := 1#32
  let arg14 : BitVec 32 := Scf.iv c0_i32_44 c1_i32_46 k1_t3
  let c20_i32_263 : BitVec 32 := 20#32
  let v295 : BitVec 32 := Scalar.muli arg14 c20_i32_263
  let v296 : BitVec 32 := Scalar.addi v295 c1_i32_264
  let v297 : Index := Scalar.indexCast v296
  let c96_265 : Index := 96#32
  ![v297.toNat, 96]
def k1_off66 (k1_t3 : Fin k1_t3_loop.trips) (c1_i32_267 : BitVec 32) : Fin 2 → Nat :=
  let c0_i32_44 : BitVec 32 := 0#32
  let c1_i32_46 : BitVec 32 := 1#32
  let arg14 : BitVec 32 := Scf.iv c0_i32_44 c1_i32_46 k1_t3
  let c20_i32_266 : BitVec 32 := 20#32
  let v301 : BitVec 32 := Scalar.muli arg14 c20_i32_266
  let v302 : BitVec 32 := Scalar.addi v301 c1_i32_267
  let v303 : Index := Scalar.indexCast v302
  let c112_268 : Index := 112#32
  ![v303.toNat, 112]
def k1_off67 (k1_t3 : Fin k1_t3_loop.trips) : Fin 2 → Nat :=
  let c0_i32_44 : BitVec 32 := 0#32
  let c1_i32_46 : BitVec 32 := 1#32
  let arg14 : BitVec 32 := Scf.iv c0_i32_44 c1_i32_46 k1_t3
  let v1171 : Index := Scalar.indexCast arg14
  let c0_685 : Index := 0#32
  ![v1171.toNat, 0]
def k1_off68 (k1_t3 : Fin k1_t3_loop.trips) : Fin 2 → Nat :=
  let c0_i32_44 : BitVec 32 := 0#32
  let c1_i32_46 : BitVec 32 := 1#32
  let arg14 : BitVec 32 := Scf.iv c0_i32_44 c1_i32_46 k1_t3
  let v1175 : Index := Scalar.indexCast arg14
  let c16_686 : Index := 16#32
  ![v1175.toNat, 16]
def k1_off69 (k1_t3 : Fin k1_t3_loop.trips) : Fin 2 → Nat :=
  let c0_i32_44 : BitVec 32 := 0#32
  let c1_i32_46 : BitVec 32 := 1#32
  let arg14 : BitVec 32 := Scf.iv c0_i32_44 c1_i32_46 k1_t3
  let v1179 : Index := Scalar.indexCast arg14
  let c32_687 : Index := 32#32
  ![v1179.toNat, 32]
def k1_off70 (k1_t3 : Fin k1_t3_loop.trips) : Fin 2 → Nat :=
  let c0_i32_44 : BitVec 32 := 0#32
  let c1_i32_46 : BitVec 32 := 1#32
  let arg14 : BitVec 32 := Scf.iv c0_i32_44 c1_i32_46 k1_t3
  let v1183 : Index := Scalar.indexCast arg14
  let c48_688 : Index := 48#32
  ![v1183.toNat, 48]
def k1_off71 (k1_t3 : Fin k1_t3_loop.trips) : Fin 2 → Nat :=
  let c0_i32_44 : BitVec 32 := 0#32
  let c1_i32_46 : BitVec 32 := 1#32
  let arg14 : BitVec 32 := Scf.iv c0_i32_44 c1_i32_46 k1_t3
  let v1187 : Index := Scalar.indexCast arg14
  let c64_689 : Index := 64#32
  ![v1187.toNat, 64]
def k1_off72 (k1_t3 : Fin k1_t3_loop.trips) : Fin 2 → Nat :=
  let c0_i32_44 : BitVec 32 := 0#32
  let c1_i32_46 : BitVec 32 := 1#32
  let arg14 : BitVec 32 := Scf.iv c0_i32_44 c1_i32_46 k1_t3
  let v1191 : Index := Scalar.indexCast arg14
  let c80_690 : Index := 80#32
  ![v1191.toNat, 80]
def k1_off73 (k1_t3 : Fin k1_t3_loop.trips) : Fin 2 → Nat :=
  let c0_i32_44 : BitVec 32 := 0#32
  let c1_i32_46 : BitVec 32 := 1#32
  let arg14 : BitVec 32 := Scf.iv c0_i32_44 c1_i32_46 k1_t3
  let v1195 : Index := Scalar.indexCast arg14
  let c96_691 : Index := 96#32
  ![v1195.toNat, 96]
def k1_off74 (k1_t3 : Fin k1_t3_loop.trips) : Fin 2 → Nat :=
  let c0_i32_44 : BitVec 32 := 0#32
  let c1_i32_46 : BitVec 32 := 1#32
  let arg14 : BitVec 32 := Scf.iv c0_i32_44 c1_i32_46 k1_t3
  let v1199 : Index := Scalar.indexCast arg14
  let c112_692 : Index := 112#32
  ![v1199.toNat, 112]
@[reducible] def k1_t4_loop : Scf.Loop 32 :=
  let c0_i32_59 : BitVec 32 := 0#32
  let c16_i32_60 : BitVec 32 := 16#32
  let v68 : BitVec 32 := Scalar.addi c0_i32_59 c16_i32_60
  let c1_i32_61 : BitVec 32 := 1#32
  ⟨c0_i32_59, v68, c1_i32_61⟩
def k1_off75 (k1_t4 : Fin k1_t4_loop.trips) : Fin 2 → Nat :=
  let c0_i32_59 : BitVec 32 := 0#32
  let c1_i32_61 : BitVec 32 := 1#32
  let arg14 : BitVec 32 := Scf.iv c0_i32_59 c1_i32_61 k1_t4
  let c20_i32_237 : BitVec 32 := 20#32
  let v227 : BitVec 32 := Scalar.muli arg14 c20_i32_237
  let v228 : Index := Scalar.indexCast v227
  let c0 : Index := 0#32
  ![v228.toNat, 0]
def k1_off76 (k1_t4 : Fin k1_t4_loop.trips) : Fin 2 → Nat :=
  let c0_i32_59 : BitVec 32 := 0#32
  let c1_i32_61 : BitVec 32 := 1#32
  let arg14 : BitVec 32 := Scf.iv c0_i32_59 c1_i32_61 k1_t4
  let c20_i32_238 : BitVec 32 := 20#32
  let v231 : BitVec 32 := Scalar.muli arg14 c20_i32_238
  let v232 : Index := Scalar.indexCast v231
  let c16 : Index := 16#32
  ![v232.toNat, 16]
def k1_off77 (k1_t4 : Fin k1_t4_loop.trips) : Fin 2 → Nat :=
  let c0_i32_59 : BitVec 32 := 0#32
  let c1_i32_61 : BitVec 32 := 1#32
  let arg14 : BitVec 32 := Scf.iv c0_i32_59 c1_i32_61 k1_t4
  let c20_i32_239 : BitVec 32 := 20#32
  let v235 : BitVec 32 := Scalar.muli arg14 c20_i32_239
  let v236 : Index := Scalar.indexCast v235
  let c32 : Index := 32#32
  ![v236.toNat, 32]
def k1_off78 (k1_t4 : Fin k1_t4_loop.trips) : Fin 2 → Nat :=
  let c0_i32_59 : BitVec 32 := 0#32
  let c1_i32_61 : BitVec 32 := 1#32
  let arg14 : BitVec 32 := Scf.iv c0_i32_59 c1_i32_61 k1_t4
  let c20_i32_240 : BitVec 32 := 20#32
  let v239 : BitVec 32 := Scalar.muli arg14 c20_i32_240
  let v240 : Index := Scalar.indexCast v239
  let c48 : Index := 48#32
  ![v240.toNat, 48]
def k1_off79 (k1_t4 : Fin k1_t4_loop.trips) : Fin 2 → Nat :=
  let c0_i32_59 : BitVec 32 := 0#32
  let c1_i32_61 : BitVec 32 := 1#32
  let arg14 : BitVec 32 := Scf.iv c0_i32_59 c1_i32_61 k1_t4
  let c20_i32_241 : BitVec 32 := 20#32
  let v243 : BitVec 32 := Scalar.muli arg14 c20_i32_241
  let v244 : Index := Scalar.indexCast v243
  let c64 : Index := 64#32
  ![v244.toNat, 64]
def k1_off80 (k1_t4 : Fin k1_t4_loop.trips) : Fin 2 → Nat :=
  let c0_i32_59 : BitVec 32 := 0#32
  let c1_i32_61 : BitVec 32 := 1#32
  let arg14 : BitVec 32 := Scf.iv c0_i32_59 c1_i32_61 k1_t4
  let c20_i32_242 : BitVec 32 := 20#32
  let v247 : BitVec 32 := Scalar.muli arg14 c20_i32_242
  let v248 : Index := Scalar.indexCast v247
  let c80 : Index := 80#32
  ![v248.toNat, 80]
def k1_off81 (k1_t4 : Fin k1_t4_loop.trips) : Fin 2 → Nat :=
  let c0_i32_59 : BitVec 32 := 0#32
  let c1_i32_61 : BitVec 32 := 1#32
  let arg14 : BitVec 32 := Scf.iv c0_i32_59 c1_i32_61 k1_t4
  let c20_i32_243 : BitVec 32 := 20#32
  let v251 : BitVec 32 := Scalar.muli arg14 c20_i32_243
  let v252 : Index := Scalar.indexCast v251
  let c96 : Index := 96#32
  ![v252.toNat, 96]
def k1_off82 (k1_t4 : Fin k1_t4_loop.trips) : Fin 2 → Nat :=
  let c0_i32_59 : BitVec 32 := 0#32
  let c1_i32_61 : BitVec 32 := 1#32
  let arg14 : BitVec 32 := Scf.iv c0_i32_59 c1_i32_61 k1_t4
  let c20_i32_244 : BitVec 32 := 20#32
  let v255 : BitVec 32 := Scalar.muli arg14 c20_i32_244
  let v256 : Index := Scalar.indexCast v255
  let c112 : Index := 112#32
  ![v256.toNat, 112]
def k1_off83 (k1_t4 : Fin k1_t4_loop.trips) (c1_i32_246 : BitVec 32) : Fin 2 → Nat :=
  let c0_i32_59 : BitVec 32 := 0#32
  let c1_i32_61 : BitVec 32 := 1#32
  let arg14 : BitVec 32 := Scf.iv c0_i32_59 c1_i32_61 k1_t4
  let c20_i32_245 : BitVec 32 := 20#32
  let v259 : BitVec 32 := Scalar.muli arg14 c20_i32_245
  let v260 : BitVec 32 := Scalar.addi v259 c1_i32_246
  let v261 : Index := Scalar.indexCast v260
  let c0_247 : Index := 0#32
  ![v261.toNat, 0]
def k1_off84 (k1_t4 : Fin k1_t4_loop.trips) (c1_i32_249 : BitVec 32) : Fin 2 → Nat :=
  let c0_i32_59 : BitVec 32 := 0#32
  let c1_i32_61 : BitVec 32 := 1#32
  let arg14 : BitVec 32 := Scf.iv c0_i32_59 c1_i32_61 k1_t4
  let c20_i32_248 : BitVec 32 := 20#32
  let v265 : BitVec 32 := Scalar.muli arg14 c20_i32_248
  let v266 : BitVec 32 := Scalar.addi v265 c1_i32_249
  let v267 : Index := Scalar.indexCast v266
  let c16_250 : Index := 16#32
  ![v267.toNat, 16]
def k1_off85 (k1_t4 : Fin k1_t4_loop.trips) (c1_i32_252 : BitVec 32) : Fin 2 → Nat :=
  let c0_i32_59 : BitVec 32 := 0#32
  let c1_i32_61 : BitVec 32 := 1#32
  let arg14 : BitVec 32 := Scf.iv c0_i32_59 c1_i32_61 k1_t4
  let c20_i32_251 : BitVec 32 := 20#32
  let v271 : BitVec 32 := Scalar.muli arg14 c20_i32_251
  let v272 : BitVec 32 := Scalar.addi v271 c1_i32_252
  let v273 : Index := Scalar.indexCast v272
  let c32_253 : Index := 32#32
  ![v273.toNat, 32]
def k1_off86 (k1_t4 : Fin k1_t4_loop.trips) (c1_i32_255 : BitVec 32) : Fin 2 → Nat :=
  let c0_i32_59 : BitVec 32 := 0#32
  let c1_i32_61 : BitVec 32 := 1#32
  let arg14 : BitVec 32 := Scf.iv c0_i32_59 c1_i32_61 k1_t4
  let c20_i32_254 : BitVec 32 := 20#32
  let v277 : BitVec 32 := Scalar.muli arg14 c20_i32_254
  let v278 : BitVec 32 := Scalar.addi v277 c1_i32_255
  let v279 : Index := Scalar.indexCast v278
  let c48_256 : Index := 48#32
  ![v279.toNat, 48]
def k1_off87 (k1_t4 : Fin k1_t4_loop.trips) (c1_i32_258 : BitVec 32) : Fin 2 → Nat :=
  let c0_i32_59 : BitVec 32 := 0#32
  let c1_i32_61 : BitVec 32 := 1#32
  let arg14 : BitVec 32 := Scf.iv c0_i32_59 c1_i32_61 k1_t4
  let c20_i32_257 : BitVec 32 := 20#32
  let v283 : BitVec 32 := Scalar.muli arg14 c20_i32_257
  let v284 : BitVec 32 := Scalar.addi v283 c1_i32_258
  let v285 : Index := Scalar.indexCast v284
  let c64_259 : Index := 64#32
  ![v285.toNat, 64]
def k1_off88 (k1_t4 : Fin k1_t4_loop.trips) (c1_i32_261 : BitVec 32) : Fin 2 → Nat :=
  let c0_i32_59 : BitVec 32 := 0#32
  let c1_i32_61 : BitVec 32 := 1#32
  let arg14 : BitVec 32 := Scf.iv c0_i32_59 c1_i32_61 k1_t4
  let c20_i32_260 : BitVec 32 := 20#32
  let v289 : BitVec 32 := Scalar.muli arg14 c20_i32_260
  let v290 : BitVec 32 := Scalar.addi v289 c1_i32_261
  let v291 : Index := Scalar.indexCast v290
  let c80_262 : Index := 80#32
  ![v291.toNat, 80]
def k1_off89 (k1_t4 : Fin k1_t4_loop.trips) (c1_i32_264 : BitVec 32) : Fin 2 → Nat :=
  let c0_i32_59 : BitVec 32 := 0#32
  let c1_i32_61 : BitVec 32 := 1#32
  let arg14 : BitVec 32 := Scf.iv c0_i32_59 c1_i32_61 k1_t4
  let c20_i32_263 : BitVec 32 := 20#32
  let v295 : BitVec 32 := Scalar.muli arg14 c20_i32_263
  let v296 : BitVec 32 := Scalar.addi v295 c1_i32_264
  let v297 : Index := Scalar.indexCast v296
  let c96_265 : Index := 96#32
  ![v297.toNat, 96]
def k1_off90 (k1_t4 : Fin k1_t4_loop.trips) (c1_i32_267 : BitVec 32) : Fin 2 → Nat :=
  let c0_i32_59 : BitVec 32 := 0#32
  let c1_i32_61 : BitVec 32 := 1#32
  let arg14 : BitVec 32 := Scf.iv c0_i32_59 c1_i32_61 k1_t4
  let c20_i32_266 : BitVec 32 := 20#32
  let v301 : BitVec 32 := Scalar.muli arg14 c20_i32_266
  let v302 : BitVec 32 := Scalar.addi v301 c1_i32_267
  let v303 : Index := Scalar.indexCast v302
  let c112_268 : Index := 112#32
  ![v303.toNat, 112]
def k1_off91 (k1_t4 : Fin k1_t4_loop.trips) : Fin 2 → Nat :=
  let c0_i32_59 : BitVec 32 := 0#32
  let c1_i32_61 : BitVec 32 := 1#32
  let arg14 : BitVec 32 := Scf.iv c0_i32_59 c1_i32_61 k1_t4
  let v1171 : Index := Scalar.indexCast arg14
  let c0_685 : Index := 0#32
  ![v1171.toNat, 0]
def k1_off92 (k1_t4 : Fin k1_t4_loop.trips) : Fin 2 → Nat :=
  let c0_i32_59 : BitVec 32 := 0#32
  let c1_i32_61 : BitVec 32 := 1#32
  let arg14 : BitVec 32 := Scf.iv c0_i32_59 c1_i32_61 k1_t4
  let v1175 : Index := Scalar.indexCast arg14
  let c16_686 : Index := 16#32
  ![v1175.toNat, 16]
def k1_off93 (k1_t4 : Fin k1_t4_loop.trips) : Fin 2 → Nat :=
  let c0_i32_59 : BitVec 32 := 0#32
  let c1_i32_61 : BitVec 32 := 1#32
  let arg14 : BitVec 32 := Scf.iv c0_i32_59 c1_i32_61 k1_t4
  let v1179 : Index := Scalar.indexCast arg14
  let c32_687 : Index := 32#32
  ![v1179.toNat, 32]
def k1_off94 (k1_t4 : Fin k1_t4_loop.trips) : Fin 2 → Nat :=
  let c0_i32_59 : BitVec 32 := 0#32
  let c1_i32_61 : BitVec 32 := 1#32
  let arg14 : BitVec 32 := Scf.iv c0_i32_59 c1_i32_61 k1_t4
  let v1183 : Index := Scalar.indexCast arg14
  let c48_688 : Index := 48#32
  ![v1183.toNat, 48]
def k1_off95 (k1_t4 : Fin k1_t4_loop.trips) : Fin 2 → Nat :=
  let c0_i32_59 : BitVec 32 := 0#32
  let c1_i32_61 : BitVec 32 := 1#32
  let arg14 : BitVec 32 := Scf.iv c0_i32_59 c1_i32_61 k1_t4
  let v1187 : Index := Scalar.indexCast arg14
  let c64_689 : Index := 64#32
  ![v1187.toNat, 64]
def k1_off96 (k1_t4 : Fin k1_t4_loop.trips) : Fin 2 → Nat :=
  let c0_i32_59 : BitVec 32 := 0#32
  let c1_i32_61 : BitVec 32 := 1#32
  let arg14 : BitVec 32 := Scf.iv c0_i32_59 c1_i32_61 k1_t4
  let v1191 : Index := Scalar.indexCast arg14
  let c80_690 : Index := 80#32
  ![v1191.toNat, 80]
def k1_off97 (k1_t4 : Fin k1_t4_loop.trips) : Fin 2 → Nat :=
  let c0_i32_59 : BitVec 32 := 0#32
  let c1_i32_61 : BitVec 32 := 1#32
  let arg14 : BitVec 32 := Scf.iv c0_i32_59 c1_i32_61 k1_t4
  let v1195 : Index := Scalar.indexCast arg14
  let c96_691 : Index := 96#32
  ![v1195.toNat, 96]
def k1_off98 (k1_t4 : Fin k1_t4_loop.trips) : Fin 2 → Nat :=
  let c0_i32_59 : BitVec 32 := 0#32
  let c1_i32_61 : BitVec 32 := 1#32
  let arg14 : BitVec 32 := Scf.iv c0_i32_59 c1_i32_61 k1_t4
  let v1199 : Index := Scalar.indexCast arg14
  let c112_692 : Index := 112#32
  ![v1199.toNat, 112]
@[reducible] def k1_t5_loop : Scf.Loop 32 :=
  let c0_i32_74 : BitVec 32 := 0#32
  let c16_i32_75 : BitVec 32 := 16#32
  let v82 : BitVec 32 := Scalar.addi c0_i32_74 c16_i32_75
  let c1_i32_76 : BitVec 32 := 1#32
  ⟨c0_i32_74, v82, c1_i32_76⟩
def k1_off99 (k1_t5 : Fin k1_t5_loop.trips) : Fin 2 → Nat :=
  let c0_i32_74 : BitVec 32 := 0#32
  let c1_i32_76 : BitVec 32 := 1#32
  let arg14 : BitVec 32 := Scf.iv c0_i32_74 c1_i32_76 k1_t5
  let c20_i32_237 : BitVec 32 := 20#32
  let v227 : BitVec 32 := Scalar.muli arg14 c20_i32_237
  let v228 : Index := Scalar.indexCast v227
  let c0 : Index := 0#32
  ![v228.toNat, 0]
def k1_off100 (k1_t5 : Fin k1_t5_loop.trips) : Fin 2 → Nat :=
  let c0_i32_74 : BitVec 32 := 0#32
  let c1_i32_76 : BitVec 32 := 1#32
  let arg14 : BitVec 32 := Scf.iv c0_i32_74 c1_i32_76 k1_t5
  let c20_i32_238 : BitVec 32 := 20#32
  let v231 : BitVec 32 := Scalar.muli arg14 c20_i32_238
  let v232 : Index := Scalar.indexCast v231
  let c16 : Index := 16#32
  ![v232.toNat, 16]
def k1_off101 (k1_t5 : Fin k1_t5_loop.trips) : Fin 2 → Nat :=
  let c0_i32_74 : BitVec 32 := 0#32
  let c1_i32_76 : BitVec 32 := 1#32
  let arg14 : BitVec 32 := Scf.iv c0_i32_74 c1_i32_76 k1_t5
  let c20_i32_239 : BitVec 32 := 20#32
  let v235 : BitVec 32 := Scalar.muli arg14 c20_i32_239
  let v236 : Index := Scalar.indexCast v235
  let c32 : Index := 32#32
  ![v236.toNat, 32]
def k1_off102 (k1_t5 : Fin k1_t5_loop.trips) : Fin 2 → Nat :=
  let c0_i32_74 : BitVec 32 := 0#32
  let c1_i32_76 : BitVec 32 := 1#32
  let arg14 : BitVec 32 := Scf.iv c0_i32_74 c1_i32_76 k1_t5
  let c20_i32_240 : BitVec 32 := 20#32
  let v239 : BitVec 32 := Scalar.muli arg14 c20_i32_240
  let v240 : Index := Scalar.indexCast v239
  let c48 : Index := 48#32
  ![v240.toNat, 48]
def k1_off103 (k1_t5 : Fin k1_t5_loop.trips) : Fin 2 → Nat :=
  let c0_i32_74 : BitVec 32 := 0#32
  let c1_i32_76 : BitVec 32 := 1#32
  let arg14 : BitVec 32 := Scf.iv c0_i32_74 c1_i32_76 k1_t5
  let c20_i32_241 : BitVec 32 := 20#32
  let v243 : BitVec 32 := Scalar.muli arg14 c20_i32_241
  let v244 : Index := Scalar.indexCast v243
  let c64 : Index := 64#32
  ![v244.toNat, 64]
def k1_off104 (k1_t5 : Fin k1_t5_loop.trips) : Fin 2 → Nat :=
  let c0_i32_74 : BitVec 32 := 0#32
  let c1_i32_76 : BitVec 32 := 1#32
  let arg14 : BitVec 32 := Scf.iv c0_i32_74 c1_i32_76 k1_t5
  let c20_i32_242 : BitVec 32 := 20#32
  let v247 : BitVec 32 := Scalar.muli arg14 c20_i32_242
  let v248 : Index := Scalar.indexCast v247
  let c80 : Index := 80#32
  ![v248.toNat, 80]
def k1_off105 (k1_t5 : Fin k1_t5_loop.trips) : Fin 2 → Nat :=
  let c0_i32_74 : BitVec 32 := 0#32
  let c1_i32_76 : BitVec 32 := 1#32
  let arg14 : BitVec 32 := Scf.iv c0_i32_74 c1_i32_76 k1_t5
  let c20_i32_243 : BitVec 32 := 20#32
  let v251 : BitVec 32 := Scalar.muli arg14 c20_i32_243
  let v252 : Index := Scalar.indexCast v251
  let c96 : Index := 96#32
  ![v252.toNat, 96]
def k1_off106 (k1_t5 : Fin k1_t5_loop.trips) : Fin 2 → Nat :=
  let c0_i32_74 : BitVec 32 := 0#32
  let c1_i32_76 : BitVec 32 := 1#32
  let arg14 : BitVec 32 := Scf.iv c0_i32_74 c1_i32_76 k1_t5
  let c20_i32_244 : BitVec 32 := 20#32
  let v255 : BitVec 32 := Scalar.muli arg14 c20_i32_244
  let v256 : Index := Scalar.indexCast v255
  let c112 : Index := 112#32
  ![v256.toNat, 112]
def k1_off107 (k1_t5 : Fin k1_t5_loop.trips) (c1_i32_246 : BitVec 32) : Fin 2 → Nat :=
  let c0_i32_74 : BitVec 32 := 0#32
  let c1_i32_76 : BitVec 32 := 1#32
  let arg14 : BitVec 32 := Scf.iv c0_i32_74 c1_i32_76 k1_t5
  let c20_i32_245 : BitVec 32 := 20#32
  let v259 : BitVec 32 := Scalar.muli arg14 c20_i32_245
  let v260 : BitVec 32 := Scalar.addi v259 c1_i32_246
  let v261 : Index := Scalar.indexCast v260
  let c0_247 : Index := 0#32
  ![v261.toNat, 0]
def k1_off108 (k1_t5 : Fin k1_t5_loop.trips) (c1_i32_249 : BitVec 32) : Fin 2 → Nat :=
  let c0_i32_74 : BitVec 32 := 0#32
  let c1_i32_76 : BitVec 32 := 1#32
  let arg14 : BitVec 32 := Scf.iv c0_i32_74 c1_i32_76 k1_t5
  let c20_i32_248 : BitVec 32 := 20#32
  let v265 : BitVec 32 := Scalar.muli arg14 c20_i32_248
  let v266 : BitVec 32 := Scalar.addi v265 c1_i32_249
  let v267 : Index := Scalar.indexCast v266
  let c16_250 : Index := 16#32
  ![v267.toNat, 16]
def k1_off109 (k1_t5 : Fin k1_t5_loop.trips) (c1_i32_252 : BitVec 32) : Fin 2 → Nat :=
  let c0_i32_74 : BitVec 32 := 0#32
  let c1_i32_76 : BitVec 32 := 1#32
  let arg14 : BitVec 32 := Scf.iv c0_i32_74 c1_i32_76 k1_t5
  let c20_i32_251 : BitVec 32 := 20#32
  let v271 : BitVec 32 := Scalar.muli arg14 c20_i32_251
  let v272 : BitVec 32 := Scalar.addi v271 c1_i32_252
  let v273 : Index := Scalar.indexCast v272
  let c32_253 : Index := 32#32
  ![v273.toNat, 32]
def k1_off110 (k1_t5 : Fin k1_t5_loop.trips) (c1_i32_255 : BitVec 32) : Fin 2 → Nat :=
  let c0_i32_74 : BitVec 32 := 0#32
  let c1_i32_76 : BitVec 32 := 1#32
  let arg14 : BitVec 32 := Scf.iv c0_i32_74 c1_i32_76 k1_t5
  let c20_i32_254 : BitVec 32 := 20#32
  let v277 : BitVec 32 := Scalar.muli arg14 c20_i32_254
  let v278 : BitVec 32 := Scalar.addi v277 c1_i32_255
  let v279 : Index := Scalar.indexCast v278
  let c48_256 : Index := 48#32
  ![v279.toNat, 48]
def k1_off111 (k1_t5 : Fin k1_t5_loop.trips) (c1_i32_258 : BitVec 32) : Fin 2 → Nat :=
  let c0_i32_74 : BitVec 32 := 0#32
  let c1_i32_76 : BitVec 32 := 1#32
  let arg14 : BitVec 32 := Scf.iv c0_i32_74 c1_i32_76 k1_t5
  let c20_i32_257 : BitVec 32 := 20#32
  let v283 : BitVec 32 := Scalar.muli arg14 c20_i32_257
  let v284 : BitVec 32 := Scalar.addi v283 c1_i32_258
  let v285 : Index := Scalar.indexCast v284
  let c64_259 : Index := 64#32
  ![v285.toNat, 64]
def k1_off112 (k1_t5 : Fin k1_t5_loop.trips) (c1_i32_261 : BitVec 32) : Fin 2 → Nat :=
  let c0_i32_74 : BitVec 32 := 0#32
  let c1_i32_76 : BitVec 32 := 1#32
  let arg14 : BitVec 32 := Scf.iv c0_i32_74 c1_i32_76 k1_t5
  let c20_i32_260 : BitVec 32 := 20#32
  let v289 : BitVec 32 := Scalar.muli arg14 c20_i32_260
  let v290 : BitVec 32 := Scalar.addi v289 c1_i32_261
  let v291 : Index := Scalar.indexCast v290
  let c80_262 : Index := 80#32
  ![v291.toNat, 80]
def k1_off113 (k1_t5 : Fin k1_t5_loop.trips) (c1_i32_264 : BitVec 32) : Fin 2 → Nat :=
  let c0_i32_74 : BitVec 32 := 0#32
  let c1_i32_76 : BitVec 32 := 1#32
  let arg14 : BitVec 32 := Scf.iv c0_i32_74 c1_i32_76 k1_t5
  let c20_i32_263 : BitVec 32 := 20#32
  let v295 : BitVec 32 := Scalar.muli arg14 c20_i32_263
  let v296 : BitVec 32 := Scalar.addi v295 c1_i32_264
  let v297 : Index := Scalar.indexCast v296
  let c96_265 : Index := 96#32
  ![v297.toNat, 96]
def k1_off114 (k1_t5 : Fin k1_t5_loop.trips) (c1_i32_267 : BitVec 32) : Fin 2 → Nat :=
  let c0_i32_74 : BitVec 32 := 0#32
  let c1_i32_76 : BitVec 32 := 1#32
  let arg14 : BitVec 32 := Scf.iv c0_i32_74 c1_i32_76 k1_t5
  let c20_i32_266 : BitVec 32 := 20#32
  let v301 : BitVec 32 := Scalar.muli arg14 c20_i32_266
  let v302 : BitVec 32 := Scalar.addi v301 c1_i32_267
  let v303 : Index := Scalar.indexCast v302
  let c112_268 : Index := 112#32
  ![v303.toNat, 112]
def k1_off115 (k1_t5 : Fin k1_t5_loop.trips) : Fin 2 → Nat :=
  let c0_i32_74 : BitVec 32 := 0#32
  let c1_i32_76 : BitVec 32 := 1#32
  let arg14 : BitVec 32 := Scf.iv c0_i32_74 c1_i32_76 k1_t5
  let v1171 : Index := Scalar.indexCast arg14
  let c0_685 : Index := 0#32
  ![v1171.toNat, 0]
def k1_off116 (k1_t5 : Fin k1_t5_loop.trips) : Fin 2 → Nat :=
  let c0_i32_74 : BitVec 32 := 0#32
  let c1_i32_76 : BitVec 32 := 1#32
  let arg14 : BitVec 32 := Scf.iv c0_i32_74 c1_i32_76 k1_t5
  let v1175 : Index := Scalar.indexCast arg14
  let c16_686 : Index := 16#32
  ![v1175.toNat, 16]
def k1_off117 (k1_t5 : Fin k1_t5_loop.trips) : Fin 2 → Nat :=
  let c0_i32_74 : BitVec 32 := 0#32
  let c1_i32_76 : BitVec 32 := 1#32
  let arg14 : BitVec 32 := Scf.iv c0_i32_74 c1_i32_76 k1_t5
  let v1179 : Index := Scalar.indexCast arg14
  let c32_687 : Index := 32#32
  ![v1179.toNat, 32]
def k1_off118 (k1_t5 : Fin k1_t5_loop.trips) : Fin 2 → Nat :=
  let c0_i32_74 : BitVec 32 := 0#32
  let c1_i32_76 : BitVec 32 := 1#32
  let arg14 : BitVec 32 := Scf.iv c0_i32_74 c1_i32_76 k1_t5
  let v1183 : Index := Scalar.indexCast arg14
  let c48_688 : Index := 48#32
  ![v1183.toNat, 48]
def k1_off119 (k1_t5 : Fin k1_t5_loop.trips) : Fin 2 → Nat :=
  let c0_i32_74 : BitVec 32 := 0#32
  let c1_i32_76 : BitVec 32 := 1#32
  let arg14 : BitVec 32 := Scf.iv c0_i32_74 c1_i32_76 k1_t5
  let v1187 : Index := Scalar.indexCast arg14
  let c64_689 : Index := 64#32
  ![v1187.toNat, 64]
def k1_off120 (k1_t5 : Fin k1_t5_loop.trips) : Fin 2 → Nat :=
  let c0_i32_74 : BitVec 32 := 0#32
  let c1_i32_76 : BitVec 32 := 1#32
  let arg14 : BitVec 32 := Scf.iv c0_i32_74 c1_i32_76 k1_t5
  let v1191 : Index := Scalar.indexCast arg14
  let c80_690 : Index := 80#32
  ![v1191.toNat, 80]
def k1_off121 (k1_t5 : Fin k1_t5_loop.trips) : Fin 2 → Nat :=
  let c0_i32_74 : BitVec 32 := 0#32
  let c1_i32_76 : BitVec 32 := 1#32
  let arg14 : BitVec 32 := Scf.iv c0_i32_74 c1_i32_76 k1_t5
  let v1195 : Index := Scalar.indexCast arg14
  let c96_691 : Index := 96#32
  ![v1195.toNat, 96]
def k1_off122 (k1_t5 : Fin k1_t5_loop.trips) : Fin 2 → Nat :=
  let c0_i32_74 : BitVec 32 := 0#32
  let c1_i32_76 : BitVec 32 := 1#32
  let arg14 : BitVec 32 := Scf.iv c0_i32_74 c1_i32_76 k1_t5
  let v1199 : Index := Scalar.indexCast arg14
  let c112_692 : Index := 112#32
  ![v1199.toNat, 112]
@[reducible] def k1_t6_loop : Scf.Loop 32 :=
  let c0_i32_89 : BitVec 32 := 0#32
  let c16_i32_90 : BitVec 32 := 16#32
  let v96 : BitVec 32 := Scalar.addi c0_i32_89 c16_i32_90
  let c1_i32_91 : BitVec 32 := 1#32
  ⟨c0_i32_89, v96, c1_i32_91⟩
def k1_off123 (k1_t6 : Fin k1_t6_loop.trips) : Fin 2 → Nat :=
  let c0_i32_89 : BitVec 32 := 0#32
  let c1_i32_91 : BitVec 32 := 1#32
  let arg14 : BitVec 32 := Scf.iv c0_i32_89 c1_i32_91 k1_t6
  let c20_i32_237 : BitVec 32 := 20#32
  let v227 : BitVec 32 := Scalar.muli arg14 c20_i32_237
  let v228 : Index := Scalar.indexCast v227
  let c0 : Index := 0#32
  ![v228.toNat, 0]
def k1_off124 (k1_t6 : Fin k1_t6_loop.trips) : Fin 2 → Nat :=
  let c0_i32_89 : BitVec 32 := 0#32
  let c1_i32_91 : BitVec 32 := 1#32
  let arg14 : BitVec 32 := Scf.iv c0_i32_89 c1_i32_91 k1_t6
  let c20_i32_238 : BitVec 32 := 20#32
  let v231 : BitVec 32 := Scalar.muli arg14 c20_i32_238
  let v232 : Index := Scalar.indexCast v231
  let c16 : Index := 16#32
  ![v232.toNat, 16]
def k1_off125 (k1_t6 : Fin k1_t6_loop.trips) : Fin 2 → Nat :=
  let c0_i32_89 : BitVec 32 := 0#32
  let c1_i32_91 : BitVec 32 := 1#32
  let arg14 : BitVec 32 := Scf.iv c0_i32_89 c1_i32_91 k1_t6
  let c20_i32_239 : BitVec 32 := 20#32
  let v235 : BitVec 32 := Scalar.muli arg14 c20_i32_239
  let v236 : Index := Scalar.indexCast v235
  let c32 : Index := 32#32
  ![v236.toNat, 32]
def k1_off126 (k1_t6 : Fin k1_t6_loop.trips) : Fin 2 → Nat :=
  let c0_i32_89 : BitVec 32 := 0#32
  let c1_i32_91 : BitVec 32 := 1#32
  let arg14 : BitVec 32 := Scf.iv c0_i32_89 c1_i32_91 k1_t6
  let c20_i32_240 : BitVec 32 := 20#32
  let v239 : BitVec 32 := Scalar.muli arg14 c20_i32_240
  let v240 : Index := Scalar.indexCast v239
  let c48 : Index := 48#32
  ![v240.toNat, 48]
def k1_off127 (k1_t6 : Fin k1_t6_loop.trips) : Fin 2 → Nat :=
  let c0_i32_89 : BitVec 32 := 0#32
  let c1_i32_91 : BitVec 32 := 1#32
  let arg14 : BitVec 32 := Scf.iv c0_i32_89 c1_i32_91 k1_t6
  let c20_i32_241 : BitVec 32 := 20#32
  let v243 : BitVec 32 := Scalar.muli arg14 c20_i32_241
  let v244 : Index := Scalar.indexCast v243
  let c64 : Index := 64#32
  ![v244.toNat, 64]
def k1_off128 (k1_t6 : Fin k1_t6_loop.trips) : Fin 2 → Nat :=
  let c0_i32_89 : BitVec 32 := 0#32
  let c1_i32_91 : BitVec 32 := 1#32
  let arg14 : BitVec 32 := Scf.iv c0_i32_89 c1_i32_91 k1_t6
  let c20_i32_242 : BitVec 32 := 20#32
  let v247 : BitVec 32 := Scalar.muli arg14 c20_i32_242
  let v248 : Index := Scalar.indexCast v247
  let c80 : Index := 80#32
  ![v248.toNat, 80]
def k1_off129 (k1_t6 : Fin k1_t6_loop.trips) : Fin 2 → Nat :=
  let c0_i32_89 : BitVec 32 := 0#32
  let c1_i32_91 : BitVec 32 := 1#32
  let arg14 : BitVec 32 := Scf.iv c0_i32_89 c1_i32_91 k1_t6
  let c20_i32_243 : BitVec 32 := 20#32
  let v251 : BitVec 32 := Scalar.muli arg14 c20_i32_243
  let v252 : Index := Scalar.indexCast v251
  let c96 : Index := 96#32
  ![v252.toNat, 96]
def k1_off130 (k1_t6 : Fin k1_t6_loop.trips) : Fin 2 → Nat :=
  let c0_i32_89 : BitVec 32 := 0#32
  let c1_i32_91 : BitVec 32 := 1#32
  let arg14 : BitVec 32 := Scf.iv c0_i32_89 c1_i32_91 k1_t6
  let c20_i32_244 : BitVec 32 := 20#32
  let v255 : BitVec 32 := Scalar.muli arg14 c20_i32_244
  let v256 : Index := Scalar.indexCast v255
  let c112 : Index := 112#32
  ![v256.toNat, 112]
def k1_off131 (k1_t6 : Fin k1_t6_loop.trips) (c1_i32_246 : BitVec 32) : Fin 2 → Nat :=
  let c0_i32_89 : BitVec 32 := 0#32
  let c1_i32_91 : BitVec 32 := 1#32
  let arg14 : BitVec 32 := Scf.iv c0_i32_89 c1_i32_91 k1_t6
  let c20_i32_245 : BitVec 32 := 20#32
  let v259 : BitVec 32 := Scalar.muli arg14 c20_i32_245
  let v260 : BitVec 32 := Scalar.addi v259 c1_i32_246
  let v261 : Index := Scalar.indexCast v260
  let c0_247 : Index := 0#32
  ![v261.toNat, 0]
def k1_off132 (k1_t6 : Fin k1_t6_loop.trips) (c1_i32_249 : BitVec 32) : Fin 2 → Nat :=
  let c0_i32_89 : BitVec 32 := 0#32
  let c1_i32_91 : BitVec 32 := 1#32
  let arg14 : BitVec 32 := Scf.iv c0_i32_89 c1_i32_91 k1_t6
  let c20_i32_248 : BitVec 32 := 20#32
  let v265 : BitVec 32 := Scalar.muli arg14 c20_i32_248
  let v266 : BitVec 32 := Scalar.addi v265 c1_i32_249
  let v267 : Index := Scalar.indexCast v266
  let c16_250 : Index := 16#32
  ![v267.toNat, 16]
def k1_off133 (k1_t6 : Fin k1_t6_loop.trips) (c1_i32_252 : BitVec 32) : Fin 2 → Nat :=
  let c0_i32_89 : BitVec 32 := 0#32
  let c1_i32_91 : BitVec 32 := 1#32
  let arg14 : BitVec 32 := Scf.iv c0_i32_89 c1_i32_91 k1_t6
  let c20_i32_251 : BitVec 32 := 20#32
  let v271 : BitVec 32 := Scalar.muli arg14 c20_i32_251
  let v272 : BitVec 32 := Scalar.addi v271 c1_i32_252
  let v273 : Index := Scalar.indexCast v272
  let c32_253 : Index := 32#32
  ![v273.toNat, 32]
def k1_off134 (k1_t6 : Fin k1_t6_loop.trips) (c1_i32_255 : BitVec 32) : Fin 2 → Nat :=
  let c0_i32_89 : BitVec 32 := 0#32
  let c1_i32_91 : BitVec 32 := 1#32
  let arg14 : BitVec 32 := Scf.iv c0_i32_89 c1_i32_91 k1_t6
  let c20_i32_254 : BitVec 32 := 20#32
  let v277 : BitVec 32 := Scalar.muli arg14 c20_i32_254
  let v278 : BitVec 32 := Scalar.addi v277 c1_i32_255
  let v279 : Index := Scalar.indexCast v278
  let c48_256 : Index := 48#32
  ![v279.toNat, 48]
def k1_off135 (k1_t6 : Fin k1_t6_loop.trips) (c1_i32_258 : BitVec 32) : Fin 2 → Nat :=
  let c0_i32_89 : BitVec 32 := 0#32
  let c1_i32_91 : BitVec 32 := 1#32
  let arg14 : BitVec 32 := Scf.iv c0_i32_89 c1_i32_91 k1_t6
  let c20_i32_257 : BitVec 32 := 20#32
  let v283 : BitVec 32 := Scalar.muli arg14 c20_i32_257
  let v284 : BitVec 32 := Scalar.addi v283 c1_i32_258
  let v285 : Index := Scalar.indexCast v284
  let c64_259 : Index := 64#32
  ![v285.toNat, 64]
def k1_off136 (k1_t6 : Fin k1_t6_loop.trips) (c1_i32_261 : BitVec 32) : Fin 2 → Nat :=
  let c0_i32_89 : BitVec 32 := 0#32
  let c1_i32_91 : BitVec 32 := 1#32
  let arg14 : BitVec 32 := Scf.iv c0_i32_89 c1_i32_91 k1_t6
  let c20_i32_260 : BitVec 32 := 20#32
  let v289 : BitVec 32 := Scalar.muli arg14 c20_i32_260
  let v290 : BitVec 32 := Scalar.addi v289 c1_i32_261
  let v291 : Index := Scalar.indexCast v290
  let c80_262 : Index := 80#32
  ![v291.toNat, 80]
def k1_off137 (k1_t6 : Fin k1_t6_loop.trips) (c1_i32_264 : BitVec 32) : Fin 2 → Nat :=
  let c0_i32_89 : BitVec 32 := 0#32
  let c1_i32_91 : BitVec 32 := 1#32
  let arg14 : BitVec 32 := Scf.iv c0_i32_89 c1_i32_91 k1_t6
  let c20_i32_263 : BitVec 32 := 20#32
  let v295 : BitVec 32 := Scalar.muli arg14 c20_i32_263
  let v296 : BitVec 32 := Scalar.addi v295 c1_i32_264
  let v297 : Index := Scalar.indexCast v296
  let c96_265 : Index := 96#32
  ![v297.toNat, 96]
def k1_off138 (k1_t6 : Fin k1_t6_loop.trips) (c1_i32_267 : BitVec 32) : Fin 2 → Nat :=
  let c0_i32_89 : BitVec 32 := 0#32
  let c1_i32_91 : BitVec 32 := 1#32
  let arg14 : BitVec 32 := Scf.iv c0_i32_89 c1_i32_91 k1_t6
  let c20_i32_266 : BitVec 32 := 20#32
  let v301 : BitVec 32 := Scalar.muli arg14 c20_i32_266
  let v302 : BitVec 32 := Scalar.addi v301 c1_i32_267
  let v303 : Index := Scalar.indexCast v302
  let c112_268 : Index := 112#32
  ![v303.toNat, 112]
def k1_off139 (k1_t6 : Fin k1_t6_loop.trips) : Fin 2 → Nat :=
  let c0_i32_89 : BitVec 32 := 0#32
  let c1_i32_91 : BitVec 32 := 1#32
  let arg14 : BitVec 32 := Scf.iv c0_i32_89 c1_i32_91 k1_t6
  let v1171 : Index := Scalar.indexCast arg14
  let c0_685 : Index := 0#32
  ![v1171.toNat, 0]
def k1_off140 (k1_t6 : Fin k1_t6_loop.trips) : Fin 2 → Nat :=
  let c0_i32_89 : BitVec 32 := 0#32
  let c1_i32_91 : BitVec 32 := 1#32
  let arg14 : BitVec 32 := Scf.iv c0_i32_89 c1_i32_91 k1_t6
  let v1175 : Index := Scalar.indexCast arg14
  let c16_686 : Index := 16#32
  ![v1175.toNat, 16]
def k1_off141 (k1_t6 : Fin k1_t6_loop.trips) : Fin 2 → Nat :=
  let c0_i32_89 : BitVec 32 := 0#32
  let c1_i32_91 : BitVec 32 := 1#32
  let arg14 : BitVec 32 := Scf.iv c0_i32_89 c1_i32_91 k1_t6
  let v1179 : Index := Scalar.indexCast arg14
  let c32_687 : Index := 32#32
  ![v1179.toNat, 32]
def k1_off142 (k1_t6 : Fin k1_t6_loop.trips) : Fin 2 → Nat :=
  let c0_i32_89 : BitVec 32 := 0#32
  let c1_i32_91 : BitVec 32 := 1#32
  let arg14 : BitVec 32 := Scf.iv c0_i32_89 c1_i32_91 k1_t6
  let v1183 : Index := Scalar.indexCast arg14
  let c48_688 : Index := 48#32
  ![v1183.toNat, 48]
def k1_off143 (k1_t6 : Fin k1_t6_loop.trips) : Fin 2 → Nat :=
  let c0_i32_89 : BitVec 32 := 0#32
  let c1_i32_91 : BitVec 32 := 1#32
  let arg14 : BitVec 32 := Scf.iv c0_i32_89 c1_i32_91 k1_t6
  let v1187 : Index := Scalar.indexCast arg14
  let c64_689 : Index := 64#32
  ![v1187.toNat, 64]
def k1_off144 (k1_t6 : Fin k1_t6_loop.trips) : Fin 2 → Nat :=
  let c0_i32_89 : BitVec 32 := 0#32
  let c1_i32_91 : BitVec 32 := 1#32
  let arg14 : BitVec 32 := Scf.iv c0_i32_89 c1_i32_91 k1_t6
  let v1191 : Index := Scalar.indexCast arg14
  let c80_690 : Index := 80#32
  ![v1191.toNat, 80]
def k1_off145 (k1_t6 : Fin k1_t6_loop.trips) : Fin 2 → Nat :=
  let c0_i32_89 : BitVec 32 := 0#32
  let c1_i32_91 : BitVec 32 := 1#32
  let arg14 : BitVec 32 := Scf.iv c0_i32_89 c1_i32_91 k1_t6
  let v1195 : Index := Scalar.indexCast arg14
  let c96_691 : Index := 96#32
  ![v1195.toNat, 96]
def k1_off146 (k1_t6 : Fin k1_t6_loop.trips) : Fin 2 → Nat :=
  let c0_i32_89 : BitVec 32 := 0#32
  let c1_i32_91 : BitVec 32 := 1#32
  let arg14 : BitVec 32 := Scf.iv c0_i32_89 c1_i32_91 k1_t6
  let v1199 : Index := Scalar.indexCast arg14
  let c112_692 : Index := 112#32
  ![v1199.toNat, 112]
@[reducible] def k1_t7_loop : Scf.Loop 32 :=
  let c0_i32_104 : BitVec 32 := 0#32
  let c16_i32_105 : BitVec 32 := 16#32
  let v110 : BitVec 32 := Scalar.addi c0_i32_104 c16_i32_105
  let c1_i32_106 : BitVec 32 := 1#32
  ⟨c0_i32_104, v110, c1_i32_106⟩
def k1_off147 (k1_t7 : Fin k1_t7_loop.trips) : Fin 2 → Nat :=
  let c0_i32_104 : BitVec 32 := 0#32
  let c1_i32_106 : BitVec 32 := 1#32
  let arg14 : BitVec 32 := Scf.iv c0_i32_104 c1_i32_106 k1_t7
  let c20_i32_237 : BitVec 32 := 20#32
  let v227 : BitVec 32 := Scalar.muli arg14 c20_i32_237
  let v228 : Index := Scalar.indexCast v227
  let c0 : Index := 0#32
  ![v228.toNat, 0]
def k1_off148 (k1_t7 : Fin k1_t7_loop.trips) : Fin 2 → Nat :=
  let c0_i32_104 : BitVec 32 := 0#32
  let c1_i32_106 : BitVec 32 := 1#32
  let arg14 : BitVec 32 := Scf.iv c0_i32_104 c1_i32_106 k1_t7
  let c20_i32_238 : BitVec 32 := 20#32
  let v231 : BitVec 32 := Scalar.muli arg14 c20_i32_238
  let v232 : Index := Scalar.indexCast v231
  let c16 : Index := 16#32
  ![v232.toNat, 16]
def k1_off149 (k1_t7 : Fin k1_t7_loop.trips) : Fin 2 → Nat :=
  let c0_i32_104 : BitVec 32 := 0#32
  let c1_i32_106 : BitVec 32 := 1#32
  let arg14 : BitVec 32 := Scf.iv c0_i32_104 c1_i32_106 k1_t7
  let c20_i32_239 : BitVec 32 := 20#32
  let v235 : BitVec 32 := Scalar.muli arg14 c20_i32_239
  let v236 : Index := Scalar.indexCast v235
  let c32 : Index := 32#32
  ![v236.toNat, 32]
def k1_off150 (k1_t7 : Fin k1_t7_loop.trips) : Fin 2 → Nat :=
  let c0_i32_104 : BitVec 32 := 0#32
  let c1_i32_106 : BitVec 32 := 1#32
  let arg14 : BitVec 32 := Scf.iv c0_i32_104 c1_i32_106 k1_t7
  let c20_i32_240 : BitVec 32 := 20#32
  let v239 : BitVec 32 := Scalar.muli arg14 c20_i32_240
  let v240 : Index := Scalar.indexCast v239
  let c48 : Index := 48#32
  ![v240.toNat, 48]
def k1_off151 (k1_t7 : Fin k1_t7_loop.trips) : Fin 2 → Nat :=
  let c0_i32_104 : BitVec 32 := 0#32
  let c1_i32_106 : BitVec 32 := 1#32
  let arg14 : BitVec 32 := Scf.iv c0_i32_104 c1_i32_106 k1_t7
  let c20_i32_241 : BitVec 32 := 20#32
  let v243 : BitVec 32 := Scalar.muli arg14 c20_i32_241
  let v244 : Index := Scalar.indexCast v243
  let c64 : Index := 64#32
  ![v244.toNat, 64]
def k1_off152 (k1_t7 : Fin k1_t7_loop.trips) : Fin 2 → Nat :=
  let c0_i32_104 : BitVec 32 := 0#32
  let c1_i32_106 : BitVec 32 := 1#32
  let arg14 : BitVec 32 := Scf.iv c0_i32_104 c1_i32_106 k1_t7
  let c20_i32_242 : BitVec 32 := 20#32
  let v247 : BitVec 32 := Scalar.muli arg14 c20_i32_242
  let v248 : Index := Scalar.indexCast v247
  let c80 : Index := 80#32
  ![v248.toNat, 80]
def k1_off153 (k1_t7 : Fin k1_t7_loop.trips) : Fin 2 → Nat :=
  let c0_i32_104 : BitVec 32 := 0#32
  let c1_i32_106 : BitVec 32 := 1#32
  let arg14 : BitVec 32 := Scf.iv c0_i32_104 c1_i32_106 k1_t7
  let c20_i32_243 : BitVec 32 := 20#32
  let v251 : BitVec 32 := Scalar.muli arg14 c20_i32_243
  let v252 : Index := Scalar.indexCast v251
  let c96 : Index := 96#32
  ![v252.toNat, 96]
def k1_off154 (k1_t7 : Fin k1_t7_loop.trips) : Fin 2 → Nat :=
  let c0_i32_104 : BitVec 32 := 0#32
  let c1_i32_106 : BitVec 32 := 1#32
  let arg14 : BitVec 32 := Scf.iv c0_i32_104 c1_i32_106 k1_t7
  let c20_i32_244 : BitVec 32 := 20#32
  let v255 : BitVec 32 := Scalar.muli arg14 c20_i32_244
  let v256 : Index := Scalar.indexCast v255
  let c112 : Index := 112#32
  ![v256.toNat, 112]
def k1_off155 (k1_t7 : Fin k1_t7_loop.trips) (c1_i32_246 : BitVec 32) : Fin 2 → Nat :=
  let c0_i32_104 : BitVec 32 := 0#32
  let c1_i32_106 : BitVec 32 := 1#32
  let arg14 : BitVec 32 := Scf.iv c0_i32_104 c1_i32_106 k1_t7
  let c20_i32_245 : BitVec 32 := 20#32
  let v259 : BitVec 32 := Scalar.muli arg14 c20_i32_245
  let v260 : BitVec 32 := Scalar.addi v259 c1_i32_246
  let v261 : Index := Scalar.indexCast v260
  let c0_247 : Index := 0#32
  ![v261.toNat, 0]
def k1_off156 (k1_t7 : Fin k1_t7_loop.trips) (c1_i32_249 : BitVec 32) : Fin 2 → Nat :=
  let c0_i32_104 : BitVec 32 := 0#32
  let c1_i32_106 : BitVec 32 := 1#32
  let arg14 : BitVec 32 := Scf.iv c0_i32_104 c1_i32_106 k1_t7
  let c20_i32_248 : BitVec 32 := 20#32
  let v265 : BitVec 32 := Scalar.muli arg14 c20_i32_248
  let v266 : BitVec 32 := Scalar.addi v265 c1_i32_249
  let v267 : Index := Scalar.indexCast v266
  let c16_250 : Index := 16#32
  ![v267.toNat, 16]
def k1_off157 (k1_t7 : Fin k1_t7_loop.trips) (c1_i32_252 : BitVec 32) : Fin 2 → Nat :=
  let c0_i32_104 : BitVec 32 := 0#32
  let c1_i32_106 : BitVec 32 := 1#32
  let arg14 : BitVec 32 := Scf.iv c0_i32_104 c1_i32_106 k1_t7
  let c20_i32_251 : BitVec 32 := 20#32
  let v271 : BitVec 32 := Scalar.muli arg14 c20_i32_251
  let v272 : BitVec 32 := Scalar.addi v271 c1_i32_252
  let v273 : Index := Scalar.indexCast v272
  let c32_253 : Index := 32#32
  ![v273.toNat, 32]
def k1_off158 (k1_t7 : Fin k1_t7_loop.trips) (c1_i32_255 : BitVec 32) : Fin 2 → Nat :=
  let c0_i32_104 : BitVec 32 := 0#32
  let c1_i32_106 : BitVec 32 := 1#32
  let arg14 : BitVec 32 := Scf.iv c0_i32_104 c1_i32_106 k1_t7
  let c20_i32_254 : BitVec 32 := 20#32
  let v277 : BitVec 32 := Scalar.muli arg14 c20_i32_254
  let v278 : BitVec 32 := Scalar.addi v277 c1_i32_255
  let v279 : Index := Scalar.indexCast v278
  let c48_256 : Index := 48#32
  ![v279.toNat, 48]
def k1_off159 (k1_t7 : Fin k1_t7_loop.trips) (c1_i32_258 : BitVec 32) : Fin 2 → Nat :=
  let c0_i32_104 : BitVec 32 := 0#32
  let c1_i32_106 : BitVec 32 := 1#32
  let arg14 : BitVec 32 := Scf.iv c0_i32_104 c1_i32_106 k1_t7
  let c20_i32_257 : BitVec 32 := 20#32
  let v283 : BitVec 32 := Scalar.muli arg14 c20_i32_257
  let v284 : BitVec 32 := Scalar.addi v283 c1_i32_258
  let v285 : Index := Scalar.indexCast v284
  let c64_259 : Index := 64#32
  ![v285.toNat, 64]
def k1_off160 (k1_t7 : Fin k1_t7_loop.trips) (c1_i32_261 : BitVec 32) : Fin 2 → Nat :=
  let c0_i32_104 : BitVec 32 := 0#32
  let c1_i32_106 : BitVec 32 := 1#32
  let arg14 : BitVec 32 := Scf.iv c0_i32_104 c1_i32_106 k1_t7
  let c20_i32_260 : BitVec 32 := 20#32
  let v289 : BitVec 32 := Scalar.muli arg14 c20_i32_260
  let v290 : BitVec 32 := Scalar.addi v289 c1_i32_261
  let v291 : Index := Scalar.indexCast v290
  let c80_262 : Index := 80#32
  ![v291.toNat, 80]
def k1_off161 (k1_t7 : Fin k1_t7_loop.trips) (c1_i32_264 : BitVec 32) : Fin 2 → Nat :=
  let c0_i32_104 : BitVec 32 := 0#32
  let c1_i32_106 : BitVec 32 := 1#32
  let arg14 : BitVec 32 := Scf.iv c0_i32_104 c1_i32_106 k1_t7
  let c20_i32_263 : BitVec 32 := 20#32
  let v295 : BitVec 32 := Scalar.muli arg14 c20_i32_263
  let v296 : BitVec 32 := Scalar.addi v295 c1_i32_264
  let v297 : Index := Scalar.indexCast v296
  let c96_265 : Index := 96#32
  ![v297.toNat, 96]
def k1_off162 (k1_t7 : Fin k1_t7_loop.trips) (c1_i32_267 : BitVec 32) : Fin 2 → Nat :=
  let c0_i32_104 : BitVec 32 := 0#32
  let c1_i32_106 : BitVec 32 := 1#32
  let arg14 : BitVec 32 := Scf.iv c0_i32_104 c1_i32_106 k1_t7
  let c20_i32_266 : BitVec 32 := 20#32
  let v301 : BitVec 32 := Scalar.muli arg14 c20_i32_266
  let v302 : BitVec 32 := Scalar.addi v301 c1_i32_267
  let v303 : Index := Scalar.indexCast v302
  let c112_268 : Index := 112#32
  ![v303.toNat, 112]
def k1_off163 (k1_t7 : Fin k1_t7_loop.trips) : Fin 2 → Nat :=
  let c0_i32_104 : BitVec 32 := 0#32
  let c1_i32_106 : BitVec 32 := 1#32
  let arg14 : BitVec 32 := Scf.iv c0_i32_104 c1_i32_106 k1_t7
  let v1171 : Index := Scalar.indexCast arg14
  let c0_685 : Index := 0#32
  ![v1171.toNat, 0]
def k1_off164 (k1_t7 : Fin k1_t7_loop.trips) : Fin 2 → Nat :=
  let c0_i32_104 : BitVec 32 := 0#32
  let c1_i32_106 : BitVec 32 := 1#32
  let arg14 : BitVec 32 := Scf.iv c0_i32_104 c1_i32_106 k1_t7
  let v1175 : Index := Scalar.indexCast arg14
  let c16_686 : Index := 16#32
  ![v1175.toNat, 16]
def k1_off165 (k1_t7 : Fin k1_t7_loop.trips) : Fin 2 → Nat :=
  let c0_i32_104 : BitVec 32 := 0#32
  let c1_i32_106 : BitVec 32 := 1#32
  let arg14 : BitVec 32 := Scf.iv c0_i32_104 c1_i32_106 k1_t7
  let v1179 : Index := Scalar.indexCast arg14
  let c32_687 : Index := 32#32
  ![v1179.toNat, 32]
def k1_off166 (k1_t7 : Fin k1_t7_loop.trips) : Fin 2 → Nat :=
  let c0_i32_104 : BitVec 32 := 0#32
  let c1_i32_106 : BitVec 32 := 1#32
  let arg14 : BitVec 32 := Scf.iv c0_i32_104 c1_i32_106 k1_t7
  let v1183 : Index := Scalar.indexCast arg14
  let c48_688 : Index := 48#32
  ![v1183.toNat, 48]
def k1_off167 (k1_t7 : Fin k1_t7_loop.trips) : Fin 2 → Nat :=
  let c0_i32_104 : BitVec 32 := 0#32
  let c1_i32_106 : BitVec 32 := 1#32
  let arg14 : BitVec 32 := Scf.iv c0_i32_104 c1_i32_106 k1_t7
  let v1187 : Index := Scalar.indexCast arg14
  let c64_689 : Index := 64#32
  ![v1187.toNat, 64]
def k1_off168 (k1_t7 : Fin k1_t7_loop.trips) : Fin 2 → Nat :=
  let c0_i32_104 : BitVec 32 := 0#32
  let c1_i32_106 : BitVec 32 := 1#32
  let arg14 : BitVec 32 := Scf.iv c0_i32_104 c1_i32_106 k1_t7
  let v1191 : Index := Scalar.indexCast arg14
  let c80_690 : Index := 80#32
  ![v1191.toNat, 80]
def k1_off169 (k1_t7 : Fin k1_t7_loop.trips) : Fin 2 → Nat :=
  let c0_i32_104 : BitVec 32 := 0#32
  let c1_i32_106 : BitVec 32 := 1#32
  let arg14 : BitVec 32 := Scf.iv c0_i32_104 c1_i32_106 k1_t7
  let v1195 : Index := Scalar.indexCast arg14
  let c96_691 : Index := 96#32
  ![v1195.toNat, 96]
def k1_off170 (k1_t7 : Fin k1_t7_loop.trips) : Fin 2 → Nat :=
  let c0_i32_104 : BitVec 32 := 0#32
  let c1_i32_106 : BitVec 32 := 1#32
  let arg14 : BitVec 32 := Scf.iv c0_i32_104 c1_i32_106 k1_t7
  let v1199 : Index := Scalar.indexCast arg14
  let c112_692 : Index := 112#32
  ![v1199.toNat, 112]
@[reducible] def k1_t8_loop : Scf.Loop 32 :=
  let c0_i32_119 : BitVec 32 := 0#32
  let c16_i32_120 : BitVec 32 := 16#32
  let v124 : BitVec 32 := Scalar.addi c0_i32_119 c16_i32_120
  let c1_i32_121 : BitVec 32 := 1#32
  ⟨c0_i32_119, v124, c1_i32_121⟩
def k1_off171 (k1_t8 : Fin k1_t8_loop.trips) : Fin 2 → Nat :=
  let c0_i32_119 : BitVec 32 := 0#32
  let c1_i32_121 : BitVec 32 := 1#32
  let arg14 : BitVec 32 := Scf.iv c0_i32_119 c1_i32_121 k1_t8
  let c20_i32_237 : BitVec 32 := 20#32
  let v227 : BitVec 32 := Scalar.muli arg14 c20_i32_237
  let v228 : Index := Scalar.indexCast v227
  let c0 : Index := 0#32
  ![v228.toNat, 0]
def k1_off172 (k1_t8 : Fin k1_t8_loop.trips) : Fin 2 → Nat :=
  let c0_i32_119 : BitVec 32 := 0#32
  let c1_i32_121 : BitVec 32 := 1#32
  let arg14 : BitVec 32 := Scf.iv c0_i32_119 c1_i32_121 k1_t8
  let c20_i32_238 : BitVec 32 := 20#32
  let v231 : BitVec 32 := Scalar.muli arg14 c20_i32_238
  let v232 : Index := Scalar.indexCast v231
  let c16 : Index := 16#32
  ![v232.toNat, 16]
def k1_off173 (k1_t8 : Fin k1_t8_loop.trips) : Fin 2 → Nat :=
  let c0_i32_119 : BitVec 32 := 0#32
  let c1_i32_121 : BitVec 32 := 1#32
  let arg14 : BitVec 32 := Scf.iv c0_i32_119 c1_i32_121 k1_t8
  let c20_i32_239 : BitVec 32 := 20#32
  let v235 : BitVec 32 := Scalar.muli arg14 c20_i32_239
  let v236 : Index := Scalar.indexCast v235
  let c32 : Index := 32#32
  ![v236.toNat, 32]
def k1_off174 (k1_t8 : Fin k1_t8_loop.trips) : Fin 2 → Nat :=
  let c0_i32_119 : BitVec 32 := 0#32
  let c1_i32_121 : BitVec 32 := 1#32
  let arg14 : BitVec 32 := Scf.iv c0_i32_119 c1_i32_121 k1_t8
  let c20_i32_240 : BitVec 32 := 20#32
  let v239 : BitVec 32 := Scalar.muli arg14 c20_i32_240
  let v240 : Index := Scalar.indexCast v239
  let c48 : Index := 48#32
  ![v240.toNat, 48]
def k1_off175 (k1_t8 : Fin k1_t8_loop.trips) : Fin 2 → Nat :=
  let c0_i32_119 : BitVec 32 := 0#32
  let c1_i32_121 : BitVec 32 := 1#32
  let arg14 : BitVec 32 := Scf.iv c0_i32_119 c1_i32_121 k1_t8
  let c20_i32_241 : BitVec 32 := 20#32
  let v243 : BitVec 32 := Scalar.muli arg14 c20_i32_241
  let v244 : Index := Scalar.indexCast v243
  let c64 : Index := 64#32
  ![v244.toNat, 64]
def k1_off176 (k1_t8 : Fin k1_t8_loop.trips) : Fin 2 → Nat :=
  let c0_i32_119 : BitVec 32 := 0#32
  let c1_i32_121 : BitVec 32 := 1#32
  let arg14 : BitVec 32 := Scf.iv c0_i32_119 c1_i32_121 k1_t8
  let c20_i32_242 : BitVec 32 := 20#32
  let v247 : BitVec 32 := Scalar.muli arg14 c20_i32_242
  let v248 : Index := Scalar.indexCast v247
  let c80 : Index := 80#32
  ![v248.toNat, 80]
def k1_off177 (k1_t8 : Fin k1_t8_loop.trips) : Fin 2 → Nat :=
  let c0_i32_119 : BitVec 32 := 0#32
  let c1_i32_121 : BitVec 32 := 1#32
  let arg14 : BitVec 32 := Scf.iv c0_i32_119 c1_i32_121 k1_t8
  let c20_i32_243 : BitVec 32 := 20#32
  let v251 : BitVec 32 := Scalar.muli arg14 c20_i32_243
  let v252 : Index := Scalar.indexCast v251
  let c96 : Index := 96#32
  ![v252.toNat, 96]
def k1_off178 (k1_t8 : Fin k1_t8_loop.trips) : Fin 2 → Nat :=
  let c0_i32_119 : BitVec 32 := 0#32
  let c1_i32_121 : BitVec 32 := 1#32
  let arg14 : BitVec 32 := Scf.iv c0_i32_119 c1_i32_121 k1_t8
  let c20_i32_244 : BitVec 32 := 20#32
  let v255 : BitVec 32 := Scalar.muli arg14 c20_i32_244
  let v256 : Index := Scalar.indexCast v255
  let c112 : Index := 112#32
  ![v256.toNat, 112]
def k1_off179 (k1_t8 : Fin k1_t8_loop.trips) (c1_i32_246 : BitVec 32) : Fin 2 → Nat :=
  let c0_i32_119 : BitVec 32 := 0#32
  let c1_i32_121 : BitVec 32 := 1#32
  let arg14 : BitVec 32 := Scf.iv c0_i32_119 c1_i32_121 k1_t8
  let c20_i32_245 : BitVec 32 := 20#32
  let v259 : BitVec 32 := Scalar.muli arg14 c20_i32_245
  let v260 : BitVec 32 := Scalar.addi v259 c1_i32_246
  let v261 : Index := Scalar.indexCast v260
  let c0_247 : Index := 0#32
  ![v261.toNat, 0]
def k1_off180 (k1_t8 : Fin k1_t8_loop.trips) (c1_i32_249 : BitVec 32) : Fin 2 → Nat :=
  let c0_i32_119 : BitVec 32 := 0#32
  let c1_i32_121 : BitVec 32 := 1#32
  let arg14 : BitVec 32 := Scf.iv c0_i32_119 c1_i32_121 k1_t8
  let c20_i32_248 : BitVec 32 := 20#32
  let v265 : BitVec 32 := Scalar.muli arg14 c20_i32_248
  let v266 : BitVec 32 := Scalar.addi v265 c1_i32_249
  let v267 : Index := Scalar.indexCast v266
  let c16_250 : Index := 16#32
  ![v267.toNat, 16]
def k1_off181 (k1_t8 : Fin k1_t8_loop.trips) (c1_i32_252 : BitVec 32) : Fin 2 → Nat :=
  let c0_i32_119 : BitVec 32 := 0#32
  let c1_i32_121 : BitVec 32 := 1#32
  let arg14 : BitVec 32 := Scf.iv c0_i32_119 c1_i32_121 k1_t8
  let c20_i32_251 : BitVec 32 := 20#32
  let v271 : BitVec 32 := Scalar.muli arg14 c20_i32_251
  let v272 : BitVec 32 := Scalar.addi v271 c1_i32_252
  let v273 : Index := Scalar.indexCast v272
  let c32_253 : Index := 32#32
  ![v273.toNat, 32]
def k1_off182 (k1_t8 : Fin k1_t8_loop.trips) (c1_i32_255 : BitVec 32) : Fin 2 → Nat :=
  let c0_i32_119 : BitVec 32 := 0#32
  let c1_i32_121 : BitVec 32 := 1#32
  let arg14 : BitVec 32 := Scf.iv c0_i32_119 c1_i32_121 k1_t8
  let c20_i32_254 : BitVec 32 := 20#32
  let v277 : BitVec 32 := Scalar.muli arg14 c20_i32_254
  let v278 : BitVec 32 := Scalar.addi v277 c1_i32_255
  let v279 : Index := Scalar.indexCast v278
  let c48_256 : Index := 48#32
  ![v279.toNat, 48]
def k1_off183 (k1_t8 : Fin k1_t8_loop.trips) (c1_i32_258 : BitVec 32) : Fin 2 → Nat :=
  let c0_i32_119 : BitVec 32 := 0#32
  let c1_i32_121 : BitVec 32 := 1#32
  let arg14 : BitVec 32 := Scf.iv c0_i32_119 c1_i32_121 k1_t8
  let c20_i32_257 : BitVec 32 := 20#32
  let v283 : BitVec 32 := Scalar.muli arg14 c20_i32_257
  let v284 : BitVec 32 := Scalar.addi v283 c1_i32_258
  let v285 : Index := Scalar.indexCast v284
  let c64_259 : Index := 64#32
  ![v285.toNat, 64]
def k1_off184 (k1_t8 : Fin k1_t8_loop.trips) (c1_i32_261 : BitVec 32) : Fin 2 → Nat :=
  let c0_i32_119 : BitVec 32 := 0#32
  let c1_i32_121 : BitVec 32 := 1#32
  let arg14 : BitVec 32 := Scf.iv c0_i32_119 c1_i32_121 k1_t8
  let c20_i32_260 : BitVec 32 := 20#32
  let v289 : BitVec 32 := Scalar.muli arg14 c20_i32_260
  let v290 : BitVec 32 := Scalar.addi v289 c1_i32_261
  let v291 : Index := Scalar.indexCast v290
  let c80_262 : Index := 80#32
  ![v291.toNat, 80]
def k1_off185 (k1_t8 : Fin k1_t8_loop.trips) (c1_i32_264 : BitVec 32) : Fin 2 → Nat :=
  let c0_i32_119 : BitVec 32 := 0#32
  let c1_i32_121 : BitVec 32 := 1#32
  let arg14 : BitVec 32 := Scf.iv c0_i32_119 c1_i32_121 k1_t8
  let c20_i32_263 : BitVec 32 := 20#32
  let v295 : BitVec 32 := Scalar.muli arg14 c20_i32_263
  let v296 : BitVec 32 := Scalar.addi v295 c1_i32_264
  let v297 : Index := Scalar.indexCast v296
  let c96_265 : Index := 96#32
  ![v297.toNat, 96]
def k1_off186 (k1_t8 : Fin k1_t8_loop.trips) (c1_i32_267 : BitVec 32) : Fin 2 → Nat :=
  let c0_i32_119 : BitVec 32 := 0#32
  let c1_i32_121 : BitVec 32 := 1#32
  let arg14 : BitVec 32 := Scf.iv c0_i32_119 c1_i32_121 k1_t8
  let c20_i32_266 : BitVec 32 := 20#32
  let v301 : BitVec 32 := Scalar.muli arg14 c20_i32_266
  let v302 : BitVec 32 := Scalar.addi v301 c1_i32_267
  let v303 : Index := Scalar.indexCast v302
  let c112_268 : Index := 112#32
  ![v303.toNat, 112]
def k1_off187 (k1_t8 : Fin k1_t8_loop.trips) : Fin 2 → Nat :=
  let c0_i32_119 : BitVec 32 := 0#32
  let c1_i32_121 : BitVec 32 := 1#32
  let arg14 : BitVec 32 := Scf.iv c0_i32_119 c1_i32_121 k1_t8
  let v1171 : Index := Scalar.indexCast arg14
  let c0_685 : Index := 0#32
  ![v1171.toNat, 0]
def k1_off188 (k1_t8 : Fin k1_t8_loop.trips) : Fin 2 → Nat :=
  let c0_i32_119 : BitVec 32 := 0#32
  let c1_i32_121 : BitVec 32 := 1#32
  let arg14 : BitVec 32 := Scf.iv c0_i32_119 c1_i32_121 k1_t8
  let v1175 : Index := Scalar.indexCast arg14
  let c16_686 : Index := 16#32
  ![v1175.toNat, 16]
def k1_off189 (k1_t8 : Fin k1_t8_loop.trips) : Fin 2 → Nat :=
  let c0_i32_119 : BitVec 32 := 0#32
  let c1_i32_121 : BitVec 32 := 1#32
  let arg14 : BitVec 32 := Scf.iv c0_i32_119 c1_i32_121 k1_t8
  let v1179 : Index := Scalar.indexCast arg14
  let c32_687 : Index := 32#32
  ![v1179.toNat, 32]
def k1_off190 (k1_t8 : Fin k1_t8_loop.trips) : Fin 2 → Nat :=
  let c0_i32_119 : BitVec 32 := 0#32
  let c1_i32_121 : BitVec 32 := 1#32
  let arg14 : BitVec 32 := Scf.iv c0_i32_119 c1_i32_121 k1_t8
  let v1183 : Index := Scalar.indexCast arg14
  let c48_688 : Index := 48#32
  ![v1183.toNat, 48]
def k1_off191 (k1_t8 : Fin k1_t8_loop.trips) : Fin 2 → Nat :=
  let c0_i32_119 : BitVec 32 := 0#32
  let c1_i32_121 : BitVec 32 := 1#32
  let arg14 : BitVec 32 := Scf.iv c0_i32_119 c1_i32_121 k1_t8
  let v1187 : Index := Scalar.indexCast arg14
  let c64_689 : Index := 64#32
  ![v1187.toNat, 64]
def k1_off192 (k1_t8 : Fin k1_t8_loop.trips) : Fin 2 → Nat :=
  let c0_i32_119 : BitVec 32 := 0#32
  let c1_i32_121 : BitVec 32 := 1#32
  let arg14 : BitVec 32 := Scf.iv c0_i32_119 c1_i32_121 k1_t8
  let v1191 : Index := Scalar.indexCast arg14
  let c80_690 : Index := 80#32
  ![v1191.toNat, 80]
def k1_off193 (k1_t8 : Fin k1_t8_loop.trips) : Fin 2 → Nat :=
  let c0_i32_119 : BitVec 32 := 0#32
  let c1_i32_121 : BitVec 32 := 1#32
  let arg14 : BitVec 32 := Scf.iv c0_i32_119 c1_i32_121 k1_t8
  let v1195 : Index := Scalar.indexCast arg14
  let c96_691 : Index := 96#32
  ![v1195.toNat, 96]
def k1_off194 (k1_t8 : Fin k1_t8_loop.trips) : Fin 2 → Nat :=
  let c0_i32_119 : BitVec 32 := 0#32
  let c1_i32_121 : BitVec 32 := 1#32
  let arg14 : BitVec 32 := Scf.iv c0_i32_119 c1_i32_121 k1_t8
  let v1199 : Index := Scalar.indexCast arg14
  let c112_692 : Index := 112#32
  ![v1199.toNat, 112]
@[reducible] def k1_t9_loop : Scf.Loop 32 :=
  let c0_i32_134 : BitVec 32 := 0#32
  let c16_i32_135 : BitVec 32 := 16#32
  let v138 : BitVec 32 := Scalar.addi c0_i32_134 c16_i32_135
  let c1_i32_136 : BitVec 32 := 1#32
  ⟨c0_i32_134, v138, c1_i32_136⟩
def k1_off195 (k1_t9 : Fin k1_t9_loop.trips) : Fin 2 → Nat :=
  let c0_i32_134 : BitVec 32 := 0#32
  let c1_i32_136 : BitVec 32 := 1#32
  let arg14 : BitVec 32 := Scf.iv c0_i32_134 c1_i32_136 k1_t9
  let c20_i32_237 : BitVec 32 := 20#32
  let v227 : BitVec 32 := Scalar.muli arg14 c20_i32_237
  let v228 : Index := Scalar.indexCast v227
  let c0 : Index := 0#32
  ![v228.toNat, 0]
def k1_off196 (k1_t9 : Fin k1_t9_loop.trips) : Fin 2 → Nat :=
  let c0_i32_134 : BitVec 32 := 0#32
  let c1_i32_136 : BitVec 32 := 1#32
  let arg14 : BitVec 32 := Scf.iv c0_i32_134 c1_i32_136 k1_t9
  let c20_i32_238 : BitVec 32 := 20#32
  let v231 : BitVec 32 := Scalar.muli arg14 c20_i32_238
  let v232 : Index := Scalar.indexCast v231
  let c16 : Index := 16#32
  ![v232.toNat, 16]
def k1_off197 (k1_t9 : Fin k1_t9_loop.trips) : Fin 2 → Nat :=
  let c0_i32_134 : BitVec 32 := 0#32
  let c1_i32_136 : BitVec 32 := 1#32
  let arg14 : BitVec 32 := Scf.iv c0_i32_134 c1_i32_136 k1_t9
  let c20_i32_239 : BitVec 32 := 20#32
  let v235 : BitVec 32 := Scalar.muli arg14 c20_i32_239
  let v236 : Index := Scalar.indexCast v235
  let c32 : Index := 32#32
  ![v236.toNat, 32]
def k1_off198 (k1_t9 : Fin k1_t9_loop.trips) : Fin 2 → Nat :=
  let c0_i32_134 : BitVec 32 := 0#32
  let c1_i32_136 : BitVec 32 := 1#32
  let arg14 : BitVec 32 := Scf.iv c0_i32_134 c1_i32_136 k1_t9
  let c20_i32_240 : BitVec 32 := 20#32
  let v239 : BitVec 32 := Scalar.muli arg14 c20_i32_240
  let v240 : Index := Scalar.indexCast v239
  let c48 : Index := 48#32
  ![v240.toNat, 48]
def k1_off199 (k1_t9 : Fin k1_t9_loop.trips) : Fin 2 → Nat :=
  let c0_i32_134 : BitVec 32 := 0#32
  let c1_i32_136 : BitVec 32 := 1#32
  let arg14 : BitVec 32 := Scf.iv c0_i32_134 c1_i32_136 k1_t9
  let c20_i32_241 : BitVec 32 := 20#32
  let v243 : BitVec 32 := Scalar.muli arg14 c20_i32_241
  let v244 : Index := Scalar.indexCast v243
  let c64 : Index := 64#32
  ![v244.toNat, 64]
def k1_off200 (k1_t9 : Fin k1_t9_loop.trips) : Fin 2 → Nat :=
  let c0_i32_134 : BitVec 32 := 0#32
  let c1_i32_136 : BitVec 32 := 1#32
  let arg14 : BitVec 32 := Scf.iv c0_i32_134 c1_i32_136 k1_t9
  let c20_i32_242 : BitVec 32 := 20#32
  let v247 : BitVec 32 := Scalar.muli arg14 c20_i32_242
  let v248 : Index := Scalar.indexCast v247
  let c80 : Index := 80#32
  ![v248.toNat, 80]
def k1_off201 (k1_t9 : Fin k1_t9_loop.trips) : Fin 2 → Nat :=
  let c0_i32_134 : BitVec 32 := 0#32
  let c1_i32_136 : BitVec 32 := 1#32
  let arg14 : BitVec 32 := Scf.iv c0_i32_134 c1_i32_136 k1_t9
  let c20_i32_243 : BitVec 32 := 20#32
  let v251 : BitVec 32 := Scalar.muli arg14 c20_i32_243
  let v252 : Index := Scalar.indexCast v251
  let c96 : Index := 96#32
  ![v252.toNat, 96]
def k1_off202 (k1_t9 : Fin k1_t9_loop.trips) : Fin 2 → Nat :=
  let c0_i32_134 : BitVec 32 := 0#32
  let c1_i32_136 : BitVec 32 := 1#32
  let arg14 : BitVec 32 := Scf.iv c0_i32_134 c1_i32_136 k1_t9
  let c20_i32_244 : BitVec 32 := 20#32
  let v255 : BitVec 32 := Scalar.muli arg14 c20_i32_244
  let v256 : Index := Scalar.indexCast v255
  let c112 : Index := 112#32
  ![v256.toNat, 112]
def k1_off203 (k1_t9 : Fin k1_t9_loop.trips) (c1_i32_246 : BitVec 32) : Fin 2 → Nat :=
  let c0_i32_134 : BitVec 32 := 0#32
  let c1_i32_136 : BitVec 32 := 1#32
  let arg14 : BitVec 32 := Scf.iv c0_i32_134 c1_i32_136 k1_t9
  let c20_i32_245 : BitVec 32 := 20#32
  let v259 : BitVec 32 := Scalar.muli arg14 c20_i32_245
  let v260 : BitVec 32 := Scalar.addi v259 c1_i32_246
  let v261 : Index := Scalar.indexCast v260
  let c0_247 : Index := 0#32
  ![v261.toNat, 0]
def k1_off204 (k1_t9 : Fin k1_t9_loop.trips) (c1_i32_249 : BitVec 32) : Fin 2 → Nat :=
  let c0_i32_134 : BitVec 32 := 0#32
  let c1_i32_136 : BitVec 32 := 1#32
  let arg14 : BitVec 32 := Scf.iv c0_i32_134 c1_i32_136 k1_t9
  let c20_i32_248 : BitVec 32 := 20#32
  let v265 : BitVec 32 := Scalar.muli arg14 c20_i32_248
  let v266 : BitVec 32 := Scalar.addi v265 c1_i32_249
  let v267 : Index := Scalar.indexCast v266
  let c16_250 : Index := 16#32
  ![v267.toNat, 16]
def k1_off205 (k1_t9 : Fin k1_t9_loop.trips) (c1_i32_252 : BitVec 32) : Fin 2 → Nat :=
  let c0_i32_134 : BitVec 32 := 0#32
  let c1_i32_136 : BitVec 32 := 1#32
  let arg14 : BitVec 32 := Scf.iv c0_i32_134 c1_i32_136 k1_t9
  let c20_i32_251 : BitVec 32 := 20#32
  let v271 : BitVec 32 := Scalar.muli arg14 c20_i32_251
  let v272 : BitVec 32 := Scalar.addi v271 c1_i32_252
  let v273 : Index := Scalar.indexCast v272
  let c32_253 : Index := 32#32
  ![v273.toNat, 32]
def k1_off206 (k1_t9 : Fin k1_t9_loop.trips) (c1_i32_255 : BitVec 32) : Fin 2 → Nat :=
  let c0_i32_134 : BitVec 32 := 0#32
  let c1_i32_136 : BitVec 32 := 1#32
  let arg14 : BitVec 32 := Scf.iv c0_i32_134 c1_i32_136 k1_t9
  let c20_i32_254 : BitVec 32 := 20#32
  let v277 : BitVec 32 := Scalar.muli arg14 c20_i32_254
  let v278 : BitVec 32 := Scalar.addi v277 c1_i32_255
  let v279 : Index := Scalar.indexCast v278
  let c48_256 : Index := 48#32
  ![v279.toNat, 48]
def k1_off207 (k1_t9 : Fin k1_t9_loop.trips) (c1_i32_258 : BitVec 32) : Fin 2 → Nat :=
  let c0_i32_134 : BitVec 32 := 0#32
  let c1_i32_136 : BitVec 32 := 1#32
  let arg14 : BitVec 32 := Scf.iv c0_i32_134 c1_i32_136 k1_t9
  let c20_i32_257 : BitVec 32 := 20#32
  let v283 : BitVec 32 := Scalar.muli arg14 c20_i32_257
  let v284 : BitVec 32 := Scalar.addi v283 c1_i32_258
  let v285 : Index := Scalar.indexCast v284
  let c64_259 : Index := 64#32
  ![v285.toNat, 64]
def k1_off208 (k1_t9 : Fin k1_t9_loop.trips) (c1_i32_261 : BitVec 32) : Fin 2 → Nat :=
  let c0_i32_134 : BitVec 32 := 0#32
  let c1_i32_136 : BitVec 32 := 1#32
  let arg14 : BitVec 32 := Scf.iv c0_i32_134 c1_i32_136 k1_t9
  let c20_i32_260 : BitVec 32 := 20#32
  let v289 : BitVec 32 := Scalar.muli arg14 c20_i32_260
  let v290 : BitVec 32 := Scalar.addi v289 c1_i32_261
  let v291 : Index := Scalar.indexCast v290
  let c80_262 : Index := 80#32
  ![v291.toNat, 80]
def k1_off209 (k1_t9 : Fin k1_t9_loop.trips) (c1_i32_264 : BitVec 32) : Fin 2 → Nat :=
  let c0_i32_134 : BitVec 32 := 0#32
  let c1_i32_136 : BitVec 32 := 1#32
  let arg14 : BitVec 32 := Scf.iv c0_i32_134 c1_i32_136 k1_t9
  let c20_i32_263 : BitVec 32 := 20#32
  let v295 : BitVec 32 := Scalar.muli arg14 c20_i32_263
  let v296 : BitVec 32 := Scalar.addi v295 c1_i32_264
  let v297 : Index := Scalar.indexCast v296
  let c96_265 : Index := 96#32
  ![v297.toNat, 96]
def k1_off210 (k1_t9 : Fin k1_t9_loop.trips) (c1_i32_267 : BitVec 32) : Fin 2 → Nat :=
  let c0_i32_134 : BitVec 32 := 0#32
  let c1_i32_136 : BitVec 32 := 1#32
  let arg14 : BitVec 32 := Scf.iv c0_i32_134 c1_i32_136 k1_t9
  let c20_i32_266 : BitVec 32 := 20#32
  let v301 : BitVec 32 := Scalar.muli arg14 c20_i32_266
  let v302 : BitVec 32 := Scalar.addi v301 c1_i32_267
  let v303 : Index := Scalar.indexCast v302
  let c112_268 : Index := 112#32
  ![v303.toNat, 112]
def k1_off211 (k1_t9 : Fin k1_t9_loop.trips) : Fin 2 → Nat :=
  let c0_i32_134 : BitVec 32 := 0#32
  let c1_i32_136 : BitVec 32 := 1#32
  let arg14 : BitVec 32 := Scf.iv c0_i32_134 c1_i32_136 k1_t9
  let v1171 : Index := Scalar.indexCast arg14
  let c0_685 : Index := 0#32
  ![v1171.toNat, 0]
def k1_off212 (k1_t9 : Fin k1_t9_loop.trips) : Fin 2 → Nat :=
  let c0_i32_134 : BitVec 32 := 0#32
  let c1_i32_136 : BitVec 32 := 1#32
  let arg14 : BitVec 32 := Scf.iv c0_i32_134 c1_i32_136 k1_t9
  let v1175 : Index := Scalar.indexCast arg14
  let c16_686 : Index := 16#32
  ![v1175.toNat, 16]
def k1_off213 (k1_t9 : Fin k1_t9_loop.trips) : Fin 2 → Nat :=
  let c0_i32_134 : BitVec 32 := 0#32
  let c1_i32_136 : BitVec 32 := 1#32
  let arg14 : BitVec 32 := Scf.iv c0_i32_134 c1_i32_136 k1_t9
  let v1179 : Index := Scalar.indexCast arg14
  let c32_687 : Index := 32#32
  ![v1179.toNat, 32]
def k1_off214 (k1_t9 : Fin k1_t9_loop.trips) : Fin 2 → Nat :=
  let c0_i32_134 : BitVec 32 := 0#32
  let c1_i32_136 : BitVec 32 := 1#32
  let arg14 : BitVec 32 := Scf.iv c0_i32_134 c1_i32_136 k1_t9
  let v1183 : Index := Scalar.indexCast arg14
  let c48_688 : Index := 48#32
  ![v1183.toNat, 48]
def k1_off215 (k1_t9 : Fin k1_t9_loop.trips) : Fin 2 → Nat :=
  let c0_i32_134 : BitVec 32 := 0#32
  let c1_i32_136 : BitVec 32 := 1#32
  let arg14 : BitVec 32 := Scf.iv c0_i32_134 c1_i32_136 k1_t9
  let v1187 : Index := Scalar.indexCast arg14
  let c64_689 : Index := 64#32
  ![v1187.toNat, 64]
def k1_off216 (k1_t9 : Fin k1_t9_loop.trips) : Fin 2 → Nat :=
  let c0_i32_134 : BitVec 32 := 0#32
  let c1_i32_136 : BitVec 32 := 1#32
  let arg14 : BitVec 32 := Scf.iv c0_i32_134 c1_i32_136 k1_t9
  let v1191 : Index := Scalar.indexCast arg14
  let c80_690 : Index := 80#32
  ![v1191.toNat, 80]
def k1_off217 (k1_t9 : Fin k1_t9_loop.trips) : Fin 2 → Nat :=
  let c0_i32_134 : BitVec 32 := 0#32
  let c1_i32_136 : BitVec 32 := 1#32
  let arg14 : BitVec 32 := Scf.iv c0_i32_134 c1_i32_136 k1_t9
  let v1195 : Index := Scalar.indexCast arg14
  let c96_691 : Index := 96#32
  ![v1195.toNat, 96]
def k1_off218 (k1_t9 : Fin k1_t9_loop.trips) : Fin 2 → Nat :=
  let c0_i32_134 : BitVec 32 := 0#32
  let c1_i32_136 : BitVec 32 := 1#32
  let arg14 : BitVec 32 := Scf.iv c0_i32_134 c1_i32_136 k1_t9
  let v1199 : Index := Scalar.indexCast arg14
  let c112_692 : Index := 112#32
  ![v1199.toNat, 112]
@[reducible] def k1_t10_loop : Scf.Loop 32 :=
  let c0_i32_149 : BitVec 32 := 0#32
  let c16_i32_150 : BitVec 32 := 16#32
  let v152 : BitVec 32 := Scalar.addi c0_i32_149 c16_i32_150
  let c1_i32_151 : BitVec 32 := 1#32
  ⟨c0_i32_149, v152, c1_i32_151⟩
def k1_off219 (k1_t10 : Fin k1_t10_loop.trips) : Fin 2 → Nat :=
  let c0_i32_149 : BitVec 32 := 0#32
  let c1_i32_151 : BitVec 32 := 1#32
  let arg14 : BitVec 32 := Scf.iv c0_i32_149 c1_i32_151 k1_t10
  let c20_i32_237 : BitVec 32 := 20#32
  let v227 : BitVec 32 := Scalar.muli arg14 c20_i32_237
  let v228 : Index := Scalar.indexCast v227
  let c0 : Index := 0#32
  ![v228.toNat, 0]
def k1_off220 (k1_t10 : Fin k1_t10_loop.trips) : Fin 2 → Nat :=
  let c0_i32_149 : BitVec 32 := 0#32
  let c1_i32_151 : BitVec 32 := 1#32
  let arg14 : BitVec 32 := Scf.iv c0_i32_149 c1_i32_151 k1_t10
  let c20_i32_238 : BitVec 32 := 20#32
  let v231 : BitVec 32 := Scalar.muli arg14 c20_i32_238
  let v232 : Index := Scalar.indexCast v231
  let c16 : Index := 16#32
  ![v232.toNat, 16]
def k1_off221 (k1_t10 : Fin k1_t10_loop.trips) : Fin 2 → Nat :=
  let c0_i32_149 : BitVec 32 := 0#32
  let c1_i32_151 : BitVec 32 := 1#32
  let arg14 : BitVec 32 := Scf.iv c0_i32_149 c1_i32_151 k1_t10
  let c20_i32_239 : BitVec 32 := 20#32
  let v235 : BitVec 32 := Scalar.muli arg14 c20_i32_239
  let v236 : Index := Scalar.indexCast v235
  let c32 : Index := 32#32
  ![v236.toNat, 32]
def k1_off222 (k1_t10 : Fin k1_t10_loop.trips) : Fin 2 → Nat :=
  let c0_i32_149 : BitVec 32 := 0#32
  let c1_i32_151 : BitVec 32 := 1#32
  let arg14 : BitVec 32 := Scf.iv c0_i32_149 c1_i32_151 k1_t10
  let c20_i32_240 : BitVec 32 := 20#32
  let v239 : BitVec 32 := Scalar.muli arg14 c20_i32_240
  let v240 : Index := Scalar.indexCast v239
  let c48 : Index := 48#32
  ![v240.toNat, 48]
def k1_off223 (k1_t10 : Fin k1_t10_loop.trips) : Fin 2 → Nat :=
  let c0_i32_149 : BitVec 32 := 0#32
  let c1_i32_151 : BitVec 32 := 1#32
  let arg14 : BitVec 32 := Scf.iv c0_i32_149 c1_i32_151 k1_t10
  let c20_i32_241 : BitVec 32 := 20#32
  let v243 : BitVec 32 := Scalar.muli arg14 c20_i32_241
  let v244 : Index := Scalar.indexCast v243
  let c64 : Index := 64#32
  ![v244.toNat, 64]
def k1_off224 (k1_t10 : Fin k1_t10_loop.trips) : Fin 2 → Nat :=
  let c0_i32_149 : BitVec 32 := 0#32
  let c1_i32_151 : BitVec 32 := 1#32
  let arg14 : BitVec 32 := Scf.iv c0_i32_149 c1_i32_151 k1_t10
  let c20_i32_242 : BitVec 32 := 20#32
  let v247 : BitVec 32 := Scalar.muli arg14 c20_i32_242
  let v248 : Index := Scalar.indexCast v247
  let c80 : Index := 80#32
  ![v248.toNat, 80]
def k1_off225 (k1_t10 : Fin k1_t10_loop.trips) : Fin 2 → Nat :=
  let c0_i32_149 : BitVec 32 := 0#32
  let c1_i32_151 : BitVec 32 := 1#32
  let arg14 : BitVec 32 := Scf.iv c0_i32_149 c1_i32_151 k1_t10
  let c20_i32_243 : BitVec 32 := 20#32
  let v251 : BitVec 32 := Scalar.muli arg14 c20_i32_243
  let v252 : Index := Scalar.indexCast v251
  let c96 : Index := 96#32
  ![v252.toNat, 96]
def k1_off226 (k1_t10 : Fin k1_t10_loop.trips) : Fin 2 → Nat :=
  let c0_i32_149 : BitVec 32 := 0#32
  let c1_i32_151 : BitVec 32 := 1#32
  let arg14 : BitVec 32 := Scf.iv c0_i32_149 c1_i32_151 k1_t10
  let c20_i32_244 : BitVec 32 := 20#32
  let v255 : BitVec 32 := Scalar.muli arg14 c20_i32_244
  let v256 : Index := Scalar.indexCast v255
  let c112 : Index := 112#32
  ![v256.toNat, 112]
def k1_off227 (k1_t10 : Fin k1_t10_loop.trips) (c1_i32_246 : BitVec 32) : Fin 2 → Nat :=
  let c0_i32_149 : BitVec 32 := 0#32
  let c1_i32_151 : BitVec 32 := 1#32
  let arg14 : BitVec 32 := Scf.iv c0_i32_149 c1_i32_151 k1_t10
  let c20_i32_245 : BitVec 32 := 20#32
  let v259 : BitVec 32 := Scalar.muli arg14 c20_i32_245
  let v260 : BitVec 32 := Scalar.addi v259 c1_i32_246
  let v261 : Index := Scalar.indexCast v260
  let c0_247 : Index := 0#32
  ![v261.toNat, 0]
def k1_off228 (k1_t10 : Fin k1_t10_loop.trips) (c1_i32_249 : BitVec 32) : Fin 2 → Nat :=
  let c0_i32_149 : BitVec 32 := 0#32
  let c1_i32_151 : BitVec 32 := 1#32
  let arg14 : BitVec 32 := Scf.iv c0_i32_149 c1_i32_151 k1_t10
  let c20_i32_248 : BitVec 32 := 20#32
  let v265 : BitVec 32 := Scalar.muli arg14 c20_i32_248
  let v266 : BitVec 32 := Scalar.addi v265 c1_i32_249
  let v267 : Index := Scalar.indexCast v266
  let c16_250 : Index := 16#32
  ![v267.toNat, 16]
def k1_off229 (k1_t10 : Fin k1_t10_loop.trips) (c1_i32_252 : BitVec 32) : Fin 2 → Nat :=
  let c0_i32_149 : BitVec 32 := 0#32
  let c1_i32_151 : BitVec 32 := 1#32
  let arg14 : BitVec 32 := Scf.iv c0_i32_149 c1_i32_151 k1_t10
  let c20_i32_251 : BitVec 32 := 20#32
  let v271 : BitVec 32 := Scalar.muli arg14 c20_i32_251
  let v272 : BitVec 32 := Scalar.addi v271 c1_i32_252
  let v273 : Index := Scalar.indexCast v272
  let c32_253 : Index := 32#32
  ![v273.toNat, 32]
def k1_off230 (k1_t10 : Fin k1_t10_loop.trips) (c1_i32_255 : BitVec 32) : Fin 2 → Nat :=
  let c0_i32_149 : BitVec 32 := 0#32
  let c1_i32_151 : BitVec 32 := 1#32
  let arg14 : BitVec 32 := Scf.iv c0_i32_149 c1_i32_151 k1_t10
  let c20_i32_254 : BitVec 32 := 20#32
  let v277 : BitVec 32 := Scalar.muli arg14 c20_i32_254
  let v278 : BitVec 32 := Scalar.addi v277 c1_i32_255
  let v279 : Index := Scalar.indexCast v278
  let c48_256 : Index := 48#32
  ![v279.toNat, 48]
def k1_off231 (k1_t10 : Fin k1_t10_loop.trips) (c1_i32_258 : BitVec 32) : Fin 2 → Nat :=
  let c0_i32_149 : BitVec 32 := 0#32
  let c1_i32_151 : BitVec 32 := 1#32
  let arg14 : BitVec 32 := Scf.iv c0_i32_149 c1_i32_151 k1_t10
  let c20_i32_257 : BitVec 32 := 20#32
  let v283 : BitVec 32 := Scalar.muli arg14 c20_i32_257
  let v284 : BitVec 32 := Scalar.addi v283 c1_i32_258
  let v285 : Index := Scalar.indexCast v284
  let c64_259 : Index := 64#32
  ![v285.toNat, 64]
def k1_off232 (k1_t10 : Fin k1_t10_loop.trips) (c1_i32_261 : BitVec 32) : Fin 2 → Nat :=
  let c0_i32_149 : BitVec 32 := 0#32
  let c1_i32_151 : BitVec 32 := 1#32
  let arg14 : BitVec 32 := Scf.iv c0_i32_149 c1_i32_151 k1_t10
  let c20_i32_260 : BitVec 32 := 20#32
  let v289 : BitVec 32 := Scalar.muli arg14 c20_i32_260
  let v290 : BitVec 32 := Scalar.addi v289 c1_i32_261
  let v291 : Index := Scalar.indexCast v290
  let c80_262 : Index := 80#32
  ![v291.toNat, 80]
def k1_off233 (k1_t10 : Fin k1_t10_loop.trips) (c1_i32_264 : BitVec 32) : Fin 2 → Nat :=
  let c0_i32_149 : BitVec 32 := 0#32
  let c1_i32_151 : BitVec 32 := 1#32
  let arg14 : BitVec 32 := Scf.iv c0_i32_149 c1_i32_151 k1_t10
  let c20_i32_263 : BitVec 32 := 20#32
  let v295 : BitVec 32 := Scalar.muli arg14 c20_i32_263
  let v296 : BitVec 32 := Scalar.addi v295 c1_i32_264
  let v297 : Index := Scalar.indexCast v296
  let c96_265 : Index := 96#32
  ![v297.toNat, 96]
def k1_off234 (k1_t10 : Fin k1_t10_loop.trips) (c1_i32_267 : BitVec 32) : Fin 2 → Nat :=
  let c0_i32_149 : BitVec 32 := 0#32
  let c1_i32_151 : BitVec 32 := 1#32
  let arg14 : BitVec 32 := Scf.iv c0_i32_149 c1_i32_151 k1_t10
  let c20_i32_266 : BitVec 32 := 20#32
  let v301 : BitVec 32 := Scalar.muli arg14 c20_i32_266
  let v302 : BitVec 32 := Scalar.addi v301 c1_i32_267
  let v303 : Index := Scalar.indexCast v302
  let c112_268 : Index := 112#32
  ![v303.toNat, 112]
def k1_off235 (k1_t10 : Fin k1_t10_loop.trips) : Fin 2 → Nat :=
  let c0_i32_149 : BitVec 32 := 0#32
  let c1_i32_151 : BitVec 32 := 1#32
  let arg14 : BitVec 32 := Scf.iv c0_i32_149 c1_i32_151 k1_t10
  let v1171 : Index := Scalar.indexCast arg14
  let c0_685 : Index := 0#32
  ![v1171.toNat, 0]
def k1_off236 (k1_t10 : Fin k1_t10_loop.trips) : Fin 2 → Nat :=
  let c0_i32_149 : BitVec 32 := 0#32
  let c1_i32_151 : BitVec 32 := 1#32
  let arg14 : BitVec 32 := Scf.iv c0_i32_149 c1_i32_151 k1_t10
  let v1175 : Index := Scalar.indexCast arg14
  let c16_686 : Index := 16#32
  ![v1175.toNat, 16]
def k1_off237 (k1_t10 : Fin k1_t10_loop.trips) : Fin 2 → Nat :=
  let c0_i32_149 : BitVec 32 := 0#32
  let c1_i32_151 : BitVec 32 := 1#32
  let arg14 : BitVec 32 := Scf.iv c0_i32_149 c1_i32_151 k1_t10
  let v1179 : Index := Scalar.indexCast arg14
  let c32_687 : Index := 32#32
  ![v1179.toNat, 32]
def k1_off238 (k1_t10 : Fin k1_t10_loop.trips) : Fin 2 → Nat :=
  let c0_i32_149 : BitVec 32 := 0#32
  let c1_i32_151 : BitVec 32 := 1#32
  let arg14 : BitVec 32 := Scf.iv c0_i32_149 c1_i32_151 k1_t10
  let v1183 : Index := Scalar.indexCast arg14
  let c48_688 : Index := 48#32
  ![v1183.toNat, 48]
def k1_off239 (k1_t10 : Fin k1_t10_loop.trips) : Fin 2 → Nat :=
  let c0_i32_149 : BitVec 32 := 0#32
  let c1_i32_151 : BitVec 32 := 1#32
  let arg14 : BitVec 32 := Scf.iv c0_i32_149 c1_i32_151 k1_t10
  let v1187 : Index := Scalar.indexCast arg14
  let c64_689 : Index := 64#32
  ![v1187.toNat, 64]
def k1_off240 (k1_t10 : Fin k1_t10_loop.trips) : Fin 2 → Nat :=
  let c0_i32_149 : BitVec 32 := 0#32
  let c1_i32_151 : BitVec 32 := 1#32
  let arg14 : BitVec 32 := Scf.iv c0_i32_149 c1_i32_151 k1_t10
  let v1191 : Index := Scalar.indexCast arg14
  let c80_690 : Index := 80#32
  ![v1191.toNat, 80]
def k1_off241 (k1_t10 : Fin k1_t10_loop.trips) : Fin 2 → Nat :=
  let c0_i32_149 : BitVec 32 := 0#32
  let c1_i32_151 : BitVec 32 := 1#32
  let arg14 : BitVec 32 := Scf.iv c0_i32_149 c1_i32_151 k1_t10
  let v1195 : Index := Scalar.indexCast arg14
  let c96_691 : Index := 96#32
  ![v1195.toNat, 96]
def k1_off242 (k1_t10 : Fin k1_t10_loop.trips) : Fin 2 → Nat :=
  let c0_i32_149 : BitVec 32 := 0#32
  let c1_i32_151 : BitVec 32 := 1#32
  let arg14 : BitVec 32 := Scf.iv c0_i32_149 c1_i32_151 k1_t10
  let v1199 : Index := Scalar.indexCast arg14
  let c112_692 : Index := 112#32
  ![v1199.toNat, 112]
@[reducible] def k1_t11_loop : Scf.Loop 32 :=
  let c0_i32_164 : BitVec 32 := 0#32
  let c16_i32_165 : BitVec 32 := 16#32
  let v166 : BitVec 32 := Scalar.addi c0_i32_164 c16_i32_165
  let c1_i32_166 : BitVec 32 := 1#32
  ⟨c0_i32_164, v166, c1_i32_166⟩
def k1_off243 (k1_t11 : Fin k1_t11_loop.trips) : Fin 2 → Nat :=
  let c0_i32_164 : BitVec 32 := 0#32
  let c1_i32_166 : BitVec 32 := 1#32
  let arg14 : BitVec 32 := Scf.iv c0_i32_164 c1_i32_166 k1_t11
  let c20_i32_237 : BitVec 32 := 20#32
  let v227 : BitVec 32 := Scalar.muli arg14 c20_i32_237
  let v228 : Index := Scalar.indexCast v227
  let c0 : Index := 0#32
  ![v228.toNat, 0]
def k1_off244 (k1_t11 : Fin k1_t11_loop.trips) : Fin 2 → Nat :=
  let c0_i32_164 : BitVec 32 := 0#32
  let c1_i32_166 : BitVec 32 := 1#32
  let arg14 : BitVec 32 := Scf.iv c0_i32_164 c1_i32_166 k1_t11
  let c20_i32_238 : BitVec 32 := 20#32
  let v231 : BitVec 32 := Scalar.muli arg14 c20_i32_238
  let v232 : Index := Scalar.indexCast v231
  let c16 : Index := 16#32
  ![v232.toNat, 16]
def k1_off245 (k1_t11 : Fin k1_t11_loop.trips) : Fin 2 → Nat :=
  let c0_i32_164 : BitVec 32 := 0#32
  let c1_i32_166 : BitVec 32 := 1#32
  let arg14 : BitVec 32 := Scf.iv c0_i32_164 c1_i32_166 k1_t11
  let c20_i32_239 : BitVec 32 := 20#32
  let v235 : BitVec 32 := Scalar.muli arg14 c20_i32_239
  let v236 : Index := Scalar.indexCast v235
  let c32 : Index := 32#32
  ![v236.toNat, 32]
def k1_off246 (k1_t11 : Fin k1_t11_loop.trips) : Fin 2 → Nat :=
  let c0_i32_164 : BitVec 32 := 0#32
  let c1_i32_166 : BitVec 32 := 1#32
  let arg14 : BitVec 32 := Scf.iv c0_i32_164 c1_i32_166 k1_t11
  let c20_i32_240 : BitVec 32 := 20#32
  let v239 : BitVec 32 := Scalar.muli arg14 c20_i32_240
  let v240 : Index := Scalar.indexCast v239
  let c48 : Index := 48#32
  ![v240.toNat, 48]
def k1_off247 (k1_t11 : Fin k1_t11_loop.trips) : Fin 2 → Nat :=
  let c0_i32_164 : BitVec 32 := 0#32
  let c1_i32_166 : BitVec 32 := 1#32
  let arg14 : BitVec 32 := Scf.iv c0_i32_164 c1_i32_166 k1_t11
  let c20_i32_241 : BitVec 32 := 20#32
  let v243 : BitVec 32 := Scalar.muli arg14 c20_i32_241
  let v244 : Index := Scalar.indexCast v243
  let c64 : Index := 64#32
  ![v244.toNat, 64]
def k1_off248 (k1_t11 : Fin k1_t11_loop.trips) : Fin 2 → Nat :=
  let c0_i32_164 : BitVec 32 := 0#32
  let c1_i32_166 : BitVec 32 := 1#32
  let arg14 : BitVec 32 := Scf.iv c0_i32_164 c1_i32_166 k1_t11
  let c20_i32_242 : BitVec 32 := 20#32
  let v247 : BitVec 32 := Scalar.muli arg14 c20_i32_242
  let v248 : Index := Scalar.indexCast v247
  let c80 : Index := 80#32
  ![v248.toNat, 80]
def k1_off249 (k1_t11 : Fin k1_t11_loop.trips) : Fin 2 → Nat :=
  let c0_i32_164 : BitVec 32 := 0#32
  let c1_i32_166 : BitVec 32 := 1#32
  let arg14 : BitVec 32 := Scf.iv c0_i32_164 c1_i32_166 k1_t11
  let c20_i32_243 : BitVec 32 := 20#32
  let v251 : BitVec 32 := Scalar.muli arg14 c20_i32_243
  let v252 : Index := Scalar.indexCast v251
  let c96 : Index := 96#32
  ![v252.toNat, 96]
def k1_off250 (k1_t11 : Fin k1_t11_loop.trips) : Fin 2 → Nat :=
  let c0_i32_164 : BitVec 32 := 0#32
  let c1_i32_166 : BitVec 32 := 1#32
  let arg14 : BitVec 32 := Scf.iv c0_i32_164 c1_i32_166 k1_t11
  let c20_i32_244 : BitVec 32 := 20#32
  let v255 : BitVec 32 := Scalar.muli arg14 c20_i32_244
  let v256 : Index := Scalar.indexCast v255
  let c112 : Index := 112#32
  ![v256.toNat, 112]
def k1_off251 (k1_t11 : Fin k1_t11_loop.trips) (c1_i32_246 : BitVec 32) : Fin 2 → Nat :=
  let c0_i32_164 : BitVec 32 := 0#32
  let c1_i32_166 : BitVec 32 := 1#32
  let arg14 : BitVec 32 := Scf.iv c0_i32_164 c1_i32_166 k1_t11
  let c20_i32_245 : BitVec 32 := 20#32
  let v259 : BitVec 32 := Scalar.muli arg14 c20_i32_245
  let v260 : BitVec 32 := Scalar.addi v259 c1_i32_246
  let v261 : Index := Scalar.indexCast v260
  let c0_247 : Index := 0#32
  ![v261.toNat, 0]
def k1_off252 (k1_t11 : Fin k1_t11_loop.trips) (c1_i32_249 : BitVec 32) : Fin 2 → Nat :=
  let c0_i32_164 : BitVec 32 := 0#32
  let c1_i32_166 : BitVec 32 := 1#32
  let arg14 : BitVec 32 := Scf.iv c0_i32_164 c1_i32_166 k1_t11
  let c20_i32_248 : BitVec 32 := 20#32
  let v265 : BitVec 32 := Scalar.muli arg14 c20_i32_248
  let v266 : BitVec 32 := Scalar.addi v265 c1_i32_249
  let v267 : Index := Scalar.indexCast v266
  let c16_250 : Index := 16#32
  ![v267.toNat, 16]
def k1_off253 (k1_t11 : Fin k1_t11_loop.trips) (c1_i32_252 : BitVec 32) : Fin 2 → Nat :=
  let c0_i32_164 : BitVec 32 := 0#32
  let c1_i32_166 : BitVec 32 := 1#32
  let arg14 : BitVec 32 := Scf.iv c0_i32_164 c1_i32_166 k1_t11
  let c20_i32_251 : BitVec 32 := 20#32
  let v271 : BitVec 32 := Scalar.muli arg14 c20_i32_251
  let v272 : BitVec 32 := Scalar.addi v271 c1_i32_252
  let v273 : Index := Scalar.indexCast v272
  let c32_253 : Index := 32#32
  ![v273.toNat, 32]
def k1_off254 (k1_t11 : Fin k1_t11_loop.trips) (c1_i32_255 : BitVec 32) : Fin 2 → Nat :=
  let c0_i32_164 : BitVec 32 := 0#32
  let c1_i32_166 : BitVec 32 := 1#32
  let arg14 : BitVec 32 := Scf.iv c0_i32_164 c1_i32_166 k1_t11
  let c20_i32_254 : BitVec 32 := 20#32
  let v277 : BitVec 32 := Scalar.muli arg14 c20_i32_254
  let v278 : BitVec 32 := Scalar.addi v277 c1_i32_255
  let v279 : Index := Scalar.indexCast v278
  let c48_256 : Index := 48#32
  ![v279.toNat, 48]
def k1_off255 (k1_t11 : Fin k1_t11_loop.trips) (c1_i32_258 : BitVec 32) : Fin 2 → Nat :=
  let c0_i32_164 : BitVec 32 := 0#32
  let c1_i32_166 : BitVec 32 := 1#32
  let arg14 : BitVec 32 := Scf.iv c0_i32_164 c1_i32_166 k1_t11
  let c20_i32_257 : BitVec 32 := 20#32
  let v283 : BitVec 32 := Scalar.muli arg14 c20_i32_257
  let v284 : BitVec 32 := Scalar.addi v283 c1_i32_258
  let v285 : Index := Scalar.indexCast v284
  let c64_259 : Index := 64#32
  ![v285.toNat, 64]
def k1_off256 (k1_t11 : Fin k1_t11_loop.trips) (c1_i32_261 : BitVec 32) : Fin 2 → Nat :=
  let c0_i32_164 : BitVec 32 := 0#32
  let c1_i32_166 : BitVec 32 := 1#32
  let arg14 : BitVec 32 := Scf.iv c0_i32_164 c1_i32_166 k1_t11
  let c20_i32_260 : BitVec 32 := 20#32
  let v289 : BitVec 32 := Scalar.muli arg14 c20_i32_260
  let v290 : BitVec 32 := Scalar.addi v289 c1_i32_261
  let v291 : Index := Scalar.indexCast v290
  let c80_262 : Index := 80#32
  ![v291.toNat, 80]
def k1_off257 (k1_t11 : Fin k1_t11_loop.trips) (c1_i32_264 : BitVec 32) : Fin 2 → Nat :=
  let c0_i32_164 : BitVec 32 := 0#32
  let c1_i32_166 : BitVec 32 := 1#32
  let arg14 : BitVec 32 := Scf.iv c0_i32_164 c1_i32_166 k1_t11
  let c20_i32_263 : BitVec 32 := 20#32
  let v295 : BitVec 32 := Scalar.muli arg14 c20_i32_263
  let v296 : BitVec 32 := Scalar.addi v295 c1_i32_264
  let v297 : Index := Scalar.indexCast v296
  let c96_265 : Index := 96#32
  ![v297.toNat, 96]
def k1_off258 (k1_t11 : Fin k1_t11_loop.trips) (c1_i32_267 : BitVec 32) : Fin 2 → Nat :=
  let c0_i32_164 : BitVec 32 := 0#32
  let c1_i32_166 : BitVec 32 := 1#32
  let arg14 : BitVec 32 := Scf.iv c0_i32_164 c1_i32_166 k1_t11
  let c20_i32_266 : BitVec 32 := 20#32
  let v301 : BitVec 32 := Scalar.muli arg14 c20_i32_266
  let v302 : BitVec 32 := Scalar.addi v301 c1_i32_267
  let v303 : Index := Scalar.indexCast v302
  let c112_268 : Index := 112#32
  ![v303.toNat, 112]
def k1_off259 (k1_t11 : Fin k1_t11_loop.trips) : Fin 2 → Nat :=
  let c0_i32_164 : BitVec 32 := 0#32
  let c1_i32_166 : BitVec 32 := 1#32
  let arg14 : BitVec 32 := Scf.iv c0_i32_164 c1_i32_166 k1_t11
  let v1171 : Index := Scalar.indexCast arg14
  let c0_685 : Index := 0#32
  ![v1171.toNat, 0]
def k1_off260 (k1_t11 : Fin k1_t11_loop.trips) : Fin 2 → Nat :=
  let c0_i32_164 : BitVec 32 := 0#32
  let c1_i32_166 : BitVec 32 := 1#32
  let arg14 : BitVec 32 := Scf.iv c0_i32_164 c1_i32_166 k1_t11
  let v1175 : Index := Scalar.indexCast arg14
  let c16_686 : Index := 16#32
  ![v1175.toNat, 16]
def k1_off261 (k1_t11 : Fin k1_t11_loop.trips) : Fin 2 → Nat :=
  let c0_i32_164 : BitVec 32 := 0#32
  let c1_i32_166 : BitVec 32 := 1#32
  let arg14 : BitVec 32 := Scf.iv c0_i32_164 c1_i32_166 k1_t11
  let v1179 : Index := Scalar.indexCast arg14
  let c32_687 : Index := 32#32
  ![v1179.toNat, 32]
def k1_off262 (k1_t11 : Fin k1_t11_loop.trips) : Fin 2 → Nat :=
  let c0_i32_164 : BitVec 32 := 0#32
  let c1_i32_166 : BitVec 32 := 1#32
  let arg14 : BitVec 32 := Scf.iv c0_i32_164 c1_i32_166 k1_t11
  let v1183 : Index := Scalar.indexCast arg14
  let c48_688 : Index := 48#32
  ![v1183.toNat, 48]
def k1_off263 (k1_t11 : Fin k1_t11_loop.trips) : Fin 2 → Nat :=
  let c0_i32_164 : BitVec 32 := 0#32
  let c1_i32_166 : BitVec 32 := 1#32
  let arg14 : BitVec 32 := Scf.iv c0_i32_164 c1_i32_166 k1_t11
  let v1187 : Index := Scalar.indexCast arg14
  let c64_689 : Index := 64#32
  ![v1187.toNat, 64]
def k1_off264 (k1_t11 : Fin k1_t11_loop.trips) : Fin 2 → Nat :=
  let c0_i32_164 : BitVec 32 := 0#32
  let c1_i32_166 : BitVec 32 := 1#32
  let arg14 : BitVec 32 := Scf.iv c0_i32_164 c1_i32_166 k1_t11
  let v1191 : Index := Scalar.indexCast arg14
  let c80_690 : Index := 80#32
  ![v1191.toNat, 80]
def k1_off265 (k1_t11 : Fin k1_t11_loop.trips) : Fin 2 → Nat :=
  let c0_i32_164 : BitVec 32 := 0#32
  let c1_i32_166 : BitVec 32 := 1#32
  let arg14 : BitVec 32 := Scf.iv c0_i32_164 c1_i32_166 k1_t11
  let v1195 : Index := Scalar.indexCast arg14
  let c96_691 : Index := 96#32
  ![v1195.toNat, 96]
def k1_off266 (k1_t11 : Fin k1_t11_loop.trips) : Fin 2 → Nat :=
  let c0_i32_164 : BitVec 32 := 0#32
  let c1_i32_166 : BitVec 32 := 1#32
  let arg14 : BitVec 32 := Scf.iv c0_i32_164 c1_i32_166 k1_t11
  let v1199 : Index := Scalar.indexCast arg14
  let c112_692 : Index := 112#32
  ![v1199.toNat, 112]
@[reducible] def k1_t12_loop : Scf.Loop 32 :=
  let c0_i32_179 : BitVec 32 := 0#32
  let c16_i32_180 : BitVec 32 := 16#32
  let v180 : BitVec 32 := Scalar.addi c0_i32_179 c16_i32_180
  let c1_i32_181 : BitVec 32 := 1#32
  ⟨c0_i32_179, v180, c1_i32_181⟩
def k1_off267 (k1_t12 : Fin k1_t12_loop.trips) : Fin 2 → Nat :=
  let c0_i32_179 : BitVec 32 := 0#32
  let c1_i32_181 : BitVec 32 := 1#32
  let arg14 : BitVec 32 := Scf.iv c0_i32_179 c1_i32_181 k1_t12
  let c20_i32_237 : BitVec 32 := 20#32
  let v227 : BitVec 32 := Scalar.muli arg14 c20_i32_237
  let v228 : Index := Scalar.indexCast v227
  let c0 : Index := 0#32
  ![v228.toNat, 0]
def k1_off268 (k1_t12 : Fin k1_t12_loop.trips) : Fin 2 → Nat :=
  let c0_i32_179 : BitVec 32 := 0#32
  let c1_i32_181 : BitVec 32 := 1#32
  let arg14 : BitVec 32 := Scf.iv c0_i32_179 c1_i32_181 k1_t12
  let c20_i32_238 : BitVec 32 := 20#32
  let v231 : BitVec 32 := Scalar.muli arg14 c20_i32_238
  let v232 : Index := Scalar.indexCast v231
  let c16 : Index := 16#32
  ![v232.toNat, 16]
def k1_off269 (k1_t12 : Fin k1_t12_loop.trips) : Fin 2 → Nat :=
  let c0_i32_179 : BitVec 32 := 0#32
  let c1_i32_181 : BitVec 32 := 1#32
  let arg14 : BitVec 32 := Scf.iv c0_i32_179 c1_i32_181 k1_t12
  let c20_i32_239 : BitVec 32 := 20#32
  let v235 : BitVec 32 := Scalar.muli arg14 c20_i32_239
  let v236 : Index := Scalar.indexCast v235
  let c32 : Index := 32#32
  ![v236.toNat, 32]
def k1_off270 (k1_t12 : Fin k1_t12_loop.trips) : Fin 2 → Nat :=
  let c0_i32_179 : BitVec 32 := 0#32
  let c1_i32_181 : BitVec 32 := 1#32
  let arg14 : BitVec 32 := Scf.iv c0_i32_179 c1_i32_181 k1_t12
  let c20_i32_240 : BitVec 32 := 20#32
  let v239 : BitVec 32 := Scalar.muli arg14 c20_i32_240
  let v240 : Index := Scalar.indexCast v239
  let c48 : Index := 48#32
  ![v240.toNat, 48]
def k1_off271 (k1_t12 : Fin k1_t12_loop.trips) : Fin 2 → Nat :=
  let c0_i32_179 : BitVec 32 := 0#32
  let c1_i32_181 : BitVec 32 := 1#32
  let arg14 : BitVec 32 := Scf.iv c0_i32_179 c1_i32_181 k1_t12
  let c20_i32_241 : BitVec 32 := 20#32
  let v243 : BitVec 32 := Scalar.muli arg14 c20_i32_241
  let v244 : Index := Scalar.indexCast v243
  let c64 : Index := 64#32
  ![v244.toNat, 64]
def k1_off272 (k1_t12 : Fin k1_t12_loop.trips) : Fin 2 → Nat :=
  let c0_i32_179 : BitVec 32 := 0#32
  let c1_i32_181 : BitVec 32 := 1#32
  let arg14 : BitVec 32 := Scf.iv c0_i32_179 c1_i32_181 k1_t12
  let c20_i32_242 : BitVec 32 := 20#32
  let v247 : BitVec 32 := Scalar.muli arg14 c20_i32_242
  let v248 : Index := Scalar.indexCast v247
  let c80 : Index := 80#32
  ![v248.toNat, 80]
def k1_off273 (k1_t12 : Fin k1_t12_loop.trips) : Fin 2 → Nat :=
  let c0_i32_179 : BitVec 32 := 0#32
  let c1_i32_181 : BitVec 32 := 1#32
  let arg14 : BitVec 32 := Scf.iv c0_i32_179 c1_i32_181 k1_t12
  let c20_i32_243 : BitVec 32 := 20#32
  let v251 : BitVec 32 := Scalar.muli arg14 c20_i32_243
  let v252 : Index := Scalar.indexCast v251
  let c96 : Index := 96#32
  ![v252.toNat, 96]
def k1_off274 (k1_t12 : Fin k1_t12_loop.trips) : Fin 2 → Nat :=
  let c0_i32_179 : BitVec 32 := 0#32
  let c1_i32_181 : BitVec 32 := 1#32
  let arg14 : BitVec 32 := Scf.iv c0_i32_179 c1_i32_181 k1_t12
  let c20_i32_244 : BitVec 32 := 20#32
  let v255 : BitVec 32 := Scalar.muli arg14 c20_i32_244
  let v256 : Index := Scalar.indexCast v255
  let c112 : Index := 112#32
  ![v256.toNat, 112]
def k1_off275 (k1_t12 : Fin k1_t12_loop.trips) (c1_i32_246 : BitVec 32) : Fin 2 → Nat :=
  let c0_i32_179 : BitVec 32 := 0#32
  let c1_i32_181 : BitVec 32 := 1#32
  let arg14 : BitVec 32 := Scf.iv c0_i32_179 c1_i32_181 k1_t12
  let c20_i32_245 : BitVec 32 := 20#32
  let v259 : BitVec 32 := Scalar.muli arg14 c20_i32_245
  let v260 : BitVec 32 := Scalar.addi v259 c1_i32_246
  let v261 : Index := Scalar.indexCast v260
  let c0_247 : Index := 0#32
  ![v261.toNat, 0]
def k1_off276 (k1_t12 : Fin k1_t12_loop.trips) (c1_i32_249 : BitVec 32) : Fin 2 → Nat :=
  let c0_i32_179 : BitVec 32 := 0#32
  let c1_i32_181 : BitVec 32 := 1#32
  let arg14 : BitVec 32 := Scf.iv c0_i32_179 c1_i32_181 k1_t12
  let c20_i32_248 : BitVec 32 := 20#32
  let v265 : BitVec 32 := Scalar.muli arg14 c20_i32_248
  let v266 : BitVec 32 := Scalar.addi v265 c1_i32_249
  let v267 : Index := Scalar.indexCast v266
  let c16_250 : Index := 16#32
  ![v267.toNat, 16]
def k1_off277 (k1_t12 : Fin k1_t12_loop.trips) (c1_i32_252 : BitVec 32) : Fin 2 → Nat :=
  let c0_i32_179 : BitVec 32 := 0#32
  let c1_i32_181 : BitVec 32 := 1#32
  let arg14 : BitVec 32 := Scf.iv c0_i32_179 c1_i32_181 k1_t12
  let c20_i32_251 : BitVec 32 := 20#32
  let v271 : BitVec 32 := Scalar.muli arg14 c20_i32_251
  let v272 : BitVec 32 := Scalar.addi v271 c1_i32_252
  let v273 : Index := Scalar.indexCast v272
  let c32_253 : Index := 32#32
  ![v273.toNat, 32]
def k1_off278 (k1_t12 : Fin k1_t12_loop.trips) (c1_i32_255 : BitVec 32) : Fin 2 → Nat :=
  let c0_i32_179 : BitVec 32 := 0#32
  let c1_i32_181 : BitVec 32 := 1#32
  let arg14 : BitVec 32 := Scf.iv c0_i32_179 c1_i32_181 k1_t12
  let c20_i32_254 : BitVec 32 := 20#32
  let v277 : BitVec 32 := Scalar.muli arg14 c20_i32_254
  let v278 : BitVec 32 := Scalar.addi v277 c1_i32_255
  let v279 : Index := Scalar.indexCast v278
  let c48_256 : Index := 48#32
  ![v279.toNat, 48]
def k1_off279 (k1_t12 : Fin k1_t12_loop.trips) (c1_i32_258 : BitVec 32) : Fin 2 → Nat :=
  let c0_i32_179 : BitVec 32 := 0#32
  let c1_i32_181 : BitVec 32 := 1#32
  let arg14 : BitVec 32 := Scf.iv c0_i32_179 c1_i32_181 k1_t12
  let c20_i32_257 : BitVec 32 := 20#32
  let v283 : BitVec 32 := Scalar.muli arg14 c20_i32_257
  let v284 : BitVec 32 := Scalar.addi v283 c1_i32_258
  let v285 : Index := Scalar.indexCast v284
  let c64_259 : Index := 64#32
  ![v285.toNat, 64]
def k1_off280 (k1_t12 : Fin k1_t12_loop.trips) (c1_i32_261 : BitVec 32) : Fin 2 → Nat :=
  let c0_i32_179 : BitVec 32 := 0#32
  let c1_i32_181 : BitVec 32 := 1#32
  let arg14 : BitVec 32 := Scf.iv c0_i32_179 c1_i32_181 k1_t12
  let c20_i32_260 : BitVec 32 := 20#32
  let v289 : BitVec 32 := Scalar.muli arg14 c20_i32_260
  let v290 : BitVec 32 := Scalar.addi v289 c1_i32_261
  let v291 : Index := Scalar.indexCast v290
  let c80_262 : Index := 80#32
  ![v291.toNat, 80]
def k1_off281 (k1_t12 : Fin k1_t12_loop.trips) (c1_i32_264 : BitVec 32) : Fin 2 → Nat :=
  let c0_i32_179 : BitVec 32 := 0#32
  let c1_i32_181 : BitVec 32 := 1#32
  let arg14 : BitVec 32 := Scf.iv c0_i32_179 c1_i32_181 k1_t12
  let c20_i32_263 : BitVec 32 := 20#32
  let v295 : BitVec 32 := Scalar.muli arg14 c20_i32_263
  let v296 : BitVec 32 := Scalar.addi v295 c1_i32_264
  let v297 : Index := Scalar.indexCast v296
  let c96_265 : Index := 96#32
  ![v297.toNat, 96]
def k1_off282 (k1_t12 : Fin k1_t12_loop.trips) (c1_i32_267 : BitVec 32) : Fin 2 → Nat :=
  let c0_i32_179 : BitVec 32 := 0#32
  let c1_i32_181 : BitVec 32 := 1#32
  let arg14 : BitVec 32 := Scf.iv c0_i32_179 c1_i32_181 k1_t12
  let c20_i32_266 : BitVec 32 := 20#32
  let v301 : BitVec 32 := Scalar.muli arg14 c20_i32_266
  let v302 : BitVec 32 := Scalar.addi v301 c1_i32_267
  let v303 : Index := Scalar.indexCast v302
  let c112_268 : Index := 112#32
  ![v303.toNat, 112]
def k1_off283 (k1_t12 : Fin k1_t12_loop.trips) : Fin 2 → Nat :=
  let c0_i32_179 : BitVec 32 := 0#32
  let c1_i32_181 : BitVec 32 := 1#32
  let arg14 : BitVec 32 := Scf.iv c0_i32_179 c1_i32_181 k1_t12
  let v1171 : Index := Scalar.indexCast arg14
  let c0_685 : Index := 0#32
  ![v1171.toNat, 0]
def k1_off284 (k1_t12 : Fin k1_t12_loop.trips) : Fin 2 → Nat :=
  let c0_i32_179 : BitVec 32 := 0#32
  let c1_i32_181 : BitVec 32 := 1#32
  let arg14 : BitVec 32 := Scf.iv c0_i32_179 c1_i32_181 k1_t12
  let v1175 : Index := Scalar.indexCast arg14
  let c16_686 : Index := 16#32
  ![v1175.toNat, 16]
def k1_off285 (k1_t12 : Fin k1_t12_loop.trips) : Fin 2 → Nat :=
  let c0_i32_179 : BitVec 32 := 0#32
  let c1_i32_181 : BitVec 32 := 1#32
  let arg14 : BitVec 32 := Scf.iv c0_i32_179 c1_i32_181 k1_t12
  let v1179 : Index := Scalar.indexCast arg14
  let c32_687 : Index := 32#32
  ![v1179.toNat, 32]
def k1_off286 (k1_t12 : Fin k1_t12_loop.trips) : Fin 2 → Nat :=
  let c0_i32_179 : BitVec 32 := 0#32
  let c1_i32_181 : BitVec 32 := 1#32
  let arg14 : BitVec 32 := Scf.iv c0_i32_179 c1_i32_181 k1_t12
  let v1183 : Index := Scalar.indexCast arg14
  let c48_688 : Index := 48#32
  ![v1183.toNat, 48]
def k1_off287 (k1_t12 : Fin k1_t12_loop.trips) : Fin 2 → Nat :=
  let c0_i32_179 : BitVec 32 := 0#32
  let c1_i32_181 : BitVec 32 := 1#32
  let arg14 : BitVec 32 := Scf.iv c0_i32_179 c1_i32_181 k1_t12
  let v1187 : Index := Scalar.indexCast arg14
  let c64_689 : Index := 64#32
  ![v1187.toNat, 64]
def k1_off288 (k1_t12 : Fin k1_t12_loop.trips) : Fin 2 → Nat :=
  let c0_i32_179 : BitVec 32 := 0#32
  let c1_i32_181 : BitVec 32 := 1#32
  let arg14 : BitVec 32 := Scf.iv c0_i32_179 c1_i32_181 k1_t12
  let v1191 : Index := Scalar.indexCast arg14
  let c80_690 : Index := 80#32
  ![v1191.toNat, 80]
def k1_off289 (k1_t12 : Fin k1_t12_loop.trips) : Fin 2 → Nat :=
  let c0_i32_179 : BitVec 32 := 0#32
  let c1_i32_181 : BitVec 32 := 1#32
  let arg14 : BitVec 32 := Scf.iv c0_i32_179 c1_i32_181 k1_t12
  let v1195 : Index := Scalar.indexCast arg14
  let c96_691 : Index := 96#32
  ![v1195.toNat, 96]
def k1_off290 (k1_t12 : Fin k1_t12_loop.trips) : Fin 2 → Nat :=
  let c0_i32_179 : BitVec 32 := 0#32
  let c1_i32_181 : BitVec 32 := 1#32
  let arg14 : BitVec 32 := Scf.iv c0_i32_179 c1_i32_181 k1_t12
  let v1199 : Index := Scalar.indexCast arg14
  let c112_692 : Index := 112#32
  ![v1199.toNat, 112]
@[reducible] def k1_t13_loop : Scf.Loop 32 :=
  let c0_i32_194 : BitVec 32 := 0#32
  let c16_i32_195 : BitVec 32 := 16#32
  let v194 : BitVec 32 := Scalar.addi c0_i32_194 c16_i32_195
  let c1_i32_196 : BitVec 32 := 1#32
  ⟨c0_i32_194, v194, c1_i32_196⟩
def k1_off291 (k1_t13 : Fin k1_t13_loop.trips) : Fin 2 → Nat :=
  let c0_i32_194 : BitVec 32 := 0#32
  let c1_i32_196 : BitVec 32 := 1#32
  let arg14 : BitVec 32 := Scf.iv c0_i32_194 c1_i32_196 k1_t13
  let c20_i32_237 : BitVec 32 := 20#32
  let v227 : BitVec 32 := Scalar.muli arg14 c20_i32_237
  let v228 : Index := Scalar.indexCast v227
  let c0 : Index := 0#32
  ![v228.toNat, 0]
def k1_off292 (k1_t13 : Fin k1_t13_loop.trips) : Fin 2 → Nat :=
  let c0_i32_194 : BitVec 32 := 0#32
  let c1_i32_196 : BitVec 32 := 1#32
  let arg14 : BitVec 32 := Scf.iv c0_i32_194 c1_i32_196 k1_t13
  let c20_i32_238 : BitVec 32 := 20#32
  let v231 : BitVec 32 := Scalar.muli arg14 c20_i32_238
  let v232 : Index := Scalar.indexCast v231
  let c16 : Index := 16#32
  ![v232.toNat, 16]
def k1_off293 (k1_t13 : Fin k1_t13_loop.trips) : Fin 2 → Nat :=
  let c0_i32_194 : BitVec 32 := 0#32
  let c1_i32_196 : BitVec 32 := 1#32
  let arg14 : BitVec 32 := Scf.iv c0_i32_194 c1_i32_196 k1_t13
  let c20_i32_239 : BitVec 32 := 20#32
  let v235 : BitVec 32 := Scalar.muli arg14 c20_i32_239
  let v236 : Index := Scalar.indexCast v235
  let c32 : Index := 32#32
  ![v236.toNat, 32]
def k1_off294 (k1_t13 : Fin k1_t13_loop.trips) : Fin 2 → Nat :=
  let c0_i32_194 : BitVec 32 := 0#32
  let c1_i32_196 : BitVec 32 := 1#32
  let arg14 : BitVec 32 := Scf.iv c0_i32_194 c1_i32_196 k1_t13
  let c20_i32_240 : BitVec 32 := 20#32
  let v239 : BitVec 32 := Scalar.muli arg14 c20_i32_240
  let v240 : Index := Scalar.indexCast v239
  let c48 : Index := 48#32
  ![v240.toNat, 48]
def k1_off295 (k1_t13 : Fin k1_t13_loop.trips) : Fin 2 → Nat :=
  let c0_i32_194 : BitVec 32 := 0#32
  let c1_i32_196 : BitVec 32 := 1#32
  let arg14 : BitVec 32 := Scf.iv c0_i32_194 c1_i32_196 k1_t13
  let c20_i32_241 : BitVec 32 := 20#32
  let v243 : BitVec 32 := Scalar.muli arg14 c20_i32_241
  let v244 : Index := Scalar.indexCast v243
  let c64 : Index := 64#32
  ![v244.toNat, 64]
def k1_off296 (k1_t13 : Fin k1_t13_loop.trips) : Fin 2 → Nat :=
  let c0_i32_194 : BitVec 32 := 0#32
  let c1_i32_196 : BitVec 32 := 1#32
  let arg14 : BitVec 32 := Scf.iv c0_i32_194 c1_i32_196 k1_t13
  let c20_i32_242 : BitVec 32 := 20#32
  let v247 : BitVec 32 := Scalar.muli arg14 c20_i32_242
  let v248 : Index := Scalar.indexCast v247
  let c80 : Index := 80#32
  ![v248.toNat, 80]
def k1_off297 (k1_t13 : Fin k1_t13_loop.trips) : Fin 2 → Nat :=
  let c0_i32_194 : BitVec 32 := 0#32
  let c1_i32_196 : BitVec 32 := 1#32
  let arg14 : BitVec 32 := Scf.iv c0_i32_194 c1_i32_196 k1_t13
  let c20_i32_243 : BitVec 32 := 20#32
  let v251 : BitVec 32 := Scalar.muli arg14 c20_i32_243
  let v252 : Index := Scalar.indexCast v251
  let c96 : Index := 96#32
  ![v252.toNat, 96]
def k1_off298 (k1_t13 : Fin k1_t13_loop.trips) : Fin 2 → Nat :=
  let c0_i32_194 : BitVec 32 := 0#32
  let c1_i32_196 : BitVec 32 := 1#32
  let arg14 : BitVec 32 := Scf.iv c0_i32_194 c1_i32_196 k1_t13
  let c20_i32_244 : BitVec 32 := 20#32
  let v255 : BitVec 32 := Scalar.muli arg14 c20_i32_244
  let v256 : Index := Scalar.indexCast v255
  let c112 : Index := 112#32
  ![v256.toNat, 112]
def k1_off299 (k1_t13 : Fin k1_t13_loop.trips) (c1_i32_246 : BitVec 32) : Fin 2 → Nat :=
  let c0_i32_194 : BitVec 32 := 0#32
  let c1_i32_196 : BitVec 32 := 1#32
  let arg14 : BitVec 32 := Scf.iv c0_i32_194 c1_i32_196 k1_t13
  let c20_i32_245 : BitVec 32 := 20#32
  let v259 : BitVec 32 := Scalar.muli arg14 c20_i32_245
  let v260 : BitVec 32 := Scalar.addi v259 c1_i32_246
  let v261 : Index := Scalar.indexCast v260
  let c0_247 : Index := 0#32
  ![v261.toNat, 0]
def k1_off300 (k1_t13 : Fin k1_t13_loop.trips) (c1_i32_249 : BitVec 32) : Fin 2 → Nat :=
  let c0_i32_194 : BitVec 32 := 0#32
  let c1_i32_196 : BitVec 32 := 1#32
  let arg14 : BitVec 32 := Scf.iv c0_i32_194 c1_i32_196 k1_t13
  let c20_i32_248 : BitVec 32 := 20#32
  let v265 : BitVec 32 := Scalar.muli arg14 c20_i32_248
  let v266 : BitVec 32 := Scalar.addi v265 c1_i32_249
  let v267 : Index := Scalar.indexCast v266
  let c16_250 : Index := 16#32
  ![v267.toNat, 16]
def k1_off301 (k1_t13 : Fin k1_t13_loop.trips) (c1_i32_252 : BitVec 32) : Fin 2 → Nat :=
  let c0_i32_194 : BitVec 32 := 0#32
  let c1_i32_196 : BitVec 32 := 1#32
  let arg14 : BitVec 32 := Scf.iv c0_i32_194 c1_i32_196 k1_t13
  let c20_i32_251 : BitVec 32 := 20#32
  let v271 : BitVec 32 := Scalar.muli arg14 c20_i32_251
  let v272 : BitVec 32 := Scalar.addi v271 c1_i32_252
  let v273 : Index := Scalar.indexCast v272
  let c32_253 : Index := 32#32
  ![v273.toNat, 32]
def k1_off302 (k1_t13 : Fin k1_t13_loop.trips) (c1_i32_255 : BitVec 32) : Fin 2 → Nat :=
  let c0_i32_194 : BitVec 32 := 0#32
  let c1_i32_196 : BitVec 32 := 1#32
  let arg14 : BitVec 32 := Scf.iv c0_i32_194 c1_i32_196 k1_t13
  let c20_i32_254 : BitVec 32 := 20#32
  let v277 : BitVec 32 := Scalar.muli arg14 c20_i32_254
  let v278 : BitVec 32 := Scalar.addi v277 c1_i32_255
  let v279 : Index := Scalar.indexCast v278
  let c48_256 : Index := 48#32
  ![v279.toNat, 48]
def k1_off303 (k1_t13 : Fin k1_t13_loop.trips) (c1_i32_258 : BitVec 32) : Fin 2 → Nat :=
  let c0_i32_194 : BitVec 32 := 0#32
  let c1_i32_196 : BitVec 32 := 1#32
  let arg14 : BitVec 32 := Scf.iv c0_i32_194 c1_i32_196 k1_t13
  let c20_i32_257 : BitVec 32 := 20#32
  let v283 : BitVec 32 := Scalar.muli arg14 c20_i32_257
  let v284 : BitVec 32 := Scalar.addi v283 c1_i32_258
  let v285 : Index := Scalar.indexCast v284
  let c64_259 : Index := 64#32
  ![v285.toNat, 64]
def k1_off304 (k1_t13 : Fin k1_t13_loop.trips) (c1_i32_261 : BitVec 32) : Fin 2 → Nat :=
  let c0_i32_194 : BitVec 32 := 0#32
  let c1_i32_196 : BitVec 32 := 1#32
  let arg14 : BitVec 32 := Scf.iv c0_i32_194 c1_i32_196 k1_t13
  let c20_i32_260 : BitVec 32 := 20#32
  let v289 : BitVec 32 := Scalar.muli arg14 c20_i32_260
  let v290 : BitVec 32 := Scalar.addi v289 c1_i32_261
  let v291 : Index := Scalar.indexCast v290
  let c80_262 : Index := 80#32
  ![v291.toNat, 80]
def k1_off305 (k1_t13 : Fin k1_t13_loop.trips) (c1_i32_264 : BitVec 32) : Fin 2 → Nat :=
  let c0_i32_194 : BitVec 32 := 0#32
  let c1_i32_196 : BitVec 32 := 1#32
  let arg14 : BitVec 32 := Scf.iv c0_i32_194 c1_i32_196 k1_t13
  let c20_i32_263 : BitVec 32 := 20#32
  let v295 : BitVec 32 := Scalar.muli arg14 c20_i32_263
  let v296 : BitVec 32 := Scalar.addi v295 c1_i32_264
  let v297 : Index := Scalar.indexCast v296
  let c96_265 : Index := 96#32
  ![v297.toNat, 96]
def k1_off306 (k1_t13 : Fin k1_t13_loop.trips) (c1_i32_267 : BitVec 32) : Fin 2 → Nat :=
  let c0_i32_194 : BitVec 32 := 0#32
  let c1_i32_196 : BitVec 32 := 1#32
  let arg14 : BitVec 32 := Scf.iv c0_i32_194 c1_i32_196 k1_t13
  let c20_i32_266 : BitVec 32 := 20#32
  let v301 : BitVec 32 := Scalar.muli arg14 c20_i32_266
  let v302 : BitVec 32 := Scalar.addi v301 c1_i32_267
  let v303 : Index := Scalar.indexCast v302
  let c112_268 : Index := 112#32
  ![v303.toNat, 112]
def k1_off307 (k1_t13 : Fin k1_t13_loop.trips) : Fin 2 → Nat :=
  let c0_i32_194 : BitVec 32 := 0#32
  let c1_i32_196 : BitVec 32 := 1#32
  let arg14 : BitVec 32 := Scf.iv c0_i32_194 c1_i32_196 k1_t13
  let v1171 : Index := Scalar.indexCast arg14
  let c0_685 : Index := 0#32
  ![v1171.toNat, 0]
def k1_off308 (k1_t13 : Fin k1_t13_loop.trips) : Fin 2 → Nat :=
  let c0_i32_194 : BitVec 32 := 0#32
  let c1_i32_196 : BitVec 32 := 1#32
  let arg14 : BitVec 32 := Scf.iv c0_i32_194 c1_i32_196 k1_t13
  let v1175 : Index := Scalar.indexCast arg14
  let c16_686 : Index := 16#32
  ![v1175.toNat, 16]
def k1_off309 (k1_t13 : Fin k1_t13_loop.trips) : Fin 2 → Nat :=
  let c0_i32_194 : BitVec 32 := 0#32
  let c1_i32_196 : BitVec 32 := 1#32
  let arg14 : BitVec 32 := Scf.iv c0_i32_194 c1_i32_196 k1_t13
  let v1179 : Index := Scalar.indexCast arg14
  let c32_687 : Index := 32#32
  ![v1179.toNat, 32]
def k1_off310 (k1_t13 : Fin k1_t13_loop.trips) : Fin 2 → Nat :=
  let c0_i32_194 : BitVec 32 := 0#32
  let c1_i32_196 : BitVec 32 := 1#32
  let arg14 : BitVec 32 := Scf.iv c0_i32_194 c1_i32_196 k1_t13
  let v1183 : Index := Scalar.indexCast arg14
  let c48_688 : Index := 48#32
  ![v1183.toNat, 48]
def k1_off311 (k1_t13 : Fin k1_t13_loop.trips) : Fin 2 → Nat :=
  let c0_i32_194 : BitVec 32 := 0#32
  let c1_i32_196 : BitVec 32 := 1#32
  let arg14 : BitVec 32 := Scf.iv c0_i32_194 c1_i32_196 k1_t13
  let v1187 : Index := Scalar.indexCast arg14
  let c64_689 : Index := 64#32
  ![v1187.toNat, 64]
def k1_off312 (k1_t13 : Fin k1_t13_loop.trips) : Fin 2 → Nat :=
  let c0_i32_194 : BitVec 32 := 0#32
  let c1_i32_196 : BitVec 32 := 1#32
  let arg14 : BitVec 32 := Scf.iv c0_i32_194 c1_i32_196 k1_t13
  let v1191 : Index := Scalar.indexCast arg14
  let c80_690 : Index := 80#32
  ![v1191.toNat, 80]
def k1_off313 (k1_t13 : Fin k1_t13_loop.trips) : Fin 2 → Nat :=
  let c0_i32_194 : BitVec 32 := 0#32
  let c1_i32_196 : BitVec 32 := 1#32
  let arg14 : BitVec 32 := Scf.iv c0_i32_194 c1_i32_196 k1_t13
  let v1195 : Index := Scalar.indexCast arg14
  let c96_691 : Index := 96#32
  ![v1195.toNat, 96]
def k1_off314 (k1_t13 : Fin k1_t13_loop.trips) : Fin 2 → Nat :=
  let c0_i32_194 : BitVec 32 := 0#32
  let c1_i32_196 : BitVec 32 := 1#32
  let arg14 : BitVec 32 := Scf.iv c0_i32_194 c1_i32_196 k1_t13
  let v1199 : Index := Scalar.indexCast arg14
  let c112_692 : Index := 112#32
  ![v1199.toNat, 112]
@[reducible] def k1_t14_loop : Scf.Loop 32 :=
  let c0_i32_209 : BitVec 32 := 0#32
  let c16_i32_210 : BitVec 32 := 16#32
  let v208 : BitVec 32 := Scalar.addi c0_i32_209 c16_i32_210
  let c1_i32_211 : BitVec 32 := 1#32
  ⟨c0_i32_209, v208, c1_i32_211⟩
def k1_off315 (k1_t14 : Fin k1_t14_loop.trips) : Fin 2 → Nat :=
  let c0_i32_209 : BitVec 32 := 0#32
  let c1_i32_211 : BitVec 32 := 1#32
  let arg14 : BitVec 32 := Scf.iv c0_i32_209 c1_i32_211 k1_t14
  let c20_i32_237 : BitVec 32 := 20#32
  let v227 : BitVec 32 := Scalar.muli arg14 c20_i32_237
  let v228 : Index := Scalar.indexCast v227
  let c0 : Index := 0#32
  ![v228.toNat, 0]
def k1_off316 (k1_t14 : Fin k1_t14_loop.trips) : Fin 2 → Nat :=
  let c0_i32_209 : BitVec 32 := 0#32
  let c1_i32_211 : BitVec 32 := 1#32
  let arg14 : BitVec 32 := Scf.iv c0_i32_209 c1_i32_211 k1_t14
  let c20_i32_238 : BitVec 32 := 20#32
  let v231 : BitVec 32 := Scalar.muli arg14 c20_i32_238
  let v232 : Index := Scalar.indexCast v231
  let c16 : Index := 16#32
  ![v232.toNat, 16]
def k1_off317 (k1_t14 : Fin k1_t14_loop.trips) : Fin 2 → Nat :=
  let c0_i32_209 : BitVec 32 := 0#32
  let c1_i32_211 : BitVec 32 := 1#32
  let arg14 : BitVec 32 := Scf.iv c0_i32_209 c1_i32_211 k1_t14
  let c20_i32_239 : BitVec 32 := 20#32
  let v235 : BitVec 32 := Scalar.muli arg14 c20_i32_239
  let v236 : Index := Scalar.indexCast v235
  let c32 : Index := 32#32
  ![v236.toNat, 32]
def k1_off318 (k1_t14 : Fin k1_t14_loop.trips) : Fin 2 → Nat :=
  let c0_i32_209 : BitVec 32 := 0#32
  let c1_i32_211 : BitVec 32 := 1#32
  let arg14 : BitVec 32 := Scf.iv c0_i32_209 c1_i32_211 k1_t14
  let c20_i32_240 : BitVec 32 := 20#32
  let v239 : BitVec 32 := Scalar.muli arg14 c20_i32_240
  let v240 : Index := Scalar.indexCast v239
  let c48 : Index := 48#32
  ![v240.toNat, 48]
def k1_off319 (k1_t14 : Fin k1_t14_loop.trips) : Fin 2 → Nat :=
  let c0_i32_209 : BitVec 32 := 0#32
  let c1_i32_211 : BitVec 32 := 1#32
  let arg14 : BitVec 32 := Scf.iv c0_i32_209 c1_i32_211 k1_t14
  let c20_i32_241 : BitVec 32 := 20#32
  let v243 : BitVec 32 := Scalar.muli arg14 c20_i32_241
  let v244 : Index := Scalar.indexCast v243
  let c64 : Index := 64#32
  ![v244.toNat, 64]
def k1_off320 (k1_t14 : Fin k1_t14_loop.trips) : Fin 2 → Nat :=
  let c0_i32_209 : BitVec 32 := 0#32
  let c1_i32_211 : BitVec 32 := 1#32
  let arg14 : BitVec 32 := Scf.iv c0_i32_209 c1_i32_211 k1_t14
  let c20_i32_242 : BitVec 32 := 20#32
  let v247 : BitVec 32 := Scalar.muli arg14 c20_i32_242
  let v248 : Index := Scalar.indexCast v247
  let c80 : Index := 80#32
  ![v248.toNat, 80]
def k1_off321 (k1_t14 : Fin k1_t14_loop.trips) : Fin 2 → Nat :=
  let c0_i32_209 : BitVec 32 := 0#32
  let c1_i32_211 : BitVec 32 := 1#32
  let arg14 : BitVec 32 := Scf.iv c0_i32_209 c1_i32_211 k1_t14
  let c20_i32_243 : BitVec 32 := 20#32
  let v251 : BitVec 32 := Scalar.muli arg14 c20_i32_243
  let v252 : Index := Scalar.indexCast v251
  let c96 : Index := 96#32
  ![v252.toNat, 96]
def k1_off322 (k1_t14 : Fin k1_t14_loop.trips) : Fin 2 → Nat :=
  let c0_i32_209 : BitVec 32 := 0#32
  let c1_i32_211 : BitVec 32 := 1#32
  let arg14 : BitVec 32 := Scf.iv c0_i32_209 c1_i32_211 k1_t14
  let c20_i32_244 : BitVec 32 := 20#32
  let v255 : BitVec 32 := Scalar.muli arg14 c20_i32_244
  let v256 : Index := Scalar.indexCast v255
  let c112 : Index := 112#32
  ![v256.toNat, 112]
def k1_off323 (k1_t14 : Fin k1_t14_loop.trips) (c1_i32_246 : BitVec 32) : Fin 2 → Nat :=
  let c0_i32_209 : BitVec 32 := 0#32
  let c1_i32_211 : BitVec 32 := 1#32
  let arg14 : BitVec 32 := Scf.iv c0_i32_209 c1_i32_211 k1_t14
  let c20_i32_245 : BitVec 32 := 20#32
  let v259 : BitVec 32 := Scalar.muli arg14 c20_i32_245
  let v260 : BitVec 32 := Scalar.addi v259 c1_i32_246
  let v261 : Index := Scalar.indexCast v260
  let c0_247 : Index := 0#32
  ![v261.toNat, 0]
def k1_off324 (k1_t14 : Fin k1_t14_loop.trips) (c1_i32_249 : BitVec 32) : Fin 2 → Nat :=
  let c0_i32_209 : BitVec 32 := 0#32
  let c1_i32_211 : BitVec 32 := 1#32
  let arg14 : BitVec 32 := Scf.iv c0_i32_209 c1_i32_211 k1_t14
  let c20_i32_248 : BitVec 32 := 20#32
  let v265 : BitVec 32 := Scalar.muli arg14 c20_i32_248
  let v266 : BitVec 32 := Scalar.addi v265 c1_i32_249
  let v267 : Index := Scalar.indexCast v266
  let c16_250 : Index := 16#32
  ![v267.toNat, 16]
def k1_off325 (k1_t14 : Fin k1_t14_loop.trips) (c1_i32_252 : BitVec 32) : Fin 2 → Nat :=
  let c0_i32_209 : BitVec 32 := 0#32
  let c1_i32_211 : BitVec 32 := 1#32
  let arg14 : BitVec 32 := Scf.iv c0_i32_209 c1_i32_211 k1_t14
  let c20_i32_251 : BitVec 32 := 20#32
  let v271 : BitVec 32 := Scalar.muli arg14 c20_i32_251
  let v272 : BitVec 32 := Scalar.addi v271 c1_i32_252
  let v273 : Index := Scalar.indexCast v272
  let c32_253 : Index := 32#32
  ![v273.toNat, 32]
def k1_off326 (k1_t14 : Fin k1_t14_loop.trips) (c1_i32_255 : BitVec 32) : Fin 2 → Nat :=
  let c0_i32_209 : BitVec 32 := 0#32
  let c1_i32_211 : BitVec 32 := 1#32
  let arg14 : BitVec 32 := Scf.iv c0_i32_209 c1_i32_211 k1_t14
  let c20_i32_254 : BitVec 32 := 20#32
  let v277 : BitVec 32 := Scalar.muli arg14 c20_i32_254
  let v278 : BitVec 32 := Scalar.addi v277 c1_i32_255
  let v279 : Index := Scalar.indexCast v278
  let c48_256 : Index := 48#32
  ![v279.toNat, 48]
def k1_off327 (k1_t14 : Fin k1_t14_loop.trips) (c1_i32_258 : BitVec 32) : Fin 2 → Nat :=
  let c0_i32_209 : BitVec 32 := 0#32
  let c1_i32_211 : BitVec 32 := 1#32
  let arg14 : BitVec 32 := Scf.iv c0_i32_209 c1_i32_211 k1_t14
  let c20_i32_257 : BitVec 32 := 20#32
  let v283 : BitVec 32 := Scalar.muli arg14 c20_i32_257
  let v284 : BitVec 32 := Scalar.addi v283 c1_i32_258
  let v285 : Index := Scalar.indexCast v284
  let c64_259 : Index := 64#32
  ![v285.toNat, 64]
def k1_off328 (k1_t14 : Fin k1_t14_loop.trips) (c1_i32_261 : BitVec 32) : Fin 2 → Nat :=
  let c0_i32_209 : BitVec 32 := 0#32
  let c1_i32_211 : BitVec 32 := 1#32
  let arg14 : BitVec 32 := Scf.iv c0_i32_209 c1_i32_211 k1_t14
  let c20_i32_260 : BitVec 32 := 20#32
  let v289 : BitVec 32 := Scalar.muli arg14 c20_i32_260
  let v290 : BitVec 32 := Scalar.addi v289 c1_i32_261
  let v291 : Index := Scalar.indexCast v290
  let c80_262 : Index := 80#32
  ![v291.toNat, 80]
def k1_off329 (k1_t14 : Fin k1_t14_loop.trips) (c1_i32_264 : BitVec 32) : Fin 2 → Nat :=
  let c0_i32_209 : BitVec 32 := 0#32
  let c1_i32_211 : BitVec 32 := 1#32
  let arg14 : BitVec 32 := Scf.iv c0_i32_209 c1_i32_211 k1_t14
  let c20_i32_263 : BitVec 32 := 20#32
  let v295 : BitVec 32 := Scalar.muli arg14 c20_i32_263
  let v296 : BitVec 32 := Scalar.addi v295 c1_i32_264
  let v297 : Index := Scalar.indexCast v296
  let c96_265 : Index := 96#32
  ![v297.toNat, 96]
def k1_off330 (k1_t14 : Fin k1_t14_loop.trips) (c1_i32_267 : BitVec 32) : Fin 2 → Nat :=
  let c0_i32_209 : BitVec 32 := 0#32
  let c1_i32_211 : BitVec 32 := 1#32
  let arg14 : BitVec 32 := Scf.iv c0_i32_209 c1_i32_211 k1_t14
  let c20_i32_266 : BitVec 32 := 20#32
  let v301 : BitVec 32 := Scalar.muli arg14 c20_i32_266
  let v302 : BitVec 32 := Scalar.addi v301 c1_i32_267
  let v303 : Index := Scalar.indexCast v302
  let c112_268 : Index := 112#32
  ![v303.toNat, 112]
def k1_off331 (k1_t14 : Fin k1_t14_loop.trips) : Fin 2 → Nat :=
  let c0_i32_209 : BitVec 32 := 0#32
  let c1_i32_211 : BitVec 32 := 1#32
  let arg14 : BitVec 32 := Scf.iv c0_i32_209 c1_i32_211 k1_t14
  let v1171 : Index := Scalar.indexCast arg14
  let c0_685 : Index := 0#32
  ![v1171.toNat, 0]
def k1_off332 (k1_t14 : Fin k1_t14_loop.trips) : Fin 2 → Nat :=
  let c0_i32_209 : BitVec 32 := 0#32
  let c1_i32_211 : BitVec 32 := 1#32
  let arg14 : BitVec 32 := Scf.iv c0_i32_209 c1_i32_211 k1_t14
  let v1175 : Index := Scalar.indexCast arg14
  let c16_686 : Index := 16#32
  ![v1175.toNat, 16]
def k1_off333 (k1_t14 : Fin k1_t14_loop.trips) : Fin 2 → Nat :=
  let c0_i32_209 : BitVec 32 := 0#32
  let c1_i32_211 : BitVec 32 := 1#32
  let arg14 : BitVec 32 := Scf.iv c0_i32_209 c1_i32_211 k1_t14
  let v1179 : Index := Scalar.indexCast arg14
  let c32_687 : Index := 32#32
  ![v1179.toNat, 32]
def k1_off334 (k1_t14 : Fin k1_t14_loop.trips) : Fin 2 → Nat :=
  let c0_i32_209 : BitVec 32 := 0#32
  let c1_i32_211 : BitVec 32 := 1#32
  let arg14 : BitVec 32 := Scf.iv c0_i32_209 c1_i32_211 k1_t14
  let v1183 : Index := Scalar.indexCast arg14
  let c48_688 : Index := 48#32
  ![v1183.toNat, 48]
def k1_off335 (k1_t14 : Fin k1_t14_loop.trips) : Fin 2 → Nat :=
  let c0_i32_209 : BitVec 32 := 0#32
  let c1_i32_211 : BitVec 32 := 1#32
  let arg14 : BitVec 32 := Scf.iv c0_i32_209 c1_i32_211 k1_t14
  let v1187 : Index := Scalar.indexCast arg14
  let c64_689 : Index := 64#32
  ![v1187.toNat, 64]
def k1_off336 (k1_t14 : Fin k1_t14_loop.trips) : Fin 2 → Nat :=
  let c0_i32_209 : BitVec 32 := 0#32
  let c1_i32_211 : BitVec 32 := 1#32
  let arg14 : BitVec 32 := Scf.iv c0_i32_209 c1_i32_211 k1_t14
  let v1191 : Index := Scalar.indexCast arg14
  let c80_690 : Index := 80#32
  ![v1191.toNat, 80]
def k1_off337 (k1_t14 : Fin k1_t14_loop.trips) : Fin 2 → Nat :=
  let c0_i32_209 : BitVec 32 := 0#32
  let c1_i32_211 : BitVec 32 := 1#32
  let arg14 : BitVec 32 := Scf.iv c0_i32_209 c1_i32_211 k1_t14
  let v1195 : Index := Scalar.indexCast arg14
  let c96_691 : Index := 96#32
  ![v1195.toNat, 96]
def k1_off338 (k1_t14 : Fin k1_t14_loop.trips) : Fin 2 → Nat :=
  let c0_i32_209 : BitVec 32 := 0#32
  let c1_i32_211 : BitVec 32 := 1#32
  let arg14 : BitVec 32 := Scf.iv c0_i32_209 c1_i32_211 k1_t14
  let v1199 : Index := Scalar.indexCast arg14
  let c112_692 : Index := 112#32
  ![v1199.toNat, 112]
@[reducible] def k1_t15_loop : Scf.Loop 32 :=
  let c0_i32_224 : BitVec 32 := 0#32
  let c16_i32_225 : BitVec 32 := 16#32
  let v222 : BitVec 32 := Scalar.addi c0_i32_224 c16_i32_225
  let c1_i32_226 : BitVec 32 := 1#32
  ⟨c0_i32_224, v222, c1_i32_226⟩
def k1_off339 (k1_t15 : Fin k1_t15_loop.trips) : Fin 2 → Nat :=
  let c0_i32_224 : BitVec 32 := 0#32
  let c1_i32_226 : BitVec 32 := 1#32
  let arg14 : BitVec 32 := Scf.iv c0_i32_224 c1_i32_226 k1_t15
  let c20_i32_237 : BitVec 32 := 20#32
  let v227 : BitVec 32 := Scalar.muli arg14 c20_i32_237
  let v228 : Index := Scalar.indexCast v227
  let c0 : Index := 0#32
  ![v228.toNat, 0]
def k1_off340 (k1_t15 : Fin k1_t15_loop.trips) : Fin 2 → Nat :=
  let c0_i32_224 : BitVec 32 := 0#32
  let c1_i32_226 : BitVec 32 := 1#32
  let arg14 : BitVec 32 := Scf.iv c0_i32_224 c1_i32_226 k1_t15
  let c20_i32_238 : BitVec 32 := 20#32
  let v231 : BitVec 32 := Scalar.muli arg14 c20_i32_238
  let v232 : Index := Scalar.indexCast v231
  let c16 : Index := 16#32
  ![v232.toNat, 16]
def k1_off341 (k1_t15 : Fin k1_t15_loop.trips) : Fin 2 → Nat :=
  let c0_i32_224 : BitVec 32 := 0#32
  let c1_i32_226 : BitVec 32 := 1#32
  let arg14 : BitVec 32 := Scf.iv c0_i32_224 c1_i32_226 k1_t15
  let c20_i32_239 : BitVec 32 := 20#32
  let v235 : BitVec 32 := Scalar.muli arg14 c20_i32_239
  let v236 : Index := Scalar.indexCast v235
  let c32 : Index := 32#32
  ![v236.toNat, 32]
def k1_off342 (k1_t15 : Fin k1_t15_loop.trips) : Fin 2 → Nat :=
  let c0_i32_224 : BitVec 32 := 0#32
  let c1_i32_226 : BitVec 32 := 1#32
  let arg14 : BitVec 32 := Scf.iv c0_i32_224 c1_i32_226 k1_t15
  let c20_i32_240 : BitVec 32 := 20#32
  let v239 : BitVec 32 := Scalar.muli arg14 c20_i32_240
  let v240 : Index := Scalar.indexCast v239
  let c48 : Index := 48#32
  ![v240.toNat, 48]
def k1_off343 (k1_t15 : Fin k1_t15_loop.trips) : Fin 2 → Nat :=
  let c0_i32_224 : BitVec 32 := 0#32
  let c1_i32_226 : BitVec 32 := 1#32
  let arg14 : BitVec 32 := Scf.iv c0_i32_224 c1_i32_226 k1_t15
  let c20_i32_241 : BitVec 32 := 20#32
  let v243 : BitVec 32 := Scalar.muli arg14 c20_i32_241
  let v244 : Index := Scalar.indexCast v243
  let c64 : Index := 64#32
  ![v244.toNat, 64]
def k1_off344 (k1_t15 : Fin k1_t15_loop.trips) : Fin 2 → Nat :=
  let c0_i32_224 : BitVec 32 := 0#32
  let c1_i32_226 : BitVec 32 := 1#32
  let arg14 : BitVec 32 := Scf.iv c0_i32_224 c1_i32_226 k1_t15
  let c20_i32_242 : BitVec 32 := 20#32
  let v247 : BitVec 32 := Scalar.muli arg14 c20_i32_242
  let v248 : Index := Scalar.indexCast v247
  let c80 : Index := 80#32
  ![v248.toNat, 80]
def k1_off345 (k1_t15 : Fin k1_t15_loop.trips) : Fin 2 → Nat :=
  let c0_i32_224 : BitVec 32 := 0#32
  let c1_i32_226 : BitVec 32 := 1#32
  let arg14 : BitVec 32 := Scf.iv c0_i32_224 c1_i32_226 k1_t15
  let c20_i32_243 : BitVec 32 := 20#32
  let v251 : BitVec 32 := Scalar.muli arg14 c20_i32_243
  let v252 : Index := Scalar.indexCast v251
  let c96 : Index := 96#32
  ![v252.toNat, 96]
def k1_off346 (k1_t15 : Fin k1_t15_loop.trips) : Fin 2 → Nat :=
  let c0_i32_224 : BitVec 32 := 0#32
  let c1_i32_226 : BitVec 32 := 1#32
  let arg14 : BitVec 32 := Scf.iv c0_i32_224 c1_i32_226 k1_t15
  let c20_i32_244 : BitVec 32 := 20#32
  let v255 : BitVec 32 := Scalar.muli arg14 c20_i32_244
  let v256 : Index := Scalar.indexCast v255
  let c112 : Index := 112#32
  ![v256.toNat, 112]
def k1_off347 (k1_t15 : Fin k1_t15_loop.trips) (c1_i32_246 : BitVec 32) : Fin 2 → Nat :=
  let c0_i32_224 : BitVec 32 := 0#32
  let c1_i32_226 : BitVec 32 := 1#32
  let arg14 : BitVec 32 := Scf.iv c0_i32_224 c1_i32_226 k1_t15
  let c20_i32_245 : BitVec 32 := 20#32
  let v259 : BitVec 32 := Scalar.muli arg14 c20_i32_245
  let v260 : BitVec 32 := Scalar.addi v259 c1_i32_246
  let v261 : Index := Scalar.indexCast v260
  let c0_247 : Index := 0#32
  ![v261.toNat, 0]
def k1_off348 (k1_t15 : Fin k1_t15_loop.trips) (c1_i32_249 : BitVec 32) : Fin 2 → Nat :=
  let c0_i32_224 : BitVec 32 := 0#32
  let c1_i32_226 : BitVec 32 := 1#32
  let arg14 : BitVec 32 := Scf.iv c0_i32_224 c1_i32_226 k1_t15
  let c20_i32_248 : BitVec 32 := 20#32
  let v265 : BitVec 32 := Scalar.muli arg14 c20_i32_248
  let v266 : BitVec 32 := Scalar.addi v265 c1_i32_249
  let v267 : Index := Scalar.indexCast v266
  let c16_250 : Index := 16#32
  ![v267.toNat, 16]
def k1_off349 (k1_t15 : Fin k1_t15_loop.trips) (c1_i32_252 : BitVec 32) : Fin 2 → Nat :=
  let c0_i32_224 : BitVec 32 := 0#32
  let c1_i32_226 : BitVec 32 := 1#32
  let arg14 : BitVec 32 := Scf.iv c0_i32_224 c1_i32_226 k1_t15
  let c20_i32_251 : BitVec 32 := 20#32
  let v271 : BitVec 32 := Scalar.muli arg14 c20_i32_251
  let v272 : BitVec 32 := Scalar.addi v271 c1_i32_252
  let v273 : Index := Scalar.indexCast v272
  let c32_253 : Index := 32#32
  ![v273.toNat, 32]
def k1_off350 (k1_t15 : Fin k1_t15_loop.trips) (c1_i32_255 : BitVec 32) : Fin 2 → Nat :=
  let c0_i32_224 : BitVec 32 := 0#32
  let c1_i32_226 : BitVec 32 := 1#32
  let arg14 : BitVec 32 := Scf.iv c0_i32_224 c1_i32_226 k1_t15
  let c20_i32_254 : BitVec 32 := 20#32
  let v277 : BitVec 32 := Scalar.muli arg14 c20_i32_254
  let v278 : BitVec 32 := Scalar.addi v277 c1_i32_255
  let v279 : Index := Scalar.indexCast v278
  let c48_256 : Index := 48#32
  ![v279.toNat, 48]
def k1_off351 (k1_t15 : Fin k1_t15_loop.trips) (c1_i32_258 : BitVec 32) : Fin 2 → Nat :=
  let c0_i32_224 : BitVec 32 := 0#32
  let c1_i32_226 : BitVec 32 := 1#32
  let arg14 : BitVec 32 := Scf.iv c0_i32_224 c1_i32_226 k1_t15
  let c20_i32_257 : BitVec 32 := 20#32
  let v283 : BitVec 32 := Scalar.muli arg14 c20_i32_257
  let v284 : BitVec 32 := Scalar.addi v283 c1_i32_258
  let v285 : Index := Scalar.indexCast v284
  let c64_259 : Index := 64#32
  ![v285.toNat, 64]
def k1_off352 (k1_t15 : Fin k1_t15_loop.trips) (c1_i32_261 : BitVec 32) : Fin 2 → Nat :=
  let c0_i32_224 : BitVec 32 := 0#32
  let c1_i32_226 : BitVec 32 := 1#32
  let arg14 : BitVec 32 := Scf.iv c0_i32_224 c1_i32_226 k1_t15
  let c20_i32_260 : BitVec 32 := 20#32
  let v289 : BitVec 32 := Scalar.muli arg14 c20_i32_260
  let v290 : BitVec 32 := Scalar.addi v289 c1_i32_261
  let v291 : Index := Scalar.indexCast v290
  let c80_262 : Index := 80#32
  ![v291.toNat, 80]
def k1_off353 (k1_t15 : Fin k1_t15_loop.trips) (c1_i32_264 : BitVec 32) : Fin 2 → Nat :=
  let c0_i32_224 : BitVec 32 := 0#32
  let c1_i32_226 : BitVec 32 := 1#32
  let arg14 : BitVec 32 := Scf.iv c0_i32_224 c1_i32_226 k1_t15
  let c20_i32_263 : BitVec 32 := 20#32
  let v295 : BitVec 32 := Scalar.muli arg14 c20_i32_263
  let v296 : BitVec 32 := Scalar.addi v295 c1_i32_264
  let v297 : Index := Scalar.indexCast v296
  let c96_265 : Index := 96#32
  ![v297.toNat, 96]
def k1_off354 (k1_t15 : Fin k1_t15_loop.trips) (c1_i32_267 : BitVec 32) : Fin 2 → Nat :=
  let c0_i32_224 : BitVec 32 := 0#32
  let c1_i32_226 : BitVec 32 := 1#32
  let arg14 : BitVec 32 := Scf.iv c0_i32_224 c1_i32_226 k1_t15
  let c20_i32_266 : BitVec 32 := 20#32
  let v301 : BitVec 32 := Scalar.muli arg14 c20_i32_266
  let v302 : BitVec 32 := Scalar.addi v301 c1_i32_267
  let v303 : Index := Scalar.indexCast v302
  let c112_268 : Index := 112#32
  ![v303.toNat, 112]
def k1_off355 (k1_t15 : Fin k1_t15_loop.trips) : Fin 2 → Nat :=
  let c0_i32_224 : BitVec 32 := 0#32
  let c1_i32_226 : BitVec 32 := 1#32
  let arg14 : BitVec 32 := Scf.iv c0_i32_224 c1_i32_226 k1_t15
  let v1171 : Index := Scalar.indexCast arg14
  let c0_685 : Index := 0#32
  ![v1171.toNat, 0]
def k1_off356 (k1_t15 : Fin k1_t15_loop.trips) : Fin 2 → Nat :=
  let c0_i32_224 : BitVec 32 := 0#32
  let c1_i32_226 : BitVec 32 := 1#32
  let arg14 : BitVec 32 := Scf.iv c0_i32_224 c1_i32_226 k1_t15
  let v1175 : Index := Scalar.indexCast arg14
  let c16_686 : Index := 16#32
  ![v1175.toNat, 16]
def k1_off357 (k1_t15 : Fin k1_t15_loop.trips) : Fin 2 → Nat :=
  let c0_i32_224 : BitVec 32 := 0#32
  let c1_i32_226 : BitVec 32 := 1#32
  let arg14 : BitVec 32 := Scf.iv c0_i32_224 c1_i32_226 k1_t15
  let v1179 : Index := Scalar.indexCast arg14
  let c32_687 : Index := 32#32
  ![v1179.toNat, 32]
def k1_off358 (k1_t15 : Fin k1_t15_loop.trips) : Fin 2 → Nat :=
  let c0_i32_224 : BitVec 32 := 0#32
  let c1_i32_226 : BitVec 32 := 1#32
  let arg14 : BitVec 32 := Scf.iv c0_i32_224 c1_i32_226 k1_t15
  let v1183 : Index := Scalar.indexCast arg14
  let c48_688 : Index := 48#32
  ![v1183.toNat, 48]
def k1_off359 (k1_t15 : Fin k1_t15_loop.trips) : Fin 2 → Nat :=
  let c0_i32_224 : BitVec 32 := 0#32
  let c1_i32_226 : BitVec 32 := 1#32
  let arg14 : BitVec 32 := Scf.iv c0_i32_224 c1_i32_226 k1_t15
  let v1187 : Index := Scalar.indexCast arg14
  let c64_689 : Index := 64#32
  ![v1187.toNat, 64]
def k1_off360 (k1_t15 : Fin k1_t15_loop.trips) : Fin 2 → Nat :=
  let c0_i32_224 : BitVec 32 := 0#32
  let c1_i32_226 : BitVec 32 := 1#32
  let arg14 : BitVec 32 := Scf.iv c0_i32_224 c1_i32_226 k1_t15
  let v1191 : Index := Scalar.indexCast arg14
  let c80_690 : Index := 80#32
  ![v1191.toNat, 80]
def k1_off361 (k1_t15 : Fin k1_t15_loop.trips) : Fin 2 → Nat :=
  let c0_i32_224 : BitVec 32 := 0#32
  let c1_i32_226 : BitVec 32 := 1#32
  let arg14 : BitVec 32 := Scf.iv c0_i32_224 c1_i32_226 k1_t15
  let v1195 : Index := Scalar.indexCast arg14
  let c96_691 : Index := 96#32
  ![v1195.toNat, 96]
def k1_off362 (k1_t15 : Fin k1_t15_loop.trips) : Fin 2 → Nat :=
  let c0_i32_224 : BitVec 32 := 0#32
  let c1_i32_226 : BitVec 32 := 1#32
  let arg14 : BitVec 32 := Scf.iv c0_i32_224 c1_i32_226 k1_t15
  let v1199 : Index := Scalar.indexCast arg14
  let c112_692 : Index := 112#32
  ![v1199.toNat, 112]
@[reducible] def k1_t16_loop : Scf.Loop 32 :=
  let c0_i32_232 : BitVec 32 := 0#32
  let c16_i32_233 : BitVec 32 := 16#32
  let v225 : BitVec 32 := Scalar.addi c0_i32_232 c16_i32_233
  let c1_i32_234 : BitVec 32 := 1#32
  ⟨c0_i32_232, v225, c1_i32_234⟩
def k1_off363 (k1_t16 : Fin k1_t16_loop.trips) : Fin 2 → Nat :=
  let c0_i32_232 : BitVec 32 := 0#32
  let c1_i32_234 : BitVec 32 := 1#32
  let arg14 : BitVec 32 := Scf.iv c0_i32_232 c1_i32_234 k1_t16
  let c20_i32_237 : BitVec 32 := 20#32
  let v227 : BitVec 32 := Scalar.muli arg14 c20_i32_237
  let v228 : Index := Scalar.indexCast v227
  let c0 : Index := 0#32
  ![v228.toNat, 0]
def k1_off364 (k1_t16 : Fin k1_t16_loop.trips) : Fin 2 → Nat :=
  let c0_i32_232 : BitVec 32 := 0#32
  let c1_i32_234 : BitVec 32 := 1#32
  let arg14 : BitVec 32 := Scf.iv c0_i32_232 c1_i32_234 k1_t16
  let c20_i32_238 : BitVec 32 := 20#32
  let v231 : BitVec 32 := Scalar.muli arg14 c20_i32_238
  let v232 : Index := Scalar.indexCast v231
  let c16 : Index := 16#32
  ![v232.toNat, 16]
def k1_off365 (k1_t16 : Fin k1_t16_loop.trips) : Fin 2 → Nat :=
  let c0_i32_232 : BitVec 32 := 0#32
  let c1_i32_234 : BitVec 32 := 1#32
  let arg14 : BitVec 32 := Scf.iv c0_i32_232 c1_i32_234 k1_t16
  let c20_i32_239 : BitVec 32 := 20#32
  let v235 : BitVec 32 := Scalar.muli arg14 c20_i32_239
  let v236 : Index := Scalar.indexCast v235
  let c32 : Index := 32#32
  ![v236.toNat, 32]
def k1_off366 (k1_t16 : Fin k1_t16_loop.trips) : Fin 2 → Nat :=
  let c0_i32_232 : BitVec 32 := 0#32
  let c1_i32_234 : BitVec 32 := 1#32
  let arg14 : BitVec 32 := Scf.iv c0_i32_232 c1_i32_234 k1_t16
  let c20_i32_240 : BitVec 32 := 20#32
  let v239 : BitVec 32 := Scalar.muli arg14 c20_i32_240
  let v240 : Index := Scalar.indexCast v239
  let c48 : Index := 48#32
  ![v240.toNat, 48]
def k1_off367 (k1_t16 : Fin k1_t16_loop.trips) : Fin 2 → Nat :=
  let c0_i32_232 : BitVec 32 := 0#32
  let c1_i32_234 : BitVec 32 := 1#32
  let arg14 : BitVec 32 := Scf.iv c0_i32_232 c1_i32_234 k1_t16
  let c20_i32_241 : BitVec 32 := 20#32
  let v243 : BitVec 32 := Scalar.muli arg14 c20_i32_241
  let v244 : Index := Scalar.indexCast v243
  let c64 : Index := 64#32
  ![v244.toNat, 64]
def k1_off368 (k1_t16 : Fin k1_t16_loop.trips) : Fin 2 → Nat :=
  let c0_i32_232 : BitVec 32 := 0#32
  let c1_i32_234 : BitVec 32 := 1#32
  let arg14 : BitVec 32 := Scf.iv c0_i32_232 c1_i32_234 k1_t16
  let c20_i32_242 : BitVec 32 := 20#32
  let v247 : BitVec 32 := Scalar.muli arg14 c20_i32_242
  let v248 : Index := Scalar.indexCast v247
  let c80 : Index := 80#32
  ![v248.toNat, 80]
def k1_off369 (k1_t16 : Fin k1_t16_loop.trips) : Fin 2 → Nat :=
  let c0_i32_232 : BitVec 32 := 0#32
  let c1_i32_234 : BitVec 32 := 1#32
  let arg14 : BitVec 32 := Scf.iv c0_i32_232 c1_i32_234 k1_t16
  let c20_i32_243 : BitVec 32 := 20#32
  let v251 : BitVec 32 := Scalar.muli arg14 c20_i32_243
  let v252 : Index := Scalar.indexCast v251
  let c96 : Index := 96#32
  ![v252.toNat, 96]
def k1_off370 (k1_t16 : Fin k1_t16_loop.trips) : Fin 2 → Nat :=
  let c0_i32_232 : BitVec 32 := 0#32
  let c1_i32_234 : BitVec 32 := 1#32
  let arg14 : BitVec 32 := Scf.iv c0_i32_232 c1_i32_234 k1_t16
  let c20_i32_244 : BitVec 32 := 20#32
  let v255 : BitVec 32 := Scalar.muli arg14 c20_i32_244
  let v256 : Index := Scalar.indexCast v255
  let c112 : Index := 112#32
  ![v256.toNat, 112]
def k1_off371 (k1_t16 : Fin k1_t16_loop.trips) (c1_i32_246 : BitVec 32) : Fin 2 → Nat :=
  let c0_i32_232 : BitVec 32 := 0#32
  let c1_i32_234 : BitVec 32 := 1#32
  let arg14 : BitVec 32 := Scf.iv c0_i32_232 c1_i32_234 k1_t16
  let c20_i32_245 : BitVec 32 := 20#32
  let v259 : BitVec 32 := Scalar.muli arg14 c20_i32_245
  let v260 : BitVec 32 := Scalar.addi v259 c1_i32_246
  let v261 : Index := Scalar.indexCast v260
  let c0_247 : Index := 0#32
  ![v261.toNat, 0]
def k1_off372 (k1_t16 : Fin k1_t16_loop.trips) (c1_i32_249 : BitVec 32) : Fin 2 → Nat :=
  let c0_i32_232 : BitVec 32 := 0#32
  let c1_i32_234 : BitVec 32 := 1#32
  let arg14 : BitVec 32 := Scf.iv c0_i32_232 c1_i32_234 k1_t16
  let c20_i32_248 : BitVec 32 := 20#32
  let v265 : BitVec 32 := Scalar.muli arg14 c20_i32_248
  let v266 : BitVec 32 := Scalar.addi v265 c1_i32_249
  let v267 : Index := Scalar.indexCast v266
  let c16_250 : Index := 16#32
  ![v267.toNat, 16]
def k1_off373 (k1_t16 : Fin k1_t16_loop.trips) (c1_i32_252 : BitVec 32) : Fin 2 → Nat :=
  let c0_i32_232 : BitVec 32 := 0#32
  let c1_i32_234 : BitVec 32 := 1#32
  let arg14 : BitVec 32 := Scf.iv c0_i32_232 c1_i32_234 k1_t16
  let c20_i32_251 : BitVec 32 := 20#32
  let v271 : BitVec 32 := Scalar.muli arg14 c20_i32_251
  let v272 : BitVec 32 := Scalar.addi v271 c1_i32_252
  let v273 : Index := Scalar.indexCast v272
  let c32_253 : Index := 32#32
  ![v273.toNat, 32]
def k1_off374 (k1_t16 : Fin k1_t16_loop.trips) (c1_i32_255 : BitVec 32) : Fin 2 → Nat :=
  let c0_i32_232 : BitVec 32 := 0#32
  let c1_i32_234 : BitVec 32 := 1#32
  let arg14 : BitVec 32 := Scf.iv c0_i32_232 c1_i32_234 k1_t16
  let c20_i32_254 : BitVec 32 := 20#32
  let v277 : BitVec 32 := Scalar.muli arg14 c20_i32_254
  let v278 : BitVec 32 := Scalar.addi v277 c1_i32_255
  let v279 : Index := Scalar.indexCast v278
  let c48_256 : Index := 48#32
  ![v279.toNat, 48]
def k1_off375 (k1_t16 : Fin k1_t16_loop.trips) (c1_i32_258 : BitVec 32) : Fin 2 → Nat :=
  let c0_i32_232 : BitVec 32 := 0#32
  let c1_i32_234 : BitVec 32 := 1#32
  let arg14 : BitVec 32 := Scf.iv c0_i32_232 c1_i32_234 k1_t16
  let c20_i32_257 : BitVec 32 := 20#32
  let v283 : BitVec 32 := Scalar.muli arg14 c20_i32_257
  let v284 : BitVec 32 := Scalar.addi v283 c1_i32_258
  let v285 : Index := Scalar.indexCast v284
  let c64_259 : Index := 64#32
  ![v285.toNat, 64]
def k1_off376 (k1_t16 : Fin k1_t16_loop.trips) (c1_i32_261 : BitVec 32) : Fin 2 → Nat :=
  let c0_i32_232 : BitVec 32 := 0#32
  let c1_i32_234 : BitVec 32 := 1#32
  let arg14 : BitVec 32 := Scf.iv c0_i32_232 c1_i32_234 k1_t16
  let c20_i32_260 : BitVec 32 := 20#32
  let v289 : BitVec 32 := Scalar.muli arg14 c20_i32_260
  let v290 : BitVec 32 := Scalar.addi v289 c1_i32_261
  let v291 : Index := Scalar.indexCast v290
  let c80_262 : Index := 80#32
  ![v291.toNat, 80]
def k1_off377 (k1_t16 : Fin k1_t16_loop.trips) (c1_i32_264 : BitVec 32) : Fin 2 → Nat :=
  let c0_i32_232 : BitVec 32 := 0#32
  let c1_i32_234 : BitVec 32 := 1#32
  let arg14 : BitVec 32 := Scf.iv c0_i32_232 c1_i32_234 k1_t16
  let c20_i32_263 : BitVec 32 := 20#32
  let v295 : BitVec 32 := Scalar.muli arg14 c20_i32_263
  let v296 : BitVec 32 := Scalar.addi v295 c1_i32_264
  let v297 : Index := Scalar.indexCast v296
  let c96_265 : Index := 96#32
  ![v297.toNat, 96]
def k1_off378 (k1_t16 : Fin k1_t16_loop.trips) (c1_i32_267 : BitVec 32) : Fin 2 → Nat :=
  let c0_i32_232 : BitVec 32 := 0#32
  let c1_i32_234 : BitVec 32 := 1#32
  let arg14 : BitVec 32 := Scf.iv c0_i32_232 c1_i32_234 k1_t16
  let c20_i32_266 : BitVec 32 := 20#32
  let v301 : BitVec 32 := Scalar.muli arg14 c20_i32_266
  let v302 : BitVec 32 := Scalar.addi v301 c1_i32_267
  let v303 : Index := Scalar.indexCast v302
  let c112_268 : Index := 112#32
  ![v303.toNat, 112]
def k1_off379 (k1_t16 : Fin k1_t16_loop.trips) : Fin 2 → Nat :=
  let c0_i32_232 : BitVec 32 := 0#32
  let c1_i32_234 : BitVec 32 := 1#32
  let arg14 : BitVec 32 := Scf.iv c0_i32_232 c1_i32_234 k1_t16
  let v1171 : Index := Scalar.indexCast arg14
  let c0_685 : Index := 0#32
  ![v1171.toNat, 0]
def k1_off380 (k1_t16 : Fin k1_t16_loop.trips) : Fin 2 → Nat :=
  let c0_i32_232 : BitVec 32 := 0#32
  let c1_i32_234 : BitVec 32 := 1#32
  let arg14 : BitVec 32 := Scf.iv c0_i32_232 c1_i32_234 k1_t16
  let v1175 : Index := Scalar.indexCast arg14
  let c16_686 : Index := 16#32
  ![v1175.toNat, 16]
def k1_off381 (k1_t16 : Fin k1_t16_loop.trips) : Fin 2 → Nat :=
  let c0_i32_232 : BitVec 32 := 0#32
  let c1_i32_234 : BitVec 32 := 1#32
  let arg14 : BitVec 32 := Scf.iv c0_i32_232 c1_i32_234 k1_t16
  let v1179 : Index := Scalar.indexCast arg14
  let c32_687 : Index := 32#32
  ![v1179.toNat, 32]
def k1_off382 (k1_t16 : Fin k1_t16_loop.trips) : Fin 2 → Nat :=
  let c0_i32_232 : BitVec 32 := 0#32
  let c1_i32_234 : BitVec 32 := 1#32
  let arg14 : BitVec 32 := Scf.iv c0_i32_232 c1_i32_234 k1_t16
  let v1183 : Index := Scalar.indexCast arg14
  let c48_688 : Index := 48#32
  ![v1183.toNat, 48]
def k1_off383 (k1_t16 : Fin k1_t16_loop.trips) : Fin 2 → Nat :=
  let c0_i32_232 : BitVec 32 := 0#32
  let c1_i32_234 : BitVec 32 := 1#32
  let arg14 : BitVec 32 := Scf.iv c0_i32_232 c1_i32_234 k1_t16
  let v1187 : Index := Scalar.indexCast arg14
  let c64_689 : Index := 64#32
  ![v1187.toNat, 64]
def k1_off384 (k1_t16 : Fin k1_t16_loop.trips) : Fin 2 → Nat :=
  let c0_i32_232 : BitVec 32 := 0#32
  let c1_i32_234 : BitVec 32 := 1#32
  let arg14 : BitVec 32 := Scf.iv c0_i32_232 c1_i32_234 k1_t16
  let v1191 : Index := Scalar.indexCast arg14
  let c80_690 : Index := 80#32
  ![v1191.toNat, 80]
def k1_off385 (k1_t16 : Fin k1_t16_loop.trips) : Fin 2 → Nat :=
  let c0_i32_232 : BitVec 32 := 0#32
  let c1_i32_234 : BitVec 32 := 1#32
  let arg14 : BitVec 32 := Scf.iv c0_i32_232 c1_i32_234 k1_t16
  let v1195 : Index := Scalar.indexCast arg14
  let c96_691 : Index := 96#32
  ![v1195.toNat, 96]
def k1_off386 (k1_t16 : Fin k1_t16_loop.trips) : Fin 2 → Nat :=
  let c0_i32_232 : BitVec 32 := 0#32
  let c1_i32_234 : BitVec 32 := 1#32
  let arg14 : BitVec 32 := Scf.iv c0_i32_232 c1_i32_234 k1_t16
  let v1199 : Index := Scalar.indexCast arg14
  let c112_692 : Index := 112#32
  ![v1199.toNat, 112]
abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage2_0 : Fin 2 → Memref sig .tc .vmem S512x20 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1000x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1000x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

abbrev stage3_0 : Fin 2 → Memref sig .tc .vmem S512x20 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1024x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1024x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1000x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1000x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1000x512 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S16384x20 : Shape := ⟨2, ![16384, 20]⟩
abbrev S100000x128 : Shape := ⟨2, ![100000, 128]⟩
abbrev S128x1024 : Shape := ⟨2, ![128, 1024]⟩
abbrev S1024 : Shape := ⟨1, ![1024]⟩
abbrev S1024x1000 : Shape := ⟨2, ![1024, 1000]⟩
abbrev S1000 : Shape := ⟨1, ![1000]⟩
abbrev S_ : Shape := ⟨0, ![]⟩
abbrev S16384 : Shape := ⟨1, ![16384]⟩
abbrev S16384x1 : Shape := ⟨2, ![16384, 1]⟩
abbrev S16384x20x1 : Shape := ⟨3, ![16384, 20, 1]⟩
abbrev S1 : Shape := ⟨1, ![1]⟩
abbrev S1x1x1 : Shape := ⟨3, ![1, 1, 1]⟩
abbrev S16384x20x128 : Shape := ⟨3, ![16384, 20, 128]⟩
abbrev S16384x128 : Shape := ⟨2, ![16384, 128]⟩
abbrev S16384x1024 : Shape := ⟨2, ![16384, 1024]⟩
abbrev S1x1024 : Shape := ⟨2, ![1, 1024]⟩
abbrev S16384x1000 : Shape := ⟨2, ![16384, 1000]⟩
abbrev S1x1000 : Shape := ⟨2, ![1, 1000]⟩

abbrev nBuf : Space → Nat
  | .hbm => 56
  | .vmem => 0
  | .smem => 0
  | _ => 0

abbrev bufTy : (tb : Table) → Fin (tcTables nBuf tb) → BufTy
  | .hbm, ⟨0, _⟩ => ⟨S16384x20, .i32⟩
  | .hbm, ⟨1, _⟩ => ⟨S100000x128, .f32⟩
  | .hbm, ⟨2, _⟩ => ⟨S128x1024, .f32⟩
  | .hbm, ⟨3, _⟩ => ⟨S1024, .f32⟩
  | .hbm, ⟨4, _⟩ => ⟨S1024x1000, .f32⟩
  | .hbm, ⟨5, _⟩ => ⟨S1000, .f32⟩
  | .hbm, ⟨6, _⟩ => ⟨S_, .i32⟩
  | .hbm, ⟨7, _⟩ => ⟨S16384x20, .i32⟩
  | .hbm, ⟨8, _⟩ => ⟨S16384x20, .i1⟩
  | .hbm, ⟨9, _⟩ => ⟨S16384x20, .i32⟩
  | .hbm, ⟨10, _⟩ => ⟨S_, .i32⟩
  | .hbm, ⟨11, _⟩ => ⟨S16384, .i32⟩
  | .hbm, ⟨12, _⟩ => ⟨S16384, .f32⟩
  | .hbm, ⟨13, _⟩ => ⟨S_, .f32⟩
  | .hbm, ⟨14, _⟩ => ⟨S_, .f32⟩
  | .hbm, ⟨15, _⟩ => ⟨S16384, .f32⟩
  | .hbm, ⟨16, _⟩ => ⟨S16384, .f32⟩
  | .hbm, ⟨17, _⟩ => ⟨S16384x1, .f32⟩
  | .hbm, ⟨18, _⟩ => ⟨S_, .i32⟩
  | .hbm, ⟨19, _⟩ => ⟨S16384x20, .i32⟩
  | .hbm, ⟨20, _⟩ => ⟨S16384x20, .i1⟩
  | .hbm, ⟨21, _⟩ => ⟨S_, .i32⟩
  | .hbm, ⟨22, _⟩ => ⟨S16384x20, .i32⟩
  | .hbm, ⟨23, _⟩ => ⟨S16384x20, .i32⟩
  | .hbm, ⟨24, _⟩ => ⟨S16384x20, .i32⟩
  | .hbm, ⟨25, _⟩ => ⟨S16384x20x1, .i32⟩
  | .hbm, ⟨26, _⟩ => ⟨S1, .i32⟩
  | .hbm, ⟨27, _⟩ => ⟨S_, .i32⟩
  | .hbm, ⟨28, _⟩ => ⟨S16384x20x1, .i32⟩
  | .hbm, ⟨29, _⟩ => ⟨S16384x20x1, .i1⟩
  | .hbm, ⟨30, _⟩ => ⟨S1x1x1, .i32⟩
  | .hbm, ⟨31, _⟩ => ⟨S16384x20x1, .i32⟩
  | .hbm, ⟨32, _⟩ => ⟨S16384x20x1, .i1⟩
  | .hbm, ⟨33, _⟩ => ⟨S16384x20x1, .i1⟩
  | .hbm, ⟨34, _⟩ => ⟨S_, .i1⟩
  | .hbm, ⟨35, _⟩ => ⟨S16384x20, .i1⟩
  | .hbm, ⟨36, _⟩ => ⟨S16384x20x128, .f32⟩
  | .hbm, ⟨37, _⟩ => ⟨S16384x20x128, .i1⟩
  | .hbm, ⟨38, _⟩ => ⟨S_, .f32⟩
  | .hbm, ⟨39, _⟩ => ⟨S16384x20x128, .f32⟩
  | .hbm, ⟨40, _⟩ => ⟨S16384x20x128, .f32⟩
  | .hbm, ⟨41, _⟩ => ⟨S_, .f32⟩
  | .hbm, ⟨42, _⟩ => ⟨S16384x128, .f32⟩
  | .hbm, ⟨43, _⟩ => ⟨S16384x128, .f32⟩
  | .hbm, ⟨44, _⟩ => ⟨S16384x128, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S16384x1000, .f32⟩
  | .hbm, ⟨53, _⟩ => ⟨S1x1000, .f32⟩
  | .hbm, ⟨54, _⟩ => ⟨S16384x1000, .f32⟩
  | .hbm, ⟨55, _⟩ => ⟨S16384x1000, .f32⟩
  | _, _ => ⟨S16384x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_v5 : Ref sig .tc := ⟨.hbm, 16, rfl⟩
abbrev main_v6 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_v14 : Ref sig .tc := ⟨.hbm, 37, rfl⟩
abbrev main_call1_cst : Ref sig .tc := ⟨.hbm, 38, rfl⟩
abbrev main_call1_v15 : Ref sig .tc := ⟨.hbm, 39, rfl⟩
abbrev main_v7 : Ref sig .tc := ⟨.hbm, 40, rfl⟩
abbrev main_cst_1 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_call2_cst : Ref sig .tc := ⟨.hbm, 49, rfl⟩
abbrev main_call2_v0 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩

abbrev nD : Nat := 1
abbrev τ : Topo := Topo.v7x

variable {F : FTy → Type} [FloatOps F]
-- ==== Proof.Setup.lean ====
/-
  The program as the launch theorem of the SparseCore calls sees it, and the resources its proof speaks of.
-/
module

public import proofs.«01_k».proof.Proof.Gen.KernelIdeal
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI Idealize.SL.Sem
open Idealize.ShloMosaic.Rounds

variable {F : FTy → Type}

local instance : Cert.KernelIdeal.Facts := Cert.KernelIdeal.Gen.facts

abbrev ΛP [FloatOps F] : Labels := Pipeline.Sig Λ₀ (Fin 2) fun p => (pcfgs (F := F) p).Adm
abbrev K [FloatOps F] : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_eq [FloatOps F] (q : Fin 2) : (K (F := F)).nSub q = 16 := match q with | 0 => rfl | 1 => rfl
theorem nCore_eq [FloatOps F] (q : Fin 2) : (K (F := F)).nCore q = 2 := match q with | 0 => rfl | 1 => rfl

theorem scFacts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters, the windows' rounds -/

abbrev UH : Type := URounds (GSem nD τ sig) ℕ
abbrev UP : Type := URounds (GSem nD τ sig) Unit
abbrev UU : Type := UH × (UP × Counters)

def EH : Emb UH (MT nD τ sig (HIx 2) (Elt F) ℕ UU ℕ) :=
  (Emb.inl : Emb UH UU).trans (uEmb (nD := nD) (sig := sig) (Ix := HIx 2) (Val := Elt F) (Name := ℕ) (U := UU) (Lvl := ℕ)).toEmb
def EP : Emb UP (MT nD τ sig (HIx 2) (Elt F) ℕ UU ℕ) :=
  ((Emb.inl : Emb UP (UP × Counters)).trans (Emb.inr : Emb (UP × Counters) UU)).trans
    (uEmb (nD := nD) (sig := sig) (Ix := HIx 2) (Val := Elt F) (Name := ℕ) (U := UU) (Lvl := ℕ)).toEmb

instance EH_landsIn : (EH : Emb UH (MT nD τ sig (HIx 2) (Elt F) ℕ UU ℕ)).LandsIn (upEmb : UEmb _ (MT nD τ sig (HIx 2) (Elt F) ℕ UU ℕ)) := by
  unfold EH; infer_instance
instance EP_landsIn : (EP : Emb UP (MT nD τ sig (HIx 2) (Elt F) ℕ UU ℕ)).LandsIn (upEmb : UEmb _ (MT nD τ sig (HIx 2) (Elt F) ℕ UU ℕ)) := by
  unfold EP; infer_instance

end Cert.Pool
-- ==== Proof.Mlp.lean ====
/-
  The body of the two TensorCore calls: one block of 512 rows through the division by the row's count and the two
  layers, written transposed. Its value is a function of the six input blocks, and it leaves those as they are.
-/
module

public import proofs.«01_k».proof.Proof.Setup
public import Idealize.ShloMosaic.Lib.Writes
public import Idealize.ShloMosaic.Lib.WritesUnit
public import Idealize.ShloMosaic.Lib.Pipeline.Value

@[expose] public section

noncomputable section

namespace Cert.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local instance : Cert.KernelIdeal.Facts := Cert.KernelIdeal.Gen.facts

local notation "𝕄" => MT nD τ sig (HIx 2) (Elt F) ℕ UU ℕ

/-! ## The value -/

/-- How many of a row's twenty index words are not zero, as a float, and at least one. -/
def countOf (x : Vec F S512x20 .i32) : FVec F S512x1 .f32 :=
  maximumf
    (shapeCast S512x1
      (multiReduction .add [1] S512 (sitofp .f32 (extui 32 (cmpi .ne x (broadcast S512x20 (0#32 : BitVec 32))) natLt_1_32))
        0x00000000#32 reduces_S512x20_S512 (.inl rfl) rfl)
      shapeCasts_S512_S512x1)
    (broadcast S512x1 (Scalar.ofBits .f32 0x3F800000#32))

/-- The pooled rows over their counts. -/
def meanOf (x : Vec F S512x20 .i32) (hs : FVec F S512x128 .f32) : FVec F S512x128 .f32 :=
  divf (shapeCast S512x128 hs shapeCasts_S512x128_S512x128) (broadcastTo S512x128 (countOf x) broadcasts_S512x1_S512x128)

/-- The first layer, transposed: a unit a row, a sample a column. -/
def hiddenOf (x : Vec F S512x20 .i32) (hs : FVec F S512x128 .f32) (w1 : FVec F S1024x128 .f32) (b1 : FVec F S1024x1 .f32) :
    FVec F S1024x512 .f32 :=
  maximumf
    (addf
      (matmul dot_S1024x128_S512x128_S1024x512_1_1_0_0_n_n none (shapeCast S1024x128 w1 shapeCasts_S1024x128_S1024x128)
        (meanOf x hs) (constant S1024x512 .f32 0x00000000#32))
      (broadcastTo S1024x512 (shapeCast S1024x1 b1 shapeCasts_S1024x1_S1024x1) broadcasts_S1024x1_S1024x512))
    (broadcast S1024x512 (Scalar.ofBits .f32 0x00000000#32))

/-- The second layer, transposed: what the body stores. -/
def layer (x : Vec F S512x20 .i32) (hs : FVec F S512x128 .f32) (w1 : FVec F S1024x128 .f32) (b1 : FVec F S1024x1 .f32)
    (w2 : FVec F S1000x1024 .f32) (b2 : FVec F S1000x1 .f32) : FVec F S1000x512 .f32 :=
  addf
    (matmul dot_S1000x1024_S1024x512_S1000x512_1_0_0_1_n_n none (shapeCast S1000x1024 w2 shapeCasts_S1000x1024_S1000x1024)
      (hiddenOf x hs w1 b1) (constant S1000x512 .f32 0x00000000#32))
    (broadcastTo S1000x512 (shapeCast S1000x1 b2 shapeCasts_S1000x1_S1000x1) broadcasts_S1000x1_S1000x512)

/-! ## The program -/

/-- The body: seven loads and one store. -/
def mlp (a1 : Memref sig .tc .vmem S512x20 .i32) (a2 : Memref sig .tc .vmem S512x128 .f32)
    (a3 : Memref sig .tc .vmem S1024x128 .f32) (a4 : Memref sig .tc .vmem S1024x1 .f32)
    (a5 : Memref sig .tc .vmem S1000x1024 .f32) (a6 : Memref sig .tc .vmem S1000x1 .f32)
    (a7 : Memref sig .tc .vmem S1000x512 .f32) : Prog (TpuEff nD τ sig (Elt F) Λ₀ .tc) PUnit := do
  let x : Vec F S512x20 .i32 ← Prog.lift (.load a1 (Rect.unit (s := S512x20) ![0, 0] S512x20.size inb_S512x20_S512x20_0_0).toLoadRect (View.loadsAt_vmem h_S512x20))
  let hs : Vec F S512x128 .f32 ← Prog.lift (.load a2 (Rect.unit (s := S512x128) ![0, 0] S512x128.size inb_S512x128_S512x128_0_0).toLoadRect (View.loadsAt_vmem h_S512x128))
  let w1 : Vec F S1024x128 .f32 ← Prog.lift (.load a3 (Rect.unit (s := S1024x128) ![0, 0] S1024x128.size inb_S1024x128_S1024x128_0_0).toLoadRect (View.loadsAt_vmem h_S1024x128))
  let b1 : Vec F S1024x1 .f32 ← Prog.lift (.load a4 (Rect.unit (s := S1024x1) ![0, 0] S1024x1.size inb_S1024x1_S1024x1_0_0).toLoadRect (View.loadsAt_vmem h_S1024x1))
  let w2 : Vec F S1000x1024 .f32 ← Prog.lift (.load a5 (Rect.unit (s := S1000x1024) ![0, 0] S1000x1024.size inb_S1000x1024_S1000x1024_0_0).toLoadRect (View.loadsAt_vmem h_S1000x1024))
  let b2 : Vec F S1000x1 .f32 ← Prog.lift (.load a6 (Rect.unit (s := S1000x1) ![0, 0] S1000x1.size inb_S1000x1_S1000x1_0_0).toLoadRect (View.loadsAt_vmem h_S1000x1))
  let _o : Vec F S1000x512 .f32 ← Prog.lift (.load a7 (Rect.unit (s := S1000x512) ![0, 0] S1000x512.size inb_S1000x512_S1000x512_0_0).toLoadRect (View.loadsAt_vmem h_S1000x512))
  Prog.lift (.store a7 (Rect.unit (s := S1000x512) ![0, 0] S1000x512.size inb_S1000x512_S1000x512_0_0) (layer x hs w1 b1 w2 b2) Finset.univ (View.stores_vmem_bits_univ h_S1000x512 rfl) (.inl rfl))
  pure ⟨⟩

variable (a1 : Memref sig .tc .vmem S512x20 .i32) (h1 : a1.IsWhole) (a2 : Memref sig .tc .vmem S512x128 .f32) (h2 : a2.IsWhole)
  (a3 : Memref sig .tc .vmem S1024x128 .f32) (h3 : a3.IsWhole) (a4 : Memref sig .tc .vmem S1024x1 .f32) (h4 : a4.IsWhole)
  (a5 : Memref sig .tc .vmem S1000x1024 .f32) (h5 : a5.IsWhole) (a6 : Memref sig .tc .vmem S1000x1 .f32) (h6 : a6.IsWhole)
  (a7 : Memref sig .tc .vmem S1000x512 .f32) (h7 : a7.IsWhole)

theorem cc2_eq (i : grid2.Coords) :
    cc2__mlp_body (F := F) i a1 h1 a2 h2 a3 h3 a4 h4 a5 h5 a6 h6 a7 h7 = mlp a1 a2 a3 a4 a5 a6 a7 := rfl

theorem cc3_eq (i : grid3.Coords) (a8 : Memref sig .tc .hbm S1000x16384 .f32) (h8 : a8.IsWhole) :
    cc3__lambda_ (F := F) i a1 h1 a2 h2 a3 h3 a4 h4 a5 h5 a6 h6 a8 h8 a7 h7 = mlp a1 a2 a3 a4 a5 a6 a7 := rfl

/-! ## Its run -/

/-- A load of a whole window reads its contents. -/
theorem readAt_zero {sp : Space} {s : Shape} {e : EltTy} (v : View sig .tc sp s e) (f : v.ty.Contents (Elt F))
    {off : Fin s.rank → ℕ} (h : off = fun _ => 0) (inb : ∀ a, off a + s.size a ≤ s.size a) :
    v.readAt (Elt F) (Rect.unit off s.size inb).toLoadRect f = v.read (Elt F) f :=
  View.ld_unit_zero (S := s) (Val := Elt F) h inb (v.read (Elt F) f)

/-- A store over a whole window leaves what was stored. -/
theorem read_writes_zero {sp : Space} {s : Shape} {e : EltTy} (v : View sig .tc sp s e) (f : v.ty.Contents (Elt F))
    {off : Fin s.rank → ℕ} (h : off = fun _ => 0) (inb : ∀ a, off a + s.size a ≤ s.size a) (w : s.Idx → Elt F e) :
    v.read (Elt F) (v.writes (Elt F) f [⟨Rect.unit off s.size inb, w⟩]) = w := by
  rw [View.read_writes_eq_canon v f _ (fun y => ⟨_, List.mem_singleton_self _, View.mem_set_unit_zero h inb y⟩),
    View.canon_unit_zero h inb]

theorem zero2 : (![0, 0] : Fin 2 → ℕ) = fun _ => 0 := by
  funext a; fin_cases a <;> rfl

/-- A load of a whole window through what is owned of it. -/
theorem wp_load_owns (c : Dev nD) {s : Shape} {e : EltTy} (m : Memref sig .tc .vmem s e) (X : s.Idx → Elt F e)
    {off : Fin s.rank → ℕ} (h : off = fun _ => 0) (inb : ∀ a, off a + s.size a ≤ s.size a)
    (hl : m.view.LoadsAt (Rect.unit off s.size inb).toLoadRect)
    (k : (s.Idx → Elt F e) → Prog (TpuEff nD τ sig (Elt F) Λ₀ .tc) PUnit) (Q : PUnit → sProp 𝕄) :
    owns (T c) m fullShare X
      ⊢ iprop((owns (T c) m fullShare X -∗ wp frame (wpE defs₀ 𝒱₀ (T c) none) Set.univ (k X) Q)
        -∗ wp frame (wpE defs₀ 𝒱₀ (T c) none) Set.univ
          ((Prog.lift (.load m (Rect.unit off s.size inb).toLoadRect hl)) >>= k) Q) := by
  unfold owns
  iintro H Hk
  icases H with ⟨%f, %hf, H⟩
  rw [wp_bind]
  iapply (wp_load 𝒱₀ (T c) none Set.univ (m := m) (r := (Rect.unit off s.size inb).toLoadRect) (m.view.setOn_subset_set _)) $$ H
  iintro H
  rw [wp_ret, readAt_zero m.view f h inb, hf]
  imodintro
  iapply Hk
  iexists f
  isplitr
  · ipureintro; exact hf
  iexact H

/-- A store over a whole window. -/
theorem wp_store_owns (c : Dev nD) {s : Shape} {e : EltTy} (m : Memref sig .tc .vmem s e) (X : s.Idx → Elt F e)
    {off : Fin s.rank → ℕ} (h : off = fun _ => 0) (inb : ∀ a, off a + s.size a ≤ s.size a) (w : s.Idx → Elt F e)
    (hx : (m.access (Rect.unit off s.size inb)).Stores Finset.univ)
    (hm : Finset.univ = Finset.univ ∨ ∀ a, (Rect.unit off s.size inb).stride a = 1)
    (k : PUnit → Prog (TpuEff nD τ sig (Elt F) Λ₀ .tc) PUnit) (Q : PUnit → sProp 𝕄) :
    owns (T c) m fullShare X
      ⊢ iprop((owns (T c) m fullShare w -∗ wp frame (wpE defs₀ 𝒱₀ (T c) none) Set.univ (k ⟨⟩) Q)
        -∗ wp frame (wpE defs₀ 𝒱₀ (T c) none) Set.univ
          ((Prog.lift (.store m (Rect.unit off s.size inb) w Finset.univ hx hm)) >>= k) Q) := by
  unfold owns
  iintro H Hk
  icases H with ⟨%f, %hf, H⟩
  rw [wp_bind]
  iapply (wp_store_writes₀ 𝒱₀ (T c) none Set.univ (m := m) (r := Rect.unit off s.size inb) (w := w)
    (m.view.set_slice_subset _)) $$ H
  iintro H
  rw [wp_ret]
  imodintro
  iapply Hk
  iexists (m.view.writes (Elt F) f [⟨Rect.unit off s.size inb, w⟩])
  isplitr
  · ipureintro; exact read_writes_zero m.view f h inb w
  iexact H

/-- The body: the six inputs stay, the output becomes the layer of them. -/
theorem wp_mlp (c : Dev nD) (x : Vec F S512x20 .i32) (hs : FVec F S512x128 .f32) (w1 : FVec F S1024x128 .f32)
    (b1 : FVec F S1024x1 .f32) (w2 : FVec F S1000x1024 .f32) (b2 : FVec F S1000x1 .f32) (o : FVec F S1000x512 .f32)
    (Q : PUnit → sProp 𝕄) :
    iprop(owns (T c) a1 fullShare x ∗ owns (T c) a2 fullShare hs ∗ owns (T c) a3 fullShare w1 ∗ owns (T c) a4 fullShare b1
        ∗ owns (T c) a5 fullShare w2 ∗ owns (T c) a6 fullShare b2 ∗ owns (T c) a7 fullShare o
        ∗ ((owns (T c) a1 fullShare x ∗ owns (T c) a2 fullShare hs ∗ owns (T c) a3 fullShare w1 ∗ owns (T c) a4 fullShare b1
          ∗ owns (T c) a5 fullShare w2 ∗ owns (T c) a6 fullShare b2 ∗ owns (T c) a7 fullShare (layer x hs w1 b1 w2 b2)) -∗ Q ⟨⟩))
      ⊢ wp frame (wpE defs₀ 𝒱₀ (T c) none) Set.univ (mlp a1 a2 a3 a4 a5 a6 a7) Q := by
  iintro H
  icases H with ⟨H1, H2, H3, H4, H5, H6, H7, Hk⟩
  unfold mlp
  iapply (wp_load_owns c a1 x zero2 _ _ _ Q) $$ H1; iintro H1
  iapply (wp_load_owns c a2 hs zero2 _ _ _ Q) $$ H2; iintro H2
  iapply (wp_load_owns c a3 w1 zero2 _ _ _ Q) $$ H3; iintro H3
  iapply (wp_load_owns c a4 b1 zero2 _ _ _ Q) $$ H4; iintro H4
  iapply (wp_load_owns c a5 w2 zero2 _ _ _ Q) $$ H5; iintro H5
  iapply (wp_load_owns c a6 b2 zero2 _ _ _ Q) $$ H6; iintro H6
  iapply (wp_load_owns c a7 o zero2 _ _ _ Q) $$ H7; iintro H7
  iapply (wp_store_owns c a7 o zero2 _ _ _ _ _ Q) $$ H7; iintro H7
  rw [wp_pure]
  imodintro
  iapply Hk
  isplitl [H1]
  · iexact H1
  isplitl [H2]
  · iexact H2
  isplitl [H3]
  · iexact H3
  isplitl [H4]
  · iexact H4
  isplitl [H5]
  · iexact H5
  isplitl [H6]
  · iexact H6
  iexact H7

end Cert.Pool
-- ==== Proof.Region0.lean ====
/-
  The first TensorCore call as a pipeline: what each window holds at each point, and the body there.
-/
module

public import proofs.«01_k».proof.Proof.Mlp
public import proofs.«01_k».proof.Proof.Gen.KernelIdeal.Launch
public import proofs.«01_k».proof.Proof.Gen.KernelIdeal.Points
public import Idealize.ShloMosaic.Lib.Pipeline.RegionArrays
public import Idealize.ShloMosaic.Lib.Pipeline.FrameBody

@[expose] public section

noncomputable section

namespace Cert.Pool

open Cert.KernelIdeal Cert.KernelIdeal.Gen
open Idealize.ShloMosaic
open Idealize.ShloMosaic.Pipeline (Dat BodyObligation BodyObligationLoose arrRef arrRefs scopedRest)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local instance : Cert.KernelIdeal.Facts := Cert.KernelIdeal.Gen.facts

local notation "𝕄" => MT nD τ sig (HIx 2) (Elt F) ℕ UU ℕ

/-- The contents of the arrays a pipeline's windows name, out of the contents of every buffer. -/
abbrev arrOf (W : Valuation τ sig (Elt F)) (b : Ref sig .tc) : b.ty.Contents (Elt F) := W (Proc.devRef .tc b)

/-- The pairs the waits of a TensorCore may have recorded: those at or below level `b`. -/
def below (c : Dev nD) (b : ℕ) : Set (SemLoc sig × HIx 2) := {p | (K (F := F)).lev (T c, p.1) p.2 ≤ b}

/-! ## The blocks -/

section Blocks

variable (W : Valuation τ sig (Elt F)) (t : Fin cfg2.N)

def x2 : Vec F S512x20 .i32 := (win2_0.blk t).view.read (Elt F) (arrOf W main_arg0)
def hs2 : FVec F S512x128 .f32 := (win2_1.blk t).view.read (Elt F) (arrOf W main_v5)
def w12 : FVec F S1024x128 .f32 := (win2_2.blk t).view.read (Elt F) (arrOf W main_v1)
def b12 : FVec F S1024x1 .f32 := (win2_3.blk t).view.read (Elt F) (arrOf W main_v3)
def w22 : FVec F S1000x1024 .f32 := (win2_4.blk t).view.read (Elt F) (arrOf W main_v2)
def b22 : FVec F S1000x1 .f32 := (win2_5.blk t).view.read (Elt F) (arrOf W main_v4)
def o2 : FVec F S1000x512 .f32 := layer (x2 W t) (hs2 W t) (w12 W t) (b12 W t) (w22 W t) (b22 W t)

end Blocks

/-- The proof's data: the windows' arrays as `W` has them; every input window left as found, the output the layer of
    the inputs' blocks; the body owes nothing. -/
def dat2 (W : Valuation τ sig (Elt F)) (b : ℕ) (c : Dev nD) : Dat τ (Elt F) (HIx 2) ℕ UU ℕ cfg2 c where
  A w := W (Proc.devRef .tc (arrRef spec2 w))
  after w t := match w with
    | ⟨0, _⟩ => x2 W t
    | ⟨1, _⟩ => hs2 W t
    | ⟨2, _⟩ => w12 W t
    | ⟨3, _⟩ => b12 W t
    | ⟨4, _⟩ => w22 W t
    | ⟨5, _⟩ => b22 W t
    | ⟨6, _⟩ => o2 W t
  Φ _ := scopedRest spec2 c
  q _ := fullShare
  owed _ := 0
  recorded _ := below (F := F) c b

section Body

variable (W : Valuation τ sig (Elt F)) (b : ℕ) (c : Dev nD)

theorem before2_0 (t d) : (dat2 W b c).before (0 : Fin 7) t d = x2 W t :=
  ((dat2 W b c).before_in_eq_fetched (0 : Fin 7) rfl (fun _ => rfl) (fun _ _ _ => rfl) (fun _ => rfl) t d).trans rfl
theorem before2_1 (t d) : (dat2 W b c).before (1 : Fin 7) t d = hs2 W t :=
  ((dat2 W b c).before_in_eq_fetched (1 : Fin 7) rfl (fun _ => rfl) (fun _ _ _ => rfl) (fun _ => rfl) t d).trans rfl
theorem before2_2 (t d) : (dat2 W b c).before (2 : Fin 7) t d = w12 W t :=
  ((dat2 W b c).before_in_eq_fetched (2 : Fin 7) rfl (fun _ => rfl) (fun _ _ _ => rfl) (fun _ => rfl) t d).trans rfl
theorem before2_3 (t d) : (dat2 W b c).before (3 : Fin 7) t d = b12 W t :=
  ((dat2 W b c).before_in_eq_fetched (3 : Fin 7) rfl (fun _ => rfl) (fun _ _ _ => rfl) (fun _ => rfl) t d).trans rfl
theorem before2_4 (t d) : (dat2 W b c).before (4 : Fin 7) t d = w22 W t :=
  ((dat2 W b c).before_in_eq_fetched (4 : Fin 7) rfl (fun _ => rfl) (fun _ _ _ => rfl) (fun _ => rfl) t d).trans rfl
theorem before2_5 (t d) : (dat2 W b c).before (5 : Fin 7) t d = b22 W t :=
  ((dat2 W b c).before_in_eq_fetched (5 : Fin 7) rfl (fun _ => rfl) (fun _ _ _ => rfl) (fun _ => rfl) t d).trans rfl

set_option maxHeartbeats 1000000 in
theorem body2 : BodyObligation (dat2 (F := F) W b c) defs₀ 𝒱₀ (none : HIx 2) Set.univ := by
  intro t
  iintro H
  icases H with ⟨HΦ, HO, H⟩
  ihave H := (Entails.of_eq (bigSep_W2 _)) $$ H
  icases H with ⟨⟨%d0, H0⟩, ⟨%d1, H1⟩, ⟨%d2, H2⟩, ⟨%d3, H3⟩, ⟨%d4, H4⟩, ⟨%d5, H5⟩, ⟨%d6, H6⟩⟩
  rw [before2_0, before2_1, before2_2, before2_3, before2_4, before2_5]
  rw [show (defs₀ (F := F) .tc cfg2.body (cfg2.bodyArgs t (cfg2.slots t)))
      = mlp (st2_0 t) (st2_1 t) (st2_2 t) (st2_3 t) (st2_4 t) (st2_5 t) (st2_6 t) from rfl]
  iapply (wp_mlp (st2_0 t) (st2_1 t) (st2_2 t) (st2_3 t) (st2_4 t) (st2_5 t) (st2_6 t) c (x2 W t) (hs2 W t) (w12 W t) (b12 W t)
    (w22 W t) (b22 W t) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro H
  icases H with ⟨H0, H1, H2, H3, H4, H5, H6⟩
  isplitl [HΦ]; · iapply (show (dat2 W b c).Φ t.castSucc ⊢ (dat2 W b c).Φ t.succ from .rfl) $$ HΦ
  isplitl [HO]
  · iapply (show (dat2 W b c).owesAt (none : HIx 2) t.castSucc ⊢ (dat2 W b c).owesAt (none : HIx 2) t.succ from .rfl) $$ HO
  iapply (Entails.of_eq (bigSep_W2 _).symm)
  isplitl [H0]; · iexact H0
  isplitl [H1]; · iexact H1
  isplitl [H2]; · iexact H2
  isplitl [H3]; · iexact H3
  isplitl [H4]; · iexact H4
  isplitl [H5]; · iexact H5
  iexact H6

end Body

end Cert.Pool
-- ==== Proof.Region1.lean ====
/-
  The second TensorCore call as a pipeline: what each window holds at each point, and the body there.
-/
module

public import proofs.«01_k».proof.Proof.Region0

@[expose] public section

noncomputable section

namespace Cert.Pool

open Cert.KernelIdeal Cert.KernelIdeal.Gen
open Idealize.ShloMosaic
open Idealize.ShloMosaic.Pipeline (Dat BodyObligation BodyObligationLoose arrRef arrRefs scopedRest)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local instance : Cert.KernelIdeal.Facts := Cert.KernelIdeal.Gen.facts

local notation "𝕄" => MT nD τ sig (HIx 2) (Elt F) ℕ UU ℕ

/-! ## The blocks -/

section Blocks

variable (W : Valuation τ sig (Elt F)) (t : Fin cfg3.N)

def x3 : Vec F S512x20 .i32 := (win3_0.blk t).view.read (Elt F) (arrOf W main_arg0)
def hs3 : FVec F S512x128 .f32 := (win3_1.blk t).view.read (Elt F) (arrOf W main_v6)
def w13 : FVec F S1024x128 .f32 := (win3_2.blk t).view.read (Elt F) (arrOf W main_v1)
def b13 : FVec F S1024x1 .f32 := (win3_3.blk t).view.read (Elt F) (arrOf W main_v3)
def w23 : FVec F S1000x1024 .f32 := (win3_4.blk t).view.read (Elt F) (arrOf W main_v2)
def b23 : FVec F S1000x1 .f32 := (win3_5.blk t).view.read (Elt F) (arrOf W main_v4)
def o3 : FVec F S1000x512 .f32 := layer (x3 W t) (hs3 W t) (w13 W t) (b13 W t) (w23 W t) (b23 W t)

end Blocks

/-- The proof's data: the windows' arrays as `W` has them; every input window left as found, the output the layer of
    the inputs' blocks; the body owes nothing. -/
def dat3 (W : Valuation τ sig (Elt F)) (b : ℕ) (c : Dev nD) : Dat τ (Elt F) (HIx 2) ℕ UU ℕ cfg3 c where
  A w := W (Proc.devRef .tc (arrRef spec3 w))
  after w t := match w with
    | ⟨0, _⟩ => x3 W t
    | ⟨1, _⟩ => hs3 W t
    | ⟨2, _⟩ => w13 W t
    | ⟨3, _⟩ => b13 W t
    | ⟨4, _⟩ => w23 W t
    | ⟨5, _⟩ => b23 W t
    | ⟨6, _⟩ => o3 W t
  Φ _ := scopedRest spec3 c
  q _ := fullShare
  owed _ := 0
  recorded _ := below (F := F) c b

section Body

variable (W : Valuation τ sig (Elt F)) (b : ℕ) (c : Dev nD)

theorem before3_0 (t d) : (dat3 W b c).before (0 : Fin 7) t d = x3 W t :=
  ((dat3 W b c).before_in_eq_fetched (0 : Fin 7) rfl (fun _ => rfl) (fun _ _ _ => rfl) (fun _ => rfl) t d).trans rfl
theorem before3_1 (t d) : (dat3 W b c).before (1 : Fin 7) t d = hs3 W t :=
  ((dat3 W b c).before_in_eq_fetched (1 : Fin 7) rfl (fun _ => rfl) (fun _ _ _ => rfl) (fun _ => rfl) t d).trans rfl
theorem before3_2 (t d) : (dat3 W b c).before (2 : Fin 7) t d = w13 W t :=
  ((dat3 W b c).before_in_eq_fetched (2 : Fin 7) rfl (fun _ => rfl) (fun _ _ _ => rfl) (fun _ => rfl) t d).trans rfl
theorem before3_3 (t d) : (dat3 W b c).before (3 : Fin 7) t d = b13 W t :=
  ((dat3 W b c).before_in_eq_fetched (3 : Fin 7) rfl (fun _ => rfl) (fun _ _ _ => rfl) (fun _ => rfl) t d).trans rfl
theorem before3_4 (t d) : (dat3 W b c).before (4 : Fin 7) t d = w23 W t :=
  ((dat3 W b c).before_in_eq_fetched (4 : Fin 7) rfl (fun _ => rfl) (fun _ _ _ => rfl) (fun _ => rfl) t d).trans rfl
theorem before3_5 (t d) : (dat3 W b c).before (5 : Fin 7) t d = b23 W t :=
  ((dat3 W b c).before_in_eq_fetched (5 : Fin 7) rfl (fun _ => rfl) (fun _ _ _ => rfl) (fun _ => rfl) t d).trans rfl

set_option maxHeartbeats 1000000 in
theorem body3 : BodyObligation (dat3 (F := F) W b c) defs₀ 𝒱₀ (none : HIx 2) Set.univ := by
  intro t
  iintro H
  icases H with ⟨HΦ, HO, H⟩
  ihave H := (Entails.of_eq (bigSep_W3 _)) $$ H
  icases H with ⟨⟨%d0, H0⟩, ⟨%d1, H1⟩, ⟨%d2, H2⟩, ⟨%d3, H3⟩, ⟨%d4, H4⟩, ⟨%d5, H5⟩, ⟨%d6, H6⟩⟩
  rw [before3_0, before3_1, before3_2, before3_3, before3_4, before3_5]
  rw [show (defs₀ (F := F) .tc cfg3.body (cfg3.bodyArgs t (cfg3.slots t)))
      = mlp (st3_0 t) (st3_1 t) (st3_2 t) (st3_3 t) (st3_4 t) (st3_5 t) (st3_6 t) from rfl]
  iapply (wp_mlp (st3_0 t) (st3_1 t) (st3_2 t) (st3_3 t) (st3_4 t) (st3_5 t) (st3_6 t) c (x3 W t) (hs3 W t) (w13 W t) (b13 W t)
    (w23 W t) (b23 W t) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro H
  icases H with ⟨H0, H1, H2, H3, H4, H5, H6⟩
  isplitl [HΦ]; · iapply (show (dat3 W b c).Φ t.castSucc ⊢ (dat3 W b c).Φ t.succ from .rfl) $$ HΦ
  isplitl [HO]
  · iapply (show (dat3 W b c).owesAt (none : HIx 2) t.castSucc ⊢ (dat3 W b c).owesAt (none : HIx 2) t.succ from .rfl) $$ HO
  iapply (Entails.of_eq (bigSep_W3 _).symm)
  isplitl [H0]; · iexact H0
  isplitl [H1]; · iexact H1
  isplitl [H2]; · iexact H2
  isplitl [H3]; · iexact H3
  isplitl [H4]; · iexact H4
  isplitl [H5]; · iexact H5
  iexact H6

end Body

end Cert.Pool
-- ==== Proof.Region.lean ====
/-
  The two TensorCore calls as regions of the program: each takes its windows' arrays at some contents, and leaves them
  with the output's array written block by block; the core's account of what it owes and waited for comes back as it was.
-/
module

public import proofs.«01_k».proof.Proof.Region1
public import Idealize.ShloMosaic.Lib.Pipeline.Regions

@[expose] public section

noncomputable section

namespace Cert.Pool

open Cert.KernelIdeal Cert.KernelIdeal.Gen
open Idealize.ShloMosaic
open Idealize.ShloMosaic.Pipeline
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local instance : Cert.KernelIdeal.Facts := Cert.KernelIdeal.Gen.facts

local notation "𝕄" => MT nD τ sig (HIx 2) (Elt F) ℕ UU ℕ

abbrev padm : (p : Fin 2) → (pcfgs (F := F) p).Adm := fun p => (cfgs p).toPCfg_adm

/-- Both pipelines' data, each from the contents its region is entered at. -/
def dats (W : Fin 2 → Dev nD → Valuation τ sig (Elt F)) (b : ℕ) (p : Fin 2) (c : Dev nD) :
    Dat τ (Elt F) (HIx 2) ℕ UU ℕ (pin (pcfgs (F := F)) padm p) c :=
  match p with
  | ⟨0, _⟩ => dat2 (W 0 c) b c
  | ⟨1, _⟩ => dat3 (W 1 c) b c

variable (W : Fin 2 → Dev nD → Valuation τ sig (Elt F)) (b : ℕ)

theorem dats_owed (p : Fin 2) (c : Dev nD) (t) : (dats W b p c).owed t = 0 :=
  match p with | ⟨0, _⟩ => rfl | ⟨1, _⟩ => rfl
theorem dats_recorded (p : Fin 2) (c : Dev nD) (t) : (dats W b p c).recorded t = below (F := F) c b :=
  match p with | ⟨0, _⟩ => rfl | ⟨1, _⟩ => rfl
theorem dats_share (p : Fin 2) (c : Dev nD) (w) : (dats W b p c).share w = fullShare := by
  unfold Dat.share; match p with | ⟨0, _⟩ => exact ite_self _ | ⟨1, _⟩ => exact ite_self _
theorem dats_inv (p : Fin 2) (c : Dev nD) (t) : (dats W b p c).Φ t = scopedRest (pin (pcfgs (F := F)) padm p).spec c :=
  match p with
  | ⟨0, _⟩ => congrArg (fun s : Fin 7 → WinSpec sig grid2.rank => scopedRest s c)
      (rfl : spec2 = (pin (pcfgs (F := F)) padm 0).spec)
  | ⟨1, _⟩ => congrArg (fun s : Fin 7 → WinSpec sig grid3.rank => scopedRest s c)
      (rfl : spec3 = (pin (pcfgs (F := F)) padm 1).spec)
theorem dats_A (p : Fin 2) (c : Dev nD) (w) :
    (dats W b p c).A w = W p c (Proc.devRef .tc (arrRef (pin (pcfgs (F := F)) padm p).spec w)) :=
  match p with | ⟨0, _⟩ => rfl | ⟨1, _⟩ => rfl
theorem dats_body (p : Fin 2) (c : Dev nD) : BodyObligationLoose (dats W b p c) defs₀ 𝒱₀ (none : HIx 2) Set.univ :=
  match p with | ⟨0, _⟩ => (body2 (W 0 c) b c).loose | ⟨1, _⟩ => (body3 (W 1 c) b c).loose

/-- The layout facts of both. -/
theorem pkit (p : Fin 2) : PLaunchFacts (nD := nD) (τ := τ) (pcfgs (F := F)) p :=
  match p with | ⟨0, _⟩ => launch2.toP | ⟨1, _⟩ => launch3.toP

theorem pK (p : Fin 2) : (pcfgs (F := F) p).pre.K = 0 := match p with | ⟨0, _⟩ => rfl | ⟨1, _⟩ => rfl

/-- The array each pipeline writes. -/
def outRef (p : Fin 2) : Ref sig .tc := match p with | ⟨0, _⟩ => main_v7 | ⟨1, _⟩ => main_v8

/-- What it holds at the end. -/
def outAt (b : ℕ) (c : Dev nD) (p : Fin 2) (W : Valuation τ sig (Elt F)) : (outRef p).ty.Contents (Elt F) :=
  match p with
  | ⟨0, _⟩ => (dat2 W b c).arrAt (6 : Fin 7) cfg2.N
  | ⟨1, _⟩ => (dat3 W b c).arrAt (6 : Fin 7) cfg3.N

/-- Every buffer's contents after region `p`: its output written, the rest as before. -/
def afterOf (b : ℕ) (c : Dev nD) (p : Fin 2) (W : Valuation τ sig (Elt F)) : Valuation τ sig (Elt F) :=
  Function.update W (Proc.devRef .tc (outRef p)) (outAt b c p W)

theorem ref_ne2 : ∀ w : Fin 7, w.val < 6 → (Proc.devRef .tc (arrRef spec2 w) : DevRef τ sig) ≠ Proc.devRef .tc main_v7 := by decide
theorem ref_ne3 : ∀ w : Fin 7, w.val < 6 → (Proc.devRef .tc (arrRef spec3 w) : DevRef τ sig) ≠ Proc.devRef .tc main_v8 := by decide
theorem in2 : ∀ w : Fin 7, w.val < 6 → (spec2 w).isOut = false := by decide
theorem in3 : ∀ w : Fin 7, w.val < 6 → (spec3 w).isOut = false := by decide

theorem end2 (V : Valuation τ sig (Elt F)) (c : Dev nD) (w : Fin 7) :
    (dat2 V b c).arrAt w cfg2.N = afterOf b c 0 V (Proc.devRef .tc (arrRef spec2 w)) := by
  by_cases h : w.val < 6
  · exact ((dat2 V b c).arrAt_in w (in2 w h) _).trans (Function.update_of_ne (ref_ne2 w h) _ _).symm
  · obtain rfl : w = 6 := Fin.ext (by have := w.isLt; show w.val = 6; omega)
    exact (Function.update_self (Proc.devRef .tc (outRef 0)) (outAt b c 0 V) V).symm

theorem end3 (V : Valuation τ sig (Elt F)) (c : Dev nD) (w : Fin 7) :
    (dat3 V b c).arrAt w cfg3.N = afterOf b c 1 V (Proc.devRef .tc (arrRef spec3 w)) := by
  by_cases h : w.val < 6
  · exact ((dat3 V b c).arrAt_in w (in3 w h) _).trans (Function.update_of_ne (ref_ne3 w h) _ _).symm
  · obtain rfl : w = 6 := Fin.ext (by have := w.isLt; show w.val = 6; omega)
    exact (Function.update_self (Proc.devRef .tc (outRef 1)) (outAt b c 1 V) V).symm

theorem dats_end (p : Fin 2) (c : Dev nD) (w) :
    (dats W b p c).arrAt w (pin (pcfgs (F := F)) padm p).N
      = afterOf b c p (W p c) (Proc.devRef .tc (arrRef (pin (pcfgs (F := F)) padm p).spec w)) :=
  match p with
  | ⟨0, _⟩ => end2 b (W 0 c) c w
  | ⟨1, _⟩ => end3 b (W 1 c) c w

/-- What a TensorCore that owes nothing has waited for, at or below level `b`. -/
def tcOwes (b : ℕ) (c : Dev nD) : sProp 𝕄 :=
  iprop(∃ Wd, ⌜(K (F := F)).WBelow (T c) Wd b⌝ ∗ owes (T c) 0 Wd)

variable (L : GSem nD τ sig → Finset (HIx 2)) (lv : GSem nD τ sig → HIx 2 → ℕ)

/-- The region of pipeline `p`. -/
def seg (p : Fin 2) : RegionSeg (pcfgs (F := F)) padm (dats W b) (none : HIx 2) defs₀ 𝒱₀ L lv p where
  win := (pkit (F := F) p).win.to₀
  block_pos := (pkit (F := F) p).block_pos
  stage_whole := (pkit (F := F) p).stage_whole
  K := PEmpty
  osem k := k.elim
  ho := OwnSemFacts.none _
  hbody := fun c => dats_body W b p c
  hwaits c := hwaits_of_owed_zero (pcfgs (F := F)) padm (dats W b) (none : HIx 2) L lv p (dats_owed W b p) c
  pre c := iprop(StableHlo.held (T c) (arrRefs (pcfgs (F := F) p).spec) (W p c) ∗ tcOwes (F := F) b c)
  post c := iprop(StableHlo.held (T c) (arrRefs (pcfgs (F := F) p).spec) (afterOf b c p (W p c)) ∗ tcOwes (F := F) b c)
  X _ := BI.emp
  Y _ := BI.emp
  Z _ := BI.emp
  hentry c := by
    rw [← arrays_held (pcfgs (F := F)) padm (dats W b) p (pkit (F := F) p) c (dats_share W b p c) ((dats W b p c).arrAt · 0) (W p c)
        (fun w => dats_A W b p c w), ownSems0_none, prefHeld_of_none _ (pK p)]
    unfold tcOwes
    iintro ⟨⟨Ha, HO⟩, -, -⟩
    imodintro
    isplitl [Ha]; · iexact Ha
    isplitr; · iempintro
    isplitl [HO]
    · unfold Dat.owesAt owesWithin Dat.bound
      rw [dats_owed, dats_recorded]
      icases HO with ⟨%Wd, %hW, HO⟩
      iexists Wd
      isplitr
      · ipureintro; exact fun q hq => Or.inl (hW q hq)
      iexact HO
    isplitr <;> iempintro
  hin c := by
    rw [dats_inv]
    iintro ⟨-, -, H⟩
    iexact H
  hout c := by
    rw [dats_inv, ownSems0_none]
    iintro H
    isplitr; · iempintro
    isplitr; · iempintro
    iexact H
  hexit c := by
    rw [arrays_held (pcfgs (F := F)) padm (dats W b) p (pkit (F := F) p) c (dats_share W b p c) ((dats W b p c).arrAt · (pin (pcfgs (F := F)) padm p).N)
        (afterOf b c p (W p c)) (fun w => dats_end W b p c w)]
    unfold tcOwes
    iintro ⟨Ha, HO, -, -⟩
    imodintro
    isplitl [Ha]; · iexact Ha
    unfold Dat.owesAt owesWithin Dat.bound
    rw [dats_owed, dats_recorded]
    icases HO with ⟨%Wd, %hW, HO⟩
    iexists Wd
    isplitr
    · ipureintro
      intro q hq
      rcases hW hq with h | ⟨w, s, rfl⟩
      · exact h
      · exact Nat.zero_le _
    iexact HO

/-- The call of pipeline `p` in the program as a whole. -/
theorem wp_region (p : Fin 2) (c : Dev nD) {α : Type} (k : PUnit → Prog (TpuEff nD τ sig (Elt F) (ΛP (F := F)) .tc) α)
    (Q : α → sProp 𝕄) :
    iprop((iprop(boundary (T c) ∗ (seg W b L lv p).post c) -∗ wp frame (wpE D 𝒱 (T c) none) Set.univ (k ⟨⟩) Q)
        ∗ boundary (T c) ∗ (seg W b L lv p).pre c ∗ levAts L lv
        ∗ cellsGhost (pin (pcfgs (F := F)) padm) EP p c ∗ toksInit (pin (pcfgs (F := F)) padm) EP p c)
      ⊢ wp frame (wpE D 𝒱 (T c) none) Set.univ (.op (.customCall (entry p) ()) k) Q :=
  RegionSeg.wp (pcfgs (F := F)) padm (dats W b) (none : HIx 2) ((pkit (F := F) p).cellOf_inj padm) EP defs₀ 𝒱₀ L lv (seg W b L lv p) c none
    (fun _ h => nomatch h) k Q

end Cert.Pool
-- ==== Proof.Spec.lean ====
/-
  The function both programs compute, over the extended reals: the table's rows picked and added up, divided by the
  count of nonzero index words, then two layers.
-/
module

public import Idealize.ShloMosaic.Lib.Pointwise

@[expose] public section

noncomputable section

namespace Cert.Pool

open Idealize.ShloMosaic

/-- One where an index word is not zero, zero where it is. -/
def present (v : BitVec 32) : EReal := if v = 0#32 then 0 else 1

/-- The count of sample `r`'s nonzero index words, at least one. -/
def count (x : Fin 16384 → Fin 20 → BitVec 32) (r : Fin 16384) : EReal := max (∑ l : Fin 20, present (x r l)) 1

/-- Lane `i` of table row `n`, the row read modulo the table's height (an index word names a row below it). -/
def lane (E : (⟨2, ![100000, 128]⟩ : Shape).Idx → EReal) (n : ℕ) (i : Fin 128) : EReal :=
  E (ix2 ⟨n % 100000, Nat.mod_lt _ (by decide)⟩ i)

/-- Unit `j` of the first layer at sample `r`. -/
def hidden (x : Fin 16384 → Fin 20 → BitVec 32) (E : (⟨2, ![100000, 128]⟩ : Shape).Idx → EReal)
    (W1 : (⟨2, ![128, 1024]⟩ : Shape).Idx → EReal) (b1 : (⟨1, ![1024]⟩ : Shape).Idx → EReal) (r : Fin 16384) (j : Fin 1024) : EReal :=
  max ((∑ i : Fin 128, Ideal.div (∑ l : Fin 20, lane E (x r l).toNat i) (count x r) * W1 (ix2 i j)) + b1 (ix1 j)) 0

/-- Output `k` at sample `r`. -/
def score (x : Fin 16384 → Fin 20 → BitVec 32) (E : (⟨2, ![100000, 128]⟩ : Shape).Idx → EReal)
    (W1 : (⟨2, ![128, 1024]⟩ : Shape).Idx → EReal) (b1 : (⟨1, ![1024]⟩ : Shape).Idx → EReal)
    (W2 : (⟨2, ![1024, 1000]⟩ : Shape).Idx → EReal) (b2 : (⟨1, ![1000]⟩ : Shape).Idx → EReal) (r : Fin 16384) (k : Fin 1000) : EReal :=
  (∑ j : Fin 1024, hidden x E W1 b1 r j * W2 (ix2 j k)) + b2 (ix1 k)

/-- The truth value of `v ≠ 0`, widened and read as a number. -/
theorem sitofp_present (v : BitVec 32) :
    FloatOps.sitofp (F := Ideal) .f32 (BitVec.setWidth 32 (IntOp.cmpi .ne v 0#32)) = present v := by
  unfold present
  by_cases h : v = 0#32
  · subst h
    rw [if_pos rfl]
    show (((0 : ℤ) : ℝ) : EReal) = 0
    norm_num
  · rw [if_neg h]
    have e : IntOp.cmpi .ne v 0#32 = 1#1 := by
      show BitVec.ofBool (v != 0#32) = 1#1
      rw [show (v != 0#32) = true from bne_iff_ne.mpr h]; rfl
    rw [e]
    show (((1 : ℤ) : ℝ) : EReal) = 1
    norm_num

end Cert.Pool
-- ==== Proof.Layer.lean ====
/-
  The two layers over the extended reals, an entry at a time.
-/
module

public import proofs.«01_k».proof.Proof.Mlp
public import proofs.«01_k».proof.Proof.Spec
public import Idealize.ShloMosaic.Lib.Pointwise

@[expose] public section

noncomputable section

namespace Cert.Pool

open Cert.KernelIdeal Cert.KernelIdeal.Gen
open Idealize.ShloMosaic

local instance : Cert.KernelIdeal.Facts := Cert.KernelIdeal.Gen.facts

theorem countOf_apply (x : Vec Ideal S512x20 .i32) (r : Fin 512) (z : Fin 1) :
    countOf x (ix2 r z) = max (∑ l : Fin 20, present (x (ix2 r l))) 1 := by
  pointwise [countOf]
  simp only [sitofp_present]

theorem layer_apply (x : Vec Ideal S512x20 .i32) (hs : FVec Ideal S512x128 .f32) (w1 : FVec Ideal S1024x128 .f32) (b1 : FVec Ideal S1024x1 .f32)
    (w2 : FVec Ideal S1000x1024 .f32) (b2 : FVec Ideal S1000x1 .f32) (k : Fin 1000) (r : Fin 512) :
    layer x hs w1 b1 w2 b2 (ix2 k r) =
      (∑ j : Fin 1024, w2 (ix2 k j) * max ((∑ i : Fin 128, w1 (ix2 j i) * Ideal.div (hs (ix2 r i)) (countOf x (ix2 r 0))) + b1 (ix2 j 0)) 0)
        + b2 (ix2 k 0) := by
  pointwise [layer, hiddenOf, meanOf]

end Cert.Pool
-- ==== Proof.Blocks.lean ====
/-
  What the two TensorCore calls leave in their output arrays, an entry at a time, over the extended reals.
-/
module

public import proofs.«01_k».proof.Proof.Region
public import proofs.«01_k».proof.Proof.Layer
public import Idealize.ShloMosaic.Lib.Pipeline.Value

@[expose] public section

noncomputable section

namespace Cert.Pool

open Cert.KernelIdeal Cert.KernelIdeal.Gen
open Idealize.ShloMosaic
open Idealize.ShloMosaic.Pipeline
open Idealize.SL.Sem

local instance : Cert.KernelIdeal.Facts := Cert.KernelIdeal.Gen.facts

/-- An entry of the transposed result: score `k` of sample `n`, the samples' sums taken from `H`, which holds those of one
    half of the samples. -/
def entry (x : Vec Ideal S16384x20 .i32) (H : FVec Ideal S8192x128 .f32) (w1 : FVec Ideal S1024x128 .f32) (b1 : FVec Ideal S1024x1 .f32)
    (w2 : FVec Ideal S1000x1024 .f32) (b2 : FVec Ideal S1000x1 .f32) (k : Fin 1000) (n : Fin 16384) : EReal :=
  (∑ j : Fin 1024, w2 (ix2 k j) * max ((∑ i : Fin 128, w1 (ix2 j i)
      * Ideal.div (H (ix2 ⟨n.val % 8192, Nat.mod_lt _ (by decide)⟩ i)) (max (∑ l : Fin 20, present (x (ix2 n l))) 1)) + b1 (ix2 j 0)) 0)
    + b2 (ix2 k 0)

/-- The block of one point, from blocks that are rows `512 * p + r` of the samples' arrays and the whole weights. -/
theorem layer_entry (x : Vec Ideal S16384x20 .i32) (H : FVec Ideal S8192x128 .f32) (w1 : FVec Ideal S1024x128 .f32) (b1 : FVec Ideal S1024x1 .f32)
    (w2 : FVec Ideal S1000x1024 .f32) (b2 : FVec Ideal S1000x1 .f32)
    (xb : Vec Ideal S512x20 .i32) (hb : FVec Ideal S512x128 .f32) (w1b : FVec Ideal S1024x128 .f32) (b1b : FVec Ideal S1024x1 .f32)
    (w2b : FVec Ideal S1000x1024 .f32) (b2b : FVec Ideal S1000x1 .f32) (k : Fin 1000) (r : Fin 512) (n : Fin 16384)
    (hx : ∀ l, xb (ix2 r l) = x (ix2 n l)) (hh : ∀ i, hb (ix2 r i) = H (ix2 ⟨n.val % 8192, Nat.mod_lt _ (by decide)⟩ i))
    (e1 : w1b = w1) (e2 : b1b = b1) (e3 : w2b = w2) (e4 : b2b = b2) :
    layer xb hb w1b b1b w2b b2b (ix2 k r) = entry x H w1 b1 w2 b2 k n := by
  subst e1 e2 e3 e4
  rw [layer_apply]
  simp only [countOf_apply, hx, hh]
  rfl

/-! ## The first call's windows -/

theorem index2 : ∀ t : Fin grid2.N,
    (win2_0.index t 0 = t.val ∧ win2_0.index t 1 = 0) ∧ (win2_1.index t 0 = t.val ∧ win2_1.index t 1 = 0)
      ∧ (win2_6.index t 0 = 0 ∧ win2_6.index t 1 = t.val) := by decide +kernel

theorem whole2 : ∀ t : Fin grid2.N,
    (∀ a, win2_2.index t a = 0) ∧ (∀ a, win2_3.index t a = 0) ∧ (∀ a, win2_4.index t a = 0) ∧ (∀ a, win2_5.index t a = 0) := by
  decide +kernel

theorem block2 : ∀ t : Fin grid2.N, win2_6.index t 0 * win2_6.size 0 = 0 ∧ win2_6.xsize (grid2.coords t) 0 = 1000
    ∧ win2_6.index t 1 * win2_6.size 1 = t.val * 512 ∧ win2_6.xsize (grid2.coords t) 1 = 512 := by decide +kernel

/-- Point `t` writes columns `512 * t` to `512 * t + 511`. -/
theorem mem_blk2 (t : Fin cfg2.N) (y : S1000x16384.Idx) :
    y ∈ ((cfg2.win 6).blk t).view.set ↔ t.val * 512 ≤ (y 1).val ∧ (y 1).val < t.val * 512 + 512 := by
  show y ∈ ((View.whole main_v7).slice (win2_6.rect t)).set ↔ _
  rw [View.set_slice_whole, Rect.mem_set_unit]
  have h0 : (y 0).val < 1000 := (y 0).isLt
  obtain ⟨l0, x0, l1, x1⟩ := block2 t
  refine ⟨fun h => ?_, fun h a => ?_⟩
  · have h := h 1
    have h : win2_6.index t 1 * win2_6.size 1 ≤ (y 1).val ∧ (y 1).val < win2_6.index t 1 * win2_6.size 1 + win2_6.xsize (grid2.coords t) 1 := h
    rw [l1, x1] at h; exact h
  · match a with
    | ⟨0, _⟩ => show win2_6.index t 0 * win2_6.size 0 ≤ (y 0).val ∧ (y 0).val < win2_6.index t 0 * win2_6.size 0 + win2_6.xsize (grid2.coords t) 0
                rw [l0, x0]; omega
    | ⟨1, _⟩ => show win2_6.index t 1 * win2_6.size 1 ≤ (y 1).val ∧ (y 1).val < win2_6.index t 1 * win2_6.size 1 + win2_6.xsize (grid2.coords t) 1
                rw [l1, x1]; exact h

section First

variable (W : Valuation τ sig (Elt Ideal)) (t : Fin cfg2.N)

theorem x2_apply (r : Fin 512) (l : Fin 20) (n : Fin 16384) (hn : n.val = t.val * 512 + r.val) :
    x2 W t (ix2 r l) = arrOf W main_arg0 (ix2 n l) :=
  congrArg (arrOf W main_arg0) (Shape.idx_ext₂
    ((win2_0.rect_emb_val t (ix2 r l) 0).trans (by rw [(index2 t).1.1]; exact hn.symm))
    ((win2_0.rect_emb_val_of_index_zero t 1 (index2 t).1.2 (ix2 r l)).trans rfl))

theorem hs2_apply (r : Fin 512) (i : Fin 128) (n : Fin 8192) (hn : n.val = t.val * 512 + r.val) :
    hs2 W t (ix2 r i) = arrOf W main_v5 (ix2 n i) :=
  congrArg (arrOf W main_v5) (Shape.idx_ext₂
    ((win2_1.rect_emb_val t (ix2 r i) 0).trans (by rw [(index2 t).2.1.1]; exact hn.symm))
    ((win2_1.rect_emb_val_of_index_zero t 1 (index2 t).2.1.2 (ix2 r i)).trans rfl))

theorem w12_eq : w12 W t = arrOf W main_v1 := funext fun y => congrArg (arrOf W main_v1)
  (funext fun a => Fin.ext (win2_2.rect_emb_val_of_index_zero t a ((whole2 t).1 a) y))
theorem b12_eq : b12 W t = arrOf W main_v3 := funext fun y => congrArg (arrOf W main_v3)
  (funext fun a => Fin.ext (win2_3.rect_emb_val_of_index_zero t a ((whole2 t).2.1 a) y))
theorem w22_eq : w22 W t = arrOf W main_v2 := funext fun y => congrArg (arrOf W main_v2)
  (funext fun a => Fin.ext (win2_4.rect_emb_val_of_index_zero t a ((whole2 t).2.2.1 a) y))
theorem b22_eq : b22 W t = arrOf W main_v4 := funext fun y => congrArg (arrOf W main_v4)
  (funext fun a => Fin.ext (win2_5.rect_emb_val_of_index_zero t a ((whole2 t).2.2.2 a) y))

/-- The whole array the first call writes blocks of. -/
def whole0 : FVec Ideal S1000x16384 .f32 := fun y =>
  entry (arrOf W main_arg0) (arrOf W main_v5) (arrOf W main_v1) (arrOf W main_v3) (arrOf W main_v2) (arrOf W main_v4) (y 0) (y 1)

theorem o2_eq : o2 W t = (win2_6.blk t).view.read (Elt Ideal) (whole0 W) := by
  have ht : t.val < 16 := t.isLt
  refine funext fun (y : S1000x512.Idx) => ?_
  have h1 : (y 1).val < 512 := (y 1).isLt
  have ey : y = ix2 (y 0) (y 1) := Shape.idx_ext₂ rfl rfl
  have e : (win2_6.blk t).view.emb y = ix2 (y 0) (⟨t.val * 512 + (y 1).val, by omega⟩ : Fin 16384) :=
    Shape.idx_ext₂ (win2_6.rect_emb_val_of_index_zero t 0 (index2 t).2.2.1 y)
      ((win2_6.rect_emb_val t y 1).trans (by rw [(index2 t).2.2.2]; rfl))
  refine (congrArg (o2 W t) ey).trans (Eq.trans ?_ (congrArg (whole0 W) e).symm)
  exact layer_entry _ _ _ _ _ _ _ _ _ _ _ _ (y 0) (y 1) _ (fun l => x2_apply W t _ l _ rfl)
    (fun i => hs2_apply W t _ i _ (by show (t.val * 512 + (y 1).val) % 8192 = _; exact Nat.mod_eq_of_lt (by omega))) (w12_eq W t) (b12_eq W t) (w22_eq W t) (b22_eq W t)

variable (b : ℕ) (c : Dev nD)

/-- The first half of the samples after the first call. -/
theorem out_first (k : Fin 1000) (n : Fin 16384) (hn : n.val < 8192) :
    (outAt b c 0 W : FVec Ideal S1000x16384 .f32) (ix2 k n) = whole0 W (ix2 k n) := by
  have hN : cfg2.N = 16 := rfl
  exact (dat2 W b c).arrAt_apply_of_mem (6 : Fin 7) (whole0 W) (fun t _ => o2_eq W t) cfg2.N ⟨n.val / 512, by omega⟩ (ix2 k n)
    (by show n.val / 512 < 16; omega) (flush2_6 _)
    ((mem_blk2 _ (ix2 k n)).2 (by show n.val / 512 * 512 ≤ n.val ∧ n.val < n.val / 512 * 512 + 512; omega))

end First

/-! ## The second call's windows -/

theorem index3 : ∀ t : Fin grid3.N,
    (win3_0.index t 0 = 16 + t.val ∧ win3_0.index t 1 = 0) ∧ (win3_1.index t 0 = t.val ∧ win3_1.index t 1 = 0)
      ∧ (win3_6.index t 0 = 0 ∧ win3_6.index t 1 = 16 + t.val) := by decide +kernel

theorem whole3 : ∀ t : Fin grid3.N,
    (∀ a, win3_2.index t a = 0) ∧ (∀ a, win3_3.index t a = 0) ∧ (∀ a, win3_4.index t a = 0) ∧ (∀ a, win3_5.index t a = 0) := by
  decide +kernel

theorem block3 : ∀ t : Fin grid3.N, win3_6.index t 0 * win3_6.size 0 = 0 ∧ win3_6.xsize (grid3.coords t) 0 = 1000
    ∧ win3_6.index t 1 * win3_6.size 1 = (16 + t.val) * 512 ∧ win3_6.xsize (grid3.coords t) 1 = 512 := by decide +kernel

/-- Point `t` writes columns `8192 + 512 * t` to `8192 + 512 * t + 511`. -/
theorem mem_blk3 (t : Fin cfg3.N) (y : S1000x16384.Idx) :
    y ∈ ((cfg3.win 6).blk t).view.set ↔ (16 + t.val) * 512 ≤ (y 1).val ∧ (y 1).val < (16 + t.val) * 512 + 512 := by
  show y ∈ ((View.whole main_v8).slice (win3_6.rect t)).set ↔ _
  rw [View.set_slice_whole, Rect.mem_set_unit]
  have h0 : (y 0).val < 1000 := (y 0).isLt
  obtain ⟨l0, x0, l1, x1⟩ := block3 t
  refine ⟨fun h => ?_, fun h a => ?_⟩
  · have h := h 1
    have h : win3_6.index t 1 * win3_6.size 1 ≤ (y 1).val ∧ (y 1).val < win3_6.index t 1 * win3_6.size 1 + win3_6.xsize (grid3.coords t) 1 := h
    rw [l1, x1] at h; exact h
  · match a with
    | ⟨0, _⟩ => show win3_6.index t 0 * win3_6.size 0 ≤ (y 0).val ∧ (y 0).val < win3_6.index t 0 * win3_6.size 0 + win3_6.xsize (grid3.coords t) 0
                rw [l0, x0]; omega
    | ⟨1, _⟩ => show win3_6.index t 1 * win3_6.size 1 ≤ (y 1).val ∧ (y 1).val < win3_6.index t 1 * win3_6.size 1 + win3_6.xsize (grid3.coords t) 1
                rw [l1, x1]; exact h

section Second

variable (W : Valuation τ sig (Elt Ideal)) (t : Fin cfg3.N)

theorem x3_apply (r : Fin 512) (l : Fin 20) (n : Fin 16384) (hn : n.val = (16 + t.val) * 512 + r.val) :
    x3 W t (ix2 r l) = arrOf W main_arg0 (ix2 n l) :=
  congrArg (arrOf W main_arg0) (Shape.idx_ext₂
    ((win3_0.rect_emb_val t (ix2 r l) 0).trans (by rw [(index3 t).1.1]; exact hn.symm))
    ((win3_0.rect_emb_val_of_index_zero t 1 (index3 t).1.2 (ix2 r l)).trans rfl))

theorem hs3_apply (r : Fin 512) (i : Fin 128) (n : Fin 8192) (hn : n.val = t.val * 512 + r.val) :
    hs3 W t (ix2 r i) = arrOf W main_v6 (ix2 n i) :=
  congrArg (arrOf W main_v6) (Shape.idx_ext₂
    ((win3_1.rect_emb_val t (ix2 r i) 0).trans (by rw [(index3 t).2.1.1]; exact hn.symm))
    ((win3_1.rect_emb_val_of_index_zero t 1 (index3 t).2.1.2 (ix2 r i)).trans rfl))

theorem w13_eq : w13 W t = arrOf W main_v1 := funext fun y => congrArg (arrOf W main_v1)
  (funext fun a => Fin.ext (win3_2.rect_emb_val_of_index_zero t a ((whole3 t).1 a) y))
theorem b13_eq : b13 W t = arrOf W main_v3 := funext fun y => congrArg (arrOf W main_v3)
  (funext fun a => Fin.ext (win3_3.rect_emb_val_of_index_zero t a ((whole3 t).2.1 a) y))
theorem w23_eq : w23 W t = arrOf W main_v2 := funext fun y => congrArg (arrOf W main_v2)
  (funext fun a => Fin.ext (win3_4.rect_emb_val_of_index_zero t a ((whole3 t).2.2.1 a) y))
theorem b23_eq : b23 W t = arrOf W main_v4 := funext fun y => congrArg (arrOf W main_v4)
  (funext fun a => Fin.ext (win3_5.rect_emb_val_of_index_zero t a ((whole3 t).2.2.2 a) y))

/-- The whole array the second call writes blocks of. -/
def whole1 : FVec Ideal S1000x16384 .f32 := fun y =>
  entry (arrOf W main_arg0) (arrOf W main_v6) (arrOf W main_v1) (arrOf W main_v3) (arrOf W main_v2) (arrOf W main_v4) (y 0) (y 1)

theorem o3_eq : o3 W t = (win3_6.blk t).view.read (Elt Ideal) (whole1 W) := by
  have ht : t.val < 16 := t.isLt
  refine funext fun (y : S1000x512.Idx) => ?_
  have h1 : (y 1).val < 512 := (y 1).isLt
  have ey : y = ix2 (y 0) (y 1) := Shape.idx_ext₂ rfl rfl
  have e : (win3_6.blk t).view.emb y = ix2 (y 0) (⟨(16 + t.val) * 512 + (y 1).val, by omega⟩ : Fin 16384) :=
    Shape.idx_ext₂ (win3_6.rect_emb_val_of_index_zero t 0 (index3 t).2.2.1 y)
      ((win3_6.rect_emb_val t y 1).trans (by rw [(index3 t).2.2.2]; rfl))
  refine (congrArg (o3 W t) ey).trans (Eq.trans ?_ (congrArg (whole1 W) e).symm)
  exact layer_entry _ _ _ _ _ _ _ _ _ _ _ _ (y 0) (y 1) _ (fun l => x3_apply W t _ l _ rfl)
    (fun i => hs3_apply W t _ i _ (by show ((16 + t.val) * 512 + (y 1).val) % 8192 = t.val * 512 + (y 1).val; omega)) (w13_eq W t) (b13_eq W t) (w23_eq W t) (b23_eq W t)

variable (b : ℕ) (c : Dev nD)

/-- The second half of the samples after the second call. -/
theorem out_second (k : Fin 1000) (n : Fin 16384) (hn : 8192 ≤ n.val) :
    (outAt b c 1 W : FVec Ideal S1000x16384 .f32) (ix2 k n) = whole1 W (ix2 k n) := by
  have hN : cfg3.N = 16 := rfl
  exact (dat3 W b c).arrAt_apply_of_mem (6 : Fin 7) (whole1 W) (fun t _ => o3_eq W t) cfg3.N ⟨n.val / 512 - 16, by show n.val / 512 - 16 < 16; omega⟩ (ix2 k n)
    (by show n.val / 512 - 16 < 16; omega) (flush3_6 _)
    ((mem_blk3 _ (ix2 k n)).2 (by show (16 + (n.val / 512 - 16)) * 512 ≤ n.val ∧ n.val < (16 + (n.val / 512 - 16)) * 512 + 512; omega))

/-- The first half is left as it was. -/
theorem out_kept (k : Fin 1000) (n : Fin 16384) (hn : n.val < 8192) :
    (outAt b c 1 W : FVec Ideal S1000x16384 .f32) (ix2 k n) = arrOf W main_v8 (ix2 k n) :=
  (dat3 W b c).arrAt_apply_of_forall_not_mem (6 : Fin 7) cfg3.N (ix2 k n) fun t _ _ h => by
    have h := (mem_blk3 t (ix2 k n)).1 h
    have : (16 + t.val) * 512 ≤ n.val := h.1
    omega

end Second

end Cert.Pool
-- ==== Proof.Row.lean ====
/-
  One row of a chunk, as a program: the twenty gathered rows of one output row are added up, lane group by lane group
  (eight groups of sixteen lanes), and the eight sums are stored into the row of the chunk's accumulator. The printed
  kernel spells this out 32 times (16 chunks in each of the two calls); here it is written once, over the gathered
  rows' buffer `rv` and the accumulator `av`.
-/
module

public import proofs.«01_k».proof.Proof.Gen.KernelIdeal

@[expose] public section

noncomputable section

namespace Cert.Pool

open Idealize.ShloMosaic Idealize.SL.Sem Cert.KernelIdeal Cert.KernelIdeal.Facts₀

variable {F : FTy → Type} [FloatOps F]

local instance : Cert.KernelIdeal.Facts := Cert.KernelIdeal.Gen.facts

/-- The rows of a chunk, as the loop counts them. -/
abbrev rowLoop : Scf.Loop 32 := ⟨0#32, Scalar.addi 0#32 16#32, 1#32⟩

/-- The row of the chunk a trip handles. -/
abbrev rowNo (t : Fin rowLoop.trips) : BitVec 32 := Scf.iv 0#32 1#32 t

/-- Where lane group `d` of gathered row 0 of output row `t` begins. -/
def off0 (t : Fin rowLoop.trips) (d : ℕ) : Fin 2 → ℕ := ![(Scalar.indexCast (Scalar.muli (rowNo t) 20#32)).toNat, d]

/-- Where lane group `d` of gathered row `l ≥ 1` of output row `t` begins. -/
def offL (t : Fin rowLoop.trips) (l : BitVec 32) (d : ℕ) : Fin 2 → ℕ :=
  ![(Scalar.indexCast (Scalar.addi (Scalar.muli (rowNo t) 20#32) l)).toNat, d]

/-- Where lane group `d` of accumulator row `t` begins. -/
def offA (t : Fin rowLoop.trips) (d : ℕ) : Fin 2 → ℕ := ![(Scalar.indexCast (rowNo t)).toNat, d]

theorem trips_eq : rowLoop.trips = 16 := by decide

theorem off0_row (t : Fin rowLoop.trips) : (Scalar.indexCast (Scalar.muli (rowNo t) 20#32)).toNat = 20 * t.val := by
  revert t; decide

theorem offL_row (t : Fin rowLoop.trips) (l : ℕ) (hl : l < 20) :
    (Scalar.indexCast (Scalar.addi (Scalar.muli (rowNo t) 20#32) (BitVec.ofNat 32 l))).toNat = 20 * t.val + l := by
  have key : ∀ (t : Fin rowLoop.trips) (l : Fin 20),
      (Scalar.indexCast (Scalar.addi (Scalar.muli (rowNo t) 20#32) (BitVec.ofNat 32 l.val))).toNat = 20 * t.val + l.val := by decide
  exact key t ⟨l, hl⟩

theorem offA_row (t : Fin rowLoop.trips) : (Scalar.indexCast (rowNo t)).toNat = t.val := by
  revert t; decide

theorem off0_inb (t : Fin rowLoop.trips) (d : ℕ) (hd : d + 16 ≤ 128) : ∀ a, off0 t d a + S1x16.size a ≤ S320x128.size a := by
  have ht : t.val < 16 := trips_eq ▸ t.isLt
  intro a
  match a with
  | 0 => show (Scalar.indexCast (Scalar.muli (rowNo t) 20#32)).toNat + 1 ≤ 320; rw [off0_row]; omega
  | 1 => exact hd

theorem offL_inb (t : Fin rowLoop.trips) (l : ℕ) (hl : l < 20) (d : ℕ) (hd : d + 16 ≤ 128) :
    ∀ a, offL t (BitVec.ofNat 32 l) d a + S1x16.size a ≤ S320x128.size a := by
  have ht : t.val < 16 := trips_eq ▸ t.isLt
  intro a
  match a with
  | 0 =>
    show (Scalar.indexCast (Scalar.addi (Scalar.muli (rowNo t) 20#32) (BitVec.ofNat 32 l))).toNat + 1 ≤ 320
    rw [offL_row t l hl]; omega
  | 1 => exact hd

theorem offA_inb (t : Fin rowLoop.trips) (d : ℕ) (hd : d + 16 ≤ 128) : ∀ a, offA t d a + S1x16.size a ≤ S16x128.size a := by
  have ht : t.val < 16 := trips_eq ▸ t.isLt
  intro a
  match a with
  | 0 => show (Scalar.indexCast (rowNo t)).toNat + 1 ≤ 16; rw [offA_row]; omega
  | 1 => exact hd

/-- The eight lane groups of a sum of rows. -/
structure Sums (F : FTy → Type) where
  (a0 a1 a2 a3 a4 a5 a6 a7 : FVec F S16 .f32)

variable {c : Fin τ.nSC} {s : Fin τ.nSub}

local notation "PR" => Prog (TpuEff nD τ sig (Elt F) Λ₀ (Proc.scVector c s))

/-- One lane group of a gathered row. -/
abbrev ld (rv : Memref sig .scVector .vmem S320x128 .f32) (o : Fin 2 → ℕ) (h : ∀ a, o a + S1x16.size a ≤ S320x128.size a) : PR (Vec F S1x16 .f32) :=
  Prog.lift (.load rv (Rect.unit (s := S320x128) o S1x16.size h).toLoadRect (View.loadsAt_vmem h_S1x16))

/-- Gathered row 0. -/
def first8 (rv : Memref sig .scVector .vmem S320x128 .f32) (t : Fin rowLoop.trips) : PR (Sums F) := do
  let v0 ← ld rv (off0 t 0) (off0_inb t 0 (by decide))
  let v1 ← ld rv (off0 t 16) (off0_inb t 16 (by decide))
  let v2 ← ld rv (off0 t 32) (off0_inb t 32 (by decide))
  let v3 ← ld rv (off0 t 48) (off0_inb t 48 (by decide))
  let v4 ← ld rv (off0 t 64) (off0_inb t 64 (by decide))
  let v5 ← ld rv (off0 t 80) (off0_inb t 80 (by decide))
  let v6 ← ld rv (off0 t 96) (off0_inb t 96 (by decide))
  let v7 ← ld rv (off0 t 112) (off0_inb t 112 (by decide))
  pure ⟨shapeCast S16 v0 shapeCasts_S1x16_S16, shapeCast S16 v1 shapeCasts_S1x16_S16, shapeCast S16 v2 shapeCasts_S1x16_S16,
    shapeCast S16 v3 shapeCasts_S1x16_S16, shapeCast S16 v4 shapeCasts_S1x16_S16, shapeCast S16 v5 shapeCasts_S1x16_S16,
    shapeCast S16 v6 shapeCasts_S1x16_S16, shapeCast S16 v7 shapeCasts_S1x16_S16⟩

/-- Gathered row `l` added to the sums. -/
def next8 (rv : Memref sig .scVector .vmem S320x128 .f32) (t : Fin rowLoop.trips) (l : ℕ) (hl : l < 20) (a : Sums F) : PR (Sums F) := do
  let v0 ← ld rv (offL t (BitVec.ofNat 32 l) 0) (offL_inb t l hl 0 (by decide))
  let v1 ← ld rv (offL t (BitVec.ofNat 32 l) 16) (offL_inb t l hl 16 (by decide))
  let v2 ← ld rv (offL t (BitVec.ofNat 32 l) 32) (offL_inb t l hl 32 (by decide))
  let v3 ← ld rv (offL t (BitVec.ofNat 32 l) 48) (offL_inb t l hl 48 (by decide))
  let v4 ← ld rv (offL t (BitVec.ofNat 32 l) 64) (offL_inb t l hl 64 (by decide))
  let v5 ← ld rv (offL t (BitVec.ofNat 32 l) 80) (offL_inb t l hl 80 (by decide))
  let v6 ← ld rv (offL t (BitVec.ofNat 32 l) 96) (offL_inb t l hl 96 (by decide))
  let v7 ← ld rv (offL t (BitVec.ofNat 32 l) 112) (offL_inb t l hl 112 (by decide))
  pure ⟨addf a.a0 (shapeCast S16 v0 shapeCasts_S1x16_S16), addf a.a1 (shapeCast S16 v1 shapeCasts_S1x16_S16),
    addf a.a2 (shapeCast S16 v2 shapeCasts_S1x16_S16), addf a.a3 (shapeCast S16 v3 shapeCasts_S1x16_S16),
    addf a.a4 (shapeCast S16 v4 shapeCasts_S1x16_S16), addf a.a5 (shapeCast S16 v5 shapeCasts_S1x16_S16),
    addf a.a6 (shapeCast S16 v6 shapeCasts_S1x16_S16), addf a.a7 (shapeCast S16 v7 shapeCasts_S1x16_S16)⟩

/-- Gathered rows `1 … n` added to the sums. -/
def nexts (rv : Memref sig .scVector .vmem S320x128 .f32) (t : Fin rowLoop.trips) : (n l : ℕ) → n + l ≤ 20 → Sums F → PR (Sums F)
  | 0, _, _, a => pure a
  | n + 1, l, h, a => next8 rv t l (by omega) a >>= nexts rv t n (l + 1) (by omega)

/-- One lane group of the accumulator's row, stored (the load before it is the printed one, its result unused). -/
def st (av : Memref sig .scVector .vmem S16x128 .f32) (o : Fin 2 → ℕ) (h : ∀ a, o a + S1x16.size a ≤ S16x128.size a) (v : FVec F S16 .f32) : PR PUnit := do
  let _ ← Prog.lift (.load av (Rect.unit (s := S16x128) o S1x16.size h).toLoadRect (View.loadsAt_vmem h_S1x16))
  Prog.lift (.store av (Rect.unit (s := S16x128) o S1x16.size h) (shapeCast S1x16 v shapeCasts_S16_S1x16) Finset.univ
    (View.stores_vmem_bits_univ h_S1x16 rfl) (.inl rfl))

/-- The eight stores. -/
def stores (av : Memref sig .scVector .vmem S16x128 .f32) (t : Fin rowLoop.trips) (a : Sums F) : PR PUnit := do
  st av (offA t 0) (offA_inb t 0 (by decide)) a.a0
  st av (offA t 16) (offA_inb t 16 (by decide)) a.a1
  st av (offA t 32) (offA_inb t 32 (by decide)) a.a2
  st av (offA t 48) (offA_inb t 48 (by decide)) a.a3
  st av (offA t 64) (offA_inb t 64 (by decide)) a.a4
  st av (offA t 80) (offA_inb t 80 (by decide)) a.a5
  st av (offA t 96) (offA_inb t 96 (by decide)) a.a6
  st av (offA t 112) (offA_inb t 112 (by decide)) a.a7

/-- One row. -/
def rowProg (rv : Memref sig .scVector .vmem S320x128 .f32) (av : Memref sig .scVector .vmem S16x128 .f32) (t : Fin rowLoop.trips) : PR PUnit := do
  let a ← first8 rv t
  let a ← nexts rv t 19 1 (by decide) a
  stores av t a

end Cert.Pool
-- ==== Proof.RowWp.lean ====
/-
  What one row of a chunk computes: the row of the accumulator becomes, lane by lane, the left-to-right sum of its
  twenty gathered rows; the accumulator's other rows stay.
-/
module

public import proofs.«01_k».proof.Proof.Setup
public import proofs.«01_k».proof.Proof.Row
public import Idealize.ShloMosaic.Lib.Writes
public import Idealize.ShloMosaic.Lib.WritesUnit
public import Idealize.ShloMosaic.Lib.Pipeline.Value

@[expose] public section

noncomputable section

namespace Cert.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local instance : Cert.KernelIdeal.Facts := Cert.KernelIdeal.Gen.facts

local notation "𝕄" => MT nD τ sig (HIx 2) (Elt F) ℕ UU ℕ

/-! ## The sums -/

/-- Row `r`, lane `k` of the gathered rows. -/
def cell (r k : ℕ) : S320x128.Idx := fun a => match a with
  | 0 => ⟨r % 320, Nat.mod_lt _ (by decide)⟩
  | 1 => ⟨k % 128, Nat.mod_lt _ (by decide)⟩

theorem cell_eq (j : S320x128.Idx) (r k : ℕ) (h0 : (j 0).val = r) (h1 : (j 1).val = k) : j = cell r k := by
  have hr : (j 0).val < 320 := (j 0).isLt
  have hk : (j 1).val < 128 := (j 1).isLt
  funext a
  match a with
  | 0 => exact Fin.ext (by show (j 0).val = r % 320; omega)
  | 1 => exact Fin.ext (by show (j 1).val = k % 128; omega)

/-- `f 0 + f 1 + … + f n`, added up from the left. -/
def sumTo (f : ℕ → F .f32) : ℕ → F .f32
  | 0 => f 0
  | n + 1 => FloatOps.addf (sumTo f n) (f (n + 1))

/-- Lane `k` of the first `n + 1` gathered rows of output row `t`, added up. -/
def rowSum (R : S320x128.Idx → F .f32) (t k n : ℕ) : F .f32 := sumTo (fun l => R (cell (20 * t + l) k)) n

/-- The sixteen lanes from lane `d` on. -/
def lanes (R : S320x128.Idx → F .f32) (t n d : ℕ) : FVec F S16 .f32 := fun i => rowSum R t (d + (i 0).val) n

/-- All eight lane groups. -/
def sumsOf (R : S320x128.Idx → F .f32) (t n : ℕ) : Sums F :=
  ⟨lanes R t n 0, lanes R t n 16, lanes R t n 32, lanes R t n 48, lanes R t n 64, lanes R t n 80, lanes R t n 96, lanes R t n 112⟩

/-- One gathered row's lane group, as the load reads it and the cast reshapes it. -/
def lane1 (R : S320x128.Idx → F .f32) (r d : ℕ) : FVec F S16 .f32 := fun i => R (cell r (d + (i 0).val))

theorem lanes_zero (R : S320x128.Idx → F .f32) (t d : ℕ) : lane1 R (20 * t) d = lanes R t 0 d := rfl
theorem lanes_succ (R : S320x128.Idx → F .f32) (t n d : ℕ) :
    addf (lanes R t n d) (lane1 R (20 * t + (n + 1)) d) = lanes R t (n + 1) d := rfl

/-! ## The loads -/

section Wp

variable (d : Dev nD) {c : Fin τ.nSC} {s : Fin τ.nSub}

local notation "thr" => V d c s
local notation "WP" => wp Idealize.ShloMosaic.frame (wpE (defs₀ (F := F)) 𝒱₀ (V d c s) none) Set.univ

variable (rv : Memref sig .scVector .vmem S320x128 .f32) (av : Memref sig .scVector .vmem S16x128 .f32)

/-- A load of a lane group. -/
theorem wp_ld {o : Fin 2 → ℕ} {h : ∀ a, o a + S1x16.size a ≤ S320x128.size a} {r d' : ℕ} (ho : o = ![r, d'])
    {f : Buf (Elt F) (rv.view.loc (V d c s))} {Q : Vec F S1x16 .f32 → sProp 𝕄} :
    (rv.view.loc (V d c s) ↦[rv.view.set]{fullShare} f : sProp 𝕄)
      ⊢ iprop((∀ v, ⌜shapeCast S16 v shapeCasts_S1x16_S16 = lane1 (rv.view.read (Elt F) f) r d'⌝
          -∗ (rv.view.loc (V d c s) ↦[rv.view.set]{fullShare} f) -∗ Q v)
        -∗ WP (ld (c := c) (s := s) rv o h) Q) := by
  subst ho
  iintro H HQ
  iapply (wp_load_rect 𝒱₀ (V d c s) none Set.univ (m := rv) (r := Rect.unit (s := S320x128) ![r, d'] S1x16.size h)
    (Memref.setOn_access_subset rv _ Finset.univ)) $$ H
  iintro H
  rw [wp_ret]
  imodintro
  iapply HQ $$ [] H
  ipureintro
  funext i
  refine (shapeCast_dropUnit_apply ![16] _ shapeCasts_S1x16_S16 i).trans ?_
  show rv.view.read (Elt F) f _ = rv.view.read (Elt F) f _
  congr 1
  refine cell_eq _ _ _ ?_ ?_
  · show r + 1 * 0 = r; omega
  · show d' + 1 * (i 0).val = d' + (i 0).val; omega

theorem wp_first8 (t : Fin rowLoop.trips) {f : Buf (Elt F) (rv.view.loc (V d c s))} {Q : Sums F → sProp 𝕄} :
    (rv.view.loc (V d c s) ↦[rv.view.set]{fullShare} f : sProp 𝕄)
      ⊢ iprop(((rv.view.loc (V d c s) ↦[rv.view.set]{fullShare} f) -∗ Q (sumsOf (rv.view.read (Elt F) f) t 0))
        -∗ WP (first8 (c := c) (s := s) rv t) Q) := by
  have ho : ∀ d', off0 t d' = ![20 * t.val, d'] := fun d' => by unfold off0; rw [off0_row]
  iintro H HQ
  unfold first8
  iterate 8
    rw [wp_bind]
    iapply (wp_ld d rv (ho _)) $$ H
    iintro %v %hv H
  rw [wp_pure]
  imodintro
  simp only [*, lanes_zero, sumsOf]
  iapply HQ; iexact H

theorem wp_next8 (t : Fin rowLoop.trips) (n : ℕ) (hn : n + 1 < 20) {f : Buf (Elt F) (rv.view.loc (V d c s))} {Q : Sums F → sProp 𝕄} :
    (rv.view.loc (V d c s) ↦[rv.view.set]{fullShare} f : sProp 𝕄)
      ⊢ iprop(((rv.view.loc (V d c s) ↦[rv.view.set]{fullShare} f) -∗ Q (sumsOf (rv.view.read (Elt F) f) t (n + 1)))
        -∗ WP (next8 (c := c) (s := s) rv t (n + 1) hn (sumsOf (rv.view.read (Elt F) f) t n)) Q) := by
  have ho : ∀ d', offL t (BitVec.ofNat 32 (n + 1)) d' = ![20 * t.val + (n + 1), d'] := fun d' => by unfold offL; rw [offL_row t _ hn]
  iintro H HQ
  unfold next8
  iterate 8
    rw [wp_bind]
    iapply (wp_ld d rv (ho _)) $$ H
    iintro %v %hv H
  rw [wp_pure]
  imodintro
  simp only [*, sumsOf, lanes_succ]
  iapply HQ; iexact H

theorem wp_nexts (t : Fin rowLoop.trips) {f : Buf (Elt F) (rv.view.loc (V d c s))} {Q : Sums F → sProp 𝕄} :
    ∀ (n l : ℕ) (h : n + (l + 1) ≤ 20), (rv.view.loc (V d c s) ↦[rv.view.set]{fullShare} f : sProp 𝕄)
      ⊢ iprop(((rv.view.loc (V d c s) ↦[rv.view.set]{fullShare} f) -∗ Q (sumsOf (rv.view.read (Elt F) f) t (n + l)))
        -∗ WP (nexts (c := c) (s := s) rv t n (l + 1) h (sumsOf (rv.view.read (Elt F) f) t l)) Q)
  | 0, l, h => by
    iintro H HQ
    unfold nexts
    rw [wp_pure, Nat.zero_add]
    imodintro
    iapply HQ $$ H
  | n + 1, l, h => by
    iintro H HQ
    unfold nexts
    rw [wp_bind]
    iapply (wp_next8 d rv t l _) $$ H
    iintro H
    iapply (wp_nexts t n (l + 1) _) $$ H
    rw [show n + (l + 1) = n + 1 + l by omega]
    iexact HQ

/-! ## The stores -/

/-- The accumulator's rows below `t`, and lanes below `k` of row `t`, are the sums. -/
def Done (R : S320x128.Idx → F .f32) (t k : ℕ) (A : S16x128.Idx → F .f32) : Prop :=
  ∀ y : S16x128.Idx, ((y 0).val < t ∨ (y 0).val = t ∧ (y 1).val < k) → A y = rowSum R (y 0).val (y 1).val 19

theorem wp_st (R : S320x128.Idx → F .f32) (t k : ℕ) {o : Fin 2 → ℕ} {h : ∀ a, o a + S1x16.size a ≤ S16x128.size a} (ho : o = ![t, k])
    {Q : PUnit → sProp 𝕄} :
    iprop(∃ f, ⌜Done R t k (av.view.read (Elt F) f)⌝ ∗ av.view.loc (V d c s) ↦[av.view.set]{fullShare} f)
      ⊢ iprop(((∃ f, ⌜Done R t (k + 16) (av.view.read (Elt F) f)⌝ ∗ av.view.loc (V d c s) ↦[av.view.set]{fullShare} f) -∗ Q ⟨⟩)
        -∗ WP (st (c := c) (s := s) av o h (lanes R t 19 k)) Q) := by
  subst ho
  iintro ⟨%f, %hD, H⟩ HQ
  unfold st
  rw [wp_bind]
  iapply (wp_load 𝒱₀ (V d c s) none Set.univ (m := av) (r := (Rect.unit (s := S16x128) ![t, k] S1x16.size h).toLoadRect)
    (av.view.setOn_subset_set _)) $$ H
  iintro H
  rw [wp_ret]
  imodintro
  iapply (wp_store_writes₀ 𝒱₀ (V d c s) none Set.univ (m := av) (r := Rect.unit (s := S16x128) ![t, k] S1x16.size h) (f := f)
    (Memref.setOn_access_subset av _ Finset.univ)) $$ H
  iintro H
  rw [wp_ret]
  imodintro
  iapply HQ
  iexists _
  isplitr
  swap; · iexact H
  ipureintro
  intro y hy
  by_cases hin : (y 0).val = t ∧ k ≤ (y 1).val ∧ (y 1).val < k + 16
  · obtain ⟨h0, h1, h2⟩ := hin
    refine (View.read_writes_cons_unit_of_mem av.view f h _ [] y (fun a => match a with
      | 0 => ⟨0, Nat.one_pos⟩ | 1 => ⟨(y 1).val - k, by show _ < 16; omega⟩) rfl ?_).trans ?_
    · intro a
      match a with
      | 0 => show (y 0).val = t + 0; omega
      | 1 => show (y 1).val = k + ((y 1).val - k); omega
    · refine (shapeCast_addUnit_apply ![16] _ shapeCasts_S16_S1x16 _).trans ?_
      show rowSum R t (k + ((y 1).val - k)) 19 = rowSum R (y 0).val (y 1).val 19
      rw [h0, Nat.add_sub_cancel' h1]
  · have hmiss : (y 0).val ≠ t ∨ (y 1).val < k := by omega
    refine Eq.trans ?_ (hD y (by omega))
    rcases hmiss with h0 | h1
    · exact View.read_writes_cons_unit_of_not_mem av.view f h _ [] y rfl 0 (by show (y 0).val < t ∨ t + 1 ≤ (y 0).val; omega)
    · exact View.read_writes_cons_unit_of_not_mem av.view f h _ [] y rfl 1 (.inl h1)

theorem wp_stores (R : S320x128.Idx → F .f32) (t : Fin rowLoop.trips) {Q : PUnit → sProp 𝕄} :
    iprop(∃ f, ⌜Done R t 0 (av.view.read (Elt F) f)⌝ ∗ av.view.loc (V d c s) ↦[av.view.set]{fullShare} f)
      ⊢ iprop(((∃ f, ⌜Done R t 128 (av.view.read (Elt F) f)⌝ ∗ av.view.loc (V d c s) ↦[av.view.set]{fullShare} f) -∗ Q ⟨⟩)
        -∗ WP (stores (c := c) (s := s) av t (sumsOf R t 19)) Q) := by
  have ho : ∀ d', offA t d' = ![t.val, d'] := fun d' => by unfold offA; rw [offA_row]
  iintro H HQ
  unfold stores
  rw [wp_bind]; iapply (wp_st d av R t 0 (ho _)) $$ H; iintro H
  rw [wp_bind]; iapply (wp_st d av R t 16 (ho _)) $$ H; iintro H
  rw [wp_bind]; iapply (wp_st d av R t 32 (ho _)) $$ H; iintro H
  rw [wp_bind]; iapply (wp_st d av R t 48 (ho _)) $$ H; iintro H
  rw [wp_bind]; iapply (wp_st d av R t 64 (ho _)) $$ H; iintro H
  rw [wp_bind]; iapply (wp_st d av R t 80 (ho _)) $$ H; iintro H
  rw [wp_bind]; iapply (wp_st d av R t 96 (ho _)) $$ H; iintro H
  iapply (wp_st d av R t 112 (ho _)) $$ H; iexact HQ

/-! ## A row, and a chunk's sixteen rows -/

/-- What the loop over a chunk's rows keeps: the gathered rows, and the accumulator with the rows so far. -/
def rowsInv (f : Buf (Elt F) (rv.view.loc (V d c s))) (t : ℕ) : sProp 𝕄 :=
  iprop((rv.view.loc (V d c s) ↦[rv.view.set]{fullShare} f)
    ∗ ∃ fa, ⌜Done (rv.view.read (Elt F) f) t 0 (av.view.read (Elt F) fa)⌝ ∗ av.view.loc (V d c s) ↦[av.view.set]{fullShare} fa)

theorem Done.next {R : S320x128.Idx → F .f32} {t : ℕ} {A : S16x128.Idx → F .f32} (h : Done R t 128 A) : Done R (t + 1) 0 A :=
  fun y hy => h y (by have := (y 1).isLt; have h1 : (y 1).val < 128 := this; omega)

theorem wp_row (f : Buf (Elt F) (rv.view.loc (V d c s))) (t : Fin rowLoop.trips) :
    rowsInv d (c := c) (s := s) rv av f t.val ⊢ WP (rowProg (c := c) (s := s) rv av t) fun _ => rowsInv d (c := c) (s := s) rv av f (t.val + 1) := by
  unfold rowProg
  rw [wp_bind]
  unfold rowsInv
  iintro ⟨H, HA⟩
  iapply (wp_first8 d rv t) $$ H
  iintro H
  rw [wp_bind]
  iapply (wp_nexts d rv t 19 0 _) $$ H
  iintro H
  iapply (wp_stores d av _ t) $$ HA
  iintro ⟨%fa, %hD, HA⟩
  isplitl [H]; · iexact H
  iexists fa
  isplitr
  · ipureintro; exact hD.next
  · iexact HA

theorem wp_rows (f : Buf (Elt F) (rv.view.loc (V d c s))) {Q : PUnit → sProp 𝕄} :
    iprop((rv.view.loc (V d c s) ↦[rv.view.set]{fullShare} f) ∗ ∃ fa, av.view.loc (V d c s) ↦[av.view.set]{fullShare} fa)
      ⊢ iprop((((rv.view.loc (V d c s) ↦[rv.view.set]{fullShare} f)
            ∗ ∃ fa, ⌜∀ y : S16x128.Idx, av.view.read (Elt F) fa y = rowSum (rv.view.read (Elt F) f) (y 0).val (y 1).val 19⌝
              ∗ av.view.loc (V d c s) ↦[av.view.set]{fullShare} fa) -∗ Q ⟨⟩)
        -∗ WP (Scf.Loop.for rowLoop (by decide) ⟨⟩ fun t _ => rowProg (c := c) (s := s) rv av t) Q) := by
  iintro ⟨H, %fa, HA⟩ HQ
  unfold Scf.Loop.for
  have e : ∀ t : ℕ, rowsInv d (c := c) (s := s) rv av f t = iprop((rv.view.loc (V d c s) ↦[rv.view.set]{fullShare} f)
    ∗ ∃ fa, ⌜Done (rv.view.read (Elt F) f) t 0 (av.view.read (Elt F) fa)⌝ ∗ av.view.loc (V d c s) ↦[av.view.set]{fullShare} fa) := fun _ => rfl
  iapply (Scf.wp_for _ _ _ _ _ _ _ _ _ (fun t _ => rowsInv d (c := c) (s := s) rv av f t) (fun k _ => wp_row d rv av f k))
  simp only [e]
  isplitl [H HA]
  · isplitl [H]; · iexact H
    iexists fa
    isplitr
    · ipureintro; intro y hy; omega
    · iexact HA
  · iintro %_ ⟨H, %fa', %hD, HA⟩
    iapply HQ
    isplitl [H]; · iexact H
    iexists fa'
    isplitr
    · ipureintro
      intro y
      have ht : Scf.trips 0#32 (Scalar.addi 0#32 16#32) 1#32 = 16 := trips_eq
      exact hD y (.inl (by rw [ht]; exact (y 0).isLt))
    · iexact HA

end Wp

end Cert.Pool
-- ==== Proof.Task.lean ====
/-
  A tile's task, as a program: sixteen chunks of sixteen output rows, double buffered. While the rows of chunk `c` are
  added up out of one bank, the gather of chunk `c + 1` runs into the other and the indices of chunk `c + 2` are copied
  in. The two printed tasks (one per SparseCore call) are this one program at two offsets into the indices.
-/
module

public import proofs.«01_k».proof.Proof.Row

@[expose] public section

noncomputable section

namespace Cert.Pool

open Idealize.ShloMosaic Idealize.SL.Sem Cert.KernelIdeal Cert.KernelIdeal.Facts₀

variable {F : FTy → Type} [FloatOps F]

local instance : Cert.KernelIdeal.Facts := Cert.KernelIdeal.Gen.facts

/-- One of the two banks: an index list, the rows gathered by it, and their two semaphores. -/
structure Bank where
  idx : Memref sig .scVector .vmem S320 .i32
  hidx : idx.IsWhole
  rows : Memref sig .scVector .vmem S320x128 .f32
  hrows : rows.IsWhole
  gsem : DmaSems sig S_
  isem : DmaSems sig S_

/-- What a task reads and writes: the index words, the table, the result, the accumulator, the offsets of each chunk
    into the index words and into the result, and the semaphore of each chunk's copy out. -/
structure Env where
  x : Memref sig .scVector .hbm S327680 .i32
  tab : Memref sig .scVector .hbm S100000x128 .f32
  out : Memref sig .scVector .hbm S8192x128 .f32
  acc : Memref sig .scVector .vmem S16x128 .f32
  hacc : acc.IsWhole
  xo : ℕ → Fin 1 → ℕ
  hxo : ∀ c < 16, ∀ a, xo c a + S320.size a ≤ S327680.size a
  oo : ℕ → Fin 2 → ℕ
  hoo : ∀ c < 16, ∀ a, oo c a + S16x128.size a ≤ S8192x128.size a
  osem : ℕ → DmaSems sig S_

namespace Env

variable (e : Env)

/-- The index words of chunk `c`. -/
abbrev xs (c : ℕ) (hc : c < 16) : Memref sig .scVector .hbm S320 .i32 :=
  e.x.slice (Rect.unit (s := S327680) (e.xo c) S320.size (e.hxo c hc)) (fun _ => rfl)

/-- The result rows of chunk `c`. -/
abbrev os (c : ℕ) (hc : c < 16) : Memref sig .scVector .hbm S16x128 .f32 :=
  e.out.slice (Rect.unit (s := S8192x128) (e.oo c) S16x128.size (e.hoo c hc)) (fun _ => rfl)

/-- The table, as the gather names it. -/
abbrev tb : Memref sig .scVector .hbm S100000x128 .f32 :=
  e.tab.slice (Rect.unit (s := S100000x128) ![0, 0] S100000x128.size inb_S100000x128_S100000x128_0_0) (fun _ => rfl)

variable {cc : Fin τ.nSC} {sc : Fin τ.nSub}

local notation "PR" => Prog (TpuEff nD τ sig (Elt F) Λ₀ (Proc.scVector cc sc))

/-- Chunk `c`'s index words are copied into the bank. -/
def stage (b : Bank) (c : ℕ) (hc : c < 16) : PR PUnit :=
  Prog.lift (.enqueueDma (e.xs c hc) (.here b.idx) (.dma b.isem.sem) (View.wordExact_bits rfl) b.hidx.wordExact ⟨Or.inl rfl, trivial⟩)

/-- Chunk `c`'s index words have arrived; its gather is started. -/
def gather (b : Bank) (c : ℕ) (hc : c < 16) : PR PUnit := do
  Prog.lift (.waitDma2 b.isem.sem (e.xs c hc) b.idx (View.wordExact_bits rfl) b.hidx.wordExact)
  SparseCore.enqueueIndirectGather rfl e.tb b.rows gathers_S100000x128_S320x128 b.idx rfl b.gsem.sem (View.wordExact_bits rfl) rfl (Or.inl rfl)

/-- The bank's rows have arrived. -/
def arrive (b : Bank) : PR PUnit :=
  SparseCore.waitIndirectGather b.gsem.sem e.tb b.rows (View.wordExact_bits rfl) b.hrows.wordExact

/-- The bank's rows are added up into the accumulator. -/
def sums (b : Bank) : PR PUnit :=
  Scf.Loop.for rowLoop (by decide) ⟨⟩ fun t _ => rowProg b.rows e.acc t

/-- The accumulator is copied out as chunk `c`'s result rows. -/
def emit (c : ℕ) (hc : c < 16) : PR PUnit := do
  Prog.lift (.enqueueDma e.acc (.here (e.os c hc)) (.dma (e.osem c).sem) e.hacc.wordExact (View.wordExact_bits rfl) ⟨Or.inl rfl, trivial⟩)
  Prog.lift (.waitDma2 (e.osem c).sem e.acc (e.os c hc) e.hacc.wordExact (View.wordExact_bits rfl))

/-- Chunk `c`'s rows have arrived; they are added up, and the sums copied out. -/
def accum (b : Bank) (c : ℕ) (hc : c < 16) : PR PUnit := do
  e.arrive b
  e.sums b
  e.emit c hc

/-- Chunk `c` and the `n` chunks after it: chunk `c` in bank `a`, the next in bank `b`. -/
def chunks : (n c : ℕ) → n + c = 15 → Bank → Bank → PR PUnit
  | 0, c, h, a, _ => e.accum a c (by omega)
  | 1, c, h, a, b => do
    e.gather b (c + 1) (by omega)
    e.accum a c (by omega)
    chunks 0 (c + 1) (by omega) b a
  | n + 2, c, h, a, b => do
    e.gather b (c + 1) (by omega)
    e.accum a c (by omega)
    e.stage a (c + 2) (by omega)
    chunks (n + 1) (c + 1) (by omega) b a
termination_by structural n => n

/-- The task. -/
def task (a b : Bank) : PR PUnit := do
  e.stage a 0 (by omega)
  e.gather a 0 (by omega)
  e.stage b 1 (by omega)
  e.chunks 15 0 rfl a b

/-! ## The task as the printed program groups its statements

The printed task is cut into windows, a few chunks' steps each; what a window hands to the next is a constant that no
operation of the next one needs. -/

/-- The first window: the first two gathers are started, the first arrives. -/
def w0 (v : BitVec 32) (a b : Bank) : PR (Σ' (_ : BitVec 32) (_ : BitVec 32), BitVec 32) := do
  e.stage a 0 (by omega)
  e.gather a 0 (by omega)
  e.stage b 1 (by omega)
  e.gather b 1 (by omega)
  e.arrive a
  pure ⟨v, 0#32, 1#32⟩

/-- From chunk `c`'s sums to chunk `c + 1`'s result. -/
def w1 (o : BitVec 32) (a b : Bank) (c : ℕ) (hc : c + 2 < 16) : PR (BitVec 32) := do
  e.sums a
  e.emit c (by omega)
  e.stage a (c + 2) (by omega)
  e.gather a (c + 2) (by omega)
  e.arrive b
  e.sums b
  e.emit (c + 1) (by omega)
  pure o

/-- From chunk `c + 3`'s indices to chunk `c + 4`'s. -/
def w2 (a b : Bank) (c : ℕ) (hc : c + 4 < 16) : PR PUnit := do
  e.stage b (c + 3) (by omega)
  e.gather b (c + 3) (by omega)
  e.arrive a
  e.sums a
  e.emit (c + 2) (by omega)
  e.stage a (c + 4) (by omega)

/-- From chunk `c + 4`'s gather to its arrival. -/
def w3 (a b : Bank) (c : ℕ) (hc : c + 5 < 16) : PR (Σ' (_ : BitVec 32), BitVec 32) := do
  e.gather a (c + 4) (by omega)
  e.arrive b
  e.sums b
  e.emit (c + 3) (by omega)
  e.stage b (c + 5) (by omega)
  e.gather b (c + 5) (by omega)
  e.arrive a
  pure ⟨0#32, 1#32⟩

/-- The last window: chunks 14 and 15, but for the last result. -/
def w4 (a b : Bank) : PR PUnit := do
  e.stage b 15 (by omega)
  e.gather b 15 (by omega)
  e.arrive a
  e.sums a
  e.emit 14 (by omega)
  e.arrive b
  e.sums b
  pure ⟨⟩

/-- The task in its windows. -/
def windows (v o : BitVec 32) (a b : Bank) : PR PUnit := do
  let _ ← e.w0 v a b
  let _ ← e.w1 o a b 0 (by omega)
  e.w2 a b 0 (by omega)
  let _ ← e.w3 a b 0 (by omega)
  let _ ← e.w1 o a b 4 (by omega)
  e.w2 a b 4 (by omega)
  let _ ← e.w3 a b 4 (by omega)
  let _ ← e.w1 o a b 8 (by omega)
  e.w2 a b 8 (by omega)
  let _ ← e.w3 a b 8 (by omega)
  let _ ← e.w1 o a b 12 (by omega)
  e.w4 a b
  e.emit 15 (by omega)

theorem task_eq_windows (v o : BitVec 32) (a b : Bank) : (e.task a b : PR PUnit) = e.windows v o a b := by
  simp only [task, windows, w0, w1, w2, w3, w4, chunks, accum, bind_assoc, pure_bind]

end Env

end Cert.Pool
-- ==== Proof.TaskWp.lean ====
/-
  What a tile's task computes: the steps of a chunk, each from what it holds to what it leaves, and the sixteen chunks by
  induction. Result row `y` of the tile's rows ends as the sum of the table rows its twenty index words name.
-/
module

public import proofs.«01_k».proof.Proof.RowWp
public import proofs.«01_k».proof.Proof.Task

@[expose] public section

noncomputable section

namespace Cert.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local instance : Cert.KernelIdeal.Facts := Cert.KernelIdeal.Gen.facts

local notation "𝕄" => MT nD τ sig (HIx 2) (Elt F) ℕ UU ℕ

/-! ## The values -/

/-- Index word `i`. -/
def xcell (i : ℕ) : S327680.Idx := fun a => match a with | 0 => ⟨i % 327680, Nat.mod_lt _ (by decide)⟩

/-- Row `r`, lane `k` of the table. -/
def tcell (r k : ℕ) : S100000x128.Idx := fun a => match a with
  | 0 => ⟨r % 100000, Nat.mod_lt _ (by decide)⟩
  | 1 => ⟨k % 128, Nat.mod_lt _ (by decide)⟩

theorem xcell_eq (j : S327680.Idx) (i : ℕ) (h : (j 0).val = i) : j = xcell i := by
  have hi : (j 0).val < 327680 := (j 0).isLt
  funext a
  match a with
  | 0 => exact Fin.ext (by show (j 0).val = i % 327680; omega)

theorem tcell_eq (j : S100000x128.Idx) (r k : ℕ) (h0 : (j 0).val = r) (h1 : (j 1).val = k) : j = tcell r k := by
  have hr : (j 0).val < 100000 := (j 0).isLt
  have hk : (j 1).val < 128 := (j 1).isLt
  funext a
  match a with
  | 0 => exact Fin.ext (by show (j 0).val = r % 100000; omega)
  | 1 => exact Fin.ext (by show (j 1).val = k % 128; omega)

/-- Lane `k` of the table row that index word `i` names. -/
def picked (X : S327680.Idx → BitVec 32) (T : S100000x128.Idx → F .f32) (i k : ℕ) : F .f32 := T (tcell (X (xcell i)).toNat k)

/-- Lane `k` of the pooled row `n`: its twenty table rows, added up. -/
def pooled (X : S327680.Idx → BitVec 32) (T : S100000x128.Idx → F .f32) (n k : ℕ) : F .f32 :=
  sumTo (fun l => picked X T (20 * n + l) k) 19

theorem sumTo_congr {f g : ℕ → F .f32} : ∀ {n : ℕ}, (∀ l ≤ n, f l = g l) → sumTo f n = sumTo g n
  | 0, h => h 0 le_rfl
  | n + 1, h => by unfold sumTo; rw [sumTo_congr fun l hl => h l (by omega), h (n + 1) le_rfl]

/-! ## What a task holds -/

namespace Env

variable (e : Env) (d : Dev nD) (c : Fin τ.nSC) (s : Fin τ.nSub)

local notation "thr" => V d c s
local notation "WP" => wp Idealize.ShloMosaic.frame (wpE (defs₀ (F := F)) 𝒱₀ (V d c s) none) Set.univ

/-- Where the task's chunks lie: result rows from `base` on, which are rows `xoff + base` on of the batch. -/
structure At (xoff base : ℕ) (O : Finset (Idx (e.out.view.loc (V d c s)))) : Prop where
  xo : ∀ n < 16, e.xo n = ![20 * (xoff + base + 16 * n)]
  oo : ∀ n < 16, e.oo n = ![base + 16 * n, 0]
  sub : ∀ n (hn : n < 16), (e.os n hn).view.set ⊆ O

variable (fx : Buf (Elt F) (e.x.view.loc (V d c s))) (ft : Buf (Elt F) (e.tab.view.loc (V d c s)))

abbrev X : S327680.Idx → BitVec 32 := e.x.view.read (Elt F) fx
abbrev Tb : S100000x128.Idx → F .f32 := e.tab.view.read (Elt F) ft

abbrev xP (q : PosShare TreeShare) : sProp 𝕄 := e.x.view.loc (V d c s) ↦{q} fx
abbrev tP (q : PosShare TreeShare) : sProp 𝕄 := e.tab.view.loc (V d c s) ↦{q} ft
abbrev accP : sProp 𝕄 := iprop(∃ f, e.acc.view.loc (V d c s) ↦[e.acc.view.set]{fullShare} f)
abbrev sem0 (σ : DmaSems sig S_) : sProp 𝕄 := semVal (V d c s, SemLoc.dma σ.sem) 0
abbrev osems : sProp 𝕄 := bigSep (Finset.range 16) fun n => sem0 (F := F) d c s (e.osem n)
abbrev idxP (b : Bank) : sProp 𝕄 := iprop(∃ f, b.idx.view.loc (V d c s) ↦[b.idx.view.set]{fullShare} f)
abbrev rowsP (b : Bank) : sProp 𝕄 := iprop(∃ f, b.rows.view.loc (V d c s) ↦[b.rows.view.set]{fullShare} f)
abbrev owesP (O : CellTallies nD τ sig (HIx 2)) (W : Waits sig (HIx 2)) : sProp 𝕄 :=
  iprop(∃ W', ⌜∀ p ∈ W', p ∈ W ∨ p.2 = none⌝ ∗ owes (V d c s) O W')

/-- The result rows below chunk `n` are the pooled rows. -/
def OutDone (xoff base n : ℕ) (fo : Buf (Elt F) (e.out.view.loc (V d c s))) : Prop :=
  ∀ y : S8192x128.Idx, base ≤ (y 0).val → (y 0).val < base + 16 * n →
    e.out.view.read (Elt F) fo y = pooled (X e d c s fx) (Tb e d c s ft) (xoff + (y 0).val) (y 1).val

abbrev outP (O : Finset (Idx (e.out.view.loc (V d c s)))) (xoff base n : ℕ) : sProp 𝕄 :=
  iprop(∃ fo, ⌜OutDone e d c s fx ft xoff base n fo⌝ ∗ e.out.view.loc (V d c s) ↦[O]{fullShare} fo)

/-- Chunk `n`'s index words are on their way into bank `b`. -/
def staged (q : PosShare TreeShare) (b : Bank) (n : ℕ) (hn : n < 16) : sProp 𝕄 :=
  iprop(∃ fd, Transfers.Flight countersEmb (V d c s) (.dma b.isem.sem) (default : HIx 2) b.idx.view.dmaCredit
      iprop((b.idx.view.loc (V d c s) ↦[b.idx.view.set]{fullShare} b.idx.view.write (Elt F) fd ((e.xs n hn).view.read (Elt F) fx) Finset.univ)
        ∗ (e.xs n hn).view.loc (V d c s) ↦[(e.xs n hn).view.set]{q} fx)
    ∗ e.x.view.loc (V d c s) ↦[Finset.univ \ (e.xs n hn).view.set]{q} fx)

/-- Bank `b`'s index list holds chunk `n`'s words. -/
def IdxIs (b : Bank) (row0 : ℕ) (fi : Buf (Elt F) (b.idx.view.loc (V d c s))) : Prop :=
  ∀ j : S320.Idx, b.idx.view.read (Elt F) fi j = X e d c s fx (xcell (20 * row0 + (j 0).val))

/-- Bank `b`'s rows are the table rows chunk `n`'s words name. -/
def RowsAre (b : Bank) (row0 : ℕ) (fr : Buf (Elt F) (b.rows.view.loc (V d c s))) : Prop :=
  ∀ j : S320x128.Idx, b.rows.view.read (Elt F) fr j = picked (X e d c s fx) (Tb e d c s ft) (20 * row0 + (j 0).val) (j 1).val

/-- The gather of the chunk whose first row is `row0` is on its way into bank `b`. -/
def flying (q : PosShare TreeShare) (b : Bank) (row0 : ℕ) : sProp 𝕄 :=
  iprop(∃ fr fi, ⌜RowsAre e d c s fx ft b row0 fr⌝
    ∗ Transfers.Flight countersEmb (V d c s) (.dma b.gsem.sem) (default : HIx 2) b.rows.view.dmaCredit
      iprop((b.rows.view.loc (V d c s) ↦[b.rows.view.set]{fullShare} fr)
        ∗ (e.tb.view.loc (V d c s) ↦[e.tb.view.set]{q} ft) ∗ b.idx.view.loc (V d c s) ↦[b.idx.view.set]{fullShare} fi)
    ∗ e.tab.view.loc (V d c s) ↦[Finset.univ \ e.tb.view.set]{q} ft)

variable {e d c s fx ft}
variable {qx q : PosShare TreeShare} {O : CellTallies nD τ sig (HIx 2)} {W : Waits sig (HIx 2)}

theorem wp_stage (b : Bank) (n : ℕ) (hn : n < 16) {Q : PUnit → sProp 𝕄} :
    iprop(xP e d c s fx qx ∗ idxP (F := F) d c s b ∗ sem0 (F := F) d c s b.isem)
      ⊢ iprop((staged e d c s fx qx b n hn -∗ Q ⟨⟩) -∗ WP (e.stage (cc := c) (sc := s) b n hn) Q) := by
  iintro ⟨Hx, ⟨%fd, Hi⟩, Hv⟩ HQ
  ihave Hxs := (pointsTo_split_subset (q := qx) (f := fx) (S := Finset.univ) (Finset.subset_univ (e.xs n hn).view.set)).1 $$ Hx
  icases Hxs with ⟨Hxs, Hxr⟩
  unfold stage
  iapply (Transfers.wp_dmaLocal countersEmb 𝒱₀ (V d c s) none (src := e.xs n hn) (dst := b.idx) (via := .same) (q := qx) (fs := fx) (default : HIx 2)
    b.idx.view.dmaCredit rfl (View.dmaCredit_pos _ (by decide)) (Finset.Subset.refl _)) $$ [Hxs Hi Hv]
  · isplitl [Hxs]; · iexact Hxs
    isplitl [Hi] <;> iassumption
  iintro Hfl
  rw [wp_ret]
  imodintro
  iapply HQ
  unfold staged
  iexists fd
  isplitl [Hfl] <;> iassumption

theorem wp_arrive (b : Bank) (row0 : ℕ) {Q : PUnit → sProp 𝕄} :
    iprop(flying e d c s fx ft q b row0 ∗ owesP (F := F) d c s O W ∗ Transfers.MayWaits (V d c s) (default : HIx 2) O)
      ⊢ iprop(((∃ fr, ⌜RowsAre e d c s fx ft b row0 fr⌝ ∗ b.rows.view.loc (V d c s) ↦[b.rows.view.set]{fullShare} fr)
            ∗ idxP (F := F) d c s b ∗ tP e d c s ft q ∗ sem0 (F := F) d c s b.gsem ∗ owesP (F := F) d c s O W -∗ Q ⟨⟩)
        -∗ WP (e.arrive (cc := c) (sc := s) b) Q) := by
  unfold flying
  iintro ⟨⟨%fr, %fi, %hr, Hfl, Htr⟩, ⟨%W', %hW, HO⟩, #Hmw⟩ HQ
  unfold arrive SparseCore.waitIndirectGather
  iapply (Transfers.wp_waitLocalO countersEmb 𝒱₀ (V d c s) none (default : HIx 2) (rfl : b.rows.view.dmaCredit = _)) $$ [Hfl HO]
  · isplitl [Hfl]; · iexact Hfl
    isplitl [HO]; · iexact HO
    iapply (Transfers.MayWaits.elim (SemLoc.dma b.gsem.sem)) $$ Hmw
  iintro ⟨⟨Hr, Ht, Hi⟩, Hv, HO⟩
  rw [wp_ret]
  imodintro
  iapply HQ
  isplitl [Hr]; · iexists fr; isplitr; · ipureintro; exact hr
                  iexact Hr
  isplitl [Hi]; · iexists fi; iexact Hi
  isplitl [Ht Htr]
  · iapply (pointsTo_split_subset (q := q) (f := ft) (S := Finset.univ) (Finset.subset_univ e.tb.view.set)).2
    isplitl [Ht] <;> iassumption
  isplitl [Hv]; · iexact Hv
  iexists _
  isplitr
  swap; · iexact HO
  ipureintro
  intro p hp
  rcases Finset.mem_insert.mp hp with hp | hp
  · exact .inr (hp ▸ rfl)
  · exact hW p hp

/-- The index words of chunk `n`, as a list of their own. -/
theorem xs_read {xoff base : ℕ} {O' : Finset (Idx (e.out.view.loc (V d c s)))} (hat : At e d c s xoff base O') (n : ℕ) (hn : n < 16) (j : S320.Idx) :
    (e.xs n hn).view.read (Elt F) fx j = X e d c s fx (xcell (20 * (xoff + base + 16 * n) + (j 0).val)) := by
  show e.x.view.read (Elt F) fx ((Rect.unit (s := S327680) (e.xo n) S320.size (e.hxo n hn)).emb j) = _
  congr 1
  refine xcell_eq _ _ ?_
  rw [Rect.emb_apply]
  show e.xo n 0 + 1 * (j 0).val = _
  rw [hat.xo n hn]
  simp

/-- A gather by a list of chunk `row0`'s words brings the rows they name. -/
theorem rows_gathered (b : Bank) (row0 : ℕ) (fi : Buf (Elt F) (b.idx.view.loc (V d c s))) (hfi : IdxIs e d c s fx b row0 fi)
    (fd : Buf (Elt F) (b.rows.view.loc (V d c s)))
    (hin : ∀ j, (b.idx.view.read (Elt F) fi j).toNat < S100000x128.size gathers_S100000x128_S320x128.axis) :
    RowsAre e d c s fx ft b row0 (b.rows.view.write (Elt F) fd (SparseCore.gatherPayload gathers_S100000x128_S320x128 (e.tb.view.read (Elt F) ft)
      (SparseCore.rows (F := F) (b.idx.view.read (Elt F) fi) rfl hin)) Finset.univ) := by
  intro j
  rw [View.read_write_univ]
  unfold SparseCore.gatherPayload
  show e.tab.view.read (Elt F) ft ((Rect.unit (s := S100000x128) ![0, 0] S100000x128.size inb_S100000x128_S100000x128_0_0).emb _) = _
  unfold picked
  congr 1
  refine tcell_eq _ _ _ ?_ ?_
  · rw [Rect.emb_apply]
    show 0 + 1 * _ = _
    rw [Nat.zero_add, Nat.one_mul]
    rw [show (0 : Fin S100000x128.rank) = gathers_S100000x128_S320x128.axis from rfl, Shape.Gathers.idx_axis]
    show (b.idx.view.read (Elt F) fi _).toNat = _
    rw [hfi]
    congr 4
    refine (Shape.rowMajor_val_one (d := ![320]) _).symm.trans ?_
    exact congrArg Fin.val (Equiv.apply_symm_apply S320.rowMajor _)
  · rw [Rect.emb_apply]
    show 0 + 1 * _ = _
    rw [Shape.Gathers.idx_of_ne _ _ _ 1 (by decide)]
    simp

theorem gather_bind (b : Bank) (n : ℕ) (hn : n < 16) : (e.gather b n hn : Prog (TpuEff nD τ sig (Elt F) Λ₀ (Proc.scVector c s)) PUnit) = (do
    Prog.lift (.waitDma2 b.isem.sem (e.xs n hn) b.idx (View.wordExact_bits rfl) b.hidx.wordExact)
    SparseCore.enqueueIndirectGather rfl e.tb b.rows gathers_S100000x128_S320x128 b.idx rfl b.gsem.sem (View.wordExact_bits rfl) rfl (Or.inl rfl) >>= fun u => pure u) := by
  unfold gather
  congr 1

theorem wp_gather {xoff base : ℕ} {O' : Finset (Idx (e.out.view.loc (V d c s)))} (hat : At e d c s xoff base O')
    (hX : ∀ j, (X e d c s fx j).toNat < 100000) (b : Bank) (n : ℕ) (hn : n < 16)
    {Q : PUnit → sProp 𝕄} :
    iprop(staged e d c s fx qx b n hn ∗ rowsP (F := F) d c s b ∗ tP e d c s ft q ∗ sem0 (F := F) d c s b.gsem
        ∗ owesP (F := F) d c s O W ∗ Transfers.MayWaits (V d c s) (default : HIx 2) O)
      ⊢ iprop((flying e d c s fx ft q b (xoff + base + 16 * n) ∗ xP e d c s fx qx ∗ sem0 (F := F) d c s b.isem ∗ owesP (F := F) d c s O W -∗ Q ⟨⟩)
        -∗ WP (e.gather (cc := c) (sc := s) b n hn) Q) := by
  unfold staged
  iintro ⟨⟨%fd, Hfl, Hxr⟩, ⟨%fr, Hr⟩, Ht, Hg, ⟨%W', %hW, HO⟩, #Hmw⟩ HQ
  rw [gather_bind]
  iapply (Transfers.wp_waitLocalO countersEmb 𝒱₀ (V d c s) none (default : HIx 2) (rfl : b.idx.view.dmaCredit = _)) $$ [Hfl HO]
  · isplitl [Hfl]; · iexact Hfl
    isplitl [HO]; · iexact HO
    iapply (Transfers.MayWaits.elim (SemLoc.dma b.isem.sem)) $$ Hmw
  iintro ⟨⟨Hi, Hx⟩, Hv, HO⟩
  have hfi : IdxIs e d c s fx b (xoff + base + 16 * n) (b.idx.view.write (Elt F) fd ((e.xs n hn).view.read (Elt F) fx) Finset.univ) := fun j => by
    rw [View.read_write_univ]; exact xs_read hat n hn j
  have hin : ∀ j, (b.idx.view.read (Elt F) (b.idx.view.write (Elt F) fd ((e.xs n hn).view.read (Elt F) fx) Finset.univ) j).toNat
      < S100000x128.size gathers_S100000x128_S320x128.axis := fun j => by rw [hfi j]; exact hX _
  ihave Hts := (pointsTo_split_subset (q := q) (f := ft) (S := Finset.univ) (Finset.subset_univ e.tb.view.set)).1 $$ Ht
  icases Hts with ⟨Ht, Htr⟩
  iapply (SparseCore.wp_indirectGatherLocal countersEmb 𝒱₀ (V d c s) none (hg := gathers_S100000x128_S320x128) (hsp := Or.inl rfl) (hr := by decide) (default : HIx 2)
    b.rows.view.dmaCredit (SparseCore.sum_rowCredit_eq_dmaCredit _ _ (fun _ => rfl)) (by decide) hin) $$ [Ht Hr Hi Hg]
  · isplitl [Ht]; · iexact Ht
    isplitl [Hr]; · iexact Hr
    isplitl [Hi]; · iexact Hi
    iexact Hg
  iintro Hfl
  rw [wp_pure]
  imodintro
  iapply HQ
  isplitl [Hfl Htr]
  · unfold flying
    iexists _, _
    isplitr
    swap
    · isplitl [Hfl]; · iexact Hfl
      iexact Htr
    ipureintro
    exact rows_gathered b _ _ hfi _ hin
  isplitl [Hx Hxr]
  · iapply (pointsTo_split_subset (q := qx) (f := fx) (S := Finset.univ) (Finset.subset_univ (e.xs n hn).view.set)).2
    isplitl [Hx] <;> iassumption
  isplitl [Hv]; · iexact Hv
  iexists _
  isplitr
  swap; · iexact HO
  ipureintro
  intro p hp
  rcases Finset.mem_insert.mp hp with hp | hp
  · exact .inr (hp ▸ rfl)
  · exact hW p hp

theorem wp_sums (b : Bank) (row0 : ℕ) {Q : PUnit → sProp 𝕄} :
    iprop((∃ fr, ⌜RowsAre e d c s fx ft b row0 fr⌝ ∗ b.rows.view.loc (V d c s) ↦[b.rows.view.set]{fullShare} fr) ∗ accP (F := F) e d c s)
      ⊢ iprop((rowsP (F := F) d c s b ∗ (∃ fa, ⌜∀ y : S16x128.Idx, e.acc.view.read (Elt F) fa y
              = pooled (X e d c s fx) (Tb e d c s ft) (row0 + (y 0).val) (y 1).val⌝
            ∗ e.acc.view.loc (V d c s) ↦[e.acc.view.set]{fullShare} fa) -∗ Q ⟨⟩)
        -∗ WP (e.sums (cc := c) (sc := s) b) Q) := by
  iintro ⟨⟨%fr, %hr, Hr⟩, Ha⟩ HQ
  unfold sums
  iapply (wp_rows d b.rows e.acc fr) $$ [Hr Ha]
  · isplitl [Hr]; · iexact Hr
    iexact Ha
  iintro ⟨Hr, %fa, %ha, Ha⟩
  iapply HQ
  isplitl [Hr]; · iexists fr; iexact Hr
  iexists fa
  isplitr
  swap; · iexact Ha
  ipureintro
  intro y
  have hy0 : (y 0).val < 16 := (y 0).isLt
  have hy1 : (y 1).val < 128 := (y 1).isLt
  rw [ha y]
  unfold rowSum pooled
  refine sumTo_congr fun l hl => ?_
  rw [hr]
  congr 1
  · show 20 * row0 + (20 * (y 0).val + l) % 320 = _
    omega
  · show (y 1).val % 128 = _
    omega

/-- Chunk `n`'s sums copied out extend the result rows done. -/
theorem outDone_succ {xoff base : ℕ} {O' : Finset (Idx (e.out.view.loc (V d c s)))} (hat : At e d c s xoff base O') (n : ℕ) (hn : n < 16)
    (fo : Buf (Elt F) (e.out.view.loc (V d c s))) (h : OutDone e d c s fx ft xoff base n fo) (w : S16x128.Idx → F .f32)
    (hw : ∀ y : S16x128.Idx, w y = pooled (X e d c s fx) (Tb e d c s ft) (xoff + base + 16 * n + (y 0).val) (y 1).val) :
    OutDone e d c s fx ft xoff base (n + 1) ((e.os n hn).view.write (Elt F) fo w Finset.univ) := by
  intro y h0 h1
  have hy1 : (y 1).val < 128 := (y 1).isLt
  have hoff : e.oo n = ![base + 16 * n, 0] := hat.oo n hn
  change e.out.view.read (Elt F) ((e.out.view.slice (Rect.unit (s := S8192x128) (e.oo n) S16x128.size (e.hoo n hn))).write (Elt F) fo w Finset.univ) y = _
  by_cases hlt : (y 0).val < base + 16 * n
  · rw [View.read_slice_write_of_not_mem]
    · exact h y h0 hlt
    · intro hm
      obtain ⟨x, -, hx⟩ := Finset.mem_map.mp hm
      have := congrArg (fun i : S8192x128.Idx => (i 0).val) hx
      simp only [Rect.emb_apply] at this
      have this : e.oo n 0 + 1 * (x 0).val = (y 0).val := this
      have h00 : e.oo n 0 = base + 16 * n := by rw [hoff]; rfl
      omega
  · have hy : y = (Rect.unit (s := S8192x128) (e.oo n) S16x128.size (e.hoo n hn)).emb (fun a => match a with
        | 0 => ⟨(y 0).val - (base + 16 * n), show _ < 16 by omega⟩
        | 1 => ⟨(y 1).val, hy1⟩) := by
      funext a
      refine Fin.ext ?_
      rw [Rect.emb_apply]
      match a with
      | 0 => show _ = e.oo n 0 + 1 * ((y 0).val - (base + 16 * n)); rw [hoff]; simp; omega
      | 1 => show _ = e.oo n 1 + 1 * (y 1).val; rw [hoff]; simp
    conv_lhs => rw [hy]
    rw [View.read_slice_write_emb _ _ _ (Finset.mem_univ _), hw]
    congr 1
    show xoff + base + 16 * n + ((y 0).val - (base + 16 * n)) = _
    omega

theorem osems_erase (n : ℕ) (hn : n < 16) : osems (F := F) e d c s
    = iprop(sem0 (F := F) d c s (e.osem n) ∗ bigSep ((Finset.range 16).erase n) fun n => sem0 (F := F) d c s (e.osem n)) := by
  unfold osems
  conv_lhs => rw [← Finset.insert_erase (Finset.mem_range.mpr hn)]
  exact bigSep_insert (Finset.notMem_erase _ _)

theorem wp_emit {xoff base : ℕ} {O' : Finset (Idx (e.out.view.loc (V d c s)))} (hat : At e d c s xoff base O') (n : ℕ) (hn : n < 16)
    {Q : PUnit → sProp 𝕄} :
    iprop((∃ fa, ⌜∀ y : S16x128.Idx, e.acc.view.read (Elt F) fa y
              = pooled (X e d c s fx) (Tb e d c s ft) (xoff + base + 16 * n + (y 0).val) (y 1).val⌝
            ∗ e.acc.view.loc (V d c s) ↦[e.acc.view.set]{fullShare} fa)
        ∗ outP e d c s fx ft O' xoff base n ∗ osems (F := F) e d c s
        ∗ owesP (F := F) d c s O W ∗ Transfers.MayWaits (V d c s) (default : HIx 2) O)
      ⊢ iprop((accP (F := F) e d c s ∗ outP e d c s fx ft O' xoff base (n + 1) ∗ osems (F := F) e d c s ∗ owesP (F := F) d c s O W -∗ Q ⟨⟩)
        -∗ WP (e.emit (cc := c) (sc := s) n hn) Q) := by
  iintro ⟨⟨%fa, %ha, Ha⟩, ⟨%fo, %ho, Ho⟩, Hs, ⟨%W', %hW, HO⟩, #Hmw⟩ HQ
  ihave Hs := (Entails.of_eq (osems_erase (F := F) (e := e) (d := d) (c := c) (s := s) n hn)) $$ Hs
  icases Hs with ⟨Hv, Hs⟩
  unfold emit
  iapply (Transfers.wp_dmaLocal countersEmb 𝒱₀ (V d c s) none (src := e.acc) (dst := e.os n hn) (via := .same) (q := fullShare) (fs := fa) (default : HIx 2)
    (e.os n hn).view.dmaCredit rfl (View.dmaCredit_pos _ (by decide)) (hat.sub n hn)) $$ [Ha Ho Hv]
  · isplitl [Ha]; · iexact Ha
    isplitl [Ho] <;> iassumption
  iintro Hfl
  iapply (Transfers.wp_waitLocalO countersEmb 𝒱₀ (V d c s) none (default : HIx 2) (rfl : (e.os n hn).view.dmaCredit = _)) $$ [Hfl HO]
  · isplitl [Hfl]; · iexact Hfl
    isplitl [HO]; · iexact HO
    iapply (Transfers.MayWaits.elim (SemLoc.dma (e.osem n).sem)) $$ Hmw
  iintro ⟨⟨Ho, Ha⟩, Hv, HO⟩
  rw [wp_ret]
  imodintro
  iapply HQ
  isplitl [Ha]; · iexists fa; iexact Ha
  isplitl [Ho]
  · iexists _
    isplitr
    swap; · iexact Ho
    ipureintro
    exact outDone_succ hat n hn fo ho _ ha
  isplitl [Hv Hs]
  · iapply (Entails.of_eq (osems_erase (F := F) (e := e) (d := d) (c := c) (s := s) n hn).symm)
    isplitl [Hv] <;> iassumption
  iexists _
  isplitr
  swap; · iexact HO
  ipureintro
  intro p hp
  rcases Finset.mem_insert.mp hp with hp | hp
  · exact .inr (hp ▸ rfl)
  · exact hW p hp

theorem wp_accum {xoff base : ℕ} {O' : Finset (Idx (e.out.view.loc (V d c s)))} (hat : At e d c s xoff base O') (b : Bank) (n : ℕ) (hn : n < 16)
    {Q : PUnit → sProp 𝕄} :
    iprop(flying e d c s fx ft q b (xoff + base + 16 * n) ∗ accP (F := F) e d c s
        ∗ outP e d c s fx ft O' xoff base n ∗ osems (F := F) e d c s
        ∗ owesP (F := F) d c s O W ∗ Transfers.MayWaits (V d c s) (default : HIx 2) O)
      ⊢ iprop((rowsP (F := F) d c s b ∗ idxP (F := F) d c s b ∗ tP e d c s ft q ∗ sem0 (F := F) d c s b.gsem
            ∗ accP (F := F) e d c s ∗ outP e d c s fx ft O' xoff base (n + 1) ∗ osems (F := F) e d c s ∗ owesP (F := F) d c s O W -∗ Q ⟨⟩)
        -∗ WP (e.accum (cc := c) (sc := s) b n hn) Q) := by
  iintro ⟨Hf, Ha, Ho, Hs, HO, #Hmw⟩ HQ
  unfold accum
  rw [wp_bind]
  iapply (wp_arrive b (xoff + base + 16 * n)) $$ [Hf HO]
  · isplitl [Hf]; · iexact Hf
    isplitl [HO]; · iexact HO
    iexact Hmw
  iintro ⟨Hr, Hi, Ht, Hg, HO⟩
  rw [wp_bind]
  iapply (wp_sums b (xoff + base + 16 * n)) $$ [Hr Ha]
  · isplitl [Hr] <;> iassumption
  iintro ⟨Hr, Ha⟩
  iapply (wp_emit hat n hn) $$ [Ha Ho Hs HO]
  · isplitl [Ha]; · iexact Ha
    isplitl [Ho]; · iexact Ho
    isplitl [Hs]; · iexact Hs
    isplitl [HO]; · iexact HO
    iexact Hmw
  iintro ⟨Ha, Ho, Hs, HO⟩
  iapply HQ
  isplitl [Hr]; · iexact Hr
  isplitl [Hi]; · iexact Hi
  isplitl [Ht]; · iexact Ht
  isplitl [Hg]; · iexact Hg
  isplitl [Ha]; · iexact Ha
  isplitl [Ho]; · iexact Ho
  isplitl [Hs] <;> iassumption

/-- What a bank is when nothing is on its way into it. -/
abbrev idle (b : Bank) : sProp 𝕄 :=
  iprop(rowsP (F := F) d c s b ∗ idxP (F := F) d c s b ∗ sem0 (F := F) d c s b.gsem ∗ sem0 (F := F) d c s b.isem)

/-- What a chunk hands on besides its banks. -/
abbrev rest (e : Env) (d : Dev nD) (c : Fin τ.nSC) (s : Fin τ.nSub) (fx : Buf (Elt F) (e.x.view.loc (V d c s))) (ft : Buf (Elt F) (e.tab.view.loc (V d c s)))
    (O : CellTallies nD τ sig (HIx 2)) (W : Waits sig (HIx 2)) (xoff base : ℕ) (O' : Finset (Idx (e.out.view.loc (V d c s)))) (n : ℕ) : sProp 𝕄 :=
  iprop(accP (F := F) e d c s ∗ outP e d c s fx ft O' xoff base n ∗ osems (F := F) e d c s ∗ owesP (F := F) d c s O W)

theorem wp_chunks {xoff base : ℕ} {O' : Finset (Idx (e.out.view.loc (V d c s)))} (hat : At e d c s xoff base O')
    (hX : ∀ j, (X e d c s fx j).toNat < 100000) {Q : PUnit → sProp 𝕄} :
    ∀ (n k : ℕ) (h : n + k = 15) (a b : Bank) (qa qb : PosShare TreeShare),
    iprop(flying e d c s fx ft qa a (xoff + base + 16 * k) ∗ sem0 (F := F) d c s a.isem
        ∗ (if hn : k + 1 < 16 then staged e d c s fx qx b (k + 1) hn
            else iprop(xP e d c s fx qx ∗ idxP (F := F) d c s b ∗ sem0 (F := F) d c s b.isem))
        ∗ rowsP (F := F) d c s b ∗ sem0 (F := F) d c s b.gsem ∗ tP e d c s ft qb
        ∗ rest e d c s fx ft O W xoff base O' k ∗ Transfers.MayWaits (V d c s) (default : HIx 2) O)
      ⊢ iprop((idle (F := F) (d := d) (c := c) (s := s) a ∗ idle (F := F) (d := d) (c := c) (s := s) b ∗ xP e d c s fx qx
            ∗ tP e d c s ft qa ∗ tP e d c s ft qb ∗ rest e d c s fx ft O W xoff base O' 16 -∗ Q ⟨⟩)
        -∗ WP (e.chunks (cc := c) (sc := s) n k h a b) Q)
  | 0, k, h, a, b, qa, qb => by
    obtain rfl : k = 15 := by omega
    rw [dif_neg (by decide)]
    unfold chunks
    iintro ⟨Hf, Hva, ⟨Hx, Hib, Hvb⟩, Hrb, Hgb, Htb, ⟨Ha, Ho, Hs, HO⟩, #Hmw⟩ HQ
    iapply (wp_accum hat a 15 _) $$ [Hf Ha Ho Hs HO]
    · isplitl [Hf]; · iexact Hf
      isplitl [Ha]; · iexact Ha
      isplitl [Ho]; · iexact Ho
      isplitl [Hs]; · iexact Hs
      isplitl [HO]; · iexact HO
      iexact Hmw
    iintro ⟨Hra, Hia, Hta, Hga, Ha, Ho, Hs, HO⟩
    iapply HQ
    isplitl [Hra Hia Hga Hva]
    · isplitl [Hra]; · iexact Hra
      isplitl [Hia]; · iexact Hia
      isplitl [Hga] <;> iassumption
    isplitl [Hrb Hib Hgb Hvb]
    · isplitl [Hrb]; · iexact Hrb
      isplitl [Hib]; · iexact Hib
      isplitl [Hgb] <;> iassumption
    isplitl [Hx]; · iexact Hx
    isplitl [Hta]; · iexact Hta
    isplitl [Htb]; · iexact Htb
    isplitl [Ha]; · iexact Ha
    isplitl [Ho]; · iexact Ho
    isplitl [Hs] <;> iassumption
  | 1, k, h, a, b, qa, qb => by
    obtain rfl : k = 14 := by omega
    rw [dif_pos (by decide)]
    unfold chunks
    iintro ⟨Hf, Hva, Hst, Hrb, Hgb, Htb, ⟨Ha, Ho, Hs, HO⟩, #Hmw⟩ HQ
    rw [wp_bind]
    iapply (wp_gather hat hX b (14 + 1) _) $$ [Hst Hrb Htb Hgb HO]
    · isplitl [Hst]; · iexact Hst
      isplitl [Hrb]; · iexact Hrb
      isplitl [Htb]; · iexact Htb
      isplitl [Hgb]; · iexact Hgb
      isplitl [HO]; · iexact HO
      iexact Hmw
    iintro ⟨Hfb, Hx, Hvb, HO⟩
    rw [wp_bind]
    iapply (wp_accum hat a 14 _) $$ [Hf Ha Ho Hs HO]
    · isplitl [Hf]; · iexact Hf
      isplitl [Ha]; · iexact Ha
      isplitl [Ho]; · iexact Ho
      isplitl [Hs]; · iexact Hs
      isplitl [HO]; · iexact HO
      iexact Hmw
    iintro ⟨Hra, Hia, Hta, Hga, Ha, Ho, Hs, HO⟩
    iapply (wp_chunks hat hX 0 (14 + 1) _ b a qb qa) $$ [Hfb Hvb Hx Hia Hva Hra Hga Hta Ha Ho Hs HO]
    · rw [dif_neg (by decide)]
      isplitl [Hfb]; · iexact Hfb
      isplitl [Hvb]; · iexact Hvb
      isplitl [Hx Hia Hva]
      · isplitl [Hx]; · iexact Hx
        isplitl [Hia] <;> iassumption
      isplitl [Hra]; · iexact Hra
      isplitl [Hga]; · iexact Hga
      isplitl [Hta]; · iexact Hta
      isplitl [Ha Ho Hs HO]
      · isplitl [Ha]; · iexact Ha
        isplitl [Ho]; · iexact Ho
        isplitl [Hs] <;> iassumption
      iexact Hmw
    iintro ⟨Hb, Ha, Hx, Htb, Hta, Hr⟩
    iapply HQ
    isplitl [Ha]; · iexact Ha
    isplitl [Hb]; · iexact Hb
    isplitl [Hx]; · iexact Hx
    isplitl [Hta]; · iexact Hta
    isplitl [Htb] <;> iassumption
  | n + 2, k, h, a, b, qa, qb => by
    rw [dif_pos (by omega)]
    unfold chunks
    iintro ⟨Hf, Hva, Hst, Hrb, Hgb, Htb, ⟨Ha, Ho, Hs, HO⟩, #Hmw⟩ HQ
    rw [wp_bind]
    iapply (wp_gather hat hX b (k + 1) _) $$ [Hst Hrb Htb Hgb HO]
    · isplitl [Hst]; · iexact Hst
      isplitl [Hrb]; · iexact Hrb
      isplitl [Htb]; · iexact Htb
      isplitl [Hgb]; · iexact Hgb
      isplitl [HO]; · iexact HO
      iexact Hmw
    iintro ⟨Hfb, Hx, Hvb, HO⟩
    rw [wp_bind]
    iapply (wp_accum hat a k _) $$ [Hf Ha Ho Hs HO]
    · isplitl [Hf]; · iexact Hf
      isplitl [Ha]; · iexact Ha
      isplitl [Ho]; · iexact Ho
      isplitl [Hs]; · iexact Hs
      isplitl [HO]; · iexact HO
      iexact Hmw
    iintro ⟨Hra, Hia, Hta, Hga, Ha, Ho, Hs, HO⟩
    rw [wp_bind]
    iapply (wp_stage a (k + 2) _) $$ [Hx Hia Hva]
    · isplitl [Hx]; · iexact Hx
      isplitl [Hia] <;> iassumption
    iintro Hst
    iapply (wp_chunks hat hX (n + 1) (k + 1) _ b a qb qa) $$ [Hfb Hvb Hst Hra Hga Hta Ha Ho Hs HO]
    · rw [dif_pos (show k + 1 + 1 < 16 by omega)]
      isplitl [Hfb]; · iexact Hfb
      isplitl [Hvb]; · iexact Hvb
      isplitl [Hst]; · iexact Hst
      isplitl [Hra]; · iexact Hra
      isplitl [Hga]; · iexact Hga
      isplitl [Hta]; · iexact Hta
      isplitl [Ha Ho Hs HO]
      · isplitl [Ha]; · iexact Ha
        isplitl [Ho]; · iexact Ho
        isplitl [Hs] <;> iassumption
      iexact Hmw
    iintro ⟨Hb, Ha, Hx, Htb, Hta, Hr⟩
    iapply HQ
    isplitl [Ha]; · iexact Ha
    isplitl [Hb]; · iexact Hb
    isplitl [Hx]; · iexact Hx
    isplitl [Hta]; · iexact Hta
    isplitl [Htb] <;> iassumption

/-- The whole task: its result rows end as the pooled rows; everything else it held comes back. -/
theorem wp_task {xoff base : ℕ} {O' : Finset (Idx (e.out.view.loc (V d c s)))} (hat : At e d c s xoff base O')
    (hX : ∀ j, (X e d c s fx j).toNat < 100000) (a b : Bank) (qa qb : PosShare TreeShare) {Q : PUnit → sProp 𝕄} :
    iprop(idle (F := F) (d := d) (c := c) (s := s) a ∗ idle (F := F) (d := d) (c := c) (s := s) b ∗ xP e d c s fx qx
        ∗ tP e d c s ft qa ∗ tP e d c s ft qb ∗ rest e d c s fx ft O W xoff base O' 0 ∗ Transfers.MayWaits (V d c s) (default : HIx 2) O)
      ⊢ iprop((idle (F := F) (d := d) (c := c) (s := s) a ∗ idle (F := F) (d := d) (c := c) (s := s) b ∗ xP e d c s fx qx
            ∗ tP e d c s ft qa ∗ tP e d c s ft qb ∗ rest e d c s fx ft O W xoff base O' 16 -∗ Q ⟨⟩)
        -∗ WP (e.task (cc := c) (sc := s) a b) Q) := by
  iintro ⟨⟨Hra, Hia, Hga, Hva⟩, ⟨Hrb, Hib, Hgb, Hvb⟩, Hx, Hta, Htb, ⟨Ha, Ho, Hs, HO⟩, #Hmw⟩ HQ
  unfold task
  rw [wp_bind]
  iapply (wp_stage a 0 _) $$ [Hx Hia Hva]
  · isplitl [Hx]; · iexact Hx
    isplitl [Hia] <;> iassumption
  iintro Hst
  rw [wp_bind]
  iapply (wp_gather hat hX a 0 _) $$ [Hst Hra Hta Hga HO]
  · isplitl [Hst]; · iexact Hst
    isplitl [Hra]; · iexact Hra
    isplitl [Hta]; · iexact Hta
    isplitl [Hga]; · iexact Hga
    isplitl [HO]; · iexact HO
    iexact Hmw
  iintro ⟨Hfa, Hx, Hva, HO⟩
  rw [wp_bind]
  iapply (wp_stage b 1 _) $$ [Hx Hib Hvb]
  · isplitl [Hx]; · iexact Hx
    isplitl [Hib] <;> iassumption
  iintro Hst
  iapply (wp_chunks hat hX 15 0 rfl a b qa qb) $$ [Hfa Hva Hst Hrb Hgb Htb Ha Ho Hs HO]
  · rw [dif_pos (show 0 + 1 < 16 by omega)]
    isplitl [Hfa]; · iexact Hfa
    isplitl [Hva]; · iexact Hva
    isplitl [Hst]; · iexact Hst
    isplitl [Hrb]; · iexact Hrb
    isplitl [Hgb]; · iexact Hgb
    isplitl [Htb]; · iexact Htb
    isplitl [Ha Ho Hs HO]
    · isplitl [Ha]; · iexact Ha
      isplitl [Ho]; · iexact Ho
      isplitl [Hs] <;> iassumption
    iexact Hmw
  iexact HQ

end Env

end Cert.Pool
-- ==== Proof.Call.lean ====
/-
  What a SparseCore call hands its tiles and gets back, over either call: tile `(c, s)` of the thirty-two is worker
  `2 s + c`; it owns 256 result rows and reads the index words and the table through a share of each.
-/
module

public import proofs.«01_k».proof.Proof.TaskWp

@[expose] public section

noncomputable section

namespace Cert.Pool

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local instance : Cert.KernelIdeal.Facts := Cert.KernelIdeal.Gen.facts

local notation "𝕄" => MT nD τ sig (HIx 2) (Elt F) ℕ UU ℕ

/-! ## Shares: the full share halved five times -/

/-- Leaf `i` of the depth-`n` halving of share `q`. -/
def piece : ℕ → PosShare TreeShare → ℕ → PosShare TreeShare
  | 0, q, _ => q
  | n + 1, q, i => if i < 2 ^ n then piece n q.left i else piece n q.right (i - 2 ^ n)

theorem pointsTo_pieces {ℓ : Loc nD τ sig} (I : Finset (Idx ℓ)) (f : Buf (Elt F) ℓ) :
    ∀ (n : ℕ) (q : PosShare TreeShare), (ℓ ↦[I]{q} f : sProp 𝕄) = bigSep (Finset.range (2 ^ n)) fun i => ℓ ↦[I]{piece n q i} f
  | 0, q => by
    rw [show Finset.range (2 ^ 0) = {0} from rfl, bigSep_singleton]
    rfl
  | n + 1, q => by
    have hr : Finset.range (2 ^ (n + 1)) = Finset.range (2 ^ n) ∪ (Finset.range (2 ^ n)).map (addLeftEmbedding (2 ^ n)) := by
      ext x
      simp only [Finset.mem_union, Finset.mem_map, Finset.mem_range, addLeftEmbedding_apply, pow_succ]
      exact ⟨fun h => if hx : x < 2 ^ n then .inl hx else .inr ⟨x - 2 ^ n, by omega, by omega⟩, fun h => by
        rcases h with h | ⟨y, h, rfl⟩ <;> omega⟩
    have hd : Disjoint (Finset.range (2 ^ n)) ((Finset.range (2 ^ n)).map (addLeftEmbedding (2 ^ n))) := by
      rw [Finset.disjoint_left]
      intro x hx hy
      obtain ⟨y, -, rfl⟩ := Finset.mem_map.mp hy
      have := Finset.mem_range.mp hx
      rw [addLeftEmbedding_apply] at this
      omega
    rw [BI.Entails.antisymm (pointsTo_share (PosShare.mem_left_op_right q)).1 (pointsTo_share (PosShare.mem_left_op_right q)).2,
      pointsTo_pieces I f n q.left, pointsTo_pieces I f n q.right, hr, SparseCore.bigSep_union' hd, bigSep_map]
    congr 1 <;> refine bigSep_congr fun i hi => ?_
    · rw [piece, if_pos (Finset.mem_range.mp hi)]
    · rw [piece, if_neg (by simp), addLeftEmbedding_apply, Nat.add_sub_cancel_left]

/-- Worker `w`'s share of what every tile reads. -/
abbrev wq (w : ℕ) : PosShare TreeShare := piece 5 fullShare w

/-! ## Rows -/

/-- Worker `w`'s result rows. -/
def rowsOf (w : ℕ) : Finset S8192x128.Idx := Finset.univ.filter fun y => (y 0).val / 256 = w

theorem rowsOf_disjoint : ∀ i ∈ Finset.range 32, ∀ j ∈ Finset.range 32, i ≠ j → Disjoint (rowsOf i) (rowsOf j) := by
  intro i _ j _ h
  rw [Finset.disjoint_left]
  intro y hi hj
  exact h ((Finset.mem_filter.mp hi).2.symm.trans (Finset.mem_filter.mp hj).2)

theorem rowsOf_cover : (Finset.range 32).biUnion rowsOf = Finset.univ := by
  ext y
  have hy : (y 0).val < 8192 := (y 0).isLt
  simp only [Finset.mem_biUnion, Finset.mem_range, Finset.mem_univ, iff_true]
  exact ⟨(y 0).val / 256, by omega, Finset.mem_filter.mpr ⟨Finset.mem_univ _, rfl⟩⟩

/-! ## The arrays -/

abbrev xLoc (d : Dev nD) : Loc nD τ sig := (SparseCore.T d).loc main_v0
abbrev eLoc (d : Dev nD) : Loc nD τ sig := (SparseCore.T d).loc main_arg1
abbrev oLoc (q : Fin 2) (d : Dev nD) : Loc nD τ sig := match q with
  | 0 => (SparseCore.T d).loc main_v5
  | 1 => (SparseCore.T d).loc main_v6

/-- The rows call `q` leaves: the pooled rows from `8192 q` on. -/
def res (X : S327680.Idx → BitVec 32) (E : S100000x128.Idx → F .f32) (q : ℕ) : S8192x128.Idx → F .f32 :=
  fun y => pooled X E (8192 * q + (y 0).val) (y 1).val

/-! ## A subcore's own semaphores and buffers -/

theorem bigSep_twenty (Φ : ℕ → sProp 𝕄) :
    bigSep (Finset.range 20) Φ = iprop(Φ 0 ∗ Φ 1 ∗ Φ 2 ∗ Φ 3 ∗ bigSep (Finset.range 16) fun n => Φ (n + 4)) := by
  rw [show Finset.range 20 = insert 0 (insert 1 (insert 2 (insert 3 ((Finset.range 16).map (addRightEmbedding 4))))) by decide,
    SparseCore.bigSep_insert' (by decide), SparseCore.bigSep_insert' (by decide), SparseCore.bigSep_insert' (by decide),
    SparseCore.bigSep_insert' (by decide), bigSep_map]
  rfl

theorem bigSep_image_of_inj {I J : Type} [DecidableEq J] (t : Finset I) (g : I → J) (h : ∀ x ∈ t, ∀ y ∈ t, g x = g y → x = y) (Φ : J → sProp 𝕄) :
    bigSep (t.image g) Φ = bigSep t fun i => Φ (g i) := Finset.fold_image h

theorem bigSep_part {J : Type} [DecidableEq J] {t u : Finset J} (h : t ⊆ u) (Φ : J → sProp 𝕄) :
    bigSep u Φ = iprop(bigSep t Φ ∗ bigSep (u \ t) Φ) := by
  rw [← SparseCore.bigSep_union' Finset.disjoint_sdiff, Finset.union_sdiff_of_subset h]

/-- Twenty of a subcore's semaphores, and the rest. -/
theorem ownSems0_twenty (d : Dev nD) (c : Fin τ.nSC) (s : Fin τ.nSub) (σ : ℕ → DmaSems sig S_)
    (hσ : ∀ n < 20, (SemLoc.dma (σ n).sem : SemLoc sig).isScoped .scVector = true)
    (hinj : ∀ n < 20, ∀ k < 20, (σ n).sem = (σ k).sem → n = k) :
    ∃ R : sProp 𝕄, (ownSems0 (V d c s) : sProp 𝕄)
      = iprop((Env.sem0 (F := F) d c s (σ 0) ∗ Env.sem0 (F := F) d c s (σ 1) ∗ Env.sem0 (F := F) d c s (σ 2) ∗ Env.sem0 (F := F) d c s (σ 3)
        ∗ bigSep (Finset.range 16) fun n => Env.sem0 (F := F) d c s (σ (n + 4))) ∗ R) := by
  have hsub : (Finset.range 20).image (fun n => ((V d c s, SemLoc.dma (σ n).sem) : GSem nD τ sig)) ⊆ ownCells (V d c s) := by
    intro g hg
    obtain ⟨n, hn, rfl⟩ := Finset.mem_image.mp hg
    exact mem_ownCells.mpr ⟨rfl, hσ n (Finset.mem_range.mp hn)⟩
  have h20 : bigSep ((Finset.range 20).image fun n => ((V d c s, SemLoc.dma (σ n).sem) : GSem nD τ sig)) (fun g => (semVal g 0 : sProp 𝕄)) = _ :=
    (bigSep_image_of_inj _ _ (fun n hn k hk h => hinj n (Finset.mem_range.mp hn) k (Finset.mem_range.mp hk) (SemLoc.dma.inj (Prod.mk.inj h).2)) _).trans
      (bigSep_twenty fun n => Env.sem0 (F := F) d c s (σ n))
  refine ⟨bigSep (ownCells (V d c s) \ (Finset.range 20).image fun n => ((V d c s, SemLoc.dma (σ n).sem) : GSem nD τ sig)) fun g => semVal g 0, ?_⟩
  unfold ownSems0
  rw [bigSep_part hsub, h20]

/-- Five of a subcore's buffers, and the rest. -/
theorem ownBufs_five (d : Dev nD) (c : Fin τ.nSC) (s : Fin τ.nSub) (r : Fin 5 → Ref sig .scVector) (hr : Function.Injective r)
    (ho : ∀ i, ((Proc.scVector c s).devRef (r i)).owner = Owner.proc (Proc.scVector c s)) :
    ∃ R : sProp 𝕄, (ownBufs (V d c s) : sProp 𝕄)
      = iprop(((∃ f, (V d c s).loc (r 0) ↦{fullShare} f) ∗ (∃ f, (V d c s).loc (r 1) ↦{fullShare} f) ∗ (∃ f, (V d c s).loc (r 2) ↦{fullShare} f)
        ∗ (∃ f, (V d c s).loc (r 3) ↦{fullShare} f) ∗ (∃ f, (V d c s).loc (r 4) ↦{fullShare} f)) ∗ R) := by
  classical
  have hi : Function.Injective fun i => (Proc.scVector c s).devRef (r i) := (Proc.devRef_injective _).comp hr
  have hsub : (Finset.univ : Finset (Fin 5)).map ⟨_, hi⟩ ⊆ ownRefs (τ := τ) (.scVector c s) := by
    intro b hb
    obtain ⟨i, -, rfl⟩ := Finset.mem_map.mp hb
    exact SparseCore.Cfg.mem_ownRefs_of_owner (ho i)
  refine ⟨bigSep (ownRefs (τ := τ) (.scVector c s) \ (Finset.univ : Finset (Fin 5)).map ⟨_, hi⟩) fun b => iprop(∃ f, ((d, b) : Loc nD τ sig) ↦{fullShare} f), ?_⟩
  unfold ownBufs
  show bigSep (ownRefs (τ := τ) (.scVector c s)) _ = _
  rw [← Finset.union_sdiff_of_subset hsub, SparseCore.bigSep_union' Finset.disjoint_sdiff, Finset.union_sdiff_of_subset hsub, bigSep_map,
    show (Finset.univ : Finset (Fin 5)) = {0, 1, 2, 3, 4} from rfl, SparseCore.bigSep_insert' (by decide), SparseCore.bigSep_insert' (by decide),
    SparseCore.bigSep_insert' (by decide), SparseCore.bigSep_insert' (by decide), bigSep_singleton]
  rfl

theorem whole_set (d : Dev nD) (c : Fin τ.nSC) (s : Fin τ.nSub) (r : Ref sig .scVector) :
    (iprop(∃ f, (Memref.whole r).view.loc (V d c s) ↦[(Memref.whole r).view.set]{fullShare} f) : sProp 𝕄)
      = iprop(∃ f, (V d c s).loc r ↦{fullShare} f) := by
  rw [show (Memref.whole r).view.set = Finset.univ from View.set_whole r]

/-! ## A tile's task, from what the call hands it -/

/-- Tile `(c, s)` is worker `2 s + c`. -/
abbrev wid (c s : ℕ) : ℕ := 2 * s + c

variable (d : Dev nD) (c : Fin τ.nSC) (s : Fin τ.nSub)

theorem wp_tile (e : Env) (a b : Bank) {xoff base : ℕ} {O' : Finset (Idx (e.out.view.loc (V d c s)))} (hat : Env.At e d c s xoff base O')
    (fx : Buf (Elt F) (e.x.view.loc (V d c s))) (ft : Buf (Elt F) (e.tab.view.loc (V d c s))) (fo : Buf (Elt F) (e.out.view.loc (V d c s)))
    (hX : ∀ j, (Env.X e d c s fx j).toNat < 100000) (qx q : PosShare TreeShare) {R R' : sProp 𝕄}
    (hb : (ownBufs (V d c s) : sProp 𝕄) = iprop((Env.idxP (F := F) d c s a ∗ Env.idxP (F := F) d c s b ∗ Env.rowsP (F := F) d c s a
      ∗ Env.rowsP (F := F) d c s b ∗ Env.accP (F := F) e d c s) ∗ R))
    (hs : (ownSems0 (V d c s) : sProp 𝕄) = iprop((Env.sem0 (F := F) d c s a.gsem ∗ Env.sem0 (F := F) d c s b.gsem ∗ Env.sem0 (F := F) d c s a.isem
      ∗ Env.sem0 (F := F) d c s b.isem ∗ Env.osems (F := F) e d c s) ∗ R'))
    (O : CellTallies nD τ sig (HIx 2)) (W : Waits sig (HIx 2)) (hO : ∀ g, O g none = 0) :
    iprop(levAts (K (F := F)).L (K (F := F)).lev ∗ emp
        ∗ (Env.xP e d c s fx qx ∗ Env.tP e d c s ft q ∗ e.out.view.loc (V d c s) ↦[O']{fullShare} fo)
        ∗ scopedBufs (V d c s) ∗ scopedSems0 (V d c s) ∗ owes (V d c s) O W)
      ⊢ wp frame (wpE (defs₀ (F := F)) 𝒱₀ (V d c s) none) Set.univ (e.task (cc := c) (sc := s) a b)
          fun _ => iprop((Env.xP e d c s fx qx ∗ Env.tP e d c s ft q ∗ ∃ fo, ⌜Env.OutDone e d c s fx ft xoff base 16 fo⌝ ∗ e.out.view.loc (V d c s) ↦[O']{fullShare} fo)
            ∗ scopedBufs (V d c s) ∗ scopedSems0 (V d c s)
            ∗ ∃ W', ⌜∀ p ∈ W', p ∈ W ∨ p.2 = none⌝ ∗ owes (V d c s) O W') := by
  rw [(K (F := F)).scopedBufs_V scFacts d c s, SparseCore.Cfg.scopedSems0_V (Val := Elt F) d c s, hb, hs]
  iintro ⟨#Hlv, -, ⟨Hx, Ht, Ho⟩, ⟨⟨Hia, Hib, Hra, Hrb, Ha⟩, HR⟩, ⟨⟨Hga, Hgb, Hva, Hvb, Hos⟩, HR'⟩, HO⟩
  ihave Hmw := (show levAts (K (F := F)).L (K (F := F)).lev ⊢ Transfers.MayWaits (V d c s) (default : HIx 2) O from
    (K (F := F)).mayWaits_none (thr := V d c s) hO) $$ Hlv
  ihave Ht := (pointsTo_share (PosShare.mem_left_op_right q)).1 $$ Ht
  icases Ht with ⟨Htl, Htr⟩
  iapply (Env.wp_task hat hX a b q.left q.right) $$ [Hx Htl Htr Ho Hia Hib Hra Hrb Ha Hga Hgb Hva Hvb Hos HO Hmw]
  · isplitl [Hra Hia Hga Hva]
    · isplitl [Hra]; · iexact Hra
      isplitl [Hia]; · iexact Hia
      isplitl [Hga] <;> iassumption
    isplitl [Hrb Hib Hgb Hvb]
    · isplitl [Hrb]; · iexact Hrb
      isplitl [Hib]; · iexact Hib
      isplitl [Hgb] <;> iassumption
    isplitl [Hx]; · iexact Hx
    isplitl [Htl]; · iexact Htl
    isplitl [Htr]; · iexact Htr
    isplitr [Hmw]
    · isplitl [Ha]; · iexact Ha
      isplitl [Ho]
      · iexists fo
        isplitr
        · ipureintro; intro y h0 h1; omega
        iexact Ho
      isplitl [Hos]; · iexact Hos
      iexists W
      isplitr
      · ipureintro; exact fun p hp => .inl hp
      iexact HO
    iexact Hmw
  iintro ⟨⟨Hra, Hia, Hga, Hva⟩, ⟨Hrb, Hib, Hgb, Hvb⟩, Hx, Htl, Htr, Ha, Ho, Hos, HO⟩
  isplitl [Hx Htl Htr Ho]
  · isplitl [Hx]; · iexact Hx
    isplitl [Htl Htr]
    · iapply (pointsTo_share (PosShare.mem_left_op_right q)).2
      isplitl [Htl] <;> iassumption
    iexact Ho
  isplitl [Hia Hib Hra Hrb Ha HR]
  · isplitr [HR]
    · isplitl [Hia]; · iexact Hia
      isplitl [Hib]; · iexact Hib
      isplitl [Hra]; · iexact Hra
      isplitl [Hrb] <;> iassumption
    iexact HR
  isplitl [Hga Hgb Hva Hvb Hos HR']
  · isplitr [HR']
    · isplitl [Hga]; · iexact Hga
      isplitl [Hgb]; · iexact Hgb
      isplitl [Hva]; · iexact Hva
      isplitl [Hvb] <;> iassumption
    iexact HR'
  iexact HO

/-! ## What the handshakes carry -/

section Payload

variable (X : (d : Dev nD) → Buf (Elt F) (xLoc d)) (E : (d : Dev nD) → Buf (Elt F) (eLoc d))
variable (O : (q : Fin 2) → (d : Dev nD) → Buf (Elt F) (oLoc q d))

/-- Worker `w`'s part of call `q`'s result rows, at contents `f`. -/
def rowsPts (q : Fin 2) (d : Dev nD) (w : ℕ) (f : S8192x128.Idx → F .f32) : sProp 𝕄 := match q with
  | 0 => oLoc 0 d ↦[rowsOf w]{fullShare} f
  | 1 => oLoc 1 d ↦[rowsOf w]{fullShare} f

/-- Call `q`'s result array whole, at contents `f`. -/
def outPts (q : Fin 2) (d : Dev nD) (f : S8192x128.Idx → F .f32) : sProp 𝕄 := match q with
  | 0 => oLoc 0 d ↦{fullShare} f
  | 1 => oLoc 1 d ↦{fullShare} f

instance rowsPts_storable (q : Fin 2) (d : Dev nD) (w : ℕ) (f : S8192x128.Idx → F .f32) : BI.Storable (upEmb : UEmb _ 𝕄) (rowsPts q d w f) :=
  match q with
  | 0 => (inferInstance : BI.Storable (upEmb : UEmb _ 𝕄) (oLoc 0 d ↦[rowsOf w]{fullShare} f))
  | 1 => (inferInstance : BI.Storable (upEmb : UEmb _ 𝕄) (oLoc 1 d ↦[rowsOf w]{fullShare} f))

theorem outPts_rows (q : Fin 2) (d : Dev nD) (f : S8192x128.Idx → F .f32) :
    (outPts q d f : sProp 𝕄) = bigSep (Finset.range 32) fun w => rowsPts q d w f := match q with
  | 0 => by
    show (oLoc 0 d ↦{fullShare} f : sProp 𝕄) = bigSep (Finset.range 32) fun w => oLoc 0 d ↦[rowsOf w]{fullShare} f
    rw [← pointsTo_biUnion (Finset.range 32) (ℓ := oLoc 0 d) rowsOf rowsOf_disjoint, rowsOf_cover]
  | 1 => by
    show (oLoc 1 d ↦{fullShare} f : sProp 𝕄) = bigSep (Finset.range 32) fun w => oLoc 1 d ↦[rowsOf w]{fullShare} f
    rw [← pointsTo_biUnion (Finset.range 32) (ℓ := oLoc 1 d) rowsOf rowsOf_disjoint, rowsOf_cover]

/-- What worker `w` is handed (`f` the result's contents before) and hands back (`f` those after). -/
abbrev share (q : Fin 2) (d : Dev nD) (w : ℕ) (f : S8192x128.Idx → F .f32) : sProp 𝕄 :=
  iprop((xLoc d ↦{wq w} X d) ∗ (eLoc d ↦{wq w} E d) ∗ rowsPts q d w f)

/-- The result's contents before call `q`, and after. -/
def before (q : Fin 2) (d : Dev nD) : S8192x128.Idx → F .f32 := match q with
  | 0 => O 0 d
  | 1 => O 1 d
abbrev after (q : Fin 2) (d : Dev nD) : S8192x128.Idx → F .f32 := res (X d) (E d) q.val

/-- Each SparseCore takes its sixteen tiles' shares, and brings them back. -/
def P : (K (F := F)).Pay (nD := nD) (Val := Elt F) (Name := ℕ) (U := UU) where
  st := fun q d c => bigSep Finset.univ fun i : Fin ((K (F := F)).nSub q) => share X E q d (wid c.val i.val) (before O q d)
  dn := fun q d c => bigSep Finset.univ fun i : Fin ((K (F := F)).nSub q) => share X E q d (wid c.val i.val) (after X E q d)
  go := fun q d c i => share X E q d (wid c.val i.val) (before O q d)
  td := fun q d c i => share X E q d (wid c.val i.val) (after X E q d)
  x := fun _ _ => iprop(emp)

instance P_storable : (P X E O).IsStorable where
  st q d c := by unfold P; infer_instance
  dn q d c := by unfold P; infer_instance
  go q d c i := by unfold P; infer_instance
  td q d c i := by unfold P; infer_instance

theorem vecSplit (q : Fin 2) : (K (F := F)).VecSplit' (P X E O) q := by
  intro d c
  show (P X E O).st q d c ⊢ |={Set.univ}=> iprop((P X E O).st q d c ∗ ((P X E O).dn q d c -∗ (P X E O).dn q d c))
  iintro H; imodintro
  isplitl [H]; · iexact H
  iintro H; iexact H

/-- The thirty-two workers, by SparseCore and tile. -/
theorem bigSep_workers (q : Fin 2) (Φ : ℕ → sProp 𝕄) :
    (bigSep Finset.univ fun c : Fin ((K (F := F)).nCore q) => bigSep Finset.univ fun i : Fin ((K (F := F)).nSub q) => Φ (wid c.val i.val))
      = bigSep (Finset.range 32) Φ := by
  have h : (bigSep Finset.univ fun c : Fin 2 => bigSep Finset.univ fun i : Fin 16 => Φ (wid c.val i.val)) = bigSep (Finset.range 32) Φ := by
    rw [show Finset.range 32 = (Finset.univ : Finset (Fin 2 × Fin 16)).image fun p => wid p.1.val p.2.val by decide,
      bigSep_image_of_inj _ _ (by intro x _ y _ h; have := x.1.isLt; have := y.1.isLt; exact Prod.ext (Fin.ext (by simp only [wid] at h; omega)) (Fin.ext (by simp only [wid] at h; omega))),
      bigSep_univ_prod]
  match q with
  | 0 => exact h
  | 1 => exact h

/-- The whole arrays are the workers' shares of them. -/
theorem whole_shares (q : Fin 2) (d : Dev nD) (f : S8192x128.Idx → F .f32) :
    (bigSep Finset.univ fun c : Fin ((K (F := F)).nCore q) => bigSep Finset.univ fun i : Fin ((K (F := F)).nSub q) => share X E q d (wid c.val i.val) f)
      = (iprop((xLoc d ↦{fullShare} X d) ∗ (eLoc d ↦{fullShare} E d) ∗ outPts q d f) : sProp 𝕄) := by
  rw [bigSep_workers q fun w => share X E q d w f, bigSep_sep', bigSep_sep', ← outPts_rows, pointsTo_pieces Finset.univ (X d) 5 fullShare,
    pointsTo_pieces Finset.univ (E d) 5 fullShare]
  rfl

end Payload

end Cert.Pool
-- ==== Proof.Steps.lean ====
/-
  The steps of the host program, each over the TensorCore's buffers held whole at a valuation: a host operation, a call
  of a SparseCore kernel, a TensorCore call; and the launch's ghost state.
-/
module

public import proofs.«01_k».proof.Proof.Region
public import proofs.«01_k».proof.Proof.Call
public import Idealize.ShloMosaic.Lib.SparseCore.Quiescent
public import Idealize.ShloMosaic.Lib.Pipeline.Frame

@[expose] public section

noncomputable section

namespace Cert.Pool

open Cert.KernelIdeal Cert.KernelIdeal.Gen
open Idealize.ShloMosaic
open Idealize.ShloMosaic.Pipeline
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local instance : Cert.KernelIdeal.Facts := Cert.KernelIdeal.Gen.facts

local notation "𝕄" => MT nD τ sig (HIx 2) (Elt F) ℕ UU ℕ

/-- What the TensorCore of device `d` holds between two steps: every buffer of its own that outlives a call, at `W`. -/
abbrev atVal (d : Dev nD) (W : Valuation τ sig (Elt F)) : sProp 𝕄 := StableHlo.held (T d) (ucRefs τ sig) W

abbrev dr (r : Ref sig .tc) : DevRef τ sig := Proc.devRef .tc r

/-! ## A SparseCore call -/

/-- The buffers call `q` takes part in: the indices, the table, the call's own output. -/
def callRefs (q : Fin 2) : Finset (DevRef τ sig) := match q with
  | 0 => {dr main_v0, dr main_arg1, dr main_v5}
  | 1 => {dr main_v0, dr main_arg1, dr main_v6}

theorem callRefs_sub (q : Fin 2) : callRefs q ⊆ ucRefs τ sig := match q with
  | 0 => by decide
  | 1 => by decide

/-- The valuation with call `q`'s output buffer set to `f`. -/
def setO (q : Fin 2) (W : Valuation τ sig (Elt F)) (f : S8192x128.Idx → F .f32) : Valuation τ sig (Elt F) := match q with
  | 0 => Function.update W (dr main_v5) f
  | 1 => Function.update W (dr main_v6) f

def oVal (q : Fin 2) (W : Valuation τ sig (Elt F)) : S8192x128.Idx → F .f32 := match q with
  | 0 => W (dr main_v5)
  | 1 => W (dr main_v6)

theorem held_call (q : Fin 2) (d : Dev nD) (W : Valuation τ sig (Elt F)) :
    atVal d W = (iprop(((xLoc d ↦{fullShare} W (dr main_v0)) ∗ (eLoc d ↦{fullShare} W (dr main_arg1)) ∗ outPts q d (oVal q W))
      ∗ StableHlo.held (T d) (ucRefs τ sig \ callRefs q) W) : sProp 𝕄) := by
  unfold atVal
  rw [StableHlo.held_sub_split (T d) (callRefs_sub q) W]
  refine congrArg (fun A => iprop(A ∗ StableHlo.held (T d) (ucRefs τ sig \ callRefs q) W)) ?_
  unfold StableHlo.held
  match q with
  | 0 =>
    unfold callRefs
    simp only []
    rw [bigSep_insert (by decide), bigSep_insert (by decide), bigSep_singleton]
    rfl
  | 1 =>
    unfold callRefs
    simp only []
    rw [bigSep_insert (by decide), bigSep_insert (by decide), bigSep_singleton]
    rfl

theorem held_rest (q : Fin 2) (d : Dev nD) (W : Valuation τ sig (Elt F)) (f : S8192x128.Idx → F .f32) :
    (StableHlo.held (T d) (ucRefs τ sig \ callRefs q) (setO q W f) : sProp 𝕄) = StableHlo.held (T d) (ucRefs τ sig \ callRefs q) W := by
  refine StableHlo.held_congr (T d) fun b hb => ?_
  rw [Finset.mem_sdiff] at hb
  match q with
  | 0 => exact Function.update_of_ne (fun h => hb.2 (by rw [h]; decide)) _ _
  | 1 => exact Function.update_of_ne (fun h => hb.2 (by rw [h]; decide)) _ _

theorem setO_x (q : Fin 2) (W : Valuation τ sig (Elt F)) (f) : setO q W f (dr main_v0) = W (dr main_v0) := match q with
  | 0 => Function.update_of_ne (f := W) (by decide : dr main_v0 ≠ dr main_v5) f
  | 1 => Function.update_of_ne (f := W) (by decide : dr main_v0 ≠ dr main_v6) f
theorem setO_e (q : Fin 2) (W : Valuation τ sig (Elt F)) (f) : setO q W f (dr main_arg1) = W (dr main_arg1) := match q with
  | 0 => Function.update_of_ne (f := W) (by decide : dr main_arg1 ≠ dr main_v5) f
  | 1 => Function.update_of_ne (f := W) (by decide : dr main_arg1 ≠ dr main_v6) f
theorem setO_o (q : Fin 2) (W : Valuation τ sig (Elt F)) (f) : oVal q (setO q W f) = f := match q with
  | 0 => Function.update_self (β := fun b : DevRef τ sig => b.ty.Contents (Elt F)) (dr main_v5) f W
  | 1 => Function.update_self (β := fun b : DevRef τ sig => b.ty.Contents (Elt F)) (dr main_v6) f W

variable (X : (d : Dev nD) → Buf (Val := Elt F) (xLoc d)) (E : (d : Dev nD) → Buf (Val := Elt F) (eLoc d))
  (O : (q : Fin 2) → (d : Dev nD) → Buf (Val := Elt F) (oLoc q d))

theorem outPts_before (q : Fin 2) (d : Dev nD) (W : Valuation τ sig (Elt F)) (ho : W (Proc.devRef .tc main_v5) = O 0 d)
    (ho' : W (Proc.devRef .tc main_v6) = O 1 d) : oVal q W = before O q d := match q with
  | 0 => ho
  | 1 => ho'

/-- Call `q` of the SparseCores: from the buffers at `W` to the buffers at `W` with the call's output filled in. -/
theorem wp_call (κ : GSem nD τ sig → ℕ) (q : Fin 2) (d : Dev nD) (W : Valuation τ sig (Elt F))
    (hx : W (dr main_v0) = X d) (he : W (dr main_arg1) = E d) (ho : oVal q W = before O q d) (Φ : PUnit → sProp 𝕄) :
    iprop((K (F := F)).ctx EH (P X E O) κ ∗ (K (F := F)).tcSt EH d q.val ∗ atVal d W
        ∗ (((K (F := F)).tcSt EH d (q.val + 1) ∗ atVal d (setO q W (res (X d) (E d) q.val))) -∗ Φ ⟨⟩))
      ⊢ wp frame (wpE ((K (F := F)).defs (D (F := F))) 𝒱 (T d) none) Set.univ ((K (F := F)).run d q) Φ := by
  rw [held_call q d W, held_call q d (setO q W _), held_rest, setO_x, setO_e, setO_o, hx, he, ho]
  iintro ⟨#Hctx, Hst, ⟨Hio, Hrest⟩, Hk⟩
  iapply ((K (F := F)).wp_run (D (F := F)) 𝒱 (EH := EH) (P := P X E O) κ d q) $$ [Hst Hio Hrest Hk]
  isplitr; · iexact Hctx
  isplitl [Hst]; · iexact Hst
  isplitl [Hio]
  · ihave H := (Entails.of_eq (whole_shares X E q d (before O q d)).symm) $$ Hio
    iapply (show (bigSep Finset.univ fun c : Fin ((K (F := F)).nCore q) => bigSep Finset.univ fun i : Fin ((K (F := F)).nSub q) =>
      share X E q d (wid c.val i.val) (before O q d)) ⊢ (bigSep Finset.univ fun c => (P X E O).st q d c) from .rfl) $$ H
  iintro ⟨Hst, Hdn⟩
  ihave H := (show (bigSep Finset.univ fun c => (P X E O).dn q d c) ⊢ (bigSep Finset.univ fun c : Fin ((K (F := F)).nCore q) =>
    bigSep Finset.univ fun i : Fin ((K (F := F)).nSub q) => share X E q d (wid c.val i.val) (after X E q d)) from .rfl) $$ Hdn
  ihave H' := (Entails.of_eq (whole_shares X E q d (after X E q d))) $$ H
  iapply Hk
  isplitl [Hst]; · iexact Hst
  isplitl [H']; · iexact H'
  iexact Hrest

/-! ## A TensorCore call -/

variable (b : ℕ) (L : GSem nD τ sig → Finset (HIx 2)) (lv : GSem nD τ sig → HIx 2 → ℕ)

/-- What the launch deals each TensorCore for its two calls' windows. -/
def ghostOf (p : Fin 2) (d : Dev nD) : sProp 𝕄 :=
  iprop(cellsGhost (pin (pcfgs (F := F)) padm) EP p d ∗ toksInit (pin (pcfgs (F := F)) padm) EP p d)

theorem outRef_mem (p : Fin 2) : dr (outRef p) ∈ arrRefs (pcfgs (F := F) p).spec := match p with
  | 0 => Finset.mem_map_of_mem _ (Finset.mem_image.mpr ⟨6, Finset.mem_univ _, rfl⟩)
  | 1 => Finset.mem_map_of_mem _ (Finset.mem_image.mpr ⟨6, Finset.mem_univ _, rfl⟩)

/-- TensorCore call `p`: from the buffers at `W` to the buffers at `W` with the call's output array as the call leaves it. -/
theorem wp_tcCall (p : Fin 2) (d : Dev nD) (W : Valuation τ sig (Elt F)) (Φ : PUnit → sProp 𝕄) :
    iprop(boundary (T d) ∗ atVal d W ∗ tcOwes (F := F) b d ∗ levAts L lv ∗ ghostOf p d
        ∗ ((boundary (T d) ∗ atVal d (afterOf b d p W) ∗ tcOwes (F := F) b d) -∗ Φ ⟨⟩))
      ⊢ wp frame (wpE ((K (F := F)).defs (D (F := F))) 𝒱 (T d) none) Set.univ
          (Prog.lift (.customCall (SparseCore.inner (entry p)) ())) Φ := by
  have hsub : arrRefs (pcfgs (F := F) p).spec ⊆ ucRefs τ sig :=
    arrRefs_sub_ucRefs _ (pkit (F := F) p).win.arr_unscoped
  have hrest : (StableHlo.held (T d) (ucRefs τ sig \ arrRefs (pcfgs (F := F) p).spec) (afterOf b d p W) : sProp 𝕄)
      = StableHlo.held (T d) (ucRefs τ sig \ arrRefs (pcfgs (F := F) p).spec) W :=
    StableHlo.held_congr (T d) fun r hr => Function.update_of_ne
      (fun h : r = dr (outRef p) => (Finset.mem_sdiff.mp hr).2 (by rw [h]; exact outRef_mem (F := F) p)) _ _
  unfold atVal
  rw [StableHlo.held_sub_split (T d) hsub W, StableHlo.held_sub_split (T d) hsub (afterOf b d p W), hrest]
  refine BIBase.Entails.trans ?_ ((K (F := F)).wp_liftProg (D (F := F)) 𝒱 (T d) Set.univ none (Prog.lift (.customCall (entry p) ())) Φ)
  refine BIBase.Entails.trans ?_ (wp_region (fun _ _ => W) b L lv p d Prog.ret Φ)
  unfold ghostOf
  iintro ⟨Hb, ⟨Ha, Hr⟩, Ho, Hl, ⟨Hg, Ht⟩, Hk⟩
  isplitl [Hr Hk]
  · iintro ⟨Hb, Hpost⟩
    ihave H := (show (seg (fun _ _ => W) b L lv p).post d ⊢ iprop(StableHlo.held (T d) (arrRefs (pcfgs (F := F) p).spec) (afterOf b d p W)
      ∗ tcOwes (F := F) b d) from .rfl) $$ Hpost
    icases H with ⟨Ha, Ho⟩
    rw [wp_ret]
    imodintro
    iapply Hk
    isplitl [Hb]; · iexact Hb
    isplitl [Ha Hr]
    · isplitl [Ha]; · iexact Ha
      iexact Hr
    iexact Ho
  isplitl [Hb]; · iexact Hb
  isplitl [Ha Ho]
  · iapply (show iprop(StableHlo.held (T d) (arrRefs (pcfgs (F := F) p).spec) W ∗ tcOwes (F := F) b d)
      ⊢ (seg (fun _ _ => W) b L lv p).pre d from .rfl)
    isplitl [Ha]; · iexact Ha
    iexact Ho
  isplitl [Hl]; · iexact Hl
  isplitl [Hg]; · iexact Hg
  iexact Ht

/-! ## A host operation -/

/-- One host operation over the held buffers. -/
theorem wp_host (d : Dev nD) (op : HloOp τ sig (Elt F)) (hS : op.bufs ⊆ StableHlo.tcRefs τ sig) (hf : op.fresh = ∅)
    (W : Valuation τ sig (Elt F)) (Φ : PUnit → sProp 𝕄) :
    iprop(boundary (T d) ∗ atVal d W ∗ ((boundary (T d) ∗ atVal d (op.result W)) -∗ Φ ⟨⟩))
      ⊢ wp frame (wpE ((K (F := F)).defs (D (F := F))) 𝒱 (T d) none) Set.univ (hlo rfl op fun _ => .ret ⟨⟩) Φ := by
  iintro ⟨Hb, Hh, Hk⟩
  iapply (StableHlo.wp_hlo_within 𝒱 (T d) none Set.univ (op := op) (sub_ucRefs op hS) (V := W) hf) $$ [Hb Hh]
  · isplitl [Hb]; · iexact Hb
    iexact Hh
  iintro H
  rw [wp_ret]
  imodintro
  iapply Hk
  iexact H

/-! ## The launch's ghost state -/

theorem phinj : Function.Injective (cellOf (nD := nD) (τ := τ) (pin (pcfgs (F := F)) padm)) := (pkit (F := F) 0).cellOf_inj padm

def u₀ : UU := (Rounds.initOf (K (F := F)).hsCells (K (F := F)).hsToks,
  (Rounds.initOf (cells (pin (pcfgs (F := F)) padm) (phinj (F := F))) (launchToks (pin (pcfgs (F := F)) padm) (phinj (F := F))), 1))

def ghosts (d : Dev nD) : sProp 𝕄 := iprop(ghostOf 0 d ∗ ghostOf 1 d)

theorem bigSep_nothing {I : Type} (s : Finset I) : (bigSep s fun _ => iprop(emp)) = (iprop(emp) : sProp 𝕄) := bigSep_emp_const s

theorem ghosts_deal :
    iprop((bigSep Finset.univ fun c : Dev nD => bigSep Finset.univ fun p => cellsGhost (pin (pcfgs (F := F)) padm) EP p c)
        ∗ (bigSep Finset.univ fun c : Dev nD => bigSep Finset.univ fun p => (toksInit (pin (pcfgs (F := F)) padm) EP p c : sProp 𝕄)))
      ⊢ bigSep Finset.univ fun d : Dev nD => ghosts (F := F) d := by
  rw [bigSep_univ_of_subsingleton (0 : Dev nD), bigSep_univ_of_subsingleton (0 : Dev nD), bigSep_univ_of_subsingleton (0 : Dev nD),
    bigSep_univ_two, bigSep_univ_two]
  unfold ghosts ghostOf
  iintro ⟨⟨Hg0, Hg1⟩, Ht0, Ht1⟩
  isplitl [Hg0 Ht0]
  · isplitl [Hg0] <;> iassumption
  · isplitl [Hg1] <;> iassumption

theorem hu₀ : (ownU (u₀ (F := F)) : sProp 𝕄)
    ⊢ |={Set.univ}=> iprop(BI.own (EH (Rounds.initOf (K (F := F)).hsCells (K (F := F)).hsToks)) ∗ (bigSep Finset.univ fun d : Dev nD => ghosts (F := F) d)
        ∗ bigSep Finset.univ fun thr : Thread nD τ => bigSep Finset.univ fun q : Fin 2 => (P X E O).x q thr) := by
  unfold u₀
  iintro Hu
  ihave H := (ownU_pair (Rounds.initOf (K (F := F)).hsCells (K (F := F)).hsToks)
    (Rounds.initOf (cells (pin (pcfgs (F := F)) padm) (phinj (F := F))) (launchToks (pin (pcfgs (F := F)) padm) (phinj (F := F))), (1 : Counters))) $$ Hu
  icases H with ⟨HH, HR⟩
  ihave HR' := (show BI.own (embR (Rounds.initOf (cells (pin (pcfgs (F := F)) padm) (phinj (F := F))) (launchToks (pin (pcfgs (F := F)) padm) (phinj (F := F))), (1 : Counters)))
      ⊢ iprop(BI.own (EP (Rounds.initOf (cells (pin (pcfgs (F := F)) padm) (phinj (F := F))) (launchToks (pin (pcfgs (F := F)) padm) (phinj (F := F))))) : sProp 𝕄)
      from .rfl) $$ HR
  ihave HG := (fund_ghost (pin (pcfgs (F := F)) padm) EP (phinj (F := F))) $$ HR'
  imod HG with ⟨Hg, Ht⟩
  imodintro
  isplitl [HH]; · iexact HH
  isplitl [Hg Ht]
  · iapply (ghosts_deal (F := F))
    isplitl [Hg] <;> iassumption
  · rw [show (bigSep Finset.univ fun thr : Thread nD τ => bigSep Finset.univ fun q : Fin 2 => (P (F := F) X E O).x q thr)
      = bigSep Finset.univ fun _ => iprop(emp) from bigSep_congr fun _ _ => bigSep_nothing _, bigSep_nothing]
    iempintro

end Cert.Pool
-- ==== Proof.Main.lean ====
/-
  The whole host program on one device: five host operations lay the arguments out, two SparseCore calls pool the rows,
  two TensorCore calls run the two layers over half of the rows each, and a last operation transposes the output.  Every
  step maps the valuation of the TensorCore's buffers to the next one's.
-/
module

public import proofs.«01_k».proof.Proof.Steps

@[expose] public section

noncomputable section

namespace Cert.Pool

open Cert.KernelIdeal Cert.KernelIdeal.Gen
open Idealize.ShloMosaic
open Idealize.ShloMosaic.Pipeline
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local instance : Cert.KernelIdeal.Facts := Cert.KernelIdeal.Gen.facts

local notation "𝕄" => MT nD τ sig (HIx 2) (Elt F) ℕ UU ℕ

/-! ## The host operations -/

abbrev opX : HloOp τ sig (Elt F) := StableHlo.reshape main_arg0 main_v0 (rfl : (.i32 : EltTy) = .i32) shapeCasts_S16384x20_S327680
abbrev opW1 : HloOp τ sig (Elt F) := StableHlo.unary main_arg2 main_v1
  ((transpose S1024x128 [1, 0] · transposes_S128x1024_S1024x128_1_0) : (⟨S128x1024, .f32⟩ : BufTy).Contents (Elt F) → (⟨S1024x128, .f32⟩ : BufTy).Contents (Elt F))
abbrev opW2 : HloOp τ sig (Elt F) := StableHlo.unary main_arg4 main_v2
  ((transpose S1000x1024 [1, 0] · transposes_S1024x1000_S1000x1024_1_0) : (⟨S1024x1000, .f32⟩ : BufTy).Contents (Elt F) → (⟨S1000x1024, .f32⟩ : BufTy).Contents (Elt F))
abbrev opB1 : HloOp τ sig (Elt F) := StableHlo.reshape main_arg3 main_v3 (rfl : (.f32 : EltTy) = .f32) shapeCasts_S1024_S1024x1
abbrev opB2 : HloOp τ sig (Elt F) := StableHlo.reshape main_arg5 main_v4 (rfl : (.f32 : EltTy) = .f32) shapeCasts_S1000_S1000x1
abbrev opCopy : HloOp τ sig (Elt F) := StableHlo.unary main_v7 main_v8 id
abbrev opOut : HloOp τ sig (Elt F) := StableHlo.unary main_v8 main_v9
  ((transpose S16384x1000 [1, 0] · transposes_S1000x16384_S16384x1000_1_0) : (⟨S1000x16384, .f32⟩ : BufTy).Contents (Elt F) → (⟨S16384x1000, .f32⟩ : BufTy).Contents (Elt F))

/-! ## The valuations between the steps -/

variable (m : (ℓ : Loc nD τ sig) → Buf (Elt F) ℓ) (ρ : Dev nD → PrngReg)

def val0 (d : Dev nD) : Valuation τ sig (Elt F) := fun b => m (d, b)
/-- After the five host operations that lay the arguments out. -/
def val1 (d : Dev nD) : Valuation τ sig (Elt F) :=
  opB2.result (opB1.result (opW2.result (opW1.result (opX.result (val0 m d)))))

/-- The flat indices, the table, and the outputs' contents, as the SparseCore calls find them. -/
abbrev Xs (d : Dev nD) : Buf (Val := Elt F) (xLoc d) := val1 m d (dr main_v0)
abbrev Es (d : Dev nD) : Buf (Val := Elt F) (eLoc d) := val1 m d (dr main_arg1)
def Os (q : Fin 2) (d : Dev nD) : Buf (Val := Elt F) (oLoc q d) := match q with
  | 0 => val1 m d (dr main_v5)
  | 1 => val1 m d (dr main_v6)

def val2 (d : Dev nD) : Valuation τ sig (Elt F) := setO 0 (val1 m d) (res (Xs m d) (Es m d) 0)
def val3 (d : Dev nD) : Valuation τ sig (Elt F) := setO 1 (val2 m d) (res (Xs m d) (Es m d) 1)

/-- The bound on what the TensorCore has waited for once both SparseCore calls are over. -/
abbrev bnd : ℕ := 8 * SparseCore.Cfg.Blocks.fst 2 2 2

def val4 (d : Dev nD) : Valuation τ sig (Elt F) := afterOf bnd d 0 (val3 m d)
def val5 (d : Dev nD) : Valuation τ sig (Elt F) := opCopy.result (val4 m d)
def val6 (d : Dev nD) : Valuation τ sig (Elt F) := afterOf bnd d 1 (val5 m d)
def val7 (d : Dev nD) : Valuation τ sig (Elt F) := opOut.result (val6 m d)

theorem oVal0 (d : Dev nD) : oVal 0 (val1 m d) = before (Os m) 0 d := rfl
theorem oVal1 (d : Dev nD) : oVal 1 (val2 m d) = before (Os m) 1 d :=
  Function.update_of_ne (f := val1 m d) (by decide : dr main_v6 ≠ dr main_v5) (res (Xs m d) (Es m d) 0)

/-! ## The run of the host program -/

/-- At the end of the calls the TensorCore owes nothing: its state splits into that account and the rest. -/
theorem tcSt_end (d : Dev nD) : ∃ R : sProp 𝕄, ((K (F := F)).tcSt EH d 2 : sProp 𝕄) = iprop(tcOwes (F := F) bnd d ∗ R) := by
  unfold SparseCore.Cfg.tcSt
  rw [(K (F := F)).Otc_end d (le_refl 2)]
  exact ⟨_, rfl⟩

abbrev FIN (d : Dev nD) : sProp 𝕄 := atVal d (val7 m d)

/-- The launch deals the TensorCore its buffers at the launch memory. -/
theorem held_start (d : Dev nD) : (unscopedBufs d (fun b => m ((SparseCore.T d).loc b)) : sProp 𝕄) = atVal d (val0 m d) :=
  unscopedBufs_held (Ix := HIx 2) (Name := ℕ) (U := UU) (Lvl := ℕ) d (val0 m d)

theorem hmain (κ : GSem nD τ sig → ℕ) (d : Dev nD) :
    iprop((K (F := F)).ctx EH (P (Xs m) (Es m) (Os m)) κ ∗ (K (F := F)).tcSt EH d 0 ∗ (K (F := F)).tcRes m ρ d ∗ ghosts d)
      ⊢ wp frame (wpE ((K (F := F)).defs (D (F := F))) 𝒱 (T d) none) Set.univ (main d)
          fun _ => iprop((K (F := F)).tcSt EH d 2 ∗ FIN m d ∗ (K (F := F)).tcEnd d) := by
  obtain ⟨R, hR⟩ := tcSt_end (F := F) d
  unfold SparseCore.Cfg.tcRes SparseCore.Cfg.tcEnd ghosts
  rw [held_start]
  simp only [main, wp_bind, wp_pure]
  iintro ⟨#Hctx, Hst, ⟨Hb, Hh, Hts, -⟩, Hg0, Hg1⟩
  ihave #Hlev := ((K (F := F)).ctx_levAts (EH := EH) (P := P (Xs m) (Es m) (Os m)) κ) $$ Hctx
  iapply (wp_host d opX (by simp only [StableHlo.reshape_bufs_sub]) rfl (val0 m d)) $$ [-]
  isplitl [Hb]; · iexact Hb
  isplitl [Hh]; · iexact Hh
  iintro ⟨Hb, Hh⟩
  iapply (wp_host d opW1 (by simp only [StableHlo.unary_bufs_sub]) rfl) $$ [-]
  isplitl [Hb]; · iexact Hb
  isplitl [Hh]; · iexact Hh
  iintro ⟨Hb, Hh⟩
  iapply (wp_host d opW2 (by simp only [StableHlo.unary_bufs_sub]) rfl) $$ [-]
  isplitl [Hb]; · iexact Hb
  isplitl [Hh]; · iexact Hh
  iintro ⟨Hb, Hh⟩
  iapply (wp_host d opB1 (by simp only [StableHlo.reshape_bufs_sub]) rfl) $$ [-]
  isplitl [Hb]; · iexact Hb
  isplitl [Hh]; · iexact Hh
  iintro ⟨Hb, Hh⟩
  iapply (wp_host d opB2 (by simp only [StableHlo.reshape_bufs_sub]) rfl) $$ [-]
  isplitl [Hb]; · iexact Hb
  isplitl [Hh]; · iexact Hh
  iintro ⟨Hb, Hh⟩
  iapply (wp_call (Xs m) (Es m) (Os m) κ 0 d (val1 m d) rfl rfl (oVal0 m d)) $$ [-]
  isplitr; · iexact Hctx
  isplitl [Hst]; · iexact Hst
  isplitl [Hh]; · iexact Hh
  iintro ⟨Hst, Hh⟩
  iapply (wp_call (Xs m) (Es m) (Os m) κ 1 d (val2 m d) (setO_x 0 _ _) (setO_e 0 _ _) (oVal1 m d)) $$ [-]
  isplitr; · iexact Hctx
  isplitl [Hst]; · iexact Hst
  isplitl [Hh]; · iexact Hh
  iintro ⟨Hst, Hh⟩
  ihave Hst' := (show ((K (F := F)).tcSt EH d ((1 : Fin 2).val + 1) : sProp 𝕄) ⊢ iprop(tcOwes (F := F) bnd d ∗ R) from Entails.of_eq hR) $$ Hst
  icases Hst' with ⟨Ho, HR⟩
  iapply (wp_tcCall bnd (K (F := F)).L (K (F := F)).lev 0 d (val3 m d)) $$ [-]
  isplitl [Hb]; · iexact Hb
  isplitl [Hh]; · iexact Hh
  isplitl [Ho]; · iexact Ho
  isplitr; · iexact Hlev
  isplitl [Hg0]; · iexact Hg0
  iintro ⟨Hb, Hh, Ho⟩
  iapply (wp_host d opCopy (by simp only [StableHlo.unary_bufs_sub]) rfl (val4 m d)) $$ [-]
  isplitl [Hb]; · iexact Hb
  isplitl [Hh]; · iexact Hh
  iintro ⟨Hb, Hh⟩
  iapply (wp_tcCall bnd (K (F := F)).L (K (F := F)).lev 1 d (val5 m d)) $$ [-]
  isplitl [Hb]; · iexact Hb
  isplitl [Hh]; · iexact Hh
  isplitl [Ho]; · iexact Ho
  isplitr; · iexact Hlev
  isplitl [Hg1]; · iexact Hg1
  iintro ⟨Hb, Hh, Ho⟩
  iapply (wp_host d opOut (by simp only [StableHlo.unary_bufs_sub]) rfl (val6 m d)) $$ [-]
  isplitl [Hb]; · iexact Hb
  isplitl [Hh]; · iexact Hh
  iintro ⟨Hb, Hh⟩
  imodintro
  isplitl [Ho HR]
  · iapply (Entails.of_eq hR.symm)
    isplitl [Ho] <;> iassumption
  isplitl [Hh]; · iexact Hh
  isplitl [Hb] <;> iassumption

end Cert.Pool
-- ==== Proof.Task0.lean ====
/-
  SparseCore call 0's printed task is the task of Task.lean: window by window, each printed window unfolds to its
  steps; the whole is the windows in order.
-/
module

public import proofs.«01_k».proof.Proof.Task

@[expose] public section

noncomputable section

namespace Cert.Pool

open Idealize.ShloMosaic Idealize.SL.Sem Cert.KernelIdeal Cert.KernelIdeal.Facts₀

variable {F : FTy → Type} [FloatOps F]

local instance : Cert.KernelIdeal.Facts := Cert.KernelIdeal.Gen.facts

/-- What the task of call 0 at grid point `i` reads and writes. -/
abbrev env0 (i : grid0.Coords) (x : Memref sig .scVector .hbm S327680 .i32) (tab : Memref sig .scVector .hbm S100000x128 .f32)
    (out : Memref sig .scVector .hbm S8192x128 .f32) (acc : Memref sig .scVector .vmem S16x128 .f32) (hacc : acc.IsWhole) (osem : ℕ → DmaSems sig S_) : Env :=
  ⟨x, tab, out, acc, hacc, fun c => k0_off1 i (BitVec.ofNat 32 (16 * c)), fun c hc => k0_off1_inb i ⟨c, hc⟩,
    fun c => k0_off26 i (BitVec.ofNat 32 (16 * c)), fun c hc => k0_off26_inb i ⟨c, hc⟩, osem⟩

/-- The sixteen semaphores of the copies out, by chunk. -/
abbrev sems16 (r0 r1 r2 r3 r4 r5 r6 r7 r8 r9 r10 r11 r12 r13 r14 r15 : DmaSems sig S_) (c : ℕ) : DmaSems sig S_ :=
  [r0, r1, r2, r3, r4, r5, r6, r7, r8, r9, r10, r11, r12, r13, r14, r15].getD c r0

set_option maxRecDepth 100000 in
set_option maxHeartbeats 0 in
/-- The printed windows of call 0's task are the windows of `Env.windows`. -/
theorem parts0 (i : grid0.Coords)
    (arg2 : Memref sig .scVector .hbm S327680 .i32) (harg2 : arg2.IsWhole) (arg3 : Memref sig .scVector .hbm S100000x128 .f32) (harg3 : arg3.IsWhole)
    (arg4 : Memref sig .scVector .hbm S8192x128 .f32) (harg4 : arg4.IsWhole) (arg5 : Memref sig .scVector .vmem S320 .i32) (harg5 : arg5.IsWhole)
    (arg6 : Memref sig .scVector .vmem S320 .i32) (harg6 : arg6.IsWhole) (arg7 : Memref sig .scVector .vmem S320x128 .f32) (harg7 : arg7.IsWhole)
    (arg8 : Memref sig .scVector .vmem S320x128 .f32) (harg8 : arg8.IsWhole) (arg9 : Memref sig .scVector .vmem S16x128 .f32) (harg9 : arg9.IsWhole)
    (arg10 arg11 arg12 arg13 r0 r1 r2 r3 r4 r5 r6 r7 r8 r9 r10 r11 r12 r13 r14 r15 : DmaSems sig S_) :
    k0_part385 (F := F) i arg2 harg2 arg3 harg3 arg4 harg4 arg5 harg5 arg6 harg6 arg7 harg7 arg8 harg8 arg9 harg9 arg10 arg11 arg12 arg13 r0 r1 r2 r3 r4 r5 r6 r7 r8 r9 r10 r11 r12 r13 r14 r15
      = Env.w0 (env0 i arg2 arg3 arg4 arg9 harg9 (sems16 r0 r1 r2 r3 r4 r5 r6 r7 r8 r9 r10 r11 r12 r13 r14 r15))
          (Scalar.muli (Scalar.addi (Scalar.muli (BitVec.ofNat 32 (i 1).val) 2#32) (BitVec.ofNat 32 (i 0).val)) 256#32) ⟨arg5, harg5, arg7, harg7, arg10, arg12⟩ ⟨arg6, harg6, arg8, harg8, arg11, arg13⟩
    ∧ (∀ v y z : BitVec 32, k0_part386 (F := F) i arg2 harg2 arg3 harg3 arg4 harg4 arg5 harg5 arg6 harg6 arg7 harg7 arg8 harg8 arg9 harg9 arg10 arg11 arg12 arg13 r0 r1 r2 r3 r4 r5 r6 r7 r8 r9 r10 r11 r12 r13 r14 r15 v y z
      = Env.w1 (env0 i arg2 arg3 arg4 arg9 harg9 (sems16 r0 r1 r2 r3 r4 r5 r6 r7 r8 r9 r10 r11 r12 r13 r14 r15))
          0#32 ⟨arg5, harg5, arg7, harg7, arg10, arg12⟩ ⟨arg6, harg6, arg8, harg8, arg11, arg13⟩ 0 (by omega))
    ∧ (∀ v y : BitVec 32, k0_part387 (F := F) i arg2 harg2 arg3 harg3 arg4 harg4 arg5 harg5 arg6 harg6 arg7 harg7 arg8 harg8 arg9 harg9 arg10 arg11 arg12 arg13 r0 r1 r2 r3 r4 r5 r6 r7 r8 r9 r10 r11 r12 r13 r14 r15 v y
      = Env.w2 (env0 i arg2 arg3 arg4 arg9 harg9 (sems16 r0 r1 r2 r3 r4 r5 r6 r7 r8 r9 r10 r11 r12 r13 r14 r15))
          ⟨arg5, harg5, arg7, harg7, arg10, arg12⟩ ⟨arg6, harg6, arg8, harg8, arg11, arg13⟩ 0 (by omega))
    ∧ (∀ v : BitVec 32, k0_part388 (F := F) i arg2 harg2 arg3 harg3 arg4 harg4 arg5 harg5 arg6 harg6 arg7 harg7 arg8 harg8 arg9 harg9 arg10 arg11 arg12 arg13 r0 r1 r2 r3 r4 r5 r6 r7 r8 r9 r10 r11 r12 r13 r14 r15 v
      = Env.w3 (env0 i arg2 arg3 arg4 arg9 harg9 (sems16 r0 r1 r2 r3 r4 r5 r6 r7 r8 r9 r10 r11 r12 r13 r14 r15))
          ⟨arg5, harg5, arg7, harg7, arg10, arg12⟩ ⟨arg6, harg6, arg8, harg8, arg11, arg13⟩ 0 (by omega))
    ∧ (∀ v y z : BitVec 32, k0_part389 (F := F) i arg2 harg2 arg3 harg3 arg4 harg4 arg5 harg5 arg6 harg6 arg7 harg7 arg8 harg8 arg9 harg9 arg10 arg11 arg12 arg13 r0 r1 r2 r3 r4 r5 r6 r7 r8 r9 r10 r11 r12 r13 r14 r15 v y z
      = Env.w1 (env0 i arg2 arg3 arg4 arg9 harg9 (sems16 r0 r1 r2 r3 r4 r5 r6 r7 r8 r9 r10 r11 r12 r13 r14 r15))
          0#32 ⟨arg5, harg5, arg7, harg7, arg10, arg12⟩ ⟨arg6, harg6, arg8, harg8, arg11, arg13⟩ 4 (by omega))
    ∧ (∀ v y : BitVec 32, k0_part390 (F := F) i arg2 harg2 arg3 harg3 arg4 harg4 arg5 harg5 arg6 harg6 arg7 harg7 arg8 harg8 arg9 harg9 arg10 arg11 arg12 arg13 r0 r1 r2 r3 r4 r5 r6 r7 r8 r9 r10 r11 r12 r13 r14 r15 v y
      = Env.w2 (env0 i arg2 arg3 arg4 arg9 harg9 (sems16 r0 r1 r2 r3 r4 r5 r6 r7 r8 r9 r10 r11 r12 r13 r14 r15))
          ⟨arg5, harg5, arg7, harg7, arg10, arg12⟩ ⟨arg6, harg6, arg8, harg8, arg11, arg13⟩ 4 (by omega))
    ∧ (∀ v : BitVec 32, k0_part391 (F := F) i arg2 harg2 arg3 harg3 arg4 harg4 arg5 harg5 arg6 harg6 arg7 harg7 arg8 harg8 arg9 harg9 arg10 arg11 arg12 arg13 r0 r1 r2 r3 r4 r5 r6 r7 r8 r9 r10 r11 r12 r13 r14 r15 v
      = Env.w3 (env0 i arg2 arg3 arg4 arg9 harg9 (sems16 r0 r1 r2 r3 r4 r5 r6 r7 r8 r9 r10 r11 r12 r13 r14 r15))
          ⟨arg5, harg5, arg7, harg7, arg10, arg12⟩ ⟨arg6, harg6, arg8, harg8, arg11, arg13⟩ 4 (by omega))
    ∧ (∀ v y z : BitVec 32, k0_part392 (F := F) i arg2 harg2 arg3 harg3 arg4 harg4 arg5 harg5 arg6 harg6 arg7 harg7 arg8 harg8 arg9 harg9 arg10 arg11 arg12 arg13 r0 r1 r2 r3 r4 r5 r6 r7 r8 r9 r10 r11 r12 r13 r14 r15 v y z
      = Env.w1 (env0 i arg2 arg3 arg4 arg9 harg9 (sems16 r0 r1 r2 r3 r4 r5 r6 r7 r8 r9 r10 r11 r12 r13 r14 r15))
          0#32 ⟨arg5, harg5, arg7, harg7, arg10, arg12⟩ ⟨arg6, harg6, arg8, harg8, arg11, arg13⟩ 8 (by omega))
    ∧ (∀ v y : BitVec 32, k0_part393 (F := F) i arg2 harg2 arg3 harg3 arg4 harg4 arg5 harg5 arg6 harg6 arg7 harg7 arg8 harg8 arg9 harg9 arg10 arg11 arg12 arg13 r0 r1 r2 r3 r4 r5 r6 r7 r8 r9 r10 r11 r12 r13 r14 r15 v y
      = Env.w2 (env0 i arg2 arg3 arg4 arg9 harg9 (sems16 r0 r1 r2 r3 r4 r5 r6 r7 r8 r9 r10 r11 r12 r13 r14 r15))
          ⟨arg5, harg5, arg7, harg7, arg10, arg12⟩ ⟨arg6, harg6, arg8, harg8, arg11, arg13⟩ 8 (by omega))
    ∧ (∀ v : BitVec 32, k0_part394 (F := F) i arg2 harg2 arg3 harg3 arg4 harg4 arg5 harg5 arg6 harg6 arg7 harg7 arg8 harg8 arg9 harg9 arg10 arg11 arg12 arg13 r0 r1 r2 r3 r4 r5 r6 r7 r8 r9 r10 r11 r12 r13 r14 r15 v
      = Env.w3 (env0 i arg2 arg3 arg4 arg9 harg9 (sems16 r0 r1 r2 r3 r4 r5 r6 r7 r8 r9 r10 r11 r12 r13 r14 r15))
          ⟨arg5, harg5, arg7, harg7, arg10, arg12⟩ ⟨arg6, harg6, arg8, harg8, arg11, arg13⟩ 8 (by omega))
    ∧ (∀ v y z : BitVec 32, k0_part395 (F := F) i arg2 harg2 arg3 harg3 arg4 harg4 arg5 harg5 arg6 harg6 arg7 harg7 arg8 harg8 arg9 harg9 arg10 arg11 arg12 arg13 r0 r1 r2 r3 r4 r5 r6 r7 r8 r9 r10 r11 r12 r13 r14 r15 v y z
      = Env.w1 (env0 i arg2 arg3 arg4 arg9 harg9 (sems16 r0 r1 r2 r3 r4 r5 r6 r7 r8 r9 r10 r11 r12 r13 r14 r15))
          0#32 ⟨arg5, harg5, arg7, harg7, arg10, arg12⟩ ⟨arg6, harg6, arg8, harg8, arg11, arg13⟩ 12 (by omega))
    ∧ (∀ v y : BitVec 32, k0_part396 (F := F) i arg2 harg2 arg3 harg3 arg4 harg4 arg5 harg5 arg6 harg6 arg7 harg7 arg8 harg8 arg9 harg9 arg10 arg11 arg12 arg13 r0 r1 r2 r3 r4 r5 r6 r7 r8 r9 r10 r11 r12 r13 r14 r15 v y
      = Env.w4 (env0 i arg2 arg3 arg4 arg9 harg9 (sems16 r0 r1 r2 r3 r4 r5 r6 r7 r8 r9 r10 r11 r12 r13 r14 r15))
          ⟨arg5, harg5, arg7, harg7, arg10, arg12⟩ ⟨arg6, harg6, arg8, harg8, arg11, arg13⟩) :=
  ⟨rfl, fun _ _ _ => rfl, fun _ _ => rfl, fun _ => rfl, fun _ _ _ => rfl, fun _ _ => rfl, fun _ => rfl, fun _ _ _ => rfl, fun _ _ => rfl, fun _ => rfl, fun _ _ _ => rfl, fun _ _ => rfl⟩

/-- Call 0's printed task is the task. -/
theorem cc0_eq (i : grid0.Coords)
    (arg2 : Memref sig .scVector .hbm S327680 .i32) (harg2 : arg2.IsWhole) (arg3 : Memref sig .scVector .hbm S100000x128 .f32) (harg3 : arg3.IsWhole)
    (arg4 : Memref sig .scVector .hbm S8192x128 .f32) (harg4 : arg4.IsWhole) (arg5 : Memref sig .scVector .vmem S320 .i32) (harg5 : arg5.IsWhole)
    (arg6 : Memref sig .scVector .vmem S320 .i32) (harg6 : arg6.IsWhole) (arg7 : Memref sig .scVector .vmem S320x128 .f32) (harg7 : arg7.IsWhole)
    (arg8 : Memref sig .scVector .vmem S320x128 .f32) (harg8 : arg8.IsWhole) (arg9 : Memref sig .scVector .vmem S16x128 .f32) (harg9 : arg9.IsWhole)
    (arg10 arg11 arg12 arg13 r0 r1 r2 r3 r4 r5 r6 r7 r8 r9 r10 r11 r12 r13 r14 r15 : DmaSems sig S_) :
    cc0__pool_body (F := F) i arg2 harg2 arg3 harg3 arg4 harg4 arg5 harg5 arg6 harg6 arg7 harg7 arg8 harg8 arg9 harg9 arg10 arg11 arg12 arg13 r0 r1 r2 r3 r4 r5 r6 r7 r8 r9 r10 r11 r12 r13 r14 r15
      = Env.task (env0 i arg2 arg3 arg4 arg9 harg9 (sems16 r0 r1 r2 r3 r4 r5 r6 r7 r8 r9 r10 r11 r12 r13 r14 r15)) ⟨arg5, harg5, arg7, harg7, arg10, arg12⟩ ⟨arg6, harg6, arg8, harg8, arg11, arg13⟩ := by
  obtain ⟨h0, h1, h2, h3, h4, h5, h6, h7, h8, h9, h10, h11⟩ := parts0 (F := F) i arg2 harg2 arg3 harg3 arg4 harg4 arg5 harg5 arg6 harg6 arg7 harg7 arg8 harg8 arg9 harg9 arg10 arg11 arg12 arg13 r0 r1 r2 r3 r4 r5 r6 r7 r8 r9 r10 r11 r12 r13 r14 r15
  rw [Env.task_eq_windows (env0 i arg2 arg3 arg4 arg9 harg9 (sems16 r0 r1 r2 r3 r4 r5 r6 r7 r8 r9 r10 r11 r12 r13 r14 r15))
    (Scalar.muli (Scalar.addi (Scalar.muli (BitVec.ofNat 32 (i 1).val) 2#32) (BitVec.ofNat 32 (i 0).val)) 256#32) 0#32]
  simp only [cc0__pool_body, h0, h1, h2, h3, h4, h5, h6, h7, h8, h9, h10, h11]
  unfold Env.windows
  refine bind_congr fun _ => ?_
  refine bind_congr fun _ => ?_
  refine bind_congr fun _ => ?_
  refine bind_congr fun _ => ?_
  refine bind_congr fun _ => ?_
  refine bind_congr fun _ => ?_
  refine bind_congr fun _ => ?_
  refine bind_congr fun _ => ?_
  refine bind_congr fun _ => ?_
  refine bind_congr fun _ => ?_
  refine bind_congr fun _ => ?_
  refine bind_congr fun _ => ?_
  rfl

end Cert.Pool
-- ==== Proof.Tile0.lean ====
/-
  SparseCore call 0: what each tile's task does, from the shares the call hands it to the pooled rows it hands back.
-/
module

public import proofs.«01_k».proof.Proof.Call
public import proofs.«01_k».proof.Proof.Task0

@[expose] public section

noncomputable section

namespace Cert.Pool

open Cert.KernelIdeal Cert.KernelIdeal.Gen Cert.KernelIdeal.Facts₀
open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local instance : Cert.KernelIdeal.Facts := Cert.KernelIdeal.Gen.facts

local notation "𝕄" => MT nD τ sig (HIx 2) (Elt F) ℕ UU ℕ

/-- The grid point of tile `(c, s)`. -/
def coords0 (c : Fin (grid0.bound 0)) (s : Fin (grid0.bound 1)) : grid0.Coords :=
  fun | 0 => c | 1 => s | ⟨_ + 2, h⟩ => absurd h (Nat.not_lt.2 (Nat.le_add_left _ _))

theorem xoff0 : ∀ (c : Fin (grid0.bound 0)) (s : Fin (grid0.bound 1)) (n : Fin 16),
    k0_off1 (coords0 c s) (BitVec.ofNat 32 (16 * n.val)) = ![20 * (8192 * 0 + 256 * wid c.val s.val + 16 * n.val)] := by decide +kernel

theorem ooff0 : ∀ (c : Fin (grid0.bound 0)) (s : Fin (grid0.bound 1)) (n : Fin 16),
    k0_off26 (coords0 c s) (BitVec.ofNat 32 (16 * n.val)) = ![256 * wid c.val s.val + 16 * n.val, 0] := by decide +kernel

/-- The semaphores of the call's tiles: the banks' four, then the sixteen of the copies out. -/
abbrev sigs0 (n : ℕ) : DmaSems sig S_ :=
  [cc0_scratch5, cc0_scratch6, cc0_scratch7, cc0_scratch8, cc0_scoped0, cc0_scoped1, cc0_scoped2, cc0_scoped3, cc0_scoped4, cc0_scoped5,
    cc0_scoped6, cc0_scoped7, cc0_scoped8, cc0_scoped9, cc0_scoped10, cc0_scoped11, cc0_scoped12, cc0_scoped13, cc0_scoped14,
    cc0_scoped15].getD n cc0_scoped0

abbrev tileEnv0 (c : Fin (grid0.bound 0)) (s : Fin (grid0.bound 1)) : Env :=
  env0 (coords0 c s) (Memref.whole main_v0_scv) (Memref.whole main_arg1_scv) (Memref.whole main_v5_scv) (Memref.whole cc0_scratch4) (Memref.isWhole_whole _)
    (sems16 cc0_scoped0 cc0_scoped1 cc0_scoped2 cc0_scoped3 cc0_scoped4 cc0_scoped5 cc0_scoped6 cc0_scoped7 cc0_scoped8 cc0_scoped9
      cc0_scoped10 cc0_scoped11 cc0_scoped12 cc0_scoped13 cc0_scoped14 cc0_scoped15)

abbrev bankA0 : Bank := ⟨Memref.whole cc0_scratch0, Memref.isWhole_whole _, Memref.whole cc0_scratch2, Memref.isWhole_whole _, cc0_scratch5, cc0_scratch7⟩
abbrev bankB0 : Bank := ⟨Memref.whole cc0_scratch1, Memref.isWhole_whole _, Memref.whole cc0_scratch3, Memref.isWhole_whole _, cc0_scratch6, cc0_scratch8⟩

/-- The tile's chunks lie in its own rows. -/
theorem tileAt0 (d : Dev nD) (c : Fin τ.nSC) (s : Fin τ.nSub) (h : c.val < grid0.bound 0 ∧ s.val < grid0.bound 1) :
    Env.At (tileEnv0 ⟨c.val, h.1⟩ ⟨s.val, h.2⟩) d c s (8192 * 0) (256 * wid c.val s.val) (rowsOf (wid c.val s.val)) where
  xo n hn := xoff0 ⟨c.val, h.1⟩ ⟨s.val, h.2⟩ ⟨n, hn⟩
  oo n hn := ooff0 ⟨c.val, h.1⟩ ⟨s.val, h.2⟩ ⟨n, hn⟩
  sub n hn := by
    have hs : ((tileEnv0 ⟨c.val, h.1⟩ ⟨s.val, h.2⟩).os n hn).view.set
        = (Rect.unit (s := S8192x128) (k0_off26 (coords0 ⟨c.val, h.1⟩ ⟨s.val, h.2⟩) (BitVec.ofNat 32 (16 * n))) S16x128.size
          ((tileEnv0 ⟨c.val, h.1⟩ ⟨s.val, h.2⟩).hoo n hn)).set := View.set_slice_whole _ _
    rw [hs]
    intro y hy
    have hy := (Rect.mem_set_unit.mp hy) (0 : Fin 2)
    have ho : k0_off26 (coords0 ⟨c.val, h.1⟩ ⟨s.val, h.2⟩) (BitVec.ofNat 32 (16 * n)) (0 : Fin 2) = 256 * wid c.val s.val + 16 * n :=
      congrFun (ooff0 ⟨c.val, h.1⟩ ⟨s.val, h.2⟩ ⟨n, hn⟩) (0 : Fin 2)
    have h1 : k0_off26 (coords0 ⟨c.val, h.1⟩ ⟨s.val, h.2⟩) (BitVec.ofNat 32 (16 * n)) (0 : Fin 2) ≤ (y (0 : Fin 2)).val := hy.1
    have h2 : (y (0 : Fin 2)).val < k0_off26 (coords0 ⟨c.val, h.1⟩ ⟨s.val, h.2⟩) (BitVec.ofNat 32 (16 * n)) (0 : Fin 2) + 16 := hy.2
    rw [ho] at h1 h2
    exact Finset.mem_filter.mpr ⟨Finset.mem_univ _, by show (y (0 : Fin 2)).val / 256 = _; omega⟩

theorem tileBufs0 (d : Dev nD) (c : Fin τ.nSC) (s : Fin τ.nSub) (h : c.val < grid0.bound 0 ∧ s.val < grid0.bound 1) :
    ∃ R : sProp 𝕄, (ownBufs (V d c s) : sProp 𝕄)
      = iprop((Env.idxP (F := F) d c s bankA0 ∗ Env.idxP (F := F) d c s bankB0 ∗ Env.rowsP (F := F) d c s bankA0
        ∗ Env.rowsP (F := F) d c s bankB0 ∗ Env.accP (F := F) (tileEnv0 ⟨c.val, h.1⟩ ⟨s.val, h.2⟩) d c s) ∗ R) := by
  obtain ⟨R, hR⟩ := ownBufs_five (F := F) d c s ![cc0_scratch0, cc0_scratch1, cc0_scratch2, cc0_scratch3, cc0_scratch4] (by decide)
    (by intro i; fin_cases i <;> rfl)
  refine ⟨R, hR.trans ?_⟩
  show iprop(((∃ f, (V d c s).loc cc0_scratch0 ↦{fullShare} f) ∗ (∃ f, (V d c s).loc cc0_scratch1 ↦{fullShare} f) ∗ (∃ f, (V d c s).loc cc0_scratch2 ↦{fullShare} f)
        ∗ (∃ f, (V d c s).loc cc0_scratch3 ↦{fullShare} f) ∗ (∃ f, (V d c s).loc cc0_scratch4 ↦{fullShare} f)) ∗ R) = _
  rw [← whole_set d c s cc0_scratch0, ← whole_set d c s cc0_scratch1, ← whole_set d c s cc0_scratch2, ← whole_set d c s cc0_scratch3, ← whole_set d c s cc0_scratch4]

theorem tileSems0 (d : Dev nD) (c : Fin τ.nSC) (s : Fin τ.nSub) (h : c.val < grid0.bound 0 ∧ s.val < grid0.bound 1) :
    ∃ R : sProp 𝕄, (ownSems0 (V d c s) : sProp 𝕄)
      = iprop((Env.sem0 (F := F) d c s bankA0.gsem ∗ Env.sem0 (F := F) d c s bankB0.gsem ∗ Env.sem0 (F := F) d c s bankA0.isem
        ∗ Env.sem0 (F := F) d c s bankB0.isem ∗ Env.osems (F := F) (tileEnv0 ⟨c.val, h.1⟩ ⟨s.val, h.2⟩) d c s) ∗ R) :=
  ownSems0_twenty (F := F) d c s sigs0 (by decide +kernel) (by decide +kernel)

section Tile

variable (X : (d : Dev nD) → Buf (Elt F) (xLoc d)) (E : (d : Dev nD) → Buf (Elt F) (eLoc d))
variable (O : (q : Fin 2) → (d : Dev nD) → Buf (Elt F) (oLoc q d))

/-- The tile's printed task carries its share of the call to its share of the result. -/
theorem tileTask0 (hX : ∀ d j, (X d j : BitVec 32).toNat < 100000) (d : Dev nD) (c : Fin τ.nSC) (s : Fin τ.nSub) (h : c.val < grid0.bound 0 ∧ s.val < grid0.bound 1)
    (Ow : CellTallies nD τ sig (HIx 2)) (W : Waits sig (HIx 2)) (hO : ∀ g, Ow g none = 0) :
    iprop(levAts (K (F := F)).L (K (F := F)).lev ∗ emp ∗ share X E 0 d (wid c.val s.val) (before O 0 d)
        ∗ scopedBufs (V d c s) ∗ scopedSems0 (V d c s) ∗ owes (V d c s) Ow W)
      ⊢ wp frame (wpE (defs₀ (F := F)) 𝒱₀ (V d c s) none) Set.univ
          (cc0__pool_body (F := F) (coords0 ⟨c.val, h.1⟩ ⟨s.val, h.2⟩) (Memref.whole main_v0_scv) (Memref.isWhole_whole _) (Memref.whole main_arg1_scv) (Memref.isWhole_whole _) (Memref.whole main_v5_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15)
          fun _ => iprop(share X E 0 d (wid c.val s.val) (after X E 0 d)
            ∗ scopedBufs (V d c s) ∗ scopedSems0 (V d c s)
            ∗ ∃ W', ⌜∀ p ∈ W', p ∈ W ∨ p.2 = none ∨ p.2 = some 0⌝ ∗ owes (V d c s) Ow W') := by
  obtain ⟨R, hb⟩ := tileBufs0 (F := F) d c s h
  obtain ⟨R', hs⟩ := tileSems0 (F := F) d c s h
  rw [cc0_eq]
  refine (wp_tile (F := F) d c s (tileEnv0 ⟨c.val, h.1⟩ ⟨s.val, h.2⟩) bankA0 bankB0 (tileAt0 d c s h) (X d) (E d) (before O 0 d) (hX d)
    (wq (wid c.val s.val)) (wq (wid c.val s.val)) hb hs Ow W hO).trans (wp_mono Idealize.ShloMosaic.frame _ _ fun _ => ?_)
  iintro ⟨⟨Hx, Ht, %fo, %hfo, Ho⟩, HB, HC, %W', %hW', HO⟩
  isplitl [Hx Ht Ho]
  · isplitl [Hx]; · iexact Hx
    isplitl [Ht]; · iexact Ht
    have e : (oLoc 0 d ↦[rowsOf (wid c.val s.val)]{fullShare} fo : sProp 𝕄) = rowsPts 0 d (wid c.val s.val) (after X E 0 d) :=
      pointsTo_congr fun y hy => hfo y (by have := (Finset.mem_filter.mp hy).2; omega) (by have := (Finset.mem_filter.mp hy).2; omega)
    iapply (Entails.of_eq e) $$ Ho
  isplitl [HB]; · iexact HB
  isplitl [HC]; · iexact HC
  iexists W'; isplitr
  · ipureintro; exact fun p hp => (hW' p hp).imp_right Or.inl
  · iexact HO

theorem defs₀_vector0 (c : Fin τ.nSC) (s : Fin τ.nSub) : defs₀ (F := F) (.scVector c s) 0 ()
      = SparseCore.onTile Facts₀.hcore0 Facts₀.hsub0 (fun c s => cc0__pool_body (coords0 c s) (Memref.whole main_v0_scv) (Memref.isWhole_whole _) (Memref.whole main_arg1_scv) (Memref.isWhole_whole _) (Memref.whole main_v5_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15) ⟨⟩ c s := rfl

set_option maxRecDepth 16384 in
theorem tileObl0 (hX : ∀ d j, (X d j : BitVec 32).toNat < 100000) : (K (F := F)).TileObl (D (F := F)) 𝒱 (P X E O) v₀ 0 := by
  intro d c i Ow W hO _ _
  simp only [show (P X E O).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact tileTask0 X E O hX d _ _ hci Ow W hO

end Tile

end Cert.Pool
-- ==== Proof.Task1.lean ====
/-
  SparseCore call 1's printed task is the task of Task.lean: window by window, each printed window unfolds to its
  steps; the whole is the windows in order.
-/
module

public import proofs.«01_k».proof.Proof.Task0

@[expose] public section

noncomputable section

namespace Cert.Pool

open Idealize.ShloMosaic Idealize.SL.Sem Cert.KernelIdeal Cert.KernelIdeal.Facts₀

variable {F : FTy → Type} [FloatOps F]

local instance : Cert.KernelIdeal.Facts := Cert.KernelIdeal.Gen.facts

/-- What the task of call 1 at grid point `i` reads and writes. -/
abbrev env1 (i : grid1.Coords) (x : Memref sig .scVector .hbm S327680 .i32) (tab : Memref sig .scVector .hbm S100000x128 .f32)
    (out : Memref sig .scVector .hbm S8192x128 .f32) (acc : Memref sig .scVector .vmem S16x128 .f32) (hacc : acc.IsWhole) (osem : ℕ → DmaSems sig S_) : Env :=
  ⟨x, tab, out, acc, hacc, fun c => k1_off1 i (BitVec.ofNat 32 (16 * c)), fun c hc => k1_off1_inb i ⟨c, hc⟩,
    fun c => k1_off26 i (BitVec.ofNat 32 (16 * c)), fun c hc => k1_off26_inb i ⟨c, hc⟩, osem⟩

set_option maxRecDepth 100000 in
set_option maxHeartbeats 0 in
/-- The printed windows of call 1's task are the windows of `Env.windows`. -/
theorem parts1 (i : grid1.Coords)
    (arg2 : Memref sig .scVector .hbm S327680 .i32) (harg2 : arg2.IsWhole) (arg3 : Memref sig .scVector .hbm S100000x128 .f32) (harg3 : arg3.IsWhole)
    (arg4 : Memref sig .scVector .hbm S8192x128 .f32) (harg4 : arg4.IsWhole) (arg5 : Memref sig .scVector .vmem S320 .i32) (harg5 : arg5.IsWhole)
    (arg6 : Memref sig .scVector .vmem S320 .i32) (harg6 : arg6.IsWhole) (arg7 : Memref sig .scVector .vmem S320x128 .f32) (harg7 : arg7.IsWhole)
    (arg8 : Memref sig .scVector .vmem S320x128 .f32) (harg8 : arg8.IsWhole) (arg9 : Memref sig .scVector .vmem S16x128 .f32) (harg9 : arg9.IsWhole)
    (arg10 arg11 arg12 arg13 r0 r1 r2 r3 r4 r5 r6 r7 r8 r9 r10 r11 r12 r13 r14 r15 : DmaSems sig S_) :
    k1_part385 (F := F) i arg2 harg2 arg3 harg3 arg4 harg4 arg5 harg5 arg6 harg6 arg7 harg7 arg8 harg8 arg9 harg9 arg10 arg11 arg12 arg13 r0 r1 r2 r3 r4 r5 r6 r7 r8 r9 r10 r11 r12 r13 r14 r15
      = Env.w0 (env1 i arg2 arg3 arg4 arg9 harg9 (sems16 r0 r1 r2 r3 r4 r5 r6 r7 r8 r9 r10 r11 r12 r13 r14 r15))
          (Scalar.muli (Scalar.addi (Scalar.muli (BitVec.ofNat 32 (i 1).val) 2#32) (BitVec.ofNat 32 (i 0).val)) 256#32) ⟨arg5, harg5, arg7, harg7, arg10, arg12⟩ ⟨arg6, harg6, arg8, harg8, arg11, arg13⟩
    ∧ (∀ v y z : BitVec 32, k1_part386 (F := F) i arg2 harg2 arg3 harg3 arg4 harg4 arg5 harg5 arg6 harg6 arg7 harg7 arg8 harg8 arg9 harg9 arg10 arg11 arg12 arg13 r0 r1 r2 r3 r4 r5 r6 r7 r8 r9 r10 r11 r12 r13 r14 r15 v y z
      = Env.w1 (env1 i arg2 arg3 arg4 arg9 harg9 (sems16 r0 r1 r2 r3 r4 r5 r6 r7 r8 r9 r10 r11 r12 r13 r14 r15))
          8192#32 ⟨arg5, harg5, arg7, harg7, arg10, arg12⟩ ⟨arg6, harg6, arg8, harg8, arg11, arg13⟩ 0 (by omega))
    ∧ (∀ v y : BitVec 32, k1_part387 (F := F) i arg2 harg2 arg3 harg3 arg4 harg4 arg5 harg5 arg6 harg6 arg7 harg7 arg8 harg8 arg9 harg9 arg10 arg11 arg12 arg13 r0 r1 r2 r3 r4 r5 r6 r7 r8 r9 r10 r11 r12 r13 r14 r15 v y
      = Env.w2 (env1 i arg2 arg3 arg4 arg9 harg9 (sems16 r0 r1 r2 r3 r4 r5 r6 r7 r8 r9 r10 r11 r12 r13 r14 r15))
          ⟨arg5, harg5, arg7, harg7, arg10, arg12⟩ ⟨arg6, harg6, arg8, harg8, arg11, arg13⟩ 0 (by omega))
    ∧ (∀ v : BitVec 32, k1_part388 (F := F) i arg2 harg2 arg3 harg3 arg4 harg4 arg5 harg5 arg6 harg6 arg7 harg7 arg8 harg8 arg9 harg9 arg10 arg11 arg12 arg13 r0 r1 r2 r3 r4 r5 r6 r7 r8 r9 r10 r11 r12 r13 r14 r15 v
      = Env.w3 (env1 i arg2 arg3 arg4 arg9 harg9 (sems16 r0 r1 r2 r3 r4 r5 r6 r7 r8 r9 r10 r11 r12 r13 r14 r15))
          ⟨arg5, harg5, arg7, harg7, arg10, arg12⟩ ⟨arg6, harg6, arg8, harg8, arg11, arg13⟩ 0 (by omega))
    ∧ (∀ v y z : BitVec 32, k1_part389 (F := F) i arg2 harg2 arg3 harg3 arg4 harg4 arg5 harg5 arg6 harg6 arg7 harg7 arg8 harg8 arg9 harg9 arg10 arg11 arg12 arg13 r0 r1 r2 r3 r4 r5 r6 r7 r8 r9 r10 r11 r12 r13 r14 r15 v y z
      = Env.w1 (env1 i arg2 arg3 arg4 arg9 harg9 (sems16 r0 r1 r2 r3 r4 r5 r6 r7 r8 r9 r10 r11 r12 r13 r14 r15))
          8192#32 ⟨arg5, harg5, arg7, harg7, arg10, arg12⟩ ⟨arg6, harg6, arg8, harg8, arg11, arg13⟩ 4 (by omega))
    ∧ (∀ v y : BitVec 32, k1_part390 (F := F) i arg2 harg2 arg3 harg3 arg4 harg4 arg5 harg5 arg6 harg6 arg7 harg7 arg8 harg8 arg9 harg9 arg10 arg11 arg12 arg13 r0 r1 r2 r3 r4 r5 r6 r7 r8 r9 r10 r11 r12 r13 r14 r15 v y
      = Env.w2 (env1 i arg2 arg3 arg4 arg9 harg9 (sems16 r0 r1 r2 r3 r4 r5 r6 r7 r8 r9 r10 r11 r12 r13 r14 r15))
          ⟨arg5, harg5, arg7, harg7, arg10, arg12⟩ ⟨arg6, harg6, arg8, harg8, arg11, arg13⟩ 4 (by omega))
    ∧ (∀ v : BitVec 32, k1_part391 (F := F) i arg2 harg2 arg3 harg3 arg4 harg4 arg5 harg5 arg6 harg6 arg7 harg7 arg8 harg8 arg9 harg9 arg10 arg11 arg12 arg13 r0 r1 r2 r3 r4 r5 r6 r7 r8 r9 r10 r11 r12 r13 r14 r15 v
      = Env.w3 (env1 i arg2 arg3 arg4 arg9 harg9 (sems16 r0 r1 r2 r3 r4 r5 r6 r7 r8 r9 r10 r11 r12 r13 r14 r15))
          ⟨arg5, harg5, arg7, harg7, arg10, arg12⟩ ⟨arg6, harg6, arg8, harg8, arg11, arg13⟩ 4 (by omega))
    ∧ (∀ v y z : BitVec 32, k1_part392 (F := F) i arg2 harg2 arg3 harg3 arg4 harg4 arg5 harg5 arg6 harg6 arg7 harg7 arg8 harg8 arg9 harg9 arg10 arg11 arg12 arg13 r0 r1 r2 r3 r4 r5 r6 r7 r8 r9 r10 r11 r12 r13 r14 r15 v y z
      = Env.w1 (env1 i arg2 arg3 arg4 arg9 harg9 (sems16 r0 r1 r2 r3 r4 r5 r6 r7 r8 r9 r10 r11 r12 r13 r14 r15))
          8192#32 ⟨arg5, harg5, arg7, harg7, arg10, arg12⟩ ⟨arg6, harg6, arg8, harg8, arg11, arg13⟩ 8 (by omega))
    ∧ (∀ v y : BitVec 32, k1_part393 (F := F) i arg2 harg2 arg3 harg3 arg4 harg4 arg5 harg5 arg6 harg6 arg7 harg7 arg8 harg8 arg9 harg9 arg10 arg11 arg12 arg13 r0 r1 r2 r3 r4 r5 r6 r7 r8 r9 r10 r11 r12 r13 r14 r15 v y
      = Env.w2 (env1 i arg2 arg3 arg4 arg9 harg9 (sems16 r0 r1 r2 r3 r4 r5 r6 r7 r8 r9 r10 r11 r12 r13 r14 r15))
          ⟨arg5, harg5, arg7, harg7, arg10, arg12⟩ ⟨arg6, harg6, arg8, harg8, arg11, arg13⟩ 8 (by omega))
    ∧ (∀ v : BitVec 32, k1_part394 (F := F) i arg2 harg2 arg3 harg3 arg4 harg4 arg5 harg5 arg6 harg6 arg7 harg7 arg8 harg8 arg9 harg9 arg10 arg11 arg12 arg13 r0 r1 r2 r3 r4 r5 r6 r7 r8 r9 r10 r11 r12 r13 r14 r15 v
      = Env.w3 (env1 i arg2 arg3 arg4 arg9 harg9 (sems16 r0 r1 r2 r3 r4 r5 r6 r7 r8 r9 r10 r11 r12 r13 r14 r15))
          ⟨arg5, harg5, arg7, harg7, arg10, arg12⟩ ⟨arg6, harg6, arg8, harg8, arg11, arg13⟩ 8 (by omega))
    ∧ (∀ v y z : BitVec 32, k1_part395 (F := F) i arg2 harg2 arg3 harg3 arg4 harg4 arg5 harg5 arg6 harg6 arg7 harg7 arg8 harg8 arg9 harg9 arg10 arg11 arg12 arg13 r0 r1 r2 r3 r4 r5 r6 r7 r8 r9 r10 r11 r12 r13 r14 r15 v y z
      = Env.w1 (env1 i arg2 arg3 arg4 arg9 harg9 (sems16 r0 r1 r2 r3 r4 r5 r6 r7 r8 r9 r10 r11 r12 r13 r14 r15))
          8192#32 ⟨arg5, harg5, arg7, harg7, arg10, arg12⟩ ⟨arg6, harg6, arg8, harg8, arg11, arg13⟩ 12 (by omega))
    ∧ (∀ v y : BitVec 32, k1_part396 (F := F) i arg2 harg2 arg3 harg3 arg4 harg4 arg5 harg5 arg6 harg6 arg7 harg7 arg8 harg8 arg9 harg9 arg10 arg11 arg12 arg13 r0 r1 r2 r3 r4 r5 r6 r7 r8 r9 r10 r11 r12 r13 r14 r15 v y
      = Env.w4 (env1 i arg2 arg3 arg4 arg9 harg9 (sems16 r0 r1 r2 r3 r4 r5 r6 r7 r8 r9 r10 r11 r12 r13 r14 r15))
          ⟨arg5, harg5, arg7, harg7, arg10, arg12⟩ ⟨arg6, harg6, arg8, harg8, arg11, arg13⟩) :=
  ⟨rfl, fun _ _ _ => rfl, fun _ _ => rfl, fun _ => rfl, fun _ _ _ => rfl, fun _ _ => rfl, fun _ => rfl, fun _ _ _ => rfl, fun _ _ => rfl, fun _ => rfl, fun _ _ _ => rfl, fun _ _ => rfl⟩

/-- Call 1's printed task is the task. -/
theorem cc1_eq (i : grid1.Coords)
    (arg2 : Memref sig .scVector .hbm S327680 .i32) (harg2 : arg2.IsWhole) (arg3 : Memref sig .scVector .hbm S100000x128 .f32) (harg3 : arg3.IsWhole)
    (arg4 : Memref sig .scVector .hbm S8192x128 .f32) (harg4 : arg4.IsWhole) (arg5 : Memref sig .scVector .vmem S320 .i32) (harg5 : arg5.IsWhole)
    (arg6 : Memref sig .scVector .vmem S320 .i32) (harg6 : arg6.IsWhole) (arg7 : Memref sig .scVector .vmem S320x128 .f32) (harg7 : arg7.IsWhole)
    (arg8 : Memref sig .scVector .vmem S320x128 .f32) (harg8 : arg8.IsWhole) (arg9 : Memref sig .scVector .vmem S16x128 .f32) (harg9 : arg9.IsWhole)
    (arg10 arg11 arg12 arg13 r0 r1 r2 r3 r4 r5 r6 r7 r8 r9 r10 r11 r12 r13 r14 r15 : DmaSems sig S_) :
    cc1__pool_body (F := F) i arg2 harg2 arg3 harg3 arg4 harg4 arg5 harg5 arg6 harg6 arg7 harg7 arg8 harg8 arg9 harg9 arg10 arg11 arg12 arg13 r0 r1 r2 r3 r4 r5 r6 r7 r8 r9 r10 r11 r12 r13 r14 r15
      = Env.task (env1 i arg2 arg3 arg4 arg9 harg9 (sems16 r0 r1 r2 r3 r4 r5 r6 r7 r8 r9 r10 r11 r12 r13 r14 r15)) ⟨arg5, harg5, arg7, harg7, arg10, arg12⟩ ⟨arg6, harg6, arg8, harg8, arg11, arg13⟩ := by
  obtain ⟨h0, h1, h2, h3, h4, h5, h6, h7, h8, h9, h10, h11⟩ := parts1 (F := F) i arg2 harg2 arg3 harg3 arg4 harg4 arg5 harg5 arg6 harg6 arg7 harg7 arg8 harg8 arg9 harg9 arg10 arg11 arg12 arg13 r0 r1 r2 r3 r4 r5 r6 r7 r8 r9 r10 r11 r12 r13 r14 r15
  rw [Env.task_eq_windows (env1 i arg2 arg3 arg4 arg9 harg9 (sems16 r0 r1 r2 r3 r4 r5 r6 r7 r8 r9 r10 r11 r12 r13 r14 r15))
    (Scalar.muli (Scalar.addi (Scalar.muli (BitVec.ofNat 32 (i 1).val) 2#32) (BitVec.ofNat 32 (i 0).val)) 256#32) 8192#32]
  simp only [cc1__pool_body, h0, h1, h2, h3, h4, h5, h6, h7, h8, h9, h10, h11]
  unfold Env.windows
  refine bind_congr fun _ => ?_
  refine bind_congr fun _ => ?_
  refine bind_congr fun _ => ?_
  refine bind_congr fun _ => ?_
  refine bind_congr fun _ => ?_
  refine bind_congr fun _ => ?_
  refine bind_congr fun _ => ?_
  refine bind_congr fun _ => ?_
  refine bind_congr fun _ => ?_
  refine bind_congr fun _ => ?_
  refine bind_congr fun _ => ?_
  refine bind_congr fun _ => ?_
  rfl

end Cert.Pool
-- ==== Proof.Tile1.lean ====
/-
  SparseCore call 1: what each tile's task does, from the shares the call hands it to the pooled rows it hands back.
-/
module

public import proofs.«01_k».proof.Proof.Tile0
public import proofs.«01_k».proof.Proof.Task1

@[expose] public section

noncomputable section

namespace Cert.Pool

open Cert.KernelIdeal Cert.KernelIdeal.Gen Cert.KernelIdeal.Facts₀
open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local instance : Cert.KernelIdeal.Facts := Cert.KernelIdeal.Gen.facts

local notation "𝕄" => MT nD τ sig (HIx 2) (Elt F) ℕ UU ℕ

/-- The grid point of tile `(c, s)`. -/
def coords1 (c : Fin (grid1.bound 0)) (s : Fin (grid1.bound 1)) : grid1.Coords :=
  fun | 0 => c | 1 => s | ⟨_ + 2, h⟩ => absurd h (Nat.not_lt.2 (Nat.le_add_left _ _))

theorem xoff1 : ∀ (c : Fin (grid1.bound 0)) (s : Fin (grid1.bound 1)) (n : Fin 16),
    k1_off1 (coords1 c s) (BitVec.ofNat 32 (16 * n.val)) = ![20 * (8192 * 1 + 256 * wid c.val s.val + 16 * n.val)] := by decide +kernel

theorem ooff1 : ∀ (c : Fin (grid1.bound 0)) (s : Fin (grid1.bound 1)) (n : Fin 16),
    k1_off26 (coords1 c s) (BitVec.ofNat 32 (16 * n.val)) = ![256 * wid c.val s.val + 16 * n.val, 0] := by decide +kernel

/-- The semaphores of the call's tiles: the banks' four, then the sixteen of the copies out. -/
abbrev sigs1 (n : ℕ) : DmaSems sig S_ :=
  [cc1_scratch5, cc1_scratch6, cc1_scratch7, cc1_scratch8, cc1_scoped0, cc1_scoped1, cc1_scoped2, cc1_scoped3, cc1_scoped4, cc1_scoped5,
    cc1_scoped6, cc1_scoped7, cc1_scoped8, cc1_scoped9, cc1_scoped10, cc1_scoped11, cc1_scoped12, cc1_scoped13, cc1_scoped14,
    cc1_scoped15].getD n cc1_scoped0

abbrev tileEnv1 (c : Fin (grid1.bound 0)) (s : Fin (grid1.bound 1)) : Env :=
  env1 (coords1 c s) (Memref.whole main_v0_scv) (Memref.whole main_arg1_scv) (Memref.whole main_v6_scv) (Memref.whole cc1_scratch4) (Memref.isWhole_whole _)
    (sems16 cc1_scoped0 cc1_scoped1 cc1_scoped2 cc1_scoped3 cc1_scoped4 cc1_scoped5 cc1_scoped6 cc1_scoped7 cc1_scoped8 cc1_scoped9
      cc1_scoped10 cc1_scoped11 cc1_scoped12 cc1_scoped13 cc1_scoped14 cc1_scoped15)

abbrev bankA1 : Bank := ⟨Memref.whole cc1_scratch0, Memref.isWhole_whole _, Memref.whole cc1_scratch2, Memref.isWhole_whole _, cc1_scratch5, cc1_scratch7⟩
abbrev bankB1 : Bank := ⟨Memref.whole cc1_scratch1, Memref.isWhole_whole _, Memref.whole cc1_scratch3, Memref.isWhole_whole _, cc1_scratch6, cc1_scratch8⟩

/-- The tile's chunks lie in its own rows. -/
theorem tileAt1 (d : Dev nD) (c : Fin τ.nSC) (s : Fin τ.nSub) (h : c.val < grid1.bound 0 ∧ s.val < grid1.bound 1) :
    Env.At (tileEnv1 ⟨c.val, h.1⟩ ⟨s.val, h.2⟩) d c s (8192 * 1) (256 * wid c.val s.val) (rowsOf (wid c.val s.val)) where
  xo n hn := xoff1 ⟨c.val, h.1⟩ ⟨s.val, h.2⟩ ⟨n, hn⟩
  oo n hn := ooff1 ⟨c.val, h.1⟩ ⟨s.val, h.2⟩ ⟨n, hn⟩
  sub n hn := by
    have hs : ((tileEnv1 ⟨c.val, h.1⟩ ⟨s.val, h.2⟩).os n hn).view.set
        = (Rect.unit (s := S8192x128) (k1_off26 (coords1 ⟨c.val, h.1⟩ ⟨s.val, h.2⟩) (BitVec.ofNat 32 (16 * n))) S16x128.size
          ((tileEnv1 ⟨c.val, h.1⟩ ⟨s.val, h.2⟩).hoo n hn)).set := View.set_slice_whole _ _
    rw [hs]
    intro y hy
    have hy := (Rect.mem_set_unit.mp hy) (0 : Fin 2)
    have ho : k1_off26 (coords1 ⟨c.val, h.1⟩ ⟨s.val, h.2⟩) (BitVec.ofNat 32 (16 * n)) (0 : Fin 2) = 256 * wid c.val s.val + 16 * n :=
      congrFun (ooff1 ⟨c.val, h.1⟩ ⟨s.val, h.2⟩ ⟨n, hn⟩) (0 : Fin 2)
    have h1 : k1_off26 (coords1 ⟨c.val, h.1⟩ ⟨s.val, h.2⟩) (BitVec.ofNat 32 (16 * n)) (0 : Fin 2) ≤ (y (0 : Fin 2)).val := hy.1
    have h2 : (y (0 : Fin 2)).val < k1_off26 (coords1 ⟨c.val, h.1⟩ ⟨s.val, h.2⟩) (BitVec.ofNat 32 (16 * n)) (0 : Fin 2) + 16 := hy.2
    rw [ho] at h1 h2
    exact Finset.mem_filter.mpr ⟨Finset.mem_univ _, by show (y (0 : Fin 2)).val / 256 = _; omega⟩

theorem tileBufs1 (d : Dev nD) (c : Fin τ.nSC) (s : Fin τ.nSub) (h : c.val < grid1.bound 0 ∧ s.val < grid1.bound 1) :
    ∃ R : sProp 𝕄, (ownBufs (V d c s) : sProp 𝕄)
      = iprop((Env.idxP (F := F) d c s bankA1 ∗ Env.idxP (F := F) d c s bankB1 ∗ Env.rowsP (F := F) d c s bankA1
        ∗ Env.rowsP (F := F) d c s bankB1 ∗ Env.accP (F := F) (tileEnv1 ⟨c.val, h.1⟩ ⟨s.val, h.2⟩) d c s) ∗ R) := by
  obtain ⟨R, hR⟩ := ownBufs_five (F := F) d c s ![cc1_scratch0, cc1_scratch1, cc1_scratch2, cc1_scratch3, cc1_scratch4] (by decide)
    (by intro i; fin_cases i <;> rfl)
  refine ⟨R, hR.trans ?_⟩
  show iprop(((∃ f, (V d c s).loc cc1_scratch0 ↦{fullShare} f) ∗ (∃ f, (V d c s).loc cc1_scratch1 ↦{fullShare} f) ∗ (∃ f, (V d c s).loc cc1_scratch2 ↦{fullShare} f)
        ∗ (∃ f, (V d c s).loc cc1_scratch3 ↦{fullShare} f) ∗ (∃ f, (V d c s).loc cc1_scratch4 ↦{fullShare} f)) ∗ R) = _
  rw [← whole_set d c s cc1_scratch0, ← whole_set d c s cc1_scratch1, ← whole_set d c s cc1_scratch2, ← whole_set d c s cc1_scratch3, ← whole_set d c s cc1_scratch4]

theorem tileSems1 (d : Dev nD) (c : Fin τ.nSC) (s : Fin τ.nSub) (h : c.val < grid1.bound 0 ∧ s.val < grid1.bound 1) :
    ∃ R : sProp 𝕄, (ownSems0 (V d c s) : sProp 𝕄)
      = iprop((Env.sem0 (F := F) d c s bankA1.gsem ∗ Env.sem0 (F := F) d c s bankB1.gsem ∗ Env.sem0 (F := F) d c s bankA1.isem
        ∗ Env.sem0 (F := F) d c s bankB1.isem ∗ Env.osems (F := F) (tileEnv1 ⟨c.val, h.1⟩ ⟨s.val, h.2⟩) d c s) ∗ R) :=
  ownSems0_twenty (F := F) d c s sigs1 (by decide +kernel) (by decide +kernel)

section Tile

variable (X : (d : Dev nD) → Buf (Elt F) (xLoc d)) (E : (d : Dev nD) → Buf (Elt F) (eLoc d))
variable (O : (q : Fin 2) → (d : Dev nD) → Buf (Elt F) (oLoc q d))

/-- The tile's printed task carries its share of the call to its share of the result. -/
theorem tileTask1 (hX : ∀ d j, (X d j : BitVec 32).toNat < 100000) (d : Dev nD) (c : Fin τ.nSC) (s : Fin τ.nSub) (h : c.val < grid1.bound 0 ∧ s.val < grid1.bound 1)
    (Ow : CellTallies nD τ sig (HIx 2)) (W : Waits sig (HIx 2)) (hO : ∀ g, Ow g none = 0) :
    iprop(levAts (K (F := F)).L (K (F := F)).lev ∗ emp ∗ share X E 1 d (wid c.val s.val) (before O 1 d)
        ∗ scopedBufs (V d c s) ∗ scopedSems0 (V d c s) ∗ owes (V d c s) Ow W)
      ⊢ wp frame (wpE (defs₀ (F := F)) 𝒱₀ (V d c s) none) Set.univ
          (cc1__pool_body (F := F) (coords1 ⟨c.val, h.1⟩ ⟨s.val, h.2⟩) (Memref.whole main_v0_scv) (Memref.isWhole_whole _) (Memref.whole main_arg1_scv) (Memref.isWhole_whole _) (Memref.whole main_v6_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scratch5 cc1_scratch6 cc1_scratch7 cc1_scratch8 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15)
          fun _ => iprop(share X E 1 d (wid c.val s.val) (after X E 1 d)
            ∗ scopedBufs (V d c s) ∗ scopedSems0 (V d c s)
            ∗ ∃ W', ⌜∀ p ∈ W', p ∈ W ∨ p.2 = none ∨ p.2 = some 1⌝ ∗ owes (V d c s) Ow W') := by
  obtain ⟨R, hb⟩ := tileBufs1 (F := F) d c s h
  obtain ⟨R', hs⟩ := tileSems1 (F := F) d c s h
  rw [cc1_eq]
  refine (wp_tile (F := F) d c s (tileEnv1 ⟨c.val, h.1⟩ ⟨s.val, h.2⟩) bankA1 bankB1 (tileAt1 d c s h) (X d) (E d) (before O 1 d) (hX d)
    (wq (wid c.val s.val)) (wq (wid c.val s.val)) hb hs Ow W hO).trans (wp_mono Idealize.ShloMosaic.frame _ _ fun _ => ?_)
  iintro ⟨⟨Hx, Ht, %fo, %hfo, Ho⟩, HB, HC, %W', %hW', HO⟩
  isplitl [Hx Ht Ho]
  · isplitl [Hx]; · iexact Hx
    isplitl [Ht]; · iexact Ht
    have e : (oLoc 1 d ↦[rowsOf (wid c.val s.val)]{fullShare} fo : sProp 𝕄) = rowsPts 1 d (wid c.val s.val) (after X E 1 d) :=
      pointsTo_congr fun y hy => hfo y (by have := (Finset.mem_filter.mp hy).2; omega) (by have := (Finset.mem_filter.mp hy).2; omega)
    iapply (Entails.of_eq e) $$ Ho
  isplitl [HB]; · iexact HB
  isplitl [HC]; · iexact HC
  iexists W'; isplitr
  · ipureintro; exact fun p hp => (hW' p hp).imp_right Or.inl
  · iexact HO

theorem defs₀_vector1 (c : Fin τ.nSC) (s : Fin τ.nSub) : defs₀ (F := F) (.scVector c s) 1 ()
      = SparseCore.onTile Facts₀.hcore1 Facts₀.hsub1 (fun c s => cc1__pool_body (coords1 c s) (Memref.whole main_v0_scv) (Memref.isWhole_whole _) (Memref.whole main_arg1_scv) (Memref.isWhole_whole _) (Memref.whole main_v6_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scratch5 cc1_scratch6 cc1_scratch7 cc1_scratch8 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15) ⟨⟩ c s := rfl

set_option maxRecDepth 16384 in
theorem tileObl1 (hX : ∀ d j, (X d j : BitVec 32).toNat < 100000) : (K (F := F)).TileObl (D (F := F)) 𝒱 (P X E O) v₀ 1 := by
  intro d c i Ow W hO _ _
  simp only [show (P X E O).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact tileTask1 X E O hX d _ _ hci Ow W hO

end Tile

end Cert.Pool
-- ==== Proof.Run.lean ====
/-
  The run of the whole machine: the host program above on the TensorCore, the SparseCores' tiles below it.  It terminates
  with every argument as it was, every semaphore at zero, and the output at the last valuation.
-/
module

public import proofs.«01_k».proof.Proof.Main
public import proofs.«01_k».proof.Proof.Tile0
public import proofs.«01_k».proof.Proof.Tile1

@[expose] public section

noncomputable section

namespace Cert.Pool

open Cert.KernelIdeal Cert.KernelIdeal.Gen
open Idealize.ShloMosaic
open Idealize.ShloMosaic.Pipeline
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local instance : Cert.KernelIdeal.Facts := Cert.KernelIdeal.Gen.facts

local notation "𝕄" => MT nD τ sig (HIx 2) (Elt F) ℕ UU ℕ

variable (m : (ℓ : Loc nD τ sig) → Buf (Elt F) ℓ) (ρ : Dev nD → PrngReg)

/-! ## The arguments are never written -/

/-- The buffers some step writes. -/
def written : Finset (DevRef τ sig) :=
  {dr main_v0, dr main_v1, dr main_v2, dr main_v3, dr main_v4, dr main_v5, dr main_v6, dr main_v7, dr main_v8, dr main_v9}

theorem setO_of_not_written (q : Fin 2) (W : Valuation τ sig (Elt F)) (f : S8192x128.Idx → F .f32) (b : DevRef τ sig) (hb : b ∉ written) :
    setO q W f b = W b := match q with
  | 0 => Function.update_of_ne (β := fun b : DevRef τ sig => b.ty.Contents (Elt F)) (fun h : b = dr main_v5 => hb (by rw [h]; decide)) f W
  | 1 => Function.update_of_ne (β := fun b : DevRef τ sig => b.ty.Contents (Elt F)) (fun h : b = dr main_v6 => hb (by rw [h]; decide)) f W

theorem outRef_written (p : Fin 2) : dr (outRef p) ∈ written := match p with
  | 0 => by decide
  | 1 => by decide

theorem afterOf_of_not_written (p : Fin 2) (d : Dev nD) (W : Valuation τ sig (Elt F)) (b : DevRef τ sig) (hb : b ∉ written) :
    afterOf bnd d p W b = W b :=
  Function.update_of_ne (fun h : b = dr (outRef p) => hb (by rw [h]; exact outRef_written p)) _ _

theorem result_of_not_written (op : HloOp τ sig (Elt F)) (y : Ref sig .tc) (hop : op.writes = {dr y}) (hy : dr y ∈ written)
    (W : Valuation τ sig (Elt F)) (b : DevRef τ sig) (hb : b ∉ written) : op.result W b = W b :=
  HloOp.result_of_not_mem op W (by rw [hop, Finset.mem_singleton]; exact fun h => hb (h ▸ hy))

theorem val1_of_not_written (d : Dev nD) (b : DevRef τ sig) (hb : b ∉ written) : val1 m d b = m (d, b) := by
  unfold val1
  rw [result_of_not_written opB2 main_v4 rfl (by decide) _ b hb, result_of_not_written opB1 main_v3 rfl (by decide) _ b hb,
    result_of_not_written opW2 main_v2 rfl (by decide) _ b hb, result_of_not_written opW1 main_v1 rfl (by decide) _ b hb,
    result_of_not_written opX main_v0 rfl (by decide) _ b hb]
  rfl

theorem val3_of_not_written (d : Dev nD) (b : DevRef τ sig) (hb : b ∉ written) : val3 m d b = m (d, b) := by
  unfold val3 val2
  rw [setO_of_not_written 1 _ _ b hb, setO_of_not_written 0 _ _ b hb, val1_of_not_written m d b hb]

theorem val7_of_not_written (d : Dev nD) (b : DevRef τ sig) (hb : b ∉ written) : val7 m d b = m (d, b) := by
  unfold val7 val6 val5 val4
  rw [result_of_not_written opOut main_v9 rfl (by decide) _ b hb, afterOf_of_not_written 1 d _ b hb,
    result_of_not_written opCopy main_v8 rfl (by decide) _ b hb, afterOf_of_not_written 0 d _ b hb, val3_of_not_written m d b hb]

/-! ## The final memory -/

theorem agree (d : Dev nD) (s' : Phys nD τ sig (Elt F)) (r : Ref sig .tc) (hr : dr r ∈ ucRefs τ sig) :
    iprop(FIN m d ∗ SI s') ⊢ (⌜s'.mem.mem ((SparseCore.T d).loc r) = val7 m d (dr r)⌝ : sProp 𝕄) := by
  unfold FIN atVal
  rw [StableHlo.held_sub_split (SparseCore.T d) (Finset.singleton_subset_iff.mpr hr) (val7 m d)]
  have e : (StableHlo.held (SparseCore.T d) {dr r} (val7 m d) : sProp 𝕄) = ((SparseCore.T d).loc r ↦{fullShare} val7 m d (dr r)) := by
    unfold StableHlo.held; rw [bigSep_singleton]
  rw [e]
  iintro ⟨⟨Hr, -⟩, HSI⟩
  ihave H := (SI_pointsTo_agree (st := s') (ℓ := (SparseCore.T d).loc r) (I := Finset.univ) (q := fullShare) (f := val7 m d (dr r))) $$ [HSI Hr]
  · isplitl [HSI] <;> iassumption
  icases H with %h
  ipureintro; exact funext fun i => h i (Finset.mem_univ i)

theorem pure_both {A : sProp 𝕄} {φ ψ : Prop} (h₁ : A ⊢ (⌜φ⌝ : sProp 𝕄)) (h₂ : A ⊢ (⌜ψ⌝ : sProp 𝕄)) : A ⊢ (⌜φ ∧ ψ⌝ : sProp 𝕄) := by
  iintro HA
  ihave H := (persistent_entails_right h₁) $$ HA
  icases H with ⟨%h, HA⟩
  ihave H' := h₂ $$ HA
  icases H' with %h'
  ipureintro; exact ⟨h, h'⟩

/-- What a final memory `s` satisfies on device `d`: the output at the last valuation, the six arguments as launched. -/
def ends (d : Dev nD) (s : (ℓ : Loc nD τ sig) → Buf (Elt F) ℓ) : Prop :=
  s ((SparseCore.T d).loc main_v9) = val7 m d (dr main_v9)
  ∧ s ((SparseCore.T d).loc main_arg0) = val7 m d (dr main_arg0)
  ∧ s ((SparseCore.T d).loc main_arg1) = val7 m d (dr main_arg1)
  ∧ s ((SparseCore.T d).loc main_arg2) = val7 m d (dr main_arg2)
  ∧ s ((SparseCore.T d).loc main_arg3) = val7 m d (dr main_arg3)
  ∧ s ((SparseCore.T d).loc main_arg4) = val7 m d (dr main_arg4)
  ∧ s ((SparseCore.T d).loc main_arg5) = val7 m d (dr main_arg5)

theorem hfin (d : Dev nD) (s' : Phys nD τ sig (Elt F)) : iprop(FIN m d ∗ SI s') ⊢ (⌜ends m d s'.mem.mem⌝ : sProp 𝕄) :=
  pure_both (agree m d s' main_v9 (by decide)) <| pure_both (agree m d s' main_arg0 (by decide)) <|
  pure_both (agree m d s' main_arg1 (by decide)) <| pure_both (agree m d s' main_arg2 (by decide)) <|
  pure_both (agree m d s' main_arg3 (by decide)) <| pure_both (agree m d s' main_arg4 (by decide)) (agree m d s' main_arg5 (by decide))

/-- What the run ends at. -/
def Ends : PUnit × MemSt nD τ sig (Elt F) → Prop := fun r => (∀ d : Dev nD, ends m d r.2.mem) ∧ r.2.sem = fun _ => 0

theorem run_main [∀ e, Nonempty (Elt F e)] (hX : ∀ d j, (Xs m d j : BitVec 32).toNat < 100000) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P (Xs m) (Es m) (Os m)) (A := ∅) scFacts v₀
    (fun q hq => match q with | 0 => nomatch hq | 1 => nomatch hq)
    (fun q _ => match q with | 0 => tileObl0 (Xs m) (Es m) (Os m) hX | 1 => tileObl1 (Xs m) (Es m) (Os m) hX)
    (fun q _ => SparseCore.Cfg.VecSplit.of_plain (vecSplit (Xs m) (Es m) (Os m) q))
    m ρ main (fun d => ghosts d) (FIN m) (u₀ (F := F)) (sep_elim_left.trans (hu₀ (Xs m) (Es m) (Os m))) (hmain m ρ) (fun d s' => ends m d s'.mem.mem) (hfin m)
    (Ends m) (fun _ h hz => ⟨h, hz⟩)

/-! ## The arguments at the end -/

theorem arg_kept (d : Dev nD) (r : Ref sig .tc) (hr : dr r ∉ written) : val7 m d (dr r) = m ((SparseCore.T d).loc r) :=
  val7_of_not_written m d (dr r) hr

end Cert.Pool
-- ==== Proof.Pre.lean ====
/-
  What the precondition gives: every index word, read as a natural number, names a row of the table.
-/
module

public import proofs.«01_k».proof.Proof.Main
public import proofs.«01_k».proof.Defs
public import proofs.«01_k».proof.Proof.Gen.Pre_indices_in_range
public import Idealize.ShloMosaic.Lib.ReduceAll

@[expose] public section

noncomputable section

namespace Cert.Pool

open Idealize.ShloMosaic
open Idealize.SL.Sem

variable {F : FTy → Type} [FloatOps F]

local instance : Cert.KernelIdeal.Facts := Cert.KernelIdeal.Gen.facts
local instance : Cert.Pre_indices_in_range.Facts := Cert.Pre_indices_in_range.Gen.facts

theorem ofBool_eq_one (p : Bool) : (BitVec.ofBool p = 1#1) ↔ p = true := by cases p <;> decide

/-- A word at least zero and below the table's height, both as signed words, is its own value, below that height. -/
theorem word_in_range (v : BitVec 32) (h0 : IntOp.cmpi .sge v 0#32 = 1#1) (h1 : IntOp.cmpi .slt v 100000#32 = 1#1) :
    v.toNat < 100000 := by
  simp only [IntOp.cmpi, ofBool_eq_one, BitVec.sle_eq_decide, BitVec.slt_eq_decide,
      decide_eq_true_eq, BitVec.toInt_eq_toNat_cond, BitVec.toNat_ofNat, Nat.reducePow, Nat.reduceMod] at h0 h1
  omega

theorem indices_of_pre (x : IVec Cert.Pre_indices_in_range.S16384x20 32) (a1 : FVec F Cert.Pre_indices_in_range.S100000x128 .f32)
    (a2 : FVec F Cert.Pre_indices_in_range.S128x1024 .f32) (a3 : FVec F Cert.Pre_indices_in_range.S1024 .f32)
    (a4 : FVec F Cert.Pre_indices_in_range.S1024x1000 .f32) (a5 : FVec F Cert.Pre_indices_in_range.S1000 .f32)
    (h : Cert.Pre_indices_in_range.fn x a1 a2 a3 a4 a5 = fun _ => 1#1) (i : Cert.Pre_indices_in_range.S16384x20.Idx) :
    (x i).toNat < 100000 := by
  have e := congrFun h (fun a => a.elim0)
  simp only [Cert.Pre_indices_in_range.fn] at e
  haveI : Subsingleton Cert.Pre_indices_in_range.S_.Idx := ⟨fun a b => funext fun k => k.elim0⟩
  have e' := Host.reduce_andi_all _ _ _ _ _ e i
  obtain ⟨h0, h1⟩ := IntOp.andi_eq_one.1 e'
  exact word_in_range _ h0 h1

/-- An operation changes only the buffer it writes. -/
theorem result_other (op : HloOp Cert.KernelIdeal.τ Cert.KernelIdeal.sig (Elt F)) (y : DevRef Cert.KernelIdeal.τ Cert.KernelIdeal.sig)
    (hop : op.writes = {y}) {b : DevRef Cert.KernelIdeal.τ Cert.KernelIdeal.sig} (hb : b ≠ y) (W : Valuation Cert.KernelIdeal.τ Cert.KernelIdeal.sig (Elt F)) :
    op.result W b = W b :=
  HloOp.result_of_not_mem op W (by rw [hop, Finset.mem_singleton]; exact hb)

/-- The flat index array holds the index array's words in row order. -/
theorem Xs_apply (m : (ℓ : Loc Cert.KernelIdeal.nD Cert.KernelIdeal.τ Cert.KernelIdeal.sig) → Buf (Elt F) ℓ) (d : Dev Cert.KernelIdeal.nD) :
    Xs m d = shapeCast Cert.KernelIdeal.S327680
      (m ((SparseCore.T d).loc Cert.KernelIdeal.main_arg0) : Cert.KernelIdeal.S16384x20.Idx → BitVec 32)
      Cert.KernelIdeal.Gen.shapeCasts_S16384x20_S327680 := by
  unfold Xs val1
  rw [result_other opB2 _ rfl (by decide), result_other opB1 _ rfl (by decide), result_other opW2 _ rfl (by decide),
    result_other opW1 _ rfl (by decide)]
  exact StableHlo.reshape_result' _ _ _ _ _

/-- Every word of the flat index array is one of the index array's. -/
theorem Xs_lt (m : (ℓ : Loc Cert.KernelIdeal.nD Cert.KernelIdeal.τ Cert.KernelIdeal.sig) → Buf (Elt F) ℓ)
    (h : ∀ d (i : Cert.KernelIdeal.S16384x20.Idx),
      ((m ((SparseCore.T d).loc Cert.KernelIdeal.main_arg0) : Cert.KernelIdeal.S16384x20.Idx → BitVec 32) i).toNat < 100000)
    (d : Dev Cert.KernelIdeal.nD) (j) : (Xs m d j : BitVec 32).toNat < 100000 := by
  rw [Xs_apply]
  exact h d _

end Cert.Pool
-- ==== Proof.Value.lean ====
/-
  The result array's contents over the extended reals: the scores of the pooled samples.
-/
module

public import proofs.«01_k».proof.Proof.Blocks
public import proofs.«01_k».proof.Proof.Run
public import proofs.«01_k».proof.Proof.Pre

@[expose] public section

noncomputable section

namespace Cert.Pool

open Cert.KernelIdeal Cert.KernelIdeal.Gen
open Idealize.ShloMosaic
open Idealize.SL.Sem

local instance : Cert.KernelIdeal.Facts := Cert.KernelIdeal.Gen.facts

/-! ## Sums -/

/-- Adding up from the left is the sum. -/
theorem sumTo_eq (f : ℕ → EReal) : ∀ n, sumTo (F := Ideal) f n = ∑ l ∈ Finset.range (n + 1), f l
  | 0 => (Finset.sum_range_one f).symm
  | n + 1 => by
    rw [Finset.sum_range_succ, ← sumTo_eq f n]
    rfl

/-- The flat word at `20 * n + l` is word `l` of sample `n`. -/
theorem flat_apply (x : S16384x20.Idx → BitVec 32) (n : Fin 16384) (l : Fin 20) :
    shapeCast S327680 x shapeCasts_S16384x20_S327680 (xcell (20 * n.val + l.val)) = x (ix2 n l) := by
  refine shapeCast_apply x _ _ _ ?_
  have hx : xcell (20 * n.val + l.val) = ix1 ⟨20 * n.val + l.val, by omega⟩ :=
    (xcell_eq (ix1 ⟨20 * n.val + l.val, by omega⟩) _ rfl).symm
  rw [hx]
  show (Shape.rowMajorPi ![16384, 20] (ix2 n l)).val = (Shape.rowMajorPi ![327680] (ix1 (⟨20 * n.val + l.val, by omega⟩ : Fin 327680))).val
  rw [Shape.rowMajorPi_succ_val, Shape.rowMajorPi_succ_val]
  show n.val * 20 + (l.val * 1 + 0) = (20 * n.val + l.val) * 1 + 0
  omega

/-- What a call leaves of sample `n`: its table rows' sum. -/
theorem res_apply (x : S16384x20.Idx → BitVec 32) (E : FVec Ideal S100000x128 .f32) (q : ℕ) (n : Fin 16384) (s : Fin 8192)
    (hs : n.val = 8192 * q + s.val) (i : Fin 128) :
    res (F := Ideal) (shapeCast S327680 x shapeCasts_S16384x20_S327680) E q (ix2 s i) = ∑ l : Fin 20, lane E (x (ix2 n l)).toNat i := by
  show sumTo (F := Ideal) (fun l => picked _ E (20 * (8192 * q + s.val) + l) i.val) 19 = _
  rw [sumTo_eq, Finset.sum_range]
  refine Finset.sum_congr rfl fun l _ => ?_
  rw [← hs]
  show E (tcell (shapeCast S327680 x shapeCasts_S16384x20_S327680 (xcell (20 * n.val + l.val))).toNat i.val) = _
  rw [flat_apply x n l]
  exact congrArg E (Shape.idx_ext₂ rfl (Nat.mod_eq_of_lt i.isLt))

/-- The transposed entry of arrays laid out as the calls take them is the score. -/
theorem entry_score (x : Vec Ideal S16384x20 .i32) (E : FVec Ideal S100000x128 .f32) (W1 : FVec Ideal S128x1024 .f32) (B1 : FVec Ideal S1024 .f32)
    (W2 : FVec Ideal S1024x1000 .f32) (B2 : FVec Ideal S1000 .f32)
    (H : FVec Ideal S8192x128 .f32) (w1 : FVec Ideal S1024x128 .f32) (b1 : FVec Ideal S1024x1 .f32) (w2 : FVec Ideal S1000x1024 .f32) (b2 : FVec Ideal S1000x1 .f32)
    (k : Fin 1000) (n : Fin 16384)
    (hH : ∀ i, H (ix2 ⟨n.val % 8192, Nat.mod_lt _ (by decide)⟩ i) = ∑ l : Fin 20, lane E (x (ix2 n l)).toNat i)
    (e1 : w1 = transpose S1024x128 [1, 0] W1 transposes_S128x1024_S1024x128_1_0) (e2 : b1 = shapeCast S1024x1 B1 shapeCasts_S1024_S1024x1)
    (e3 : w2 = transpose S1000x1024 [1, 0] W2 transposes_S1024x1000_S1000x1024_1_0) (e4 : b2 = shapeCast S1000x1 B2 shapeCasts_S1000_S1000x1) :
    entry x H w1 b1 w2 b2 k n = score (fun r l => x (ix2 r l)) E W1 B1 W2 B2 n k := by
  have h1 : ∀ j i, w1 (ix2 j i) = W1 (ix2 i j) := fun j i => by subst e1; pointwise []
  have h3 : ∀ j i, w2 (ix2 j i) = W2 (ix2 i j) := fun j i => by subst e3; pointwise []
  have h2 : ∀ j, b1 (ix2 j 0) = B1 (ix1 j) := fun j => by subst e2; pointwise []
  have h4 : ∀ j, b2 (ix2 j 0) = B2 (ix1 j) := fun j => by subst e4; pointwise []
  unfold entry score
  rw [h4]
  refine congrArg (· + B2 (ix1 k)) (Finset.sum_congr rfl fun j _ => ?_)
  rw [h3, mul_comm]
  unfold hidden
  rw [h2]
  refine congrArg (fun s => max (s + B1 (ix1 j)) 0 * W2 (ix2 j k)) (Finset.sum_congr rfl fun i _ => ?_)
  rw [h1, hH, mul_comm]
  rfl

/-! ## The arrays along the program -/

variable (m : (ℓ : Loc nD τ sig) → Buf (Elt Ideal) ℓ) (d : Dev nD)

/-- An argument. -/
abbrev arg (b : Ref sig .tc) : b.ty.Contents (Elt Ideal) := m ((SparseCore.T d).loc b)

theorem val1_v1 : val1 m d (dr main_v1) = transpose S1024x128 [1, 0] (arg m d main_arg2 : FVec Ideal S128x1024 .f32) transposes_S128x1024_S1024x128_1_0 := by
  unfold val1
  rw [result_other opB2 _ rfl (by decide), result_other opB1 _ rfl (by decide), result_other opW2 _ rfl (by decide)]
  refine (StableHlo.unary_result' _ _ _ _).trans ?_
  rw [result_other opX _ rfl (by decide)]
  rfl
theorem val1_v2 : val1 m d (dr main_v2) = transpose S1000x1024 [1, 0] (arg m d main_arg4 : FVec Ideal S1024x1000 .f32) transposes_S1024x1000_S1000x1024_1_0 := by
  unfold val1
  rw [result_other opB2 _ rfl (by decide), result_other opB1 _ rfl (by decide)]
  refine (StableHlo.unary_result' _ _ _ _).trans ?_
  rw [result_other opW1 _ rfl (by decide), result_other opX _ rfl (by decide)]
  rfl
theorem val1_v3 : val1 m d (dr main_v3) = shapeCast S1024x1 (arg m d main_arg3 : FVec Ideal S1024 .f32) shapeCasts_S1024_S1024x1 := by
  unfold val1
  rw [result_other opB2 _ rfl (by decide)]
  refine (StableHlo.reshape_result' _ _ _ _ _).trans ?_
  have e : opW2.result (opW1.result (opX.result (val0 m d))) (dr main_arg3) = arg m d main_arg3 := by
    rw [result_other opW2 _ rfl (by decide), result_other opW1 _ rfl (by decide), result_other opX _ rfl (by decide)]
    rfl
  exact congrArg (fun v : FVec Ideal S1024 .f32 => shapeCast S1024x1 v shapeCasts_S1024_S1024x1) e
theorem val1_v4 : val1 m d (dr main_v4) = shapeCast S1000x1 (arg m d main_arg5 : FVec Ideal S1000 .f32) shapeCasts_S1000_S1000x1 := by
  unfold val1
  refine (StableHlo.reshape_result' _ _ _ _ _).trans ?_
  have e : opB1.result (opW2.result (opW1.result (opX.result (val0 m d)))) (dr main_arg5) = arg m d main_arg5 := by
    rw [result_other opB1 _ rfl (by decide), result_other opW2 _ rfl (by decide), result_other opW1 _ rfl (by decide), result_other opX _ rfl (by decide)]
    rfl
  exact congrArg (fun v : FVec Ideal S1000 .f32 => shapeCast S1000x1 v shapeCasts_S1000_S1000x1) e

/-- The SparseCore calls write two arrays only. -/
theorem val3_other (b : DevRef τ sig) (h5 : b ≠ dr main_v5) (h6 : b ≠ dr main_v6) : val3 m d b = val1 m d b :=
  (Function.update_of_ne (β := fun b : DevRef τ sig => b.ty.Contents (Elt Ideal)) h6 _ _).trans
    (Function.update_of_ne (β := fun b : DevRef τ sig => b.ty.Contents (Elt Ideal)) h5 _ _)
theorem val3_v6 : val3 m d (dr main_v6) = res (F := Ideal) (Xs m d) (Es m d) 1 :=
  Function.update_self (β := fun b : DevRef τ sig => b.ty.Contents (Elt Ideal)) (dr main_v6) (res (F := Ideal) (Xs m d) (Es m d) 1) (val2 m d)
theorem val3_v5 : val3 m d (dr main_v5) = res (F := Ideal) (Xs m d) (Es m d) 0 :=
  (Function.update_of_ne (β := fun b : DevRef τ sig => b.ty.Contents (Elt Ideal)) (by decide : dr main_v5 ≠ dr main_v6)
      (res (F := Ideal) (Xs m d) (Es m d) 1) (val2 m d)).trans
    (Function.update_self (β := fun b : DevRef τ sig => b.ty.Contents (Elt Ideal)) (dr main_v5) (res (F := Ideal) (Xs m d) (Es m d) 0) (val1 m d))

/-- The second TensorCore call finds what the first found, but for the output. -/
theorem val5_other (b : DevRef τ sig) (h7 : b ≠ dr main_v7) (h8 : b ≠ dr main_v8) : val5 m d b = val3 m d b :=
  (result_other opCopy _ rfl h8 _).trans (Function.update_of_ne (β := fun b : DevRef τ sig => b.ty.Contents (Elt Ideal)) h7 _ _)

/-- The score of sample `n` in the arguments' terms. -/
def scoreOf (n : Fin 16384) (k : Fin 1000) : EReal :=
  score (fun r l => (arg m d main_arg0 : Vec Ideal S16384x20 .i32) (ix2 r l)) (arg m d main_arg1) (arg m d main_arg2) (arg m d main_arg3)
    (arg m d main_arg4) (arg m d main_arg5) n k

theorem res_sum (q : ℕ) (n : Fin 16384) (hn : n.val = 8192 * q + n.val % 8192) (i : Fin 128) :
    res (F := Ideal) (Xs m d) (Es m d) q (ix2 ⟨n.val % 8192, Nat.mod_lt _ (by decide)⟩ i)
      = ∑ l : Fin 20, lane (arg m d main_arg1) ((arg m d main_arg0 : Vec Ideal S16384x20 .i32) (ix2 n l)).toNat i := by
  rw [Xs_apply, show Es m d = arg m d main_arg1 from val1_of_not_written m d _ (by decide)]
  exact res_apply _ _ q n _ hn i

theorem first_half (n : Fin 16384) (k : Fin 1000) (hn : n.val < 8192) : whole0 (val3 m d) (ix2 k n) = scoreOf m d n k := by
  refine (congrArg (fun x => entry x _ _ _ _ _ k n) (val3_of_not_written m d (dr main_arg0) (by decide))).trans ?_
  refine entry_score _ (arg m d main_arg1) (arg m d main_arg2) (arg m d main_arg3) (arg m d main_arg4) (arg m d main_arg5) _ _ _ _ _ k n (fun i => ?_)
    ((val3_other m d _ (by decide) (by decide)).trans (val1_v1 m d)) ((val3_other m d _ (by decide) (by decide)).trans (val1_v3 m d))
    ((val3_other m d _ (by decide) (by decide)).trans (val1_v2 m d)) ((val3_other m d _ (by decide) (by decide)).trans (val1_v4 m d))
  exact (congrFun (val3_v5 m d) _).trans (res_sum m d 0 n (by omega) i)

theorem second_half (n : Fin 16384) (k : Fin 1000) (hn : 8192 ≤ n.val) : whole1 (val5 m d) (ix2 k n) = scoreOf m d n k := by
  have h := n.isLt
  have e : ∀ b, b ≠ dr main_v5 → b ≠ dr main_v6 → b ≠ dr main_v7 → b ≠ dr main_v8 → val5 m d b = val1 m d b :=
    fun b h5 h6 h7 h8 => (val5_other m d b h7 h8).trans (val3_other m d b h5 h6)
  refine (congrArg (fun x => entry x _ _ _ _ _ k n)
    ((val5_other m d (dr main_arg0) (by decide) (by decide)).trans (val3_of_not_written m d (dr main_arg0) (by decide)))).trans ?_
  refine entry_score _ (arg m d main_arg1) (arg m d main_arg2) (arg m d main_arg3) (arg m d main_arg4) (arg m d main_arg5) _ _ _ _ _ k n (fun i => ?_)
    ((e _ (by decide) (by decide) (by decide) (by decide)).trans (val1_v1 m d)) ((e _ (by decide) (by decide) (by decide) (by decide)).trans (val1_v3 m d))
    ((e _ (by decide) (by decide) (by decide) (by decide)).trans (val1_v2 m d)) ((e _ (by decide) (by decide) (by decide) (by decide)).trans (val1_v4 m d))
  exact (congrFun ((val5_other m d (dr main_v6) (by decide) (by decide)).trans (val3_v6 m d)) _).trans (res_sum m d 1 n (by omega) i)

/-- The transposed result after the second TensorCore call. -/
theorem val6_apply (n : Fin 16384) (k : Fin 1000) : (val6 m d (dr main_v8) : FVec Ideal S1000x16384 .f32) (ix2 k n) = scoreOf m d n k := by
  have e : val6 m d (dr main_v8) = outAt bnd d 1 (val5 m d) :=
    Function.update_self (β := fun b : DevRef τ sig => b.ty.Contents (Elt Ideal)) (dr main_v8) (outAt bnd d 1 (val5 m d)) (val5 m d)
  refine (congrFun e (ix2 k n)).trans ?_
  by_cases hn : n.val < 8192
  · refine (out_kept (val5 m d) bnd d k n hn).trans ?_
    have e' : val5 m d (dr main_v8) = outAt bnd d 0 (val3 m d) :=
      (StableHlo.unary_result' _ _ _ _).trans
        (Function.update_self (β := fun b : DevRef τ sig => b.ty.Contents (Elt Ideal)) (dr main_v7) (outAt bnd d 0 (val3 m d)) (val3 m d))
    exact (congrFun e' (ix2 k n)).trans ((out_first (val3 m d) bnd d k n hn).trans (first_half m d n k hn))
  · exact (out_second (val5 m d) bnd d k n (by omega)).trans (second_half m d n k (by omega))

/-- The result: every entry is its sample's score. -/
theorem val7_apply (n : Fin 16384) (k : Fin 1000) : (val7 m d (dr main_v9) : FVec Ideal S16384x1000 .f32) (ix2 n k) = scoreOf m d n k := by
  have e : val7 m d (dr main_v9)
      = transpose S16384x1000 [1, 0] (val6 m d (dr main_v8) : FVec Ideal S1000x16384 .f32) transposes_S1000x16384_S16384x1000_1_0 :=
    StableHlo.unary_result' _ _ _ _
  refine (congrFun e (ix2 n k)).trans (Eq.trans ?_ (val6_apply m d n k))
  pointwise []

end Cert.Pool
-- ==== Proof.RefValue.lean ====
/-
  The reference's output over the extended reals, an entry at a time.
-/
module

public import proofs.«01_k».proof.Proof.Spec
public import proofs.«01_k».proof.Proof.Gen.ReferenceIdeal.Run
public import Idealize.ShloMosaic.Lib.ReduceAll

@[expose] public section

noncomputable section

namespace Cert.Pool.Ref

open Cert.ReferenceIdeal Cert.ReferenceIdeal.Gen
open Idealize.ShloMosaic

local instance : Cert.ReferenceIdeal.Facts := Cert.ReferenceIdeal.Gen.facts

variable (x : IVec S16384x20 32) (E : FVec Ideal S100000x128 .f32) (W1 : FVec Ideal S128x1024 .f32) (b1 : FVec Ideal S1024 .f32)
  (W2 : FVec Ideal S1024x1000 .f32) (b2 : FVec Ideal S1000 .f32)

/-! ## The reference's term in stages -/

/-- The index words, a negative one moved up by the table's height. -/
def refIndex : IVec S16384x20 32 :=
  select (cmpi .slt x (broadcastInDim S16384x20 ![] bcast_S_S16384x20 (constantI S_ 32 0#32))) (addi x (broadcastInDim S16384x20 ![] bcast_S_S16384x20 (constantI S_ 32 100000#32))) x
def refStart : IVec S16384x20x1 32 := broadcastInDim S16384x20x1 ![0, 1] bcast_S16384x20_S16384x20x1_0_1 (refIndex x)
/-- Which index words name a row of the table. -/
def refInside : IVec S16384x20 1 := Host.reduce IntOp.andi (andi (cmpi .sge (refStart x) (broadcastInDim S16384x20x1 ![] bcast_S_S16384x20x1 (constantI S_ 32 0#32))) (cmpi .sle (refStart x) (broadcastInDim S16384x20x1 ![0, 1, 2] bcast_S1x1x1_S16384x20x1_0_1_2 (broadcastInDim S1x1x1 ![2] bcast_S1_S1x1x1_2 (constantI S1 32 99999#32))))) (constantI S_ 1 1#1) reducesTo_S16384x20x1_S16384x20_d2 h_S_
/-- The picked rows, a row outside the table replaced. -/
def refRows : FVec Ideal S16384x20x128 .f32 := select (broadcastInDim S16384x20x128 ![0, 1] bcast_S16384x20_S16384x20x128_0_1 (refInside x)) (Host.gather gather_S100000x128_S16384x20x1_S16384x20x128_2_0_n_n_0_2_1128 E (refStart x)) (broadcastInDim S16384x20x128 ![] bcast_S_S16384x20x128 (constant S_ .f32 0x7FC00000#32))
/-- The counts of nonzero index words, at least one. -/
def refCount : FVec Ideal S16384 .f32 := maximumf (broadcastInDim S16384 ![] bcast_S_S16384 (id (constant S_ .f32 0x3F800000#32))) (sitofp .f32 (Host.reduce IntOp.addi (extui 32 (cmpi .ne x (broadcastInDim S16384x20 ![] bcast_S_S16384x20 (constantI S_ 32 0#32))) natLt_1_32) (constantI S_ 32 0#32) reducesTo_S16384x20_S16384_d1 h_S_))
def refMean : FVec Ideal S16384x128 .f32 := Host.divf (Host.reduceAdd (refRows x E) (constant S_ .f32 0x00000000#32) reducesTo_S16384x20x128_S16384x128_d1 h_S_) (broadcastInDim S16384x128 ![0, 1] bcast_S16384x1_S16384x128_0_1 (broadcastInDim S16384x1 ![0] bcast_S16384_S16384x1_0 (refCount x)))
def refHidden : FVec Ideal S16384x1024 .f32 := maximumf (addf (Host.dotGeneral dot_S16384x128_S128x1024_S16384x1024_1_0_0_1_n_n none (refMean x E) W1) (broadcastInDim S16384x1024 ![0, 1] bcast_S1x1024_S16384x1024_0_1 (broadcastInDim S1x1024 ![1] bcast_S1024_S1x1024_1 b1))) (broadcastInDim S16384x1024 ![] bcast_S_S16384x1024 (constant S_ .f32 0x00000000#32))
def refOut : FVec Ideal S16384x1000 .f32 := addf (Host.dotGeneral dot_S16384x1024_S1024x1000_S16384x1000_1_0_0_1_n_n none (refHidden x E W1 b1) W2) (broadcastInDim S16384x1000 ![0, 1] bcast_S1x1000_S16384x1000_0_1 (broadcastInDim S1x1000 ![1] bcast_S1000_S1x1000_1 b2))

/-! ## Its stages at an index -/

variable (hx : ∀ i, (x i).toNat < 100000)
include hx

theorem refIndex_eq : refIndex x = x := by
  funext i
  have h := hx i
  have e : IntOp.cmpi .slt (x i) 0#32 = 0#1 := by
    show BitVec.ofBool ((x i).slt 0#32) = 0#1
    rw [show (x i).slt 0#32 = false from by
      rw [BitVec.slt_eq_decide, decide_eq_false_iff_not, BitVec.toInt_eq_toNat_cond]
      simp only [BitVec.toInt_zero]
      split <;> omega]
    rfl
  show Scalar.select (IntOp.cmpi .slt (x i) 0#32) _ _ = _
  rw [e]; rfl

theorem refStart_apply (r : Fin 16384) (l : Fin 20) (z : Fin 1) : refStart x (ix3 r l z) = x (ix2 r l) := by
  unfold refStart
  rw [refIndex_eq x hx]
  pointwise []

theorem refInside_apply (j : S16384x20.Idx) : refInside x j = 1#1 := by
  unfold refInside
  refine Host.reduce_andi_one _ _ _ _ _ rfl fun i => ?_
  have hs : (refStart x i).toNat < 100000 := by
    unfold refStart; rw [refIndex_eq x hx]; exact hx _
  refine IntOp.andi_eq_one.2 ⟨?_, ?_⟩
  · show BitVec.ofBool ((0#32).sle (refStart x i)) = 1#1
    rw [show (0#32).sle (refStart x i) = true from by
      rw [BitVec.sle_eq_decide, decide_eq_true_eq, BitVec.toInt_eq_toNat_cond (refStart x i)]
      simp only [BitVec.toInt_zero]
      split <;> omega]
    rfl
  · show BitVec.ofBool ((refStart x i).sle 99999#32) = 1#1
    rw [show (refStart x i).sle 99999#32 = true from by
      rw [BitVec.sle_eq_decide, decide_eq_true_eq, BitVec.toInt_eq_toNat_cond (refStart x i)]
      rw [show (99999#32).toInt = 99999 from by decide]
      split <;> omega]
    rfl

omit hx in
/-- The gather at a sample, a word and a lane: the table's row at the start index, clamped into the table. -/
theorem gather_apply (idx : IVec S16384x20x1 32) (r : Fin 16384) (l : Fin 20) (i : Fin 128) :
    Host.gather gather_S100000x128_S16384x20x1_S16384x20x128_2_0_n_n_0_2_1128 E idx (ix3 r l i)
      = E (ix2 ⟨min (idx (ix3 r l 0)).toInt.toNat 99999, by omega⟩ i) := by
  unfold Host.gather
  congr 1
  funext a
  refine Fin.ext ?_
  show GatherDims.start _ (ix3 r l i) idx a + GatherDims.batchCoord _ (ix3 r l i) a + GatherDims.offCoord _ (ix3 r l i) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S100000x128_S16384x20x1_S16384x20x128_2_0_n_n_0_2_1128).startIndexMap from List.mem_singleton.mpr rfl)]
    have hsi : (gather_S100000x128_S16384x20x1_S16384x20x128_2_0_n_n_0_2_1128).siIdx (ix3 r l i) ⟨List.idxOf (0 : Fin 2) [0],
        List.idxOf_lt_length_iff.2 (List.mem_singleton.mpr rfl)⟩ = ix3 r l 0 := by
      funext b; refine Fin.ext ?_
      match b with
      | ⟨0, _⟩ => rfl
      | ⟨1, _⟩ => rfl
      | ⟨2, _⟩ => rfl
    exact congrArg (fun y => min (idx y).toInt.toNat 99999) hsi
  · rw [GatherDims.batchCoord_eq_zero _ _ _ List.not_mem_nil]
    unfold GatherDims.start
    rw [dif_neg (show ¬ (1 : Fin 2) ∈ (gather_S100000x128_S16384x20x1_S16384x20x128_2_0_n_n_0_2_1128).startIndexMap from by decide)]
    simp only [Nat.zero_add]
    rfl

theorem refRows_apply (r : Fin 16384) (l : Fin 20) (i : Fin 128) :
    refRows x E (ix3 r l i) = lane E (x (ix2 r l)).toNat i := by
  have hs := hx (ix2 r l)
  unfold refRows
  refine (show select _ _ _ (ix3 r l i) = Scalar.select _ _ _ from rfl).trans ?_
  rw [show broadcastInDim S16384x20x128 ![0, 1] bcast_S16384x20_S16384x20x128_0_1 (refInside x) (ix3 r l i) = 1#1 from
    refInside_apply x hx _, ValueIdx.select_one]
  rw [gather_apply]
  unfold lane
  have e : min (refStart x (ix3 r l 0)).toInt.toNat 99999 = (x (ix2 r l)).toNat % 100000 := by
    rw [refStart_apply x hx, BitVec.toInt_eq_toNat_cond]; split <;> omega
  exact congrArg (fun n : Fin 100000 => E (ix2 n i)) (Fin.ext e)

omit hx in
/-- Adding up the truth values of `v ≠ 0` as words, over at most twenty of them, counts them: no sum wraps. -/
theorem fold_present (v : Fin 20 → BitVec 32) (s : Finset (Fin 20)) :
    ∃ n : ℕ, n ≤ s.card ∧ (Finset.fold IntOp.addi (0#32) (fun l => BitVec.setWidth 32 (IntOp.cmpi .ne (v l) 0#32)) s).toNat = n
      ∧ (∑ l ∈ s, present (v l)) = ((n : ℝ) : EReal) := by
  classical
  induction s using Finset.induction_on with
  | empty => exact ⟨0, Nat.zero_le _, by rw [Finset.fold_empty]; rfl, by rw [Finset.sum_empty]; norm_num⟩
  | insert a s ha ih =>
    obtain ⟨n, hn, e, es⟩ := ih
    have hc : s.card ≤ 20 := le_trans (Finset.card_le_univ s) (by simp)
    rw [Finset.fold_insert ha, Finset.sum_insert ha, es, Finset.card_insert_of_notMem ha]
    by_cases h : v a = 0#32
    · refine ⟨n, by omega, ?_, ?_⟩
      · show (BitVec.setWidth 32 (IntOp.cmpi .ne (v a) 0#32) + _).toNat = n
        rw [h, show BitVec.setWidth 32 (IntOp.cmpi .ne (0#32) 0#32) = 0#32 from by decide, BitVec.zero_add]; exact e
      · rw [present, if_pos h, zero_add]
    · refine ⟨n + 1, by omega, ?_, ?_⟩
      · show (BitVec.setWidth 32 (IntOp.cmpi .ne (v a) 0#32) + _).toNat = n + 1
        have e1 : IntOp.cmpi .ne (v a) 0#32 = 1#1 := by
          show BitVec.ofBool (v a != 0#32) = 1#1
          rw [show (v a != 0#32) = true from bne_iff_ne.mpr h]; rfl
        rw [e1, BitVec.toNat_add, e, show (BitVec.setWidth 32 (1#1)).toNat = 1 from by decide]
        omega
      · rw [present, if_neg h]
        push_cast
        rw [add_comm]

omit hx in
theorem sitofp_of_toNat (w : BitVec 32) (n : ℕ) (e : w.toNat = n) (h : n < 2147483648) :
    FloatOps.sitofp (F := Ideal) .f32 w = ((n : ℝ) : EReal) := by
  show (((BitVec.toInt w : ℤ) : ℝ) : EReal) = _
  rw [BitVec.toInt_eq_toNat_cond, e, if_pos (by omega)]
  norm_cast

omit hx in
theorem refCount_apply (r : Fin 16384) : refCount x (ix1 r) = count (fun r l => x (ix2 r l)) r := by
  unfold count
  pointwise [refCount, id]
  obtain ⟨n, hn, e, es⟩ := fold_present (fun l => x (ix2 r l)) Finset.univ
  rw [es, max_comm]
  have hn' : n ≤ 20 := by simpa using hn
  rw [sitofp_of_toNat _ n e (by omega)]

theorem refMean_apply (r : Fin 16384) (i : Fin 128) :
    refMean x E (ix2 r i) = Ideal.div (∑ l : Fin 20, lane E (x (ix2 r l)).toNat i) (count (fun r l => x (ix2 r l)) r) := by
  pointwise [refMean]
  simp only [refRows_apply x E hx, refCount_apply]

theorem refHidden_apply (r : Fin 16384) (j : Fin 1024) :
    refHidden x E W1 b1 (ix2 r j) = hidden (fun r l => x (ix2 r l)) E W1 b1 r j := by
  unfold hidden
  pointwise [refHidden]
  simp only [refMean_apply x E hx]

theorem refOut_apply (r : Fin 16384) (k : Fin 1000) :
    refOut x E W1 b1 W2 b2 (ix2 r k) = score (fun r l => x (ix2 r l)) E W1 b1 W2 b2 r k := by
  unfold score
  pointwise [refOut]
  simp only [refHidden_apply x E W1 b1 hx]

end Cert.Pool.Ref
-- ==== Proof.Claims.lean ====
/-
  Each claim of the certificate: the frames of the kernel's two programs and of the reference, and the equality of the
  kernel's result and the reference's over the extended reals.
-/
module

public import proofs.«01_k».proof.Defs
public import proofs.«01_k».proof.Proof.Gen.Kernel
public import proofs.«01_k».proof.Proof.Value
public import proofs.«01_k».proof.Proof.RefValue

@[expose] public section

noncomputable section

namespace Cert.Pool

open Idealize.ShloMosaic
open Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_indices_in_range.Facts := Cert.Pre_indices_in_range.Gen.facts

section Kept

variable {F : FTy → Type} [FloatOps F]
variable (m : (ℓ : Loc Cert.KernelIdeal.nD Cert.KernelIdeal.τ Cert.KernelIdeal.sig) → Buf (Elt F) ℓ)

/-- The arguments of device `d` are in `s` what they are in `m`. -/
def Kept (d : Dev Cert.KernelIdeal.nD) (s : (ℓ : Loc Cert.KernelIdeal.nD Cert.KernelIdeal.τ Cert.KernelIdeal.sig) → Buf (Elt F) ℓ) : Prop :=
  s ((SparseCore.T d).loc Cert.KernelIdeal.main_arg0) = m ((SparseCore.T d).loc Cert.KernelIdeal.main_arg0)
  ∧ s ((SparseCore.T d).loc Cert.KernelIdeal.main_arg1) = m ((SparseCore.T d).loc Cert.KernelIdeal.main_arg1)
  ∧ s ((SparseCore.T d).loc Cert.KernelIdeal.main_arg2) = m ((SparseCore.T d).loc Cert.KernelIdeal.main_arg2)
  ∧ s ((SparseCore.T d).loc Cert.KernelIdeal.main_arg3) = m ((SparseCore.T d).loc Cert.KernelIdeal.main_arg3)
  ∧ s ((SparseCore.T d).loc Cert.KernelIdeal.main_arg4) = m ((SparseCore.T d).loc Cert.KernelIdeal.main_arg4)
  ∧ s ((SparseCore.T d).loc Cert.KernelIdeal.main_arg5) = m ((SparseCore.T d).loc Cert.KernelIdeal.main_arg5)

theorem kept_of_ends {d : Dev Cert.KernelIdeal.nD} {s : (ℓ : Loc Cert.KernelIdeal.nD Cert.KernelIdeal.τ Cert.KernelIdeal.sig) → Buf (Elt F) ℓ}
    (h : ends m d s) : Kept m d s :=
  ⟨h.2.1.trans (arg_kept m d _ (by decide)), h.2.2.1.trans (arg_kept m d _ (by decide)), h.2.2.2.1.trans (arg_kept m d _ (by decide)),
    h.2.2.2.2.1.trans (arg_kept m d _ (by decide)), h.2.2.2.2.2.1.trans (arg_kept m d _ (by decide)), h.2.2.2.2.2.2.trans (arg_kept m d _ (by decide))⟩

end Kept

/-- The run at any floats: it ends with the arguments kept and every counter at zero. -/
theorem frame_run {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg)
    (hx : ∀ d (i : Cert.KernelIdeal.S16384x20.Idx),
      ((m ((SparseCore.T d).loc Cert.KernelIdeal.main_arg0) : Cert.KernelIdeal.S16384x20.Idx → BitVec 32) i).toNat < 100000) :
    θ_run (Cert.KernelIdeal.defs (F := F)) (Cert.KernelIdeal.threads (F := F)) ⟨m, fun _ => 0, ρ⟩
      (fun r => (∀ c, Kept m c r.2.mem) ∧ r.2.sem = fun _ => 0) :=
  (θ_run Cert.KernelIdeal.defs _ _).mono (fun _ e => ⟨fun c => kept_of_ends m (e.1 c), e.2⟩) (run_main m ρ (Xs_lt m hx))

set_option maxHeartbeats 4000000 in
/-- The kernel's and the ideal program's bodies are one text. -/
theorem bodies_eq : Cert.Kernel.defs₀ (F := Bits) = Cert.KernelIdeal.defs₀ (F := Bits) := by
  funext p ℓ x
  match p, ℓ, x with
  | .scVector _ _, 0, _ => rfl
  | .scVector _ _, 1, _ => rfl
  | .scVector _ _, 2, _ => rfl
  | .scVector _ _, 3, _ => rfl
  | .tc, 0, _ => rfl
  | .tc, 1, _ => rfl
  | .tc, 2, (_, _) => rfl
  | .tc, 3, (_, _) => rfl
  | .scScalar _, 0, _ => rfl
  | .scScalar _, 1, _ => rfl
  | .scScalar _, 2, _ => rfl
  | .scScalar _, 3, _ => rfl

theorem defs_eq : Cert.Kernel.defs (F := Bits) = Cert.KernelIdeal.defs (F := Bits) :=
  congrArg (fun D => (Cert.KernelIdeal.sc (F := Bits)).defs (Pipeline.defs Cert.KernelIdeal.pcfgs D)) bodies_eq

theorem frame_kernel : Cert.quiescent_Kernel := fun m ρ h =>
  (congrArg (fun D => θ_run D (Cert.KernelIdeal.threads (F := Bits)) ⟨m, fun _ => 0, ρ⟩ (fun r => (∀ c, Kept m c r.2.mem) ∧ r.2.sem = fun _ => 0))
    defs_eq).mpr (frame_run (F := Bits) m ρ fun d i => indices_of_pre _ _ _ _ _ _ (h d) i)

theorem frame_ideal : Cert.quiescent_KernelIdeal := fun m ρ h =>
  frame_run (F := Ideal) m ρ fun d i => indices_of_pre _ _ _ _ _ _ (h d) i

theorem frame_reference : Cert.quiescent_ReferenceIdeal := fun m ρ _ =>
  (θ_run Cert.ReferenceIdeal.defs _ _).mono (fun r e => ⟨fun c => (e c).2, sem_eq_zero_of_no_sems (by decide) r.2⟩)
    (Cert.ReferenceIdeal.Value.run (F := Ideal) m ρ)

theorem frame_reference_pre : Cert.quiescent_ReferenceIdeal_pre_indices_in_range := fun m ρ _ => frame_reference m ρ trivial

/-- Over the extended reals both results are the scores. -/
theorem algebraic : Cert.algebraic_KernelIdeal_ReferenceIdeal := by
  intro m ρ m' ρ' h ha
  have hx : ∀ d (i : Cert.KernelIdeal.S16384x20.Idx),
      ((m ((SparseCore.T d).loc Cert.KernelIdeal.main_arg0) : Cert.KernelIdeal.S16384x20.Idx → BitVec 32) i).toNat < 100000 :=
    fun d i => indices_of_pre _ _ _ _ _ _ (h d) i
  refine ⟨fun c => val7 m c (dr Cert.KernelIdeal.main_v9), ?_, ?_⟩
  · exact (θ_run Cert.KernelIdeal.defs _ _).mono (fun _ e c => ⟨(e.1 c).1, kept_of_ends m (e.1 c)⟩) (run_main m ρ (Xs_lt m hx))
  · refine (θ_run Cert.ReferenceIdeal.defs _ _).mono (fun r e c => ⟨(e c).1.trans ?_, (e c).2⟩) (Cert.ReferenceIdeal.Value.run (F := Ideal) m' ρ')
    obtain ⟨a0, a1, a2, a3, a4, a5⟩ := ha c
    rw [a0, a1, a2, a3, a4, a5]
    refine funext fun (y : Cert.KernelIdeal.S16384x1000.Idx) => ?_
    obtain ⟨n, k, rfl⟩ : ∃ (n : Fin 16384) (k : Fin 1000), y = ix2 n k := ⟨y 0, y 1, Shape.idx_ext₂ rfl rfl⟩
    exact (Ref.refOut_apply _ _ _ _ _ _ (hx c) n k).trans (val7_apply m c n k).symm

end Cert.Pool
-- ==== Proof.lean ====
/-
  The certificate's claims: each program runs to its end without fault, leaving its arguments and every semaphore counter
  as they were; the ideal program is the kernel's own text; and over the extended reals the kernel's result is the
  reference's. `Proof/Claims.lean` proves each; its header and the modules it imports say how.
-/
module

public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.KernelIdeal
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_indices_in_range
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_indices_in_range.Gen.facts,
  Cert.Pool.frame_kernel, Cert.Pool.frame_ideal, Cert.Pool.frame_reference, Cert.Pool.frame_reference_pre, trivial, Cert.Pool.algebraic⟩

end Cert.Proof

end
